-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x3584 : Shape := ⟨3, ![128, 1, 3584]⟩
abbrev S64000x1792 : Shape := ⟨2, ![64000, 1792]⟩
abbrev S64000x112 : Shape := ⟨2, ![64000, 112]⟩
abbrev S128 : Shape := ⟨1, ![128]⟩
abbrev S1x128 : Shape := ⟨2, ![1, 128]⟩
abbrev S32x128 : Shape := ⟨2, ![32, 128]⟩
abbrev S128x3584 : Shape := ⟨2, ![128, 3584]⟩
abbrev S112x64000 : Shape := ⟨2, ![112, 64000]⟩
abbrev S2560x1792 : Shape := ⟨2, ![2560, 1792]⟩
abbrev S112x2560 : Shape := ⟨2, ![112, 2560]⟩
abbrev S5x112x512 : Shape := ⟨3, ![5, 112, 512]⟩
abbrev S3584x512 : Shape := ⟨2, ![3584, 512]⟩
abbrev S128x512 : Shape := ⟨2, ![128, 512]⟩
abbrev S128x128 : Shape := ⟨2, ![128, 128]⟩
abbrev S112x512 : Shape := ⟨2, ![112, 512]⟩
abbrev S1x112x512 : Shape := ⟨3, ![1, 112, 512]⟩
abbrev S8x128 : Shape := ⟨2, ![8, 128]⟩
abbrev S32x128x1 : Shape := ⟨3, ![32, 128, 1]⟩
abbrev S16x128 : Shape := ⟨2, ![16, 128]⟩
abbrev S256x128 : Shape := ⟨2, ![256, 128]⟩

abbrev nBuf : Space → Nat
  | .hbm => 11
  | .vmem => 16
  | .smem => 0
  | _ => 0

abbrev bufTy : (tb : Table) → Fin (tcTables nBuf tb) → BufTy
  | .hbm, ⟨0, _⟩ => ⟨S128x1x3584, .bf16⟩
  | .hbm, ⟨1, _⟩ => ⟨S64000x1792, .i8⟩
  | .hbm, ⟨2, _⟩ => ⟨S64000x112, .bf16⟩
  | .hbm, ⟨3, _⟩ => ⟨S128, .i32⟩
  | .hbm, ⟨4, _⟩ => ⟨S1x128, .i32⟩
  | .hbm, ⟨5, _⟩ => ⟨S32x128, .i32⟩
  | .hbm, ⟨6, _⟩ => ⟨S128x3584, .bf16⟩
  | .hbm, ⟨7, _⟩ => ⟨S112x64000, .bf16⟩
  | .hbm, ⟨8, _⟩ => ⟨S1x128, .i32⟩
  | .hbm, ⟨9, _⟩ => ⟨S1x128, .f32⟩
  | .hbm, ⟨10, _⟩ => ⟨S1x128, .f32⟩
  | .local _ .vmem, ⟨0, _⟩ => ⟨S32x128, .i32⟩
  | .local _ .vmem, ⟨1, _⟩ => ⟨S128x3584, .bf16⟩
  | .local _ .vmem, ⟨2, _⟩ => ⟨S2560x1792, .i8⟩
  | .local _ .vmem, ⟨3, _⟩ => ⟨S2560x1792, .i8⟩
  | .local _ .vmem, ⟨4, _⟩ => ⟨S112x2560, .bf16⟩
  | .local _ .vmem, ⟨5, _⟩ => ⟨S112x2560, .bf16⟩
  | .local _ .vmem, ⟨6, _⟩ => ⟨S1x128, .i32⟩
  | .local _ .vmem, ⟨7, _⟩ => ⟨S1x128, .f32⟩
  | .local _ .vmem, ⟨8, _⟩ => ⟨S1x128, .f32⟩
  | .local _ .vmem, ⟨9, _⟩ => ⟨S128x3584, .bf16⟩
  | .local _ .vmem, ⟨10, _⟩ => ⟨S5x112x512, .f32⟩
  | .local _ .vmem, ⟨11, _⟩ => ⟨S3584x512, .bf16⟩
  | .local _ .vmem, ⟨12, _⟩ => ⟨S128x512, .f32⟩
  | .local _ .vmem, ⟨13, _⟩ => ⟨S128x128, .f32⟩
  | .local _ .vmem, ⟨14, _⟩ => ⟨S128x128, .f32⟩
  | .local _ .vmem, ⟨15, _⟩ => ⟨S128x128, .i32⟩
  | _, _ => ⟨S128x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

@[reducible] def k0_t1_loop : Scf.Loop 32 :=
  let c0_i32_2 : BitVec 32 := 0#32
  let c5_i32 : BitVec 32 := 5#32
  let v5 : BitVec 32 := Scalar.addi c0_i32_2 c5_i32
  let c1_i32 : BitVec 32 := 1#32
  ⟨c0_i32_2, v5, c1_i32⟩
def k0_mult1 (k0_t1 : Fin k0_t1_loop.trips) : BitVec 32 :=
  let c0_i32_6 : BitVec 32 := 0#32
  let c0_i32_2 : BitVec 32 := 0#32
  let c1_i32 : BitVec 32 := 1#32
  let arg15 : BitVec 32 := Scf.iv c0_i32_2 c1_i32 k0_t1
  let c1_i32_5 : BitVec 32 := 1#32
  let v9 : BitVec 32 := Scalar.muli arg15 c1_i32_5
  let v10 : BitVec 32 := Scalar.addi c0_i32_6 v9
  let c512_i32 : BitVec 32 := 512#32
  let v11 : BitVec 32 := Scalar.muli v10 c512_i32
  v11
def k0_off1 (k0_t1 : Fin k0_t1_loop.trips) : Fin 2 → Nat :=
  let c0_7 : Index := 0#32
  let c0_i32_6 : BitVec 32 := 0#32
  let c0_i32_2 : BitVec 32 := 0#32
  let c1_i32 : BitVec 32 := 1#32
  let arg15 : BitVec 32 := Scf.iv c0_i32_2 c1_i32 k0_t1
  let c1_i32_5 : BitVec 32 := 1#32
  let v9 : BitVec 32 := Scalar.muli arg15 c1_i32_5
  let v10 : BitVec 32 := Scalar.addi c0_i32_6 v9
  let c512_i32 : BitVec 32 := 512#32
  let v11 : BitVec 32 := Scalar.muli v10 c512_i32
  let v12 : BitVec 32 := v11
  let v13 : Index := Scalar.indexCast v12
  ![0, v13.toNat]
def k0_off2 (k0_t1 : Fin k0_t1_loop.trips) : Fin 3 → Nat :=
  let c0_i32_6 : BitVec 32 := 0#32
  let c0_i32_2 : BitVec 32 := 0#32
  let c1_i32 : BitVec 32 := 1#32
  let arg15 : BitVec 32 := Scf.iv c0_i32_2 c1_i32 k0_t1
  let c1_i32_5 : BitVec 32 := 1#32
  let v9 : BitVec 32 := Scalar.muli arg15 c1_i32_5
  let v10 : BitVec 32 := Scalar.addi c0_i32_6 v9
  let v17 : Index := Scalar.indexCast v10
  let c0_8 : Index := 0#32
  let c0_9 : Index := 0#32
  ![v17.toNat, 0, 0]
@[reducible] def k0_t2_loop : Scf.Loop 32 :=
  let c0_i32_10 : BitVec 32 := 0#32
  let c14_i32 : BitVec 32 := 14#32
  let v21 : BitVec 32 := Scalar.addi c0_i32_10 c14_i32
  let c1_i32_11 : BitVec 32 := 1#32
  ⟨c0_i32_10, v21, c1_i32_11⟩
@[reducible] def k0_t3_loop : Scf.Loop 32 :=
  let c0_i32_26 : BitVec 32 := 0#32
  let c4_i32 : BitVec 32 := 4#32
  let v34 : BitVec 32 := Scalar.addi c0_i32_26 c4_i32
  let c1_i32_27 : BitVec 32 := 1#32
  ⟨c0_i32_26, v34, c1_i32_27⟩
def k0_mult2 (k0_t1 : Fin k0_t1_loop.trips) (k0_t3 : Fin k0_t3_loop.trips) : BitVec 32 :=
  let c0_i32_6 : BitVec 32 := 0#32
  let c0_i32_2 : BitVec 32 := 0#32
  let c1_i32 : BitVec 32 := 1#32
  let arg15 : BitVec 32 := Scf.iv c0_i32_2 c1_i32 k0_t1
  let c1_i32_5 : BitVec 32 := 1#32
  let v9 : BitVec 32 := Scalar.muli arg15 c1_i32_5
  let v10 : BitVec 32 := Scalar.addi c0_i32_6 v9
  let c512_i32_31 : BitVec 32 := 512#32
  let v37 : BitVec 32 := Scalar.muli v10 c512_i32_31
  let c0_i32_30 : BitVec 32 := 0#32
  let c0_i32_26 : BitVec 32 := 0#32
  let c1_i32_27 : BitVec 32 := 1#32
  let arg17 : BitVec 32 := Scf.iv c0_i32_26 c1_i32_27 k0_t3
  let c1_i32_29 : BitVec 32 := 1#32
  let v35 : BitVec 32 := Scalar.muli arg17 c1_i32_29
  let v36 : BitVec 32 := Scalar.addi c0_i32_30 v35
  let c128_i32 : BitVec 32 := 128#32
  let v38 : BitVec 32 := Scalar.muli v36 c128_i32
  let v39 : BitVec 32 := Scalar.addi v37 v38
  v39
def k0_mult3 (k0_t2 : Fin k0_t2_loop.trips) : BitVec 32 :=
  let c0_i32_25 : BitVec 32 := 0#32
  let c0_i32_10 : BitVec 32 := 0#32
  let c1_i32_11 : BitVec 32 := 1#32
  let arg16 : BitVec 32 := Scf.iv c0_i32_10 c1_i32_11 k0_t2
  let c1_i32_24 : BitVec 32 := 1#32
  let v32 : BitVec 32 := Scalar.muli arg16 c1_i32_24
  let v33 : BitVec 32 := Scalar.addi c0_i32_25 v32
  let c128_i32_32 : BitVec 32 := 128#32
  let v41 : BitVec 32 := Scalar.muli v33 c128_i32_32
  v41
def k0_off3 (k0_t1 : Fin k0_t1_loop.trips) (k0_t2 : Fin k0_t2_loop.trips) (k0_t3 : Fin k0_t3_loop.trips) : Fin 2 → Nat :=
  let c0_i32_6 : BitVec 32 := 0#32
  let c0_i32_2 : BitVec 32 := 0#32
  let c1_i32 : BitVec 32 := 1#32
  let arg15 : BitVec 32 := Scf.iv c0_i32_2 c1_i32 k0_t1
  let c1_i32_5 : BitVec 32 := 1#32
  let v9 : BitVec 32 := Scalar.muli arg15 c1_i32_5
  let v10 : BitVec 32 := Scalar.addi c0_i32_6 v9
  let c512_i32_31 : BitVec 32 := 512#32
  let v37 : BitVec 32 := Scalar.muli v10 c512_i32_31
  let c0_i32_30 : BitVec 32 := 0#32
  let c0_i32_26 : BitVec 32 := 0#32
  let c1_i32_27 : BitVec 32 := 1#32
  let arg17 : BitVec 32 := Scf.iv c0_i32_26 c1_i32_27 k0_t3
  let c1_i32_29 : BitVec 32 := 1#32
  let v35 : BitVec 32 := Scalar.muli arg17 c1_i32_29
  let v36 : BitVec 32 := Scalar.addi c0_i32_30 v35
  let c128_i32 : BitVec 32 := 128#32
  let v38 : BitVec 32 := Scalar.muli v36 c128_i32
  let v39 : BitVec 32 := Scalar.addi v37 v38
  let v40 : BitVec 32 := v39
  let v43 : Index := Scalar.indexCast v40
  let c0_i32_25 : BitVec 32 := 0#32
  let c0_i32_10 : BitVec 32 := 0#32
  let c1_i32_11 : BitVec 32 := 1#32
  let arg16 : BitVec 32 := Scf.iv c0_i32_10 c1_i32_11 k0_t2
  let c1_i32_24 : BitVec 32 := 1#32
  let v32 : BitVec 32 := Scalar.muli arg16 c1_i32_24
  let v33 : BitVec 32 := Scalar.addi c0_i32_25 v32
  let c128_i32_32 : BitVec 32 := 128#32
  let v41 : BitVec 32 := Scalar.muli v33 c128_i32_32
  let v42 : BitVec 32 := v41
  let v44 : Index := Scalar.indexCast v42
  ![v43.toNat, v44.toNat]
def k0_mult4 (k0_t3 : Fin k0_t3_loop.trips) : BitVec 32 :=
  let c0_i32_30 : BitVec 32 := 0#32
  let c0_i32_26 : BitVec 32 := 0#32
  let c1_i32_27 : BitVec 32 := 1#32
  let arg17 : BitVec 32 := Scf.iv c0_i32_26 c1_i32_27 k0_t3
  let c1_i32_29 : BitVec 32 := 1#32
  let v35 : BitVec 32 := Scalar.muli arg17 c1_i32_29
  let v36 : BitVec 32 := Scalar.addi c0_i32_30 v35
  let c128_i32_37 : BitVec 32 := 128#32
  let v70 : BitVec 32 := Scalar.muli v36 c128_i32_37
  v70
def k0_off4 (k0_t1 : Fin k0_t1_loop.trips) : Fin 3 → Nat :=
  let c0_i32_6 : BitVec 32 := 0#32
  let c0_i32_2 : BitVec 32 := 0#32
  let c1_i32 : BitVec 32 := 1#32
  let arg15 : BitVec 32 := Scf.iv c0_i32_2 c1_i32 k0_t1
  let c1_i32_5 : BitVec 32 := 1#32
  let v9 : BitVec 32 := Scalar.muli arg15 c1_i32_5
  let v10 : BitVec 32 := Scalar.addi c0_i32_6 v9
  let c0_i32_38 : BitVec 32 := 0#32
  let c0_i32_39 : BitVec 32 := 0#32
  ![v10.toNat, 0, 0]
def k0_off5 (k0_t2 : Fin k0_t2_loop.trips) (k0_t3 : Fin k0_t3_loop.trips) (c0_i32_35 : BitVec 32) (c0_i32_36 : BitVec 32) : Fin 2 → Nat :=
  let c0_i32_25 : BitVec 32 := 0#32
  let c0_i32_10 : BitVec 32 := 0#32
  let c1_i32_11 : BitVec 32 := 1#32
  let arg16 : BitVec 32 := Scf.iv c0_i32_10 c1_i32_11 k0_t2
  let c1_i32_24 : BitVec 32 := 1#32
  let v32 : BitVec 32 := Scalar.muli arg16 c1_i32_24
  let v33 : BitVec 32 := Scalar.addi c0_i32_25 v32
  let c8_i32 : BitVec 32 := 8#32
  let v67 : BitVec 32 := Scalar.muli v33 c8_i32
  let v68 : BitVec 32 := Scalar.addi v67 c0_i32_35
  let v69 : BitVec 32 := Scalar.addi v68 c0_i32_36
  let v74 : Index := Scalar.indexCast v69
  let c0_i32_30 : BitVec 32 := 0#32
  let c0_i32_26 : BitVec 32 := 0#32
  let c1_i32_27 : BitVec 32 := 1#32
  let arg17 : BitVec 32 := Scf.iv c0_i32_26 c1_i32_27 k0_t3
  let c1_i32_29 : BitVec 32 := 1#32
  let v35 : BitVec 32 := Scalar.muli arg17 c1_i32_29
  let v36 : BitVec 32 := Scalar.addi c0_i32_30 v35
  let c128_i32_37 : BitVec 32 := 128#32
  let v70 : BitVec 32 := Scalar.muli v36 c128_i32_37
  let v71 : BitVec 32 := v70
  let v75 : Index := Scalar.indexCast v71
  ![v74.toNat, v75.toNat]
def k0_mult5 (k0_t3 : Fin k0_t3_loop.trips) : BitVec 32 :=
  let c0_i32_30 : BitVec 32 := 0#32
  let c0_i32_26 : BitVec 32 := 0#32
  let c1_i32_27 : BitVec 32 := 1#32
  let arg17 : BitVec 32 := Scf.iv c0_i32_26 c1_i32_27 k0_t3
  let c1_i32_29 : BitVec 32 := 1#32
  let v35 : BitVec 32 := Scalar.muli arg17 c1_i32_29
  let v36 : BitVec 32 := Scalar.addi c0_i32_30 v35
  let c128_i32_43 : BitVec 32 := 128#32
  let v87 : BitVec 32 := Scalar.muli v36 c128_i32_43
  v87
def k0_mult6 (k0_t3 : Fin k0_t3_loop.trips) : BitVec 32 :=
  let c0_i32_30 : BitVec 32 := 0#32
  let c0_i32_26 : BitVec 32 := 0#32
  let c1_i32_27 : BitVec 32 := 1#32
  let arg17 : BitVec 32 := Scf.iv c0_i32_26 c1_i32_27 k0_t3
  let c1_i32_29 : BitVec 32 := 1#32
  let v35 : BitVec 32 := Scalar.muli arg17 c1_i32_29
  let v36 : BitVec 32 := Scalar.addi c0_i32_30 v35
  let c128_i32_51 : BitVec 32 := 128#32
  let v124 : BitVec 32 := Scalar.muli v36 c128_i32_51
  v124
def k0_mult7 (k0_t3 : Fin k0_t3_loop.trips) : BitVec 32 :=
  let c0_i32_30 : BitVec 32 := 0#32
  let c0_i32_26 : BitVec 32 := 0#32
  let c1_i32_27 : BitVec 32 := 1#32
  let arg17 : BitVec 32 := Scf.iv c0_i32_26 c1_i32_27 k0_t3
  let c1_i32_29 : BitVec 32 := 1#32
  let v35 : BitVec 32 := Scalar.muli arg17 c1_i32_29
  let v36 : BitVec 32 := Scalar.addi c0_i32_30 v35
  let c128_i32_57 : BitVec 32 := 128#32
  let v141 : BitVec 32 := Scalar.muli v36 c128_i32_57
  v141
def k0_mult8 (k0_t3 : Fin k0_t3_loop.trips) : BitVec 32 :=
  let c0_i32_30 : BitVec 32 := 0#32
  let c0_i32_26 : BitVec 32 := 0#32
  let c1_i32_27 : BitVec 32 := 1#32
  let arg17 : BitVec 32 := Scf.iv c0_i32_26 c1_i32_27 k0_t3
  let c1_i32_29 : BitVec 32 := 1#32
  let v35 : BitVec 32 := Scalar.muli arg17 c1_i32_29
  let v36 : BitVec 32 := Scalar.addi c0_i32_30 v35
  let c128_i32_66 : BitVec 32 := 128#32
  let v178 : BitVec 32 := Scalar.muli v36 c128_i32_66
  v178
def k0_mult9 (k0_t3 : Fin k0_t3_loop.trips) : BitVec 32 :=
  let c0_i32_30 : BitVec 32 := 0#32
  let c0_i32_26 : BitVec 32 := 0#32
  let c1_i32_27 : BitVec 32 := 1#32
  let arg17 : BitVec 32 := Scf.iv c0_i32_26 c1_i32_27 k0_t3
  let c1_i32_29 : BitVec 32 := 1#32
  let v35 : BitVec 32 := Scalar.muli arg17 c1_i32_29
  let v36 : BitVec 32 := Scalar.addi c0_i32_30 v35
  let c128_i32_72 : BitVec 32 := 128#32
  let v195 : BitVec 32 := Scalar.muli v36 c128_i32_72
  v195
def k0_mult10 (k0_t3 : Fin k0_t3_loop.trips) : BitVec 32 :=
  let c0_i32_30 : BitVec 32 := 0#32
  let c0_i32_26 : BitVec 32 := 0#32
  let c1_i32_27 : BitVec 32 := 1#32
  let arg17 : BitVec 32 := Scf.iv c0_i32_26 c1_i32_27 k0_t3
  let c1_i32_29 : BitVec 32 := 1#32
  let v35 : BitVec 32 := Scalar.muli arg17 c1_i32_29
  let v36 : BitVec 32 := Scalar.addi c0_i32_30 v35
  let c128_i32_80 : BitVec 32 := 128#32
  let v232 : BitVec 32 := Scalar.muli v36 c128_i32_80
  v232
def k0_mult11 (k0_t3 : Fin k0_t3_loop.trips) : BitVec 32 :=
  let c0_i32_30 : BitVec 32 := 0#32
  let c0_i32_26 : BitVec 32 := 0#32
  let c1_i32_27 : BitVec 32 := 1#32
  let arg17 : BitVec 32 := Scf.iv c0_i32_26 c1_i32_27 k0_t3
  let c1_i32_29 : BitVec 32 := 1#32
  let v35 : BitVec 32 := Scalar.muli arg17 c1_i32_29
  let v36 : BitVec 32 := Scalar.addi c0_i32_30 v35
  let c128_i32_86 : BitVec 32 := 128#32
  let v249 : BitVec 32 := Scalar.muli v36 c128_i32_86
  v249
def k0_mult12 (k0_t2 : Fin k0_t2_loop.trips) : BitVec 32 :=
  let c0_i32_25 : BitVec 32 := 0#32
  let c0_i32_10 : BitVec 32 := 0#32
  let c1_i32_11 : BitVec 32 := 1#32
  let arg16 : BitVec 32 := Scf.iv c0_i32_10 c1_i32_11 k0_t2
  let c1_i32_24 : BitVec 32 := 1#32
  let v32 : BitVec 32 := Scalar.muli arg16 c1_i32_24
  let v33 : BitVec 32 := Scalar.addi c0_i32_25 v32
  let c2_i32_89 : BitVec 32 := 2#32
  let v264 : BitVec 32 := Scalar.muli v33 c2_i32_89
  let c128_i32_90 : BitVec 32 := 128#32
  let v265 : BitVec 32 := Scalar.muli v264 c128_i32_90
  v265
def k0_mult13 (k0_t3 : Fin k0_t3_loop.trips) : BitVec 32 :=
  let c0_i32_30 : BitVec 32 := 0#32
  let c0_i32_26 : BitVec 32 := 0#32
  let c1_i32_27 : BitVec 32 := 1#32
  let arg17 : BitVec 32 := Scf.iv c0_i32_26 c1_i32_27 k0_t3
  let c1_i32_29 : BitVec 32 := 1#32
  let v35 : BitVec 32 := Scalar.muli arg17 c1_i32_29
  let v36 : BitVec 32 := Scalar.addi c0_i32_30 v35
  let c128_i32_91 : BitVec 32 := 128#32
  let v267 : BitVec 32 := Scalar.muli v36 c128_i32_91
  v267
def k0_off6 (k0_t2 : Fin k0_t2_loop.trips) (k0_t3 : Fin k0_t3_loop.trips) : Fin 2 → Nat :=
  let c0_i32_25 : BitVec 32 := 0#32
  let c0_i32_10 : BitVec 32 := 0#32
  let c1_i32_11 : BitVec 32 := 1#32
  let arg16 : BitVec 32 := Scf.iv c0_i32_10 c1_i32_11 k0_t2
  let c1_i32_24 : BitVec 32 := 1#32
  let v32 : BitVec 32 := Scalar.muli arg16 c1_i32_24
  let v33 : BitVec 32 := Scalar.addi c0_i32_25 v32
  let c2_i32_89 : BitVec 32 := 2#32
  let v264 : BitVec 32 := Scalar.muli v33 c2_i32_89
  let c128_i32_90 : BitVec 32 := 128#32
  let v265 : BitVec 32 := Scalar.muli v264 c128_i32_90
  let v266 : BitVec 32 := v265
  let v269 : Index := Scalar.indexCast v266
  let c0_i32_30 : BitVec 32 := 0#32
  let c0_i32_26 : BitVec 32 := 0#32
  let c1_i32_27 : BitVec 32 := 1#32
  let arg17 : BitVec 32 := Scf.iv c0_i32_26 c1_i32_27 k0_t3
  let c1_i32_29 : BitVec 32 := 1#32
  let v35 : BitVec 32 := Scalar.muli arg17 c1_i32_29
  let v36 : BitVec 32 := Scalar.addi c0_i32_30 v35
  let c128_i32_91 : BitVec 32 := 128#32
  let v267 : BitVec 32 := Scalar.muli v36 c128_i32_91
  let v268 : BitVec 32 := v267
  let v270 : Index := Scalar.indexCast v268
  ![v269.toNat, v270.toNat]
@[reducible] def k0_t4_loop : Scf.Loop 32 :=
  let c0_i32_21 : BitVec 32 := 0#32
  let c16_i32 : BitVec 32 := 16#32
  let v31 : BitVec 32 := Scalar.addi c0_i32_21 c16_i32
  let c1_i32_22 : BitVec 32 := 1#32
  ⟨c0_i32_21, v31, c1_i32_22⟩
def k0_mult14 (k0_t4 : Fin k0_t4_loop.trips) : BitVec 32 :=
  let c0_i32_25 : BitVec 32 := 0#32
  let c0_i32_21 : BitVec 32 := 0#32
  let c1_i32_22 : BitVec 32 := 1#32
  let arg16 : BitVec 32 := Scf.iv c0_i32_21 c1_i32_22 k0_t4
  let c1_i32_24 : BitVec 32 := 1#32
  let v32 : BitVec 32 := Scalar.muli arg16 c1_i32_24
  let v33 : BitVec 32 := Scalar.addi c0_i32_25 v32
  let c8_i32 : BitVec 32 := 8#32
  let v34 : BitVec 32 := Scalar.muli v33 c8_i32
  v34
def k0_off7 (k0_t4 : Fin k0_t4_loop.trips) : Fin 2 → Nat :=
  let c0_i32_25 : BitVec 32 := 0#32
  let c0_i32_21 : BitVec 32 := 0#32
  let c1_i32_22 : BitVec 32 := 1#32
  let arg16 : BitVec 32 := Scf.iv c0_i32_21 c1_i32_22 k0_t4
  let c1_i32_24 : BitVec 32 := 1#32
  let v32 : BitVec 32 := Scalar.muli arg16 c1_i32_24
  let v33 : BitVec 32 := Scalar.addi c0_i32_25 v32
  let c8_i32 : BitVec 32 := 8#32
  let v34 : BitVec 32 := Scalar.muli v33 c8_i32
  let v35 : BitVec 32 := v34
  let v36 : Index := Scalar.indexCast v35
  let c0_26 : Index := 0#32
  ![v36.toNat, 0]
def k0_off8 (k0_t4 : Fin k0_t4_loop.trips) : Fin 2 → Nat :=
  let c0_i32_25 : BitVec 32 := 0#32
  let c0_i32_21 : BitVec 32 := 0#32
  let c1_i32_22 : BitVec 32 := 1#32
  let arg16 : BitVec 32 := Scf.iv c0_i32_21 c1_i32_22 k0_t4
  let c1_i32_24 : BitVec 32 := 1#32
  let v32 : BitVec 32 := Scalar.muli arg16 c1_i32_24
  let v33 : BitVec 32 := Scalar.addi c0_i32_25 v32
  let c8_i32 : BitVec 32 := 8#32
  let v34 : BitVec 32 := Scalar.muli v33 c8_i32
  let v35 : BitVec 32 := v34
  let v42 : Index := Scalar.indexCast v35
  let c0_29 : Index := 0#32
  ![v42.toNat, 0]
def k0_off9 (k0_t4 : Fin k0_t4_loop.trips) : Fin 2 → Nat :=
  let c0_i32_25 : BitVec 32 := 0#32
  let c0_i32_21 : BitVec 32 := 0#32
  let c1_i32_22 : BitVec 32 := 1#32
  let arg16 : BitVec 32 := Scf.iv c0_i32_21 c1_i32_22 k0_t4
  let c1_i32_24 : BitVec 32 := 1#32
  let v32 : BitVec 32 := Scalar.muli arg16 c1_i32_24
  let v33 : BitVec 32 := Scalar.addi c0_i32_25 v32
  let c8_i32 : BitVec 32 := 8#32
  let v34 : BitVec 32 := Scalar.muli v33 c8_i32
  let v35 : BitVec 32 := v34
  let v51 : Index := Scalar.indexCast v35
  let c128 : Index := 128#32
  ![v51.toNat, 128]
def k0_off10 (k0_t4 : Fin k0_t4_loop.trips) : Fin 2 → Nat :=
  let c0_i32_25 : BitVec 32 := 0#32
  let c0_i32_21 : BitVec 32 := 0#32
  let c1_i32_22 : BitVec 32 := 1#32
  let arg16 : BitVec 32 := Scf.iv c0_i32_21 c1_i32_22 k0_t4
  let c1_i32_24 : BitVec 32 := 1#32
  let v32 : BitVec 32 := Scalar.muli arg16 c1_i32_24
  let v33 : BitVec 32 := Scalar.addi c0_i32_25 v32
  let c8_i32 : BitVec 32 := 8#32
  let v34 : BitVec 32 := Scalar.muli v33 c8_i32
  let v35 : BitVec 32 := v34
  let v60 : Index := Scalar.indexCast v35
  let c256 : Index := 256#32
  ![v60.toNat, 256]
def k0_off11 (k0_t4 : Fin k0_t4_loop.trips) : Fin 2 → Nat :=
  let c0_i32_25 : BitVec 32 := 0#32
  let c0_i32_21 : BitVec 32 := 0#32
  let c1_i32_22 : BitVec 32 := 1#32
  let arg16 : BitVec 32 := Scf.iv c0_i32_21 c1_i32_22 k0_t4
  let c1_i32_24 : BitVec 32 := 1#32
  let v32 : BitVec 32 := Scalar.muli arg16 c1_i32_24
  let v33 : BitVec 32 := Scalar.addi c0_i32_25 v32
  let c8_i32 : BitVec 32 := 8#32
  let v34 : BitVec 32 := Scalar.muli v33 c8_i32
  let v35 : BitVec 32 := v34
  let v69 : Index := Scalar.indexCast v35
  let c384 : Index := 384#32
  ![v69.toNat, 384]
def k0_cond2 (i : grid0.Coords) : BitVec 1 :=
  let arg0 : BitVec 32 := BitVec.ofNat 32 (i 0).val
  let c24_i32 : BitVec 32 := 24#32
  let v6 : BitVec 1 := Scalar.cmpi .eq arg0 c24_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2560x1792 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S112x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S128x1x3584 : Shape := ⟨3, ![128, 1, 3584]⟩
abbrev S64000x1792 : Shape := ⟨2, ![64000, 1792]⟩
abbrev S64000x112 : Shape := ⟨2, ![64000, 112]⟩
abbrev S128x112x2x16 : Shape := ⟨4, ![128, 112, 2, 16]⟩
abbrev S128x112x1x16 : Shape := ⟨4, ![128, 112, 1, 16]⟩
abbrev S128x112x16 : Shape := ⟨3, ![128, 112, 16]⟩
abbrev S128x1792 : Shape := ⟨2, ![128, 1792]⟩
abbrev S64000x112x16 : Shape := ⟨3, ![64000, 112, 16]⟩
abbrev S_ : Shape := ⟨0, ![]⟩
abbrev S128x64000 : Shape := ⟨2, ![128, 64000]⟩
abbrev S128 : Shape := ⟨1, ![128]⟩
abbrev S128x1 : Shape := ⟨2, ![128, 1]⟩
abbrev S1x128 : Shape := ⟨2, ![1, 128]⟩

abbrev nBuf : Space → Nat
  | .hbm => 211
  | .vmem => 0
  | .smem => 0
  | _ => 0

abbrev hbmTy0_0 (i : Nat) : BufTy := match i % 128 with
  | 0 => ⟨S128x1x3584, .bf16⟩
  | 1 => ⟨S64000x1792, .i8⟩
  | 2 => ⟨S64000x112, .bf16⟩
  | 3 => ⟨S128x112x2x16, .bf16⟩
  | 4 => ⟨S128x112x1x16, .bf16⟩
  | 5 => ⟨S128x112x16, .bf16⟩
  | 6 => ⟨S128x1792, .bf16⟩
  | 7 => ⟨S128x112x1x16, .bf16⟩
  | 8 => ⟨S128x112x16, .bf16⟩
  | 9 => ⟨S128x1792, .bf16⟩
  | 10 => ⟨S64000x112x16, .bf16⟩
  | 11 => ⟨S64000x1792, .bf16⟩
  | 12 => ⟨S64000x1792, .i32⟩
  | 13 => ⟨S_, .i32⟩
  | 14 => ⟨S64000x1792, .i32⟩
  | 15 => ⟨S64000x1792, .i32⟩
  | 16 => ⟨S_, .i32⟩
  | 17 => ⟨S64000x1792, .i32⟩
  | 18 => ⟨S64000x1792, .i32⟩
  | 19 => ⟨S_, .i32⟩
  | 20 => ⟨S64000x1792, .i32⟩
  | 21 => ⟨S64000x1792, .i32⟩
  | 22 => ⟨S_, .i32⟩
  | 23 => ⟨S64000x1792, .i32⟩
  | 24 => ⟨S64000x1792, .i32⟩
  | 25 => ⟨S_, .i32⟩
  | 26 => ⟨S64000x1792, .i32⟩
  | 27 => ⟨S64000x1792, .i1⟩
  | 28 => ⟨S_, .bf16⟩
  | 29 => ⟨S_, .bf16⟩
  | 30 => ⟨S64000x1792, .bf16⟩
  | 31 => ⟨S64000x1792, .bf16⟩
  | 32 => ⟨S64000x1792, .bf16⟩
  | 33 => ⟨S_, .bf16⟩
  | 34 => ⟨S_, .bf16⟩
  | 35 => ⟨S64000x1792, .bf16⟩
  | 36 => ⟨S64000x1792, .bf16⟩
  | 37 => ⟨S64000x1792, .bf16⟩
  | 38 => ⟨S_, .bf16⟩
  | 39 => ⟨S_, .bf16⟩
  | 40 => ⟨S64000x1792, .bf16⟩
  | 41 => ⟨S64000x1792, .bf16⟩
  | 42 => ⟨S64000x1792, .bf16⟩
  | 43 => ⟨S_, .bf16⟩
  | 44 => ⟨S_, .bf16⟩
  | 45 => ⟨S64000x1792, .bf16⟩
  | 46 => ⟨S64000x1792, .bf16⟩
  | 47 => ⟨S64000x1792, .bf16⟩
  | 48 => ⟨S_, .bf16⟩
  | 49 => ⟨S_, .bf16⟩
  | 50 => ⟨S64000x1792, .bf16⟩
  | 51 => ⟨S64000x1792, .bf16⟩
  | 52 => ⟨S64000x1792, .bf16⟩
  | 53 => ⟨S_, .bf16⟩
  | 54 => ⟨S_, .bf16⟩
  | 55 => ⟨S64000x1792, .bf16⟩
  | 56 => ⟨S64000x1792, .bf16⟩
  | 57 => ⟨S64000x1792, .bf16⟩
  | 58 => ⟨S_, .bf16⟩
  | 59 => ⟨S_, .bf16⟩
  | 60 => ⟨S64000x1792, .bf16⟩
  | 61 => ⟨S64000x1792, .bf16⟩
  | 62 => ⟨S64000x1792, .bf16⟩
  | 63 => ⟨S_, .bf16⟩
  | 64 => ⟨S_, .bf16⟩
  | 65 => ⟨S64000x1792, .bf16⟩
  | 66 => ⟨S64000x1792, .bf16⟩
  | 67 => ⟨S64000x1792, .bf16⟩
  | 68 => ⟨S_, .i32⟩
  | 69 => ⟨S64000x1792, .i32⟩
  | 70 => ⟨S64000x1792, .i32⟩
  | 71 => ⟨S_, .i32⟩
  | 72 => ⟨S64000x1792, .i32⟩
  | 73 => ⟨S64000x1792, .i32⟩
  | 74 => ⟨S_, .i32⟩
  | 75 => ⟨S64000x1792, .i32⟩
  | 76 => ⟨S64000x1792, .i1⟩
  | 77 => ⟨S64000x1792, .bf16⟩
  | 78 => ⟨S64000x1792, .bf16⟩
  | 79 => ⟨S64000x1792, .bf16⟩
  | 80 => ⟨S64000x1792, .bf16⟩
  | 81 => ⟨S_, .i32⟩
  | 82 => ⟨S64000x1792, .i32⟩
  | 83 => ⟨S64000x1792, .i32⟩
  | 84 => ⟨S_, .i32⟩
  | 85 => ⟨S64000x1792, .i32⟩
  | 86 => ⟨S64000x1792, .i32⟩
  | 87 => ⟨S_, .i32⟩
  | 88 => ⟨S64000x1792, .i32⟩
  | 89 => ⟨S64000x1792, .i1⟩
  | 90 => ⟨S64000x1792, .bf16⟩
  | 91 => ⟨S64000x1792, .bf16⟩
  | 92 => ⟨S_, .i32⟩
  | 93 => ⟨S64000x1792, .i32⟩
  | 94 => ⟨S64000x1792, .i32⟩
  | 95 => ⟨S_, .i32⟩
  | 96 => ⟨S64000x1792, .i32⟩
  | 97 => ⟨S64000x1792, .i32⟩
  | 98 => ⟨S_, .i32⟩
  | 99 => ⟨S64000x1792, .i32⟩
  | 100 => ⟨S64000x1792, .i1⟩
  | 101 => ⟨S64000x1792, .bf16⟩
  | 102 => ⟨S64000x1792, .bf16⟩
  | 103 => ⟨S_, .i32⟩
  | 104 => ⟨S64000x1792, .i32⟩
  | 105 => ⟨S64000x1792, .i32⟩
  | 106 => ⟨S_, .i32⟩
  | 107 => ⟨S64000x1792, .i32⟩
  | 108 => ⟨S64000x1792, .i32⟩
  | 109 => ⟨S_, .i32⟩
  | 110 => ⟨S64000x1792, .i32⟩
  | 111 => ⟨S64000x1792, .i1⟩
  | 112 => ⟨S_, .bf16⟩
  | 113 => ⟨S_, .bf16⟩
  | 114 => ⟨S64000x1792, .bf16⟩
  | 115 => ⟨S64000x1792, .bf16⟩
  | 116 => ⟨S64000x1792, .bf16⟩
  | 117 => ⟨S_, .bf16⟩
  | 118 => ⟨S_, .bf16⟩
  | 119 => ⟨S64000x1792, .bf16⟩
  | 120 => ⟨S64000x1792, .bf16⟩
  | 121 => ⟨S64000x1792, .bf16⟩
  | 122 => ⟨S_, .bf16⟩
  | 123 => ⟨S_, .bf16⟩
  | 124 => ⟨S64000x1792, .bf16⟩
  | 125 => ⟨S64000x1792, .bf16⟩
  | 126 => ⟨S64000x1792, .bf16⟩
  | 127 => ⟨S_, .bf16⟩
  | _ => ⟨S128x1x3584, .bf16⟩

abbrev hbmTy0_1 (i : Nat) : BufTy := match i % 128 with
  | 0 => ⟨S_, .bf16⟩
  | 1 => ⟨S64000x1792, .bf16⟩
  | 2 => ⟨S64000x1792, .bf16⟩
  | 3 => ⟨S64000x1792, .bf16⟩
  | 4 => ⟨S_, .bf16⟩
  | 5 => ⟨S_, .bf16⟩
  | 6 => ⟨S64000x1792, .bf16⟩
  | 7 => ⟨S64000x1792, .bf16⟩
  | 8 => ⟨S64000x1792, .bf16⟩
  | 9 => ⟨S_, .bf16⟩
  | 10 => ⟨S_, .bf16⟩
  | 11 => ⟨S64000x1792, .bf16⟩
  | 12 => ⟨S64000x1792, .bf16⟩
  | 13 => ⟨S64000x1792, .bf16⟩
  | 14 => ⟨S_, .bf16⟩
  | 15 => ⟨S_, .bf16⟩
  | 16 => ⟨S64000x1792, .bf16⟩
  | 17 => ⟨S64000x1792, .bf16⟩
  | 18 => ⟨S64000x1792, .bf16⟩
  | 19 => ⟨S_, .bf16⟩
  | 20 => ⟨S_, .bf16⟩
  | 21 => ⟨S64000x1792, .bf16⟩
  | 22 => ⟨S64000x1792, .bf16⟩
  | 23 => ⟨S64000x1792, .bf16⟩
  | 24 => ⟨S_, .i32⟩
  | 25 => ⟨S64000x1792, .i32⟩
  | 26 => ⟨S64000x1792, .i32⟩
  | 27 => ⟨S_, .i32⟩
  | 28 => ⟨S64000x1792, .i32⟩
  | 29 => ⟨S64000x1792, .i32⟩
  | 30 => ⟨S_, .i32⟩
  | 31 => ⟨S64000x1792, .i32⟩
  | 32 => ⟨S64000x1792, .i1⟩
  | 33 => ⟨S64000x1792, .bf16⟩
  | 34 => ⟨S64000x1792, .bf16⟩
  | 35 => ⟨S64000x1792, .bf16⟩
  | 36 => ⟨S64000x1792, .bf16⟩
  | 37 => ⟨S_, .i32⟩
  | 38 => ⟨S64000x1792, .i32⟩
  | 39 => ⟨S64000x1792, .i32⟩
  | 40 => ⟨S_, .i32⟩
  | 41 => ⟨S64000x1792, .i32⟩
  | 42 => ⟨S64000x1792, .i32⟩
  | 43 => ⟨S_, .i32⟩
  | 44 => ⟨S64000x1792, .i32⟩
  | 45 => ⟨S64000x1792, .i1⟩
  | 46 => ⟨S64000x1792, .bf16⟩
  | 47 => ⟨S64000x1792, .bf16⟩
  | 48 => ⟨S_, .i32⟩
  | 49 => ⟨S64000x1792, .i32⟩
  | 50 => ⟨S64000x1792, .i32⟩
  | 51 => ⟨S_, .i32⟩
  | 52 => ⟨S64000x1792, .i32⟩
  | 53 => ⟨S64000x1792, .i32⟩
  | 54 => ⟨S_, .i32⟩
  | 55 => ⟨S64000x1792, .i32⟩
  | 56 => ⟨S64000x1792, .i1⟩
  | 57 => ⟨S64000x1792, .bf16⟩
  | 58 => ⟨S64000x1792, .bf16⟩
  | 59 => ⟨S128x64000, .f32⟩
  | 60 => ⟨S128x64000, .f32⟩
  | 61 => ⟨S128x64000, .f32⟩
  | 62 => ⟨S128x64000, .i32⟩
  | 63 => ⟨S_, .f32⟩
  | 64 => ⟨S128, .f32⟩
  | 65 => ⟨S128x64000, .i32⟩
  | 66 => ⟨S_, .f32⟩
  | 67 => ⟨S_, .i32⟩
  | 68 => ⟨S128, .f32⟩
  | 69 => ⟨S128, .i32⟩
  | 70 => ⟨S128x1, .i32⟩
  | 71 => ⟨S128x64000, .i32⟩
  | 72 => ⟨S128x64000, .i1⟩
  | 73 => ⟨S_, .f32⟩
  | 74 => ⟨S_, .f32⟩
  | 75 => ⟨S128x64000, .f32⟩
  | 76 => ⟨S128x64000, .f32⟩
  | 77 => ⟨S_, .f32⟩
  | 78 => ⟨S128, .f32⟩
  | 79 => ⟨S128, .f32⟩
  | 80 => ⟨S1x128, .i32⟩
  | 81 => ⟨S1x128, .f32⟩
  | 82 => ⟨S1x128, .f32⟩
  | _ => ⟨S128x1x3584, .bf16⟩

abbrev hbmTy (i : Nat) : BufTy := match i / 128 with
  | 0 => hbmTy0_0 i
  | 1 => hbmTy0_1 i
  | _ => ⟨S128x1x3584, .bf16⟩

abbrev bufTy : (tb : Table) → Fin (tcTables nBuf tb) → BufTy
  | .hbm, ⟨i, _⟩ => hbmTy i
  | _, _ => ⟨S128x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_cst_5 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_cst_7 : Ref sig .tc := ⟨.hbm, 38, rfl⟩
abbrev main_cst_8 : Ref sig .tc := ⟨.hbm, 39, rfl⟩
abbrev main_call2_v0 : Ref sig .tc := ⟨.hbm, 40, rfl⟩
abbrev main_call2_v1 : Ref sig .tc := ⟨.hbm, 41, rfl⟩
abbrev main_v22 : Ref sig .tc := ⟨.hbm, 42, rfl⟩
abbrev main_cst_9 : Ref sig .tc := ⟨.hbm, 43, rfl⟩
abbrev main_cst_10 : Ref sig .tc := ⟨.hbm, 44, rfl⟩
abbrev main_call3_v0 : Ref sig .tc := ⟨.hbm, 45, rfl⟩
abbrev main_call3_v1 : Ref sig .tc := ⟨.hbm, 46, rfl⟩
abbrev main_v23 : Ref sig .tc := ⟨.hbm, 47, rfl⟩
abbrev main_cst_11 : Ref sig .tc := ⟨.hbm, 48, rfl⟩
abbrev main_cst_12 : Ref sig .tc := ⟨.hbm, 49, rfl⟩
abbrev main_call4_v0 : Ref sig .tc := ⟨.hbm, 50, rfl⟩
abbrev main_call4_v1 : Ref sig .tc := ⟨.hbm, 51, rfl⟩
abbrev main_v24 : Ref sig .tc := ⟨.hbm, 52, rfl⟩
abbrev main_cst_13 : Ref sig .tc := ⟨.hbm, 53, rfl⟩
abbrev main_cst_14 : Ref sig .tc := ⟨.hbm, 54, rfl⟩
abbrev main_call5_v0 : Ref sig .tc := ⟨.hbm, 55, rfl⟩
abbrev main_call5_v1 : Ref sig .tc := ⟨.hbm, 56, rfl⟩
abbrev main_v25 : Ref sig .tc := ⟨.hbm, 57, rfl⟩
abbrev main_cst_15 : Ref sig .tc := ⟨.hbm, 58, rfl⟩
abbrev main_cst_16 : Ref sig .tc := ⟨.hbm, 59, rfl⟩
abbrev main_call6_v0 : Ref sig .tc := ⟨.hbm, 60, rfl⟩
abbrev main_call6_v1 : Ref sig .tc := ⟨.hbm, 61, rfl⟩
abbrev main_v26 : Ref sig .tc := ⟨.hbm, 62, rfl⟩
abbrev main_cst_17 : Ref sig .tc := ⟨.hbm, 63, rfl⟩
abbrev main_cst_18 : Ref sig .tc := ⟨.hbm, 64, rfl⟩
abbrev main_call7_v0 : Ref sig .tc := ⟨.hbm, 65, rfl⟩
abbrev main_call7_v1 : Ref sig .tc := ⟨.hbm, 66, rfl⟩
abbrev main_v27 : Ref sig .tc := ⟨.hbm, 67, rfl⟩
abbrev main_c_19 : Ref sig .tc := ⟨.hbm, 68, rfl⟩
abbrev main_v28 : Ref sig .tc := ⟨.hbm, 69, rfl⟩
abbrev main_v29 : Ref sig .tc := ⟨.hbm, 70, rfl⟩
abbrev main_c_20 : Ref sig .tc := ⟨.hbm, 71, rfl⟩
abbrev main_v30 : Ref sig .tc := ⟨.hbm, 72, rfl⟩
abbrev main_v31 : Ref sig .tc := ⟨.hbm, 73, rfl⟩
abbrev main_c_21 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_c_22 : Ref sig .tc := ⟨.hbm, 81, rfl⟩
abbrev main_v38 : Ref sig .tc := ⟨.hbm, 82, rfl⟩
abbrev main_v39 : Ref sig .tc := ⟨.hbm, 83, rfl⟩
abbrev main_c_23 : Ref sig .tc := ⟨.hbm, 84, rfl⟩
abbrev main_v40 : Ref sig .tc := ⟨.hbm, 85, rfl⟩
abbrev main_v41 : Ref sig .tc := ⟨.hbm, 86, rfl⟩
abbrev main_c_24 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_c_25 : Ref sig .tc := ⟨.hbm, 92, rfl⟩
abbrev main_v46 : Ref sig .tc := ⟨.hbm, 93, rfl⟩
abbrev main_v47 : Ref sig .tc := ⟨.hbm, 94, rfl⟩
abbrev main_c_26 : Ref sig .tc := ⟨.hbm, 95, rfl⟩
abbrev main_v48 : Ref sig .tc := ⟨.hbm, 96, rfl⟩
abbrev main_v49 : Ref sig .tc := ⟨.hbm, 97, rfl⟩
abbrev main_c_27 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_c_28 : Ref sig .tc := ⟨.hbm, 103, rfl⟩
abbrev main_v54 : Ref sig .tc := ⟨.hbm, 104, rfl⟩
abbrev main_v55 : Ref sig .tc := ⟨.hbm, 105, rfl⟩
abbrev main_c_29 : Ref sig .tc := ⟨.hbm, 106, rfl⟩
abbrev main_v56 : Ref sig .tc := ⟨.hbm, 107, rfl⟩
abbrev main_v57 : Ref sig .tc := ⟨.hbm, 108, rfl⟩
abbrev main_c_30 : Ref sig .tc := ⟨.hbm, 109, rfl⟩
abbrev main_v58 : Ref sig .tc := ⟨.hbm, 110, rfl⟩
abbrev main_v59 : Ref sig .tc := ⟨.hbm, 111, rfl⟩
abbrev main_cst_31 : Ref sig .tc := ⟨.hbm, 112, rfl⟩
abbrev main_cst_32 : Ref sig .tc := ⟨.hbm, 113, rfl⟩
abbrev main_call15_v0 : Ref sig .tc := ⟨.hbm, 114, rfl⟩
abbrev main_call15_v1 : Ref sig .tc := ⟨.hbm, 115, rfl⟩
abbrev main_v60 : Ref sig .tc := ⟨.hbm, 116, rfl⟩
abbrev main_cst_33 : Ref sig .tc := ⟨.hbm, 117, rfl⟩
abbrev main_cst_34 : Ref sig .tc := ⟨.hbm, 118, rfl⟩
abbrev main_call16_v0 : Ref sig .tc := ⟨.hbm, 119, rfl⟩
abbrev main_call16_v1 : Ref sig .tc := ⟨.hbm, 120, rfl⟩
abbrev main_v61 : Ref sig .tc := ⟨.hbm, 121, rfl⟩
abbrev main_cst_35 : Ref sig .tc := ⟨.hbm, 122, rfl⟩
abbrev main_cst_36 : Ref sig .tc := ⟨.hbm, 123, rfl⟩
abbrev main_call17_v0 : Ref sig .tc := ⟨.hbm, 124, rfl⟩
abbrev main_call17_v1 : Ref sig .tc := ⟨.hbm, 125, rfl⟩
abbrev main_v62 : Ref sig .tc := ⟨.hbm, 126, rfl⟩
abbrev main_cst_37 : Ref sig .tc := ⟨.hbm, 127, rfl⟩
abbrev main_cst_38 : Ref sig .tc := ⟨.hbm, 128, rfl⟩
abbrev main_call18_v0 : Ref sig .tc := ⟨.hbm, 129, rfl⟩
abbrev main_call18_v1 : Ref sig .tc := ⟨.hbm, 130, rfl⟩
abbrev main_v63 : Ref sig .tc := ⟨.hbm, 131, rfl⟩
abbrev main_cst_39 : Ref sig .tc := ⟨.hbm, 132, rfl⟩
abbrev main_cst_40 : Ref sig .tc := ⟨.hbm, 133, rfl⟩
abbrev main_call19_v0 : Ref sig .tc := ⟨.hbm, 134, rfl⟩
abbrev main_call19_v1 : Ref sig .tc := ⟨.hbm, 135, rfl⟩
abbrev main_v64 : Ref sig .tc := ⟨.hbm, 136, rfl⟩
abbrev main_cst_41 : Ref sig .tc := ⟨.hbm, 137, rfl⟩
abbrev main_cst_42 : Ref sig .tc := ⟨.hbm, 138, rfl⟩
abbrev main_call20_v0 : Ref sig .tc := ⟨.hbm, 139, rfl⟩
abbrev main_call20_v1 : Ref sig .tc := ⟨.hbm, 140, rfl⟩
abbrev main_v65 : Ref sig .tc := ⟨.hbm, 141, rfl⟩
abbrev main_cst_43 : Ref sig .tc := ⟨.hbm, 142, rfl⟩
abbrev main_cst_44 : Ref sig .tc := ⟨.hbm, 143, rfl⟩
abbrev main_call21_v0 : Ref sig .tc := ⟨.hbm, 144, rfl⟩
abbrev main_call21_v1 : Ref sig .tc := ⟨.hbm, 145, rfl⟩
abbrev main_v66 : Ref sig .tc := ⟨.hbm, 146, rfl⟩
abbrev main_cst_45 : Ref sig .tc := ⟨.hbm, 147, rfl⟩
abbrev main_cst_46 : Ref sig .tc := ⟨.hbm, 148, rfl⟩
abbrev main_call22_v0 : Ref sig .tc := ⟨.hbm, 149, rfl⟩
abbrev main_call22_v1 : Ref sig .tc := ⟨.hbm, 150, rfl⟩
abbrev main_v67 : Ref sig .tc := ⟨.hbm, 151, rfl⟩
abbrev main_c_47 : Ref sig .tc := ⟨.hbm, 152, rfl⟩
abbrev main_v68 : Ref sig .tc := ⟨.hbm, 153, rfl⟩
abbrev main_v69 : Ref sig .tc := ⟨.hbm, 154, rfl⟩
abbrev main_c_48 : Ref sig .tc := ⟨.hbm, 155, rfl⟩
abbrev main_v70 : Ref sig .tc := ⟨.hbm, 156, rfl⟩
abbrev main_v71 : Ref sig .tc := ⟨.hbm, 157, rfl⟩
abbrev main_c_49 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_c_50 : Ref sig .tc := ⟨.hbm, 165, rfl⟩
abbrev main_v78 : Ref sig .tc := ⟨.hbm, 166, rfl⟩
abbrev main_v79 : Ref sig .tc := ⟨.hbm, 167, rfl⟩
abbrev main_c_51 : Ref sig .tc := ⟨.hbm, 168, rfl⟩
abbrev main_v80 : Ref sig .tc := ⟨.hbm, 169, rfl⟩
abbrev main_v81 : Ref sig .tc := ⟨.hbm, 170, rfl⟩
abbrev main_c_52 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_c_53 : Ref sig .tc := ⟨.hbm, 176, rfl⟩
abbrev main_v86 : Ref sig .tc := ⟨.hbm, 177, rfl⟩
abbrev main_v87 : Ref sig .tc := ⟨.hbm, 178, rfl⟩
abbrev main_c_54 : Ref sig .tc := ⟨.hbm, 179, rfl⟩
abbrev main_v88 : Ref sig .tc := ⟨.hbm, 180, rfl⟩
abbrev main_v89 : Ref sig .tc := ⟨.hbm, 181, rfl⟩
abbrev main_c_55 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_cst_56 : Ref sig .tc := ⟨.hbm, 191, rfl⟩
abbrev main_v98 : Ref sig .tc := ⟨.hbm, 192, rfl⟩
abbrev main_call30_v0 : Ref sig .tc := ⟨.hbm, 193, rfl⟩
abbrev main_call30_cst : Ref sig .tc := ⟨.hbm, 194, rfl⟩
abbrev main_call30_c : Ref sig .tc := ⟨.hbm, 195, rfl⟩
abbrev main_call30_v1_0 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_cst_57 : Ref sig .tc := ⟨.hbm, 201, rfl⟩
abbrev main_call31_v0 : Ref sig .tc := ⟨.hbm, 202, rfl⟩
abbrev main_call31_v1 : Ref sig .tc := ⟨.hbm, 203, rfl⟩
abbrev main_v103 : Ref sig .tc := ⟨.hbm, 204, rfl⟩
abbrev main_cst_58 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩

abbrev nD : Nat := 1
abbrev τ : Topo := Topo.v7x

variable {F : FTy → Type} [FloatOps F]
-- ==== Proof.Loops.lean ====
module

public import proofs.«01_k».proof.Proof.Gen.KernelIdeal.Loops
public import proofs.«01_k».proof.Proof.Gen.KernelIdeal.Skeleton
public import Idealize.ShloMosaic.Lib.VecWindow
public import Idealize.ShloMosaic.Lib.WritesUnit
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
local notation "𝕄" => MT nD τ sig Unit (Elt F) ℕ (UR sig nD τ) ℕ

/-! ## What the loops compute, as functions -/

/-- The eight weight bytes' rows of one tile, as they lie in the packed block. -/
def wTile (W : Vec F S2560x1792 .i8) (k1 : Fin k0_t1_loop.trips) (k2 : Fin k0_t2_loop.trips) (k3 : Fin k0_t3_loop.trips) : Vec F S128x128 .i8 :=
  VecWindow.window W (k0_off3 k1 k2 k3) S128x128.size (k0_off3_inb k1 k2 k3)

/-- One row of scales of one tile: group `2 r₁ + r₂` of the tile's eight. -/
def scRow (S : Vec F S1x112x512 .f32) (k2 : Fin k0_t2_loop.trips) (k3 : Fin k0_t3_loop.trips) (r₁ : Fin 4) (r₂ : Fin 2) : Vec F S1x128 .f32 :=
  VecWindow.window (shapeCast S112x512 S squeezes_S1x112x512_S112x512.numel_eq)
    (k0_off5 k2 k3 (BitVec.ofNat 32 (2 * r₁.val)) (BitVec.ofNat 32 r₂.val)) S1x128.size (k0_off5_inb k2 k3 r₁ r₂)

/-- One dequantised tile, from the table, the tile's packed bytes and its eight rows of scales. -/
def tileOf (tb : Vec F S32x128 .i32) (w : Vec F S128x128 .i8) (s : Fin 4 → Fin 2 → Vec F S1x128 .f32) : FVec F S256x128 .bf16 :=
  k0_pay7 (k0_pay48 (k0_pay5 tb)
    (k0_pay22 (k0_pay19 (k0_pay5 tb) w) (k0_pay21 (s 0 0))) (k0_pay23 (k0_pay20 (k0_pay5 tb) w) (k0_pay21 (s 0 0)))
    (k0_pay25 (k0_pay19 (k0_pay5 tb) w) (s 0 1)) (k0_pay26 (k0_pay20 (k0_pay5 tb) w) (s 0 1))
    (k0_pay31 (k0_pay28 (k0_pay5 tb) (k0_pay17 w)) (s 1 0)) (k0_pay32 (k0_pay29 (k0_pay5 tb) (k0_pay17 w)) (s 1 0))
    (k0_pay34 (k0_pay28 (k0_pay5 tb) (k0_pay17 w)) (s 1 1)) (k0_pay35 (k0_pay29 (k0_pay5 tb) (k0_pay17 w)) (s 1 1))
    (k0_pay40 (k0_pay37 (k0_pay5 tb) (k0_pay17 w)) (s 2 0)) (k0_pay41 (k0_pay38 (k0_pay5 tb) (k0_pay17 w)) (s 2 0))
    (k0_pay43 (k0_pay37 (k0_pay5 tb) (k0_pay17 w)) (s 2 1)) (k0_pay44 (k0_pay38 (k0_pay5 tb) (k0_pay17 w)) (s 2 1))
    (k0_pay46 (k0_pay17 w)) (k0_pay47 (k0_pay17 w)) (s 3 0) (s 3 1))

/-- Tile `(k2, k3)` of block `k1` of the dequantised matrix. -/
def tileAt (tb : Vec F S32x128 .i32) (W : Vec F S2560x1792 .i8) (S : Vec F S1x112x512 .f32) (k1 : Fin k0_t1_loop.trips)
    (k2 : Fin k0_t2_loop.trips) (k3 : Fin k0_t3_loop.trips) : FVec F S256x128 .bf16 :=
  tileOf tb (wTile W k1 k2 k3) (scRow S k2 k3)

/-- The tiles numbered below `n` (four a row of tiles) stand in `R`. -/
def TilesDone (T : Fin k0_t2_loop.trips → Fin k0_t3_loop.trips → FVec F S256x128 .bf16) (n : ℕ) (R : Vec F S3584x512 .bf16) : Prop :=
  ∀ (k2 : Fin k0_t2_loop.trips) (k3 : Fin k0_t3_loop.trips), 4 * k2.val + k3.val < n →
    ∀ (y : S3584x512.Idx) (x : S256x128.Idx), (y 0).val = 256 * k2.val + (x 0).val → (y 1).val = 128 * k3.val + (x 1).val →
      R y = T k2 k3 x

theorem t2_lt (k : Fin k0_t2_loop.trips) : k.val < 14 := Nat.lt_of_lt_of_le k.isLt k0_t2_abs.2.1
theorem t3_lt (k : Fin k0_t3_loop.trips) : k.val < 4 := Nat.lt_of_lt_of_le k.isLt k0_t3_abs.2.1
theorem t4_lt (k : Fin k0_t4_loop.trips) : k.val < 16 := Nat.lt_of_lt_of_le k.isLt k0_t4_abs.2.1

/-- Storing the next tile at its place keeps the tiles already done and adds it. -/
theorem TilesDone.step {sp : Space} (v : View sig .tc sp S3584x512 .bf16) (f : v.ty.Contents (Elt F))
    {T : Fin k0_t2_loop.trips → Fin k0_t3_loop.trips → FVec F S256x128 .bf16} (k2 : Fin k0_t2_loop.trips) (k3 : Fin k0_t3_loop.trips)
    (h : TilesDone T (4 * k2.val + k3.val) (v.read (Elt F) f)) :
    TilesDone T (4 * k2.val + (k3.val + 1))
      (v.read (Elt F) (v.writes (Elt F) f [⟨Rect.unit (k0_off6 k2 k3) S256x128.size (k0_off6_inb k2 k3), T k2 k3⟩])) := by
  intro a b hab y x h0 h1
  have hb := t3_lt b
  have hk3 := t3_lt k3
  have hx0 : (x 0).val < 256 := (x 0).isLt
  have hx1 : (x 1).val < 128 := (x 1).isLt
  by_cases e : a = k2 ∧ b = k3
  · obtain ⟨rfl, rfl⟩ := e
    exact View.read_writes_cons_unit_of_mem v f _ _ [] y x (k0_off6_eq a b) (Fin.forall_fin_two.mpr ⟨h0, h1⟩)
  · have hlt : 4 * a.val + b.val < 4 * k2.val + k3.val := by
      rcases Nat.lt_or_ge (4 * a.val + b.val) (4 * k2.val + k3.val) with h | h
      · exact h
      · exact absurd ⟨Fin.ext (by omega), Fin.ext (by omega)⟩ e
    rw [← h a b hlt y x h0 h1]
    by_cases e2 : a = k2
    · have : b.val < k3.val := by subst e2; omega
      exact View.read_writes_cons_unit_of_not_mem v f _ _ [] y (k0_off6_eq k2 k3) 1 (Or.inl (by
        show (y 1).val < 128 * k3.val
        omega))
    · have : a.val < k2.val := by
        have : a.val ≠ k2.val := fun h => e2 (Fin.ext h)
        omega
      exact View.read_writes_cons_unit_of_not_mem v f _ _ [] y (k0_off6_eq k2 k3) 0 (Or.inl (by
        show (y 0).val < 256 * k2.val
        omega))

/-- The running maximum, second maximum and first winning base of every lane. -/
structure St (F : FTy → Type) where
  top : Vec F S128x128 .f32
  sec : Vec F S128x128 .f32
  idx : Vec F S128x128 .i32

/-- Eight rows of a state array. -/
def rows8 {e : EltTy} (X : Vec F S128x128 e) (k : Fin k0_t4_loop.trips) : Vec F S8x128 e :=
  VecWindow.window X (k0_off7 k) S8x128.size (k0_off7_inb k)

def lg0 (L : Vec F S128x512 .f32) (k : Fin k0_t4_loop.trips) : Vec F S8x128 .f32 := VecWindow.window L (k0_off8 k) S8x128.size (k0_off8_inb k)
def lg1 (L : Vec F S128x512 .f32) (k : Fin k0_t4_loop.trips) : Vec F S8x128 .f32 := VecWindow.window L (k0_off9 k) S8x128.size (k0_off9_inb k)
def lg2 (L : Vec F S128x512 .f32) (k : Fin k0_t4_loop.trips) : Vec F S8x128 .f32 := VecWindow.window L (k0_off10 k) S8x128.size (k0_off10_inb k)
def lg3 (L : Vec F S128x512 .f32) (k : Fin k0_t4_loop.trips) : Vec F S8x128 .f32 := VecWindow.window L (k0_off11 k) S8x128.size (k0_off11_inb k)

/-- Eight rows of the maximum after a block of logits. -/
def topRows (L : Vec F S128x512 .f32) (s : St F) (k : Fin k0_t4_loop.trips) : Vec F S8x128 .f32 :=
  k0_pay9 (k0_pay51 (rows8 s.top k) (lg0 L k) (lg1 L k) (lg2 L k)) (lg3 L k)
/-- Eight rows of the second maximum after a block of logits. -/
def secRows (L : Vec F S128x512 .f32) (s : St F) (k : Fin k0_t4_loop.trips) : Vec F S8x128 .f32 :=
  k0_pay10 (k0_pay53 (rows8 s.top k) (rows8 s.sec k) (lg0 L k) (lg1 L k) (lg2 L k) (lg3 L k))
/-- Eight rows of the winning base after a block of logits. -/
def idxRows (base : BitVec 32) (L : Vec F S128x512 .f32) (s : St F) (k : Fin k0_t4_loop.trips) : Vec F S8x128 .i32 :=
  k0_pay11 (k0_pay52 base (rows8 s.top k) (rows8 s.idx k) (lg0 L k) (lg1 L k) (lg2 L k) (lg3 L k))

/-- Row groups numbered below `n` hold `R`, the others still hold `X`. -/
def RowsDone {e : EltTy} (R : Fin k0_t4_loop.trips → Vec F S8x128 e) (X : Vec F S128x128 e) (n : ℕ) (Y : Vec F S128x128 e) : Prop :=
  ∀ (k : Fin k0_t4_loop.trips) (y : S128x128.Idx) (x : S8x128.Idx), (y 0).val = 8 * k.val + (x 0).val → (y 1).val = (x 1).val →
    Y y = if k.val < n then R k x else X y

/-- Eight rows not yet reached are read as at entry. -/
theorem RowsDone.read {e : EltTy} {R : Fin k0_t4_loop.trips → Vec F S8x128 e} {X Y : Vec F S128x128 e} (k : Fin k0_t4_loop.trips)
    (h : RowsDone R X k.val Y) : rows8 Y k = rows8 X k := by
  funext x
  have := h k ((Rect.unit (s := S128x128) (k0_off7 k) S8x128.size (k0_off7_inb k)).emb x) x
    (by show k0_off7 k 0 + 1 * (x 0).val = _; rw [k0_off7_eq k]; show 8 * k.val + 1 * (x 0).val = _; omega)
    (by show k0_off7 k 1 + 1 * (x 1).val = _; rw [k0_off7_eq k]; show 0 + 1 * (x 1).val = _; omega)
  rw [if_neg (Nat.lt_irrefl _)] at this
  have e1 : ∀ Z : Vec F S128x128 e, rows8 Z k x = Z ((Rect.unit (s := S128x128) (k0_off7 k) S8x128.size (k0_off7_inb k)).emb x) :=
    fun Z => congrFun (VecWindow.window_eq_ld Z (k0_off7 k) S8x128.size (k0_off7_inb k)) x
  rw [e1, e1]; exact this

/-- Storing the next eight rows keeps the earlier rows and adds them. -/
theorem RowsDone.step {e : EltTy} {sp : Space} (v : View sig .tc sp S128x128 e) (f : v.ty.Contents (Elt F))
    {R : Fin k0_t4_loop.trips → Vec F S8x128 e} {X : Vec F S128x128 e} (k : Fin k0_t4_loop.trips)
    (h : RowsDone R X k.val (v.read (Elt F) f)) :
    RowsDone R X (k.val + 1)
      (v.read (Elt F) (v.writes (Elt F) f [⟨Rect.unit (k0_off7 k) S8x128.size (k0_off7_inb k), R k⟩])) := by
  intro j y x h0 h1
  have hx0 : (x 0).val < 8 := (x 0).isLt
  by_cases e : j = k
  · subst e
    rw [if_pos (Nat.lt_succ_self _)]
    exact View.read_writes_cons_unit_of_mem v f _ _ [] y x (k0_off7_eq j)
      (Fin.forall_fin_two.mpr ⟨h0, h1.trans (Nat.zero_add _).symm⟩)
  · have hne : j.val ≠ k.val := fun h => e (Fin.ext h)
    have hcond : (j.val < k.val + 1) ↔ (j.val < k.val) := by omega
    simp only [hcond]
    rw [← h j y x h0 h1]
    refine View.read_writes_cons_unit_of_not_mem v f _ _ [] y (k0_off7_eq k) 0 ?_
    show (y 0).val < 8 * k.val ∨ 8 * k.val + 8 ≤ (y 0).val
    omega

theorem t2_trips : k0_t2_loop.trips = 14 := by decide +kernel
theorem t3_trips : k0_t3_loop.trips = 4 := by decide +kernel
theorem t4_trips : k0_t4_loop.trips = 16 := by decide +kernel
theorem t1_trips : k0_t1_loop.trips = 5 := by decide +kernel

/-- The array whose groups of eight rows are `R`. -/
def rowsOf {e : EltTy} (R : Fin k0_t4_loop.trips → Vec F S8x128 e) : Vec F S128x128 e := fun y =>
  R ⟨(y 0).val / 8, by rw [t4_trips]; have h : (y 0).val < 128 := (y 0).isLt; omega⟩
    (ValueIdx.ix2 ⟨(y 0).val % 8, Nat.mod_lt _ (by omega)⟩ ⟨(y 1).val, (y 1).isLt⟩)

theorem RowsDone.eq {e : EltTy} {R : Fin k0_t4_loop.trips → Vec F S8x128 e} {X : Vec F S128x128 e} {n : ℕ} {Y : Vec F S128x128 e}
    (h : RowsDone R X n Y) (hn : 16 ≤ n) : Y = rowsOf R := by
  funext y
  have h0 : (y 0).val < 128 := (y 0).isLt
  refine (h ⟨(y 0).val / 8, by rw [t4_trips]; omega⟩ y (ValueIdx.ix2 ⟨(y 0).val % 8, Nat.mod_lt _ (by omega)⟩ ⟨(y 1).val, (y 1).isLt⟩) ?_ rfl).trans (if_pos ?_)
  · show (y 0).val = 8 * ((y 0).val / 8) + (y 0).val % 8
    omega
  · show (y 0).val / 8 < n
    omega

/-- The array whose first `n` groups of eight rows are `R`'s, the others `X`'s. -/
def mixRows {e : EltTy} (R : Fin k0_t4_loop.trips → Vec F S8x128 e) (X : Vec F S128x128 e) : ℕ → Vec F S128x128 e
  | 0 => X
  | n + 1 => fun y => if (y 0).val / 8 < n + 1 then rowsOf R y else X y

theorem mixRows_apply {e : EltTy} (R : Fin k0_t4_loop.trips → Vec F S8x128 e) (X : Vec F S128x128 e) (n : ℕ) (y : S128x128.Idx) :
    mixRows R X n y = if (y 0).val / 8 < n then rowsOf R y else X y := by
  cases n with
  | zero => rw [if_neg (Nat.not_lt_zero _)]; rfl
  | succ n => rfl

theorem rowsOf_apply {e : EltTy} (R : Fin k0_t4_loop.trips → Vec F S8x128 e) (k : Fin k0_t4_loop.trips) (y : S128x128.Idx) (x : S8x128.Idx)
    (h0 : (y 0).val = 8 * k.val + (x 0).val) (h1 : (y 1).val = (x 1).val) : rowsOf R y = R k x := by
  have hx0 : (x 0).val < 8 := (x 0).isLt
  have ek : (⟨(y 0).val / 8, by rw [t4_trips]; have h : (y 0).val < 128 := (y 0).isLt; omega⟩ : Fin k0_t4_loop.trips) = k :=
    Fin.ext (by show (y 0).val / 8 = k.val; omega)
  unfold rowsOf
  rw [ek]
  exact congrArg (R k) (funext (Fin.forall_fin_two.mpr ⟨Fin.ext (by show (y 0).val % 8 = (x 0).val; omega), Fin.ext h1⟩))

theorem mixRows_done {e : EltTy} {R : Fin k0_t4_loop.trips → Vec F S8x128 e} {X Y : Vec F S128x128 e} {n : ℕ} (h : Y = mixRows R X n) : RowsDone R X n Y := by
  intro k y x h0 h1
  have hx0 : (x 0).val < 8 := (x 0).isLt
  have ek : (y 0).val / 8 = k.val := by omega
  rw [h, mixRows_apply, ek, rowsOf_apply R k y x h0 h1]

theorem RowsDone.mix {e : EltTy} {R : Fin k0_t4_loop.trips → Vec F S8x128 e} {X Y : Vec F S128x128 e} {n : ℕ} (h : RowsDone R X n Y) : Y = mixRows R X n := by
  funext y
  have h0 : (y 0).val < 128 := (y 0).isLt
  rw [mixRows_apply]
  exact h ⟨(y 0).val / 8, by rw [t4_trips]; omega⟩ y (ValueIdx.ix2 ⟨(y 0).val % 8, Nat.mod_lt _ (by omega)⟩ ⟨(y 1).val, (y 1).isLt⟩)
    (by show (y 0).val = 8 * ((y 0).val / 8) + (y 0).val % 8; omega) rfl

/-! ## The loops' invariants -/

set_option warn.classDefReducibility false in
/-- The loop over four tiles of a row: the tiles done so far stand in the matrix. -/
def inv3 (𝒱 : Variants) (c : Dev nD) (bd : Option 𝒱.V) (E : Set ℕ) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (v3 : Vec F S32x128 .i32) (k1 : Fin k0_t1_loop.trips) (v10 : BitVec 32) (k2 : Fin k0_t2_loop.trips) (v33 : BitVec 32) (X3 : BufTy.Contents (Elt F) arg3.view.ty) (X9 : BufTy.Contents (Elt F) arg9.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v3 k1 v10 k2 v33 where
  inv k _ := iprop((arg3.view.loc (c : Thread nD τ) ↦[arg3.view.set]{fullShare} X3) ∗ (arg9.view.loc (c : Thread nD τ) ↦[arg9.view.set]{fullShare} X9) ∗ ∃ f, (arg10.view.loc (c : Thread nD τ) ↦[arg10.view.set]{fullShare} f) ∗ ⌜TilesDone (tileAt v3 (arg3.view.read (Elt F) X3) (View.readAt (Elt F) arg9.view (Rect.unit (s := S5x112x512) (k0_off4 k1) S1x112x512.size (k0_off4_inb k1)).toLoadRect X9) k1) (4 * k2.val + k) (arg10.view.read (Elt F) f)⌝)
  step k acc := by
    have hk : k.val < 4 := t3_lt k
    unfold k0_t3_body
    iintro ⟨H3, H9, ⟨%f, H10, %hf⟩⟩
    sl_exec
    sl_step
    isplitl [H3]; · iexact H3
    isplitl [H9]; · iexact H9
    iexists _
    isplitl [H10]; · iexact H10
    ipureintro
    exact TilesDone.step arg10.view f k2 k hf

set_option warn.classDefReducibility false in
/-- The loop over the fourteen rows of tiles. -/
def inv2 (𝒱 : Variants) (c : Dev nD) (bd : Option 𝒱.V) (E : Set ℕ) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (v3 : Vec F S32x128 .i32) (k1 : Fin k0_t1_loop.trips) (v10 : BitVec 32) (X3 : BufTy.Contents (Elt F) arg3.view.ty) (X9 : BufTy.Contents (Elt F) arg9.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v3 k1 v10 where
  inv k _ := iprop((arg3.view.loc (c : Thread nD τ) ↦[arg3.view.set]{fullShare} X3) ∗ (arg9.view.loc (c : Thread nD τ) ↦[arg9.view.set]{fullShare} X9) ∗ ∃ f, (arg10.view.loc (c : Thread nD τ) ↦[arg10.view.set]{fullShare} f) ∗ ⌜TilesDone (tileAt v3 (arg3.view.read (Elt F) X3) (View.readAt (Elt F) arg9.view (Rect.unit (s := S5x112x512) (k0_off4 k1) S1x112x512.size (k0_off4_inb k1)).toLoadRect X9) k1) (4 * k) (arg10.view.read (Elt F) f)⌝)
  step k acc := by
    unfold k0_t2_body
    iintro ⟨H3, H9, ⟨%f, H10, %hf⟩⟩
    let L := fun v33 => inv3 𝒱 c bd E i arg1 harg1 arg2 harg2 arg3 harg3 arg4 harg4 arg5 harg5 arg6 harg6 arg7 harg7 arg8 harg8 arg9 harg9 arg10 harg10 arg11 harg11 arg12 harg12 arg13 harg13 arg14 harg14 v3 k1 v10 k v33 X3 X9
    sl_exec
    sl_step
    isplitl [H3]; · iexact H3
    isplitl [H9]; · iexact H9
    iexists _
    isplitl [H10]; · iexact H10
    ipureintro
    exact hL3

set_option warn.classDefReducibility false in
/-- The loop over the sixteen groups of eight rows of the running state. -/
def inv4 (𝒱 : Variants) (c : Dev nD) (bd : Option 𝒱.V) (E : Set ℕ) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (v30 : BitVec 32) (X11 : BufTy.Contents (Elt F) arg11.view.ty) (G12 : BufTy.Contents (Elt F) arg12.view.ty) (G13 : BufTy.Contents (Elt F) arg13.view.ty) (G14 : BufTy.Contents (Elt F) arg14.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v30 where
  inv k _ := iprop((arg11.view.loc (c : Thread nD τ) ↦[arg11.view.set]{fullShare} X11) ∗ (∃ f, (arg12.view.loc (c : Thread nD τ) ↦[arg12.view.set]{fullShare} f) ∗ ⌜arg12.view.read (Elt F) f = mixRows (topRows (arg11.view.read (Elt F) X11) ⟨arg12.view.read (Elt F) G12, arg13.view.read (Elt F) G13, arg14.view.read (Elt F) G14⟩) (arg12.view.read (Elt F) G12) k⌝)
    ∗ (∃ f, (arg13.view.loc (c : Thread nD τ) ↦[arg13.view.set]{fullShare} f) ∗ ⌜arg13.view.read (Elt F) f = mixRows (secRows (arg11.view.read (Elt F) X11) ⟨arg12.view.read (Elt F) G12, arg13.view.read (Elt F) G13, arg14.view.read (Elt F) G14⟩) (arg13.view.read (Elt F) G13) k⌝)
    ∗ (∃ f, (arg14.view.loc (c : Thread nD τ) ↦[arg14.view.set]{fullShare} f) ∗ ⌜arg14.view.read (Elt F) f = mixRows (idxRows v30 (arg11.view.read (Elt F) X11) ⟨arg12.view.read (Elt F) G12, arg13.view.read (Elt F) G13, arg14.view.read (Elt F) G14⟩) (arg14.view.read (Elt F) G14) k⌝))
  step k acc := by
    have hk : k.val < 16 := t4_lt k
    unfold k0_t4_body
    iintro ⟨H11, ⟨%f12, H12, %h12⟩, ⟨%f13, H13, %h13⟩, ⟨%f14, H14, %h14⟩⟩
    sl_exec
    sl_step
    generalize hs : (⟨arg12.view.read (Elt F) G12, arg13.view.read (Elt F) G13, arg14.view.read (Elt F) G14⟩ : St F) = s at h12 h13 h14 ⊢
    have d12 := mixRows_done h12
    have d13 := mixRows_done h13
    have d14 := mixRows_done h14
    have e12 : rows8 (arg12.view.read (Elt F) f12) k = rows8 s.top k := by rw [d12.read, ← hs]
    have e13 : rows8 (arg13.view.read (Elt F) f13) k = rows8 s.sec k := by rw [d13.read, ← hs]
    have e14 : rows8 (arg14.view.read (Elt F) f14) k = rows8 s.idx k := by rw [d14.read, ← hs]
    have t12 : topRows (arg11.view.read (Elt F) X11) ⟨arg12.view.read (Elt F) f12, arg13.view.read (Elt F) f13, arg14.view.read (Elt F) f14⟩ k = topRows (arg11.view.read (Elt F) X11) s k := by
      unfold topRows; rw [e12]
    have t13 : secRows (arg11.view.read (Elt F) X11) ⟨arg12.view.read (Elt F) f12, arg13.view.read (Elt F) f13, arg14.view.read (Elt F) f14⟩ k = secRows (arg11.view.read (Elt F) X11) s k := by
      unfold secRows; rw [e12, e13]
    have t14 : idxRows v30 (arg11.view.read (Elt F) X11) ⟨arg12.view.read (Elt F) f12, arg13.view.read (Elt F) f13, arg14.view.read (Elt F) f14⟩ k = idxRows v30 (arg11.view.read (Elt F) X11) s k := by
      unfold idxRows; rw [e12, e14]
    isplitl [H11]; · iexact H11
    isplitl [H12]
    · iexists _; isplitl [H12]; · iexact H12
      ipureintro; have := (RowsDone.step arg12.view f12 k d12).mix; rw [← t12] at this; exact this
    isplitl [H13]
    · iexists _; isplitl [H13]; · iexact H13
      ipureintro; have := (RowsDone.step arg13.view f13 k d13).mix; rw [← t13] at this; exact this
    iexists _; isplitl [H14]; · iexact H14
    ipureintro; have := (RowsDone.step arg14.view f14 k d14).mix; rw [← t14] at this; exact this

/-! ## One block and a run of blocks -/

/-- The matrix whose tiles are `T`. -/
def rhsOf (T : Fin k0_t2_loop.trips → Fin k0_t3_loop.trips → FVec F S256x128 .bf16) : Vec F S3584x512 .bf16 := fun y =>
  T ⟨(y 0).val / 256, by rw [t2_trips]; have h : (y 0).val < 3584 := (y 0).isLt; omega⟩
    ⟨(y 1).val / 128, by rw [t3_trips]; have h : (y 1).val < 512 := (y 1).isLt; omega⟩
    (ValueIdx.ix2 ⟨(y 0).val % 256, Nat.mod_lt _ (by omega)⟩ ⟨(y 1).val % 128, Nat.mod_lt _ (by omega)⟩)

theorem TilesDone.eq {T : Fin k0_t2_loop.trips → Fin k0_t3_loop.trips → FVec F S256x128 .bf16} {n : ℕ} {R : Vec F S3584x512 .bf16}
    (h : TilesDone T n R) (hn : 56 ≤ n) : R = rhsOf T := by
  funext y
  have h0 : (y 0).val < 3584 := (y 0).isLt
  have h1 : (y 1).val < 512 := (y 1).isLt
  refine h _ _ ?_ y _ ?_ ?_
  · show 4 * ((y 0).val / 256) + (y 1).val / 128 < n
    omega
  · show (y 0).val = 256 * ((y 0).val / 256) + (y 0).val % 256
    omega
  · show (y 1).val = 128 * ((y 1).val / 128) + (y 1).val % 128
    omega

/-- The logits of one block of 512 tokens of the vocabulary, from the table, the activations, the point's packed weights
and scales. -/
def logitsOf (tb : Vec F S32x128 .i32) (xw : Vec F S128x3584 .bf16) (W : Vec F S2560x1792 .i8) (S : Vec F S112x2560 .bf16)
    (k1 : Fin k0_t1_loop.trips) : Vec F S128x512 .f32 :=
  k0_pay8 xw (rhsOf (tileAt tb W (k0_pay6 (VecWindow.window S (k0_off1 k1) S112x512.size (k0_off1_inb k1))) k1))

/-- The first token of block `k1` of grid point `arg0`, as a 32-bit word. -/
def baseOf (arg0 : BitVec 32) (k1 : Fin k0_t1_loop.trips) : BitVec 32 :=
  Scalar.muli (Scalar.addi (Scalar.muli arg0 5#32) (Scalar.addi 0#32 (Scalar.muli (Scf.iv 0#32 1#32 k1) 1#32))) 512#32

/-- The running state after a block of logits. -/
def stepSt (base : BitVec 32) (L : Vec F S128x512 .f32) (s : St F) : St F :=
  ⟨rowsOf (topRows L s), rowsOf (secRows L s), rowsOf (idxRows base L s)⟩

/-- The running state after the first `n` blocks of a grid point. -/
def blocks (arg0 : BitVec 32) (tb : Vec F S32x128 .i32) (xw : Vec F S128x3584 .bf16) (W : Vec F S2560x1792 .i8) (S : Vec F S112x2560 .bf16)
    (s : St F) : ℕ → St F
  | 0 => s
  | n + 1 => if h : n < k0_t1_loop.trips then
      stepSt (baseOf arg0 ⟨n, h⟩) (logitsOf tb xw W S ⟨n, h⟩) (blocks arg0 tb xw W S s n) else blocks arg0 tb xw W S s n

theorem blocks_succ (arg0 : BitVec 32) (tb : Vec F S32x128 .i32) (xw : Vec F S128x3584 .bf16) (W : Vec F S2560x1792 .i8) (S : Vec F S112x2560 .bf16)
    (s : St F) (k : Fin k0_t1_loop.trips) : blocks arg0 tb xw W S s (k.val + 1)
      = stepSt (baseOf arg0 k) (logitsOf tb xw W S k) (blocks arg0 tb xw W S s k.val) := dif_pos k.isLt

theorem blocks_zero (arg0 : BitVec 32) (tb : Vec F S32x128 .i32) (xw : Vec F S128x3584 .bf16) (W : Vec F S2560x1792 .i8) (S : Vec F S112x2560 .bf16)
    (s : St F) : blocks arg0 tb xw W S s 0 = s := rfl

attribute [irreducible] blocks

set_option warn.classDefReducibility false in
/-- The loop over the five blocks of a grid point. -/
def inv1 (𝒱 : Variants) (c : Dev nD) (bd : Option 𝒱.V) (E : Set ℕ) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (arg0 : BitVec 32) (v3 : Vec F S32x128 .i32) (X3 : BufTy.Contents (Elt F) arg3.view.ty) (X4 : BufTy.Contents (Elt F) arg4.view.ty) (X8 : BufTy.Contents (Elt F) arg8.view.ty) (s : St F) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg0 v3 where
  inv k _ := iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))
    ∗ (∃ f, (arg12.view.loc (c : Thread nD τ) ↦[arg12.view.set]{fullShare} f) ∗ ⌜arg12.view.read (Elt F) f = (blocks arg0 v3 (arg8.view.read (Elt F) X8) (arg3.view.read (Elt F) X3) (arg4.view.read (Elt F) X4) s k).top⌝)
    ∗ (∃ f, (arg13.view.loc (c : Thread nD τ) ↦[arg13.view.set]{fullShare} f) ∗ ⌜arg13.view.read (Elt F) f = (blocks arg0 v3 (arg8.view.read (Elt F) X8) (arg3.view.read (Elt F) X3) (arg4.view.read (Elt F) X4) s k).sec⌝)
    ∗ (∃ f, (arg14.view.loc (c : Thread nD τ) ↦[arg14.view.set]{fullShare} f) ∗ ⌜arg14.view.read (Elt F) f = (blocks arg0 v3 (arg8.view.read (Elt F) X8) (arg3.view.read (Elt F) X3) (arg4.view.read (Elt F) X4) s k).idx⌝))
  step k acc := by
    have hk : k.val < 5 := Nat.lt_of_lt_of_le k.isLt k0_t1_abs.2.1
    unfold k0_t1_body
    iintro ⟨H3, H4, H8, ⟨%f9, H9⟩, ⟨%f10, H10⟩, ⟨%f11, H11⟩, Hst⟩
    let L2 := fun v10 X9 => inv2 𝒱 c bd E i arg1 harg1 arg2 harg2 arg3 harg3 arg4 harg4 arg5 harg5 arg6 harg6 arg7 harg7 arg8 harg8 arg9 harg9 arg10 harg10 arg11 harg11 arg12 harg12 arg13 harg13 arg14 harg14 v3 k v10 X3 X9
    have hz : TilesDone (tileAt v3 (arg3.view.read (Elt F) X3) (View.readAt (Elt F) arg9.view (Rect.unit (s := S5x112x512) (k0_off4 k) S1x112x512.size (k0_off4_inb k)).toLoadRect
        (arg9.view.writes (Elt F) f9 [⟨Rect.unit (s := S5x112x512) (k0_off2 k) S1x112x512.size (k0_off2_inb k), k0_pay6 (View.readAt (Elt F) arg4.view (Rect.unit (s := S112x2560) (k0_off1 k) S112x512.size (k0_off1_inb k)).toLoadRect X4)⟩])) k)
        (4 * 0) (arg10.view.read (Elt F) f10) := fun a b h => absurd h (Nat.not_lt_zero _)
    sl_exec
    icases Hst with ⟨⟨%f12, H12, %h12⟩, ⟨%f13, H13, %h13⟩, ⟨%f14, H14, %h14⟩⟩
    have hSc : View.readAt (Elt F) arg9.view (Rect.unit (s := S5x112x512) (k0_off4 k) S1x112x512.size (k0_off4_inb k)).toLoadRect
        (arg9.view.writes (Elt F) f9 [⟨Rect.unit (s := S5x112x512) (k0_off2 k) S1x112x512.size (k0_off2_inb k), k0_pay6 (View.readAt (Elt F) arg4.view (Rect.unit (s := S112x2560) (k0_off1 k) S112x512.size (k0_off1_inb k)).toLoadRect X4)⟩])
        = k0_pay6 (VecWindow.window (arg4.view.read (Elt F) X4) (k0_off1 k) S112x512.size (k0_off1_inb k)) := by
      funext x
      refine View.read_writes_cons_unit_of_mem arg9.view f9 (k0_off2_inb k) _ [] _ x (k0_off2_eq k) fun a => ?_
      show k0_off4 k a + 1 * (x a).val = _
      exact congrArg₂ (· + ·) (congrFun (k0_off4_eq k) a) (Nat.one_mul _)
    have hLg : arg11.view.read (Elt F) (arg11.view.writes (Elt F) arg11.view.junk (inv1.sl.H11_1 c arg8 arg10 X8 fL0))
        = logitsOf v3 (arg8.view.read (Elt F) X8) (arg3.view.read (Elt F) X3) (arg4.view.read (Elt F) X4) k := by
      refine (View.read_writes_full arg11.view _ inb_S128x512_S128x512_0_0 _ []).trans ?_
      unfold logitsOf
      rw [View.readAt_full, View.readAt_full, hL3.eq (by rw [show Scf.trips k0_t2_loop.lb k0_t2_loop.ub k0_t2_loop.st = 14 from t2_trips]), hSc]
    let L4 := inv4 𝒱 c bd E i arg1 harg1 arg2 harg2 arg3 harg3 arg4 harg4 arg5 harg5 arg6 harg6 arg7 harg7 arg8 harg8 arg9 harg9 arg10 harg10 arg11 harg11 arg12 harg12 arg13 harg13 arg14 harg14 (baseOf arg0 k) (arg11.view.writes (Elt F) arg11.view.junk (inv1.sl.H11_1 c arg8 arg10 X8 fL0)) f12 f13 f14
    sl_exec
    sl_step
    have hb : ∀ {e : EltTy} {R : Fin k0_t4_loop.trips → Vec F S8x128 e} {X Y : Vec F S128x128 e},
        Y = mixRows R X (Scf.trips k0_t4_loop.lb k0_t4_loop.ub k0_t4_loop.st) → Y = rowsOf R :=
      fun h => (mixRows_done h).eq (by rw [show Scf.trips k0_t4_loop.lb k0_t4_loop.ub k0_t4_loop.st = 16 from t4_trips])
    have r12 := hb hL2
    have r13 := hb hL4
    have r14 := hb hL6
    rw [hLg, h12, h13, h14] at r12 r13 r14
    rw [blocks_succ]
    isplitl [H3]; · iexact H3
    isplitl [H4]; · iexact H4
    isplitl [H8]; · iexact H8
    isplitl [H9]; · iexists _; iexact H9
    isplitl [H10]; · iexists _; iexact H10
    isplitl [H11]; · iexists _; iexact H11
    isplitl [H12]
    · iexists _; isplitl [H12]; · iexact H12
      ipureintro; exact r12
    isplitl [H13]
    · iexists _; isplitl [H13]; · iexact H13
      ipureintro; exact r13
    iexists _; isplitl [H14]; · iexact H14
    ipureintro; exact r14

end Cert.KernelIdeal.Hand
end
-- ==== Proof.Body.lean ====
module

public import proofs.«01_k».proof.Proof.Loops
public import Idealize.ShloMosaic.Lib.Pipeline.FrameBody
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
local notation "𝕄" => MT nD τ sig Unit (Elt F) ℕ (UR sig nD τ) ℕ

/-- The running state before anything was seen. -/
def initSt : St F := ⟨k0_pay1, k0_pay2, k0_pay3⟩

/-- The running state a grid point leaves. -/
def pointSt (i : grid0.Coords) (tb : Vec F S32x128 .i32) (xw : Vec F S128x3584 .bf16) (W : Vec F S2560x1792 .i8) (S : Vec F S112x2560 .bf16) (s : St F) : St F :=
  blocks (BitVec.ofNat 32 (i 0).val) tb xw W S s k0_t1_loop.trips

/-- The condition of the first conditional. -/
abbrev condFirst (i : grid0.Coords) : Prop := (Scalar.cmpi .ne (Scalar.extui (Scalar.cmpi .eq (BitVec.ofNat 32 (i 0).val) 0#32)) 0#32) = 1#1
/-- The condition of the last conditional. -/
abbrev condLast (i : grid0.Coords) : Prop := k0_cond2 i = 1#1

/-- The first grid point: it converts the activations, starts the running state and runs its blocks. -/
theorem body_A (c : Dev nD) (E : Set ℕ) (K : PUnit → sProp 𝕄) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (hc0 : condFirst i) (hc1 : ¬condLast i)
    (x0 : Vec F S32x128 .i32) (x1 : Vec F S128x3584 .bf16) (x2 : Vec F S2560x1792 .i8) (x3 : Vec F S112x2560 .bf16)
    (xi4 : Vec F S1x128 .i32) (xi5 : Vec F S1x128 .f32) (xi6 : Vec F S1x128 .f32) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xi6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xi6 ∗ owns (c : Thread nD τ) arg8 fullShare (k0_pay4 x1) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (pointSt i x0 (k0_pay4 x1) x2 x3 initSt).top ∗ owns (c : Thread nD τ) arg13 fullShare (pointSt i x0 (k0_pay4 x1) x2 x3 initSt).sec ∗ owns (c : Thread nD τ) arg14 fullShare (pointSt i x0 (k0_pay4 x1) x2 x3 initSt).idx) -∗ K ⟨⟩))
      ⊢ wp frame (wpE (defs₀ (F := F)) Variants.none c none) E (cc0_iq4nl_head i arg1 harg1 arg2 harg2 arg3 harg3 arg4 harg4 arg5 harg5 arg6 harg6 arg7 harg7 arg8 harg8 arg9 harg9 arg10 harg10 arg11 harg11 arg12 harg12 arg13 harg13 arg14 harg14) K := by
    simp only [cc0_iq4nl_head_eq_skeleton]; unfold cc0_iq4nl_head_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    let s : St F := initSt
    sl_exec (disch := first | sl_exact hc0 | sl_exact hc1)
    have z12 : arg12.view.read (Elt F) (arg12.view.writes (Elt F) arg12.view.junk body_A.sl.HS4_1) = (blocks (BitVec.ofNat 32 (i 0).val) (View.readAt (Elt F) arg1.view (Rect.unit (s := S32x128) ![0, 0] S32x128.size (by decide)).toLoadRect (harg1.unread x0)) (arg8.view.read (Elt F) (arg8.view.writes (Elt F) arg8.view.junk (body_A.sl.HS0_1 c arg2 harg2 x1))) (arg3.view.read (Elt F) (harg3.unread x2)) (arg4.view.read (Elt F) (harg4.unread x3)) s 0).top := by rw [blocks_zero]; exact View.read_writes_full arg12.view _ _ _ []
    have z13 : arg13.view.read (Elt F) (arg13.view.writes (Elt F) arg13.view.junk body_A.sl.HS5_1) = (blocks (BitVec.ofNat 32 (i 0).val) (View.readAt (Elt F) arg1.view (Rect.unit (s := S32x128) ![0, 0] S32x128.size (by decide)).toLoadRect (harg1.unread x0)) (arg8.view.read (Elt F) (arg8.view.writes (Elt F) arg8.view.junk (body_A.sl.HS0_1 c arg2 harg2 x1))) (arg3.view.read (Elt F) (harg3.unread x2)) (arg4.view.read (Elt F) (harg4.unread x3)) s 0).sec := by rw [blocks_zero]; exact View.read_writes_full arg13.view _ _ _ []
    have z14 : arg14.view.read (Elt F) (arg14.view.writes (Elt F) arg14.view.junk body_A.sl.HS6_1) = (blocks (BitVec.ofNat 32 (i 0).val) (View.readAt (Elt F) arg1.view (Rect.unit (s := S32x128) ![0, 0] S32x128.size (by decide)).toLoadRect (harg1.unread x0)) (arg8.view.read (Elt F) (arg8.view.writes (Elt F) arg8.view.junk (body_A.sl.HS0_1 c arg2 harg2 x1))) (arg3.view.read (Elt F) (harg3.unread x2)) (arg4.view.read (Elt F) (harg4.unread x3)) s 0).idx := by rw [blocks_zero]; exact View.read_writes_full arg14.view _ _ _ []
    let L1 := fun v3 => inv1 Variants.none c none E i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) v3 (harg3.unread x2) (harg4.unread x3) (arg8.view.writes (Elt F) arg8.view.junk (body_A.sl.HS0_1 c arg2 harg2 x1)) s
    sl_exec (disch := first | sl_exact hc0 | sl_exact hc1)
    have e8 : arg8.view.read (Elt F) (arg8.view.writes (Elt F) arg8.view.junk (body_A.sl.HS0_1 c arg2 harg2 x1)) = k0_pay4 x1 :=
      (View.read_writes_full arg8.view _ _ _ []).trans (congrArg k0_pay4 ((View.readAt_full _ _ _).trans (harg2.read_unread x1)))
    have eP : (blocks (BitVec.ofNat 32 (i 0).val) (View.readAt (Elt F) arg1.view (Rect.unit (s := S32x128) ![0, 0] S32x128.size (by decide)).toLoadRect (harg1.unread x0)) (arg8.view.read (Elt F) (arg8.view.writes (Elt F) arg8.view.junk (body_A.sl.HS0_1 c arg2 harg2 x1))) (arg3.view.read (Elt F) (harg3.unread x2)) (arg4.view.read (Elt F) (harg4.unread x3)) s k0_t1_loop.trips) = (pointSt i x0 (k0_pay4 x1) x2 x3 initSt) := by
      rw [e8, harg3.read_unread, harg4.read_unread, show (View.readAt (Elt F) arg1.view (Rect.unit (s := S32x128) ![0, 0] S32x128.size (by decide)).toLoadRect (harg1.unread x0)) = x0 from (View.readAt_full _ _ _).trans (harg1.read_unread x0)]; rfl
    have e12 := hL7.trans (congrArg St.top eP)
    have e13 := hL9.trans (congrArg St.sec eP)
    have e14 := hL11.trans (congrArg St.idx eP)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact harg6.read_unread _
    isplitl [H6]
    · iexists _; isplitr; swap; · iexact H6
      ipureintro; exact harg7.read_unread _
    isplitl [HS0]
    · iexists _; isplitr; swap; · iexact HS0
      ipureintro; exact e8
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _; isplitr; swap; · iexact HS4
      ipureintro; exact e12
    isplitl [HS5]
    · iexists _; isplitr; swap; · iexact HS5
      ipureintro; exact e13
    iexists _; isplitr; swap; · iexact HS6
    ipureintro; exact e14

/-- An inner grid point: it runs its blocks on the running state the point before it left. -/
theorem body_B (c : Dev nD) (E : Set ℕ) (K : PUnit → sProp 𝕄) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (hc0 : ¬condFirst i) (hc1 : ¬condLast i)
    (x0 : Vec F S32x128 .i32) (x1 : Vec F S128x3584 .bf16) (x2 : Vec F S2560x1792 .i8) (x3 : Vec F S112x2560 .bf16)
    (xi4 : Vec F S1x128 .i32) (xi5 : Vec F S1x128 .f32) (xi6 : Vec F S1x128 .f32) (xs0 : Vec F S128x3584 .bf16) (s : St F) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xi6 ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s.top ∗ owns (c : Thread nD τ) arg13 fullShare s.sec ∗ owns (c : Thread nD τ) arg14 fullShare s.idx ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xi6 ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (pointSt i x0 xs0 x2 x3 s).top ∗ owns (c : Thread nD τ) arg13 fullShare (pointSt i x0 xs0 x2 x3 s).sec ∗ owns (c : Thread nD τ) arg14 fullShare (pointSt i x0 xs0 x2 x3 s).idx) -∗ K ⟨⟩))
      ⊢ wp frame (wpE (defs₀ (F := F)) Variants.none c none) E (cc0_iq4nl_head i arg1 harg1 arg2 harg2 arg3 harg3 arg4 harg4 arg5 harg5 arg6 harg6 arg7 harg7 arg8 harg8 arg9 harg9 arg10 harg10 arg11 harg11 arg12 harg12 arg13 harg13 arg14 harg14) K := by
    simp only [cc0_iq4nl_head_eq_skeleton]; unfold cc0_iq4nl_head_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hfs0
    obtain rfl := harg12.eq_unread hfs4
    obtain rfl := harg13.eq_unread hfs5
    obtain rfl := harg14.eq_unread hfs6
    have z12 : arg12.view.read (Elt F) (harg12.unread s.top) = (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s 0).top := by rw [blocks_zero]; exact harg12.read_unread _
    have z13 : arg13.view.read (Elt F) (harg13.unread s.sec) = (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s 0).sec := by rw [blocks_zero]; exact harg13.read_unread _
    have z14 : arg14.view.read (Elt F) (harg14.unread s.idx) = (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s 0).idx := by rw [blocks_zero]; exact harg14.read_unread _
    let L1 := fun v3 => inv1 Variants.none c none E i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) v3 (harg3.unread x2) (harg4.unread x3) (harg8.unread xs0) s
    sl_exec (disch := first | sl_exact hc0 | sl_exact hc1)
    have e8 : arg8.view.read (Elt F) (harg8.unread xs0) = xs0 := harg8.read_unread xs0
    have eP : (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s k0_t1_loop.trips) = (pointSt i x0 xs0 x2 x3 s) := by
      rw [e8, harg3.read_unread, harg4.read_unread, show (View.readAt (Elt F) arg1.view (Rect.unit (s := S32x128) ![0, 0] S32x128.size (by decide)).toLoadRect (harg1.unread x0)) = x0 from (View.readAt_full _ _ _).trans (harg1.read_unread x0)]; rfl
    have e12 := hL7.trans (congrArg St.top eP)
    have e13 := hL9.trans (congrArg St.sec eP)
    have e14 := hL11.trans (congrArg St.idx eP)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact harg6.read_unread _
    isplitl [H6]
    · iexists _; isplitr; swap; · iexact H6
      ipureintro; exact harg7.read_unread _
    isplitl [HS0]
    · iexists _; isplitr; swap; · iexact HS0
      ipureintro; exact e8
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _; isplitr; swap; · iexact HS4
      ipureintro; exact e12
    isplitl [HS5]
    · iexists _; isplitr; swap; · iexact HS5
      ipureintro; exact e13
    iexists _; isplitr; swap; · iexact HS6
    ipureintro; exact e14

/-- The last grid point: it runs its blocks and writes the three results out of the running state. -/
theorem body_C (c : Dev nD) (E : Set ℕ) (K : PUnit → sProp 𝕄) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (hc0 : ¬condFirst i) (hc1 : condLast i)
    (x0 : Vec F S32x128 .i32) (x1 : Vec F S128x3584 .bf16) (x2 : Vec F S2560x1792 .i8) (x3 : Vec F S112x2560 .bf16)
     (xs0 : Vec F S128x3584 .bf16) (s : St F) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s.top ∗ owns (c : Thread nD τ) arg13 fullShare s.sec ∗ owns (c : Thread nD τ) arg14 fullShare s.idx ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay15 (pointSt i x0 xs0 x2 x3 s).top (pointSt i x0 xs0 x2 x3 s).idx) ∗ owns (c : Thread nD τ) arg6 fullShare (k0_pay16 (pointSt i x0 xs0 x2 x3 s).top (pointSt i x0 xs0 x2 x3 s).sec (pointSt i x0 xs0 x2 x3 s).idx) ∗ owns (c : Thread nD τ) arg7 fullShare (k0_pay14 (pointSt i x0 xs0 x2 x3 s).top) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (pointSt i x0 xs0 x2 x3 s).top ∗ owns (c : Thread nD τ) arg13 fullShare (pointSt i x0 xs0 x2 x3 s).sec ∗ owns (c : Thread nD τ) arg14 fullShare (pointSt i x0 xs0 x2 x3 s).idx) -∗ K ⟨⟩))
      ⊢ wp frame (wpE (defs₀ (F := F)) Variants.none c none) E (cc0_iq4nl_head i arg1 harg1 arg2 harg2 arg3 harg3 arg4 harg4 arg5 harg5 arg6 harg6 arg7 harg7 arg8 harg8 arg9 harg9 arg10 harg10 arg11 harg11 arg12 harg12 arg13 harg13 arg14 harg14) K := by
    simp only [cc0_iq4nl_head_eq_skeleton]; unfold cc0_iq4nl_head_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, Hk⟩
    obtain rfl := harg1.eq_unread hf0
    obtain rfl := harg2.eq_unread hf1
    obtain rfl := harg3.eq_unread hf2
    obtain rfl := harg4.eq_unread hf3
    obtain rfl := harg8.eq_unread hfs0
    obtain rfl := harg12.eq_unread hfs4
    obtain rfl := harg13.eq_unread hfs5
    obtain rfl := harg14.eq_unread hfs6
    have z12 : arg12.view.read (Elt F) (harg12.unread s.top) = (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s 0).top := by rw [blocks_zero]; exact harg12.read_unread _
    have z13 : arg13.view.read (Elt F) (harg13.unread s.sec) = (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s 0).sec := by rw [blocks_zero]; exact harg13.read_unread _
    have z14 : arg14.view.read (Elt F) (harg14.unread s.idx) = (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s 0).idx := by rw [blocks_zero]; exact harg14.read_unread _
    let L1 := fun v3 => inv1 Variants.none c none E i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) v3 (harg3.unread x2) (harg4.unread x3) (harg8.unread xs0) s
    sl_exec (disch := first | sl_exact hc0 | sl_exact hc1)
    have e8 : arg8.view.read (Elt F) (harg8.unread xs0) = xs0 := harg8.read_unread xs0
    have eP : (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s k0_t1_loop.trips) = (pointSt i x0 xs0 x2 x3 s) := by
      rw [e8, harg3.read_unread, harg4.read_unread, show (View.readAt (Elt F) arg1.view (Rect.unit (s := S32x128) ![0, 0] S32x128.size (by decide)).toLoadRect (harg1.unread x0)) = x0 from (View.readAt_full _ _ _).trans (harg1.read_unread x0)]; rfl
    have e12 := hL7.trans (congrArg St.top eP)
    have e13 := hL9.trans (congrArg St.sec eP)
    have e14 := hL11.trans (congrArg St.idx eP)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact (View.read_writes_full _ _ _ _ []).trans (congrArg₂ k0_pay15 ((View.readAt_full _ _ _).trans e12) ((View.readAt_full _ _ _).trans e14))
    isplitl [H5]
    · iexists _; isplitr; swap; · iexact H5
      ipureintro; exact (View.read_writes_full _ _ _ _ []).trans (congr (congrArg₂ k0_pay16 ((View.readAt_full _ _ _).trans e12) ((View.readAt_full _ _ _).trans e13)) ((View.readAt_full _ _ _).trans e14))
    isplitl [H6]
    · iexists _; isplitr; swap; · iexact H6
      ipureintro; exact (View.read_writes_full _ _ _ _ []).trans (congrArg k0_pay14 ((View.readAt_full _ _ _).trans e12))
    isplitl [HS0]
    · iexists _; isplitr; swap; · iexact HS0
      ipureintro; exact e8
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _; isplitr; swap; · iexact HS4
      ipureintro; exact e12
    isplitl [HS5]
    · iexists _; isplitr; swap; · iexact HS5
      ipureintro; exact e13
    iexists _; isplitr; swap; · iexact HS6
    ipureintro; exact e14

end Cert.KernelIdeal.Hand
end
-- ==== Proof.Run.lean ====
module

public import proofs.«01_k».proof.Proof.Body
public import Idealize.ShloMosaic.Lib.WordCmp
public import Idealize.ShloMosaic.Lib.Ring
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
/-! ## The body's branch conditions -/

/-- It holds at the first point only — by arithmetic of the point. -/
theorem hcondFirst : ∀ t : Fin cfg0.N, condFirst (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [condFirst, e0]
    word_cmp
   : ∀ t : Fin grid0.N, condFirst (grid0.coords t) ↔ t.val % 25 = 0)

/-- It holds at the last point only — by arithmetic of the point. -/
theorem hcondLast : ∀ t : Fin cfg0.N, condLast (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [condLast, k0_cond2, e0]
    word_cmp
   : ∀ t : Fin grid0.N, condLast (grid0.coords t) ↔ t.val % 25 = 24)

/-! ## Where the windows are idle -/

/-- An input window is never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Output window 4 is idle before the last point, is not written back there, and is live at the last. -/
theorem idleAt0_4 : ∀ t : Fin cfg0.N, ¬condLast (grid0.coords t) → cfg0.idle 4 (grid0.coords t) = true := by decide +kernel
theorem noFlush0_4 : ∀ t : Fin cfg0.N, ¬condLast (grid0.coords t) → (cfg0.win 4).flush t = false := by decide +kernel
theorem liveAt0_4 : ∀ t : Fin cfg0.N, condLast (grid0.coords t) → cfg0.idle 4 (grid0.coords t) = false := by decide +kernel
/-- Output window 5 is idle before the last point, is not written back there, and is live at the last. -/
theorem idleAt0_5 : ∀ t : Fin cfg0.N, ¬condLast (grid0.coords t) → cfg0.idle 5 (grid0.coords t) = true := by decide +kernel
theorem noFlush0_5 : ∀ t : Fin cfg0.N, ¬condLast (grid0.coords t) → (cfg0.win 5).flush t = false := by decide +kernel
theorem liveAt0_5 : ∀ t : Fin cfg0.N, condLast (grid0.coords t) → cfg0.idle 5 (grid0.coords t) = false := by decide +kernel
/-- Output window 6 is idle before the last point, is not written back there, and is live at the last. -/
theorem idleAt0_6 : ∀ t : Fin cfg0.N, ¬condLast (grid0.coords t) → cfg0.idle 6 (grid0.coords t) = true := by decide +kernel
theorem noFlush0_6 : ∀ t : Fin cfg0.N, ¬condLast (grid0.coords t) → (cfg0.win 6).flush t = false := by decide +kernel
theorem liveAt0_6 : ∀ t : Fin cfg0.N, condLast (grid0.coords t) → cfg0.idle 6 (grid0.coords t) = false := by decide +kernel
/-- Each window's current staging memref at point `t`, spelled as the pipeline passes it (`bodyAt0`), and its wholeness. -/
abbrev ms0_0 (t : Fin cfg0.N) : Memref sig .tc .vmem S32x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x1792 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S112x2560 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x3584 .bf16 := Memref.whole cc0_scratch0
abbrev scM0_1 : Memref sig .tc .vmem S5x112x512 .f32 := Memref.whole cc0_scratch1
abbrev scM0_2 : Memref sig .tc .vmem S3584x512 .bf16 := Memref.whole cc0_scratch2
abbrev scM0_3 : Memref sig .tc .vmem S128x512 .f32 := Memref.whole cc0_scratch3
abbrev scM0_4 : Memref sig .tc .vmem S128x128 .f32 := Memref.whole cc0_scratch4
abbrev scM0_5 : Memref sig .tc .vmem S128x128 .f32 := Memref.whole cc0_scratch5
abbrev scM0_6 : Memref sig .tc .vmem S128x128 .i32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

variable (m : (ℓ : Loc nD τ sig) → Buf (Elt F) ℓ) (ρ : Dev nD → PrngReg)

/-- The activations the first point converts, which every later point reads. -/
def xwAt (c : Dev nD) : Vec F S128x3584 .bf16 := k0_pay4 (iblk m c 1 ⟨0, by rw [show cfg0.N = 25 from N_0]; omega⟩)

/-- The running state after point `n`. -/
def stAt (c : Dev nD) : (n : ℕ) → n < cfg0.N → St F
  | 0, hn => pointSt (grid0.coords ⟨0, hn⟩) (iblk m c 0 ⟨0, hn⟩) (xwAt m c) (iblk m c 2 ⟨0, hn⟩) (iblk m c 3 ⟨0, hn⟩) initSt
  | n + 1, hn => pointSt (grid0.coords ⟨n + 1, hn⟩) (iblk m c 0 ⟨n + 1, hn⟩) (xwAt m c) (iblk m c 2 ⟨n + 1, hn⟩) (iblk m c 3 ⟨n + 1, hn⟩) (stAt c n (Nat.lt_of_succ_lt hn))

/-- The running state after a point that is not the first is what the point makes of the state before it. -/
theorem stAt_pos (c : Dev nD) (t : Fin cfg0.N) (hz : t.val ≠ 0) :
    stAt m c t.val t.isLt = pointSt (grid0.coords t) (iblk m c 0 t) (xwAt m c) (iblk m c 2 t) (iblk m c 3 t) (stAt m c (t.val - 1) (by omega)) := by
  obtain ⟨n, hn⟩ := t
  cases n with
  | zero => exact absurd rfl hz
  | succ n => rfl

/-- The invariant between points: before the first everything at anything, afterwards the converted activations and the running state. -/
def PhiS (c : Dev nD) : (n : ℕ) → n ≤ cfg0.N → sProp 𝕄
  | 0, _ => Pipeline.ΦA spec0 c
  | n + 1, hn => iprop(iprop(owns (c : Thread nD τ) scM0_0 fullShare (xwAt m c) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (stAt m c n hn).top ∗ owns (c : Thread nD τ) scM0_5 fullShare (stAt m c n hn).sec ∗ owns (c : Thread nD τ) scM0_6 fullShare (stAt m c n hn).idx) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (xwAt m c) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (stAt m c n hn).top ∗ owns (c : Thread nD τ) scM0_5 fullShare (stAt m c n hn).sec ∗ owns (c : Thread nD τ) scM0_6 fullShare (stAt m c n hn).idx) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (xwAt m c) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (stAt m c (n - 1) (by omega)).top ∗ owns (c : Thread nD τ) scM0_5 fullShare (stAt m c (n - 1) (by omega)).sec ∗ owns (c : Thread nD τ) scM0_6 fullShare (stAt m c (n - 1) (by omega)).idx) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `stAt`; the invariant the class's
    (`PhiS`: the class's `ΦA` before the first point, then the scoped rest with the carried scratch at `stAt`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay15 (stAt m c t.val t.isLt).top (stAt m c t.val t.isLt).idx
    | ⟨5, _⟩ => k0_pay16 (stAt m c t.val t.isLt).top (stAt m c t.val t.isLt).sec (stAt m c t.val t.isLt).idx
    | ⟨6, _⟩ => k0_pay14 (stAt m c t.val t.isLt).top
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay15 (stAt m c t.val t.isLt).top (stAt m c t.val t.isLt).idx := by dsimp only [dats]
theorem after0_5 (c : Dev nD) (t : Fin cfg0.N) : (dats m 0 c).after 5 t = k0_pay16 (stAt m c t.val t.isLt).top (stAt m c t.val t.isLt).sec (stAt m c t.val t.isLt).idx := by dsimp only [dats]
theorem after0_6 (c : Dev nD) (t : Fin cfg0.N) : (dats m 0 c).after 6 t = k0_pay14 (stAt m c t.val t.isLt).top := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1000000 in
/-- The body at any point: by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt (show cfg0.N = 25 from N_0)
  by_cases hc1 : condLast (grid0.coords t)
  · have h1 := (hcondLast t).mp hc1
    have hz : t.val ≠ 0 := by omega
    have hc0 : ¬condFirst (grid0.coords t) := fun h => by have := (hcondFirst t).mp h; omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t hc1], after0_4]
    rw [show (dats m 0 c).leavesExact 5 t = owns (c : Thread nD τ) (ms0_5 t) fullShare ((dats m 0 c).after 5 t) from by
      unfold Dat.leavesExact; rw [liveAt0_5 t hc1], after0_5]
    rw [show (dats m 0 c).leavesExact 6 t = owns (c : Thread nD τ) (ms0_6 t) fullShare ((dats m 0 c).after 6 t) from by
      unfold Dat.leavesExact; rw [liveAt0_6 t hc1], after0_6]
    rw [PhiS_castSucc m c t, PhiS_pos m c _ _ hz, stAt_pos m c t hz]
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
    iapply (body_C c Set.univ _ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 (iblk m c 0 t) (iblk m c 1 t) (iblk m c 2 t) (iblk m c 3 t) (xwAt m c) (stAt m c (t.val - 1) (by omega)))
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t hc1) (noFlush0_4 t hc1)]
    rw [Dat.leavesExact_idle (dats m 0 c) 5 t (idleAt0_5 t hc1) (noFlush0_5 t hc1)]
    rw [Dat.leavesExact_idle (dats m 0 c) 6 t (idleAt0_6 t hc1) (noFlush0_6 t hc1)]
    by_cases hc0 : condFirst (grid0.coords t)
    · have hz : t.val = 0 := by have := (hcondFirst t).mp hc0; omega
      obtain ⟨n, hn⟩ := t
      obtain rfl : n = 0 := hz
      rw [PhiS_castSucc m c ⟨0, hn⟩, PhiS_zero m c _ _ rfl, PhiA0_eq]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
      iapply (body_A c Set.univ _ (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 (iblk m c 0 ⟨0, hn⟩) (iblk m c 1 ⟨0, hn⟩) (iblk m c 2 ⟨0, hn⟩) (iblk m c 3 ⟨0, hn⟩) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, HS0, HS1, HS2, HS3, HS4, HS5, HS6⟩
      isplitl [HS0 HS1 HS2 HS3 HS4 HS5 HS6 Hg]
      · isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · have hz : t.val ≠ 0 := fun h => hc0 ((hcondFirst t).mpr (by rw [h]))
      rw [PhiS_castSucc m c t, PhiS_pos m c _ _ hz, stAt_pos m c t hz]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
      iapply (body_B c Set.univ _ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 (iblk m c 0 t) (iblk m c 1 t) (iblk m c 2 t) (iblk m c 3 t) _ _ _ (xwAt m c) (stAt m c (t.val - 1) (by omega)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, HS0, HS1, HS2, HS3, HS4, HS5, HS6⟩
      isplitl [HS0 HS1 HS2 HS3 HS4 HS5 HS6 Hg]
      · isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexact HS1
    isplitl [HS2]
    · iexact HS2
    isplitl [HS3]
    · iexact HS3
    isplitl [HS4]
    · iexists _; iexact HS4
    isplitl [HS5]
    · iexists _; iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 25 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.LoopsBits.lean ====
module

public import proofs.«01_k».proof.Proof.Loops
public import proofs.«01_k».proof.Proof.Gen.Kernel.Loops
public import proofs.«01_k».proof.Proof.Gen.Kernel.Skeleton
public import Idealize.ShloMosaic.Lib.VecWindow
public import Idealize.ShloMosaic.Lib.WritesUnit
public import Idealize.ShloMosaic.Lib.ValueIdx

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]
local notation "𝕄" => MT nD τ sig Unit (Elt F) ℕ (UR sig nD τ) ℕ

/-! ## What the loops compute, as functions -/

/-- The eight weight bytes' rows of one tile, as they lie in the packed block. -/
def wTile (W : Vec F S2560x1792 .i8) (k1 : Fin k0_t1_loop.trips) (k2 : Fin k0_t2_loop.trips) (k3 : Fin k0_t3_loop.trips) : Vec F S128x128 .i8 :=
  VecWindow.window W (k0_off3 k1 k2 k3) S128x128.size (k0_off3_inb k1 k2 k3)

/-- One row of scales of one tile: group `2 r₁ + r₂` of the tile's eight. -/
def scRow (S : Vec F S1x112x512 .f32) (k2 : Fin k0_t2_loop.trips) (k3 : Fin k0_t3_loop.trips) (r₁ : Fin 4) (r₂ : Fin 2) : Vec F S1x128 .f32 :=
  VecWindow.window (shapeCast S112x512 S squeezes_S1x112x512_S112x512.numel_eq)
    (k0_off5 k2 k3 (BitVec.ofNat 32 (2 * r₁.val)) (BitVec.ofNat 32 r₂.val)) S1x128.size (k0_off5_inb k2 k3 r₁ r₂)

/-- One dequantised tile, from the table, the tile's packed bytes and its eight rows of scales. -/
def tileOf (tb : Vec F S32x128 .i32) (w : Vec F S128x128 .i8) (s : Fin 4 → Fin 2 → Vec F S1x128 .f32) : FVec F S256x128 .bf16 :=
  k0_pay7 (k0_pay48 (k0_pay5 tb)
    (k0_pay22 (k0_pay19 (k0_pay5 tb) w) (k0_pay21 (s 0 0))) (k0_pay23 (k0_pay20 (k0_pay5 tb) w) (k0_pay21 (s 0 0)))
    (k0_pay25 (k0_pay19 (k0_pay5 tb) w) (s 0 1)) (k0_pay26 (k0_pay20 (k0_pay5 tb) w) (s 0 1))
    (k0_pay31 (k0_pay28 (k0_pay5 tb) (k0_pay17 w)) (s 1 0)) (k0_pay32 (k0_pay29 (k0_pay5 tb) (k0_pay17 w)) (s 1 0))
    (k0_pay34 (k0_pay28 (k0_pay5 tb) (k0_pay17 w)) (s 1 1)) (k0_pay35 (k0_pay29 (k0_pay5 tb) (k0_pay17 w)) (s 1 1))
    (k0_pay40 (k0_pay37 (k0_pay5 tb) (k0_pay17 w)) (s 2 0)) (k0_pay41 (k0_pay38 (k0_pay5 tb) (k0_pay17 w)) (s 2 0))
    (k0_pay43 (k0_pay37 (k0_pay5 tb) (k0_pay17 w)) (s 2 1)) (k0_pay44 (k0_pay38 (k0_pay5 tb) (k0_pay17 w)) (s 2 1))
    (k0_pay46 (k0_pay17 w)) (k0_pay47 (k0_pay17 w)) (s 3 0) (s 3 1))

/-- Tile `(k2, k3)` of block `k1` of the dequantised matrix. -/
def tileAt (tb : Vec F S32x128 .i32) (W : Vec F S2560x1792 .i8) (S : Vec F S1x112x512 .f32) (k1 : Fin k0_t1_loop.trips)
    (k2 : Fin k0_t2_loop.trips) (k3 : Fin k0_t3_loop.trips) : FVec F S256x128 .bf16 :=
  tileOf tb (wTile W k1 k2 k3) (scRow S k2 k3)

/-- The tiles numbered below `n` (four a row of tiles) stand in `R`. -/
def TilesDone (T : Fin k0_t2_loop.trips → Fin k0_t3_loop.trips → FVec F S256x128 .bf16) (n : ℕ) (R : Vec F S3584x512 .bf16) : Prop :=
  ∀ (k2 : Fin k0_t2_loop.trips) (k3 : Fin k0_t3_loop.trips), 4 * k2.val + k3.val < n →
    ∀ (y : S3584x512.Idx) (x : S256x128.Idx), (y 0).val = 256 * k2.val + (x 0).val → (y 1).val = 128 * k3.val + (x 1).val →
      R y = T k2 k3 x

theorem t2_lt (k : Fin k0_t2_loop.trips) : k.val < 14 := Nat.lt_of_lt_of_le k.isLt k0_t2_abs.2.1
theorem t3_lt (k : Fin k0_t3_loop.trips) : k.val < 4 := Nat.lt_of_lt_of_le k.isLt k0_t3_abs.2.1
theorem t4_lt (k : Fin k0_t4_loop.trips) : k.val < 16 := Nat.lt_of_lt_of_le k.isLt k0_t4_abs.2.1

/-- Storing the next tile at its place keeps the tiles already done and adds it. -/
theorem TilesDone.step {sp : Space} (v : View sig .tc sp S3584x512 .bf16) (f : v.ty.Contents (Elt F))
    {T : Fin k0_t2_loop.trips → Fin k0_t3_loop.trips → FVec F S256x128 .bf16} (k2 : Fin k0_t2_loop.trips) (k3 : Fin k0_t3_loop.trips)
    (h : TilesDone T (4 * k2.val + k3.val) (v.read (Elt F) f)) :
    TilesDone T (4 * k2.val + (k3.val + 1))
      (v.read (Elt F) (v.writes (Elt F) f [⟨Rect.unit (k0_off6 k2 k3) S256x128.size (k0_off6_inb k2 k3), T k2 k3⟩])) := by
  intro a b hab y x h0 h1
  have hb := t3_lt b
  have hk3 := t3_lt k3
  have hx0 : (x 0).val < 256 := (x 0).isLt
  have hx1 : (x 1).val < 128 := (x 1).isLt
  by_cases e : a = k2 ∧ b = k3
  · obtain ⟨rfl, rfl⟩ := e
    exact View.read_writes_cons_unit_of_mem v f _ _ [] y x (k0_off6_eq a b) (Fin.forall_fin_two.mpr ⟨h0, h1⟩)
  · have hlt : 4 * a.val + b.val < 4 * k2.val + k3.val := by
      rcases Nat.lt_or_ge (4 * a.val + b.val) (4 * k2.val + k3.val) with h | h
      · exact h
      · exact absurd ⟨Fin.ext (by omega), Fin.ext (by omega)⟩ e
    rw [← h a b hlt y x h0 h1]
    by_cases e2 : a = k2
    · have : b.val < k3.val := by subst e2; omega
      exact View.read_writes_cons_unit_of_not_mem v f _ _ [] y (k0_off6_eq k2 k3) 1 (Or.inl (by
        show (y 1).val < 128 * k3.val
        omega))
    · have : a.val < k2.val := by
        have : a.val ≠ k2.val := fun h => e2 (Fin.ext h)
        omega
      exact View.read_writes_cons_unit_of_not_mem v f _ _ [] y (k0_off6_eq k2 k3) 0 (Or.inl (by
        show (y 0).val < 256 * k2.val
        omega))

/-- The running maximum, second maximum and first winning base of every lane. -/
structure St (F : FTy → Type) where
  top : Vec F S128x128 .f32
  sec : Vec F S128x128 .f32
  idx : Vec F S128x128 .i32

/-- Eight rows of a state array. -/
def rows8 {e : EltTy} (X : Vec F S128x128 e) (k : Fin k0_t4_loop.trips) : Vec F S8x128 e :=
  VecWindow.window X (k0_off7 k) S8x128.size (k0_off7_inb k)

def lg0 (L : Vec F S128x512 .f32) (k : Fin k0_t4_loop.trips) : Vec F S8x128 .f32 := VecWindow.window L (k0_off8 k) S8x128.size (k0_off8_inb k)
def lg1 (L : Vec F S128x512 .f32) (k : Fin k0_t4_loop.trips) : Vec F S8x128 .f32 := VecWindow.window L (k0_off9 k) S8x128.size (k0_off9_inb k)
def lg2 (L : Vec F S128x512 .f32) (k : Fin k0_t4_loop.trips) : Vec F S8x128 .f32 := VecWindow.window L (k0_off10 k) S8x128.size (k0_off10_inb k)
def lg3 (L : Vec F S128x512 .f32) (k : Fin k0_t4_loop.trips) : Vec F S8x128 .f32 := VecWindow.window L (k0_off11 k) S8x128.size (k0_off11_inb k)

/-- Eight rows of the maximum after a block of logits. -/
def topRows (L : Vec F S128x512 .f32) (s : St F) (k : Fin k0_t4_loop.trips) : Vec F S8x128 .f32 :=
  k0_pay9 (k0_pay51 (rows8 s.top k) (lg0 L k) (lg1 L k) (lg2 L k)) (lg3 L k)
/-- Eight rows of the second maximum after a block of logits. -/
def secRows (L : Vec F S128x512 .f32) (s : St F) (k : Fin k0_t4_loop.trips) : Vec F S8x128 .f32 :=
  k0_pay10 (k0_pay53 (rows8 s.top k) (rows8 s.sec k) (lg0 L k) (lg1 L k) (lg2 L k) (lg3 L k))
/-- Eight rows of the winning base after a block of logits. -/
def idxRows (base : BitVec 32) (L : Vec F S128x512 .f32) (s : St F) (k : Fin k0_t4_loop.trips) : Vec F S8x128 .i32 :=
  k0_pay11 (k0_pay52 base (rows8 s.top k) (rows8 s.idx k) (lg0 L k) (lg1 L k) (lg2 L k) (lg3 L k))

/-- Row groups numbered below `n` hold `R`, the others still hold `X`. -/
def RowsDone {e : EltTy} (R : Fin k0_t4_loop.trips → Vec F S8x128 e) (X : Vec F S128x128 e) (n : ℕ) (Y : Vec F S128x128 e) : Prop :=
  ∀ (k : Fin k0_t4_loop.trips) (y : S128x128.Idx) (x : S8x128.Idx), (y 0).val = 8 * k.val + (x 0).val → (y 1).val = (x 1).val →
    Y y = if k.val < n then R k x else X y

/-- Eight rows not yet reached are read as at entry. -/
theorem RowsDone.read {e : EltTy} {R : Fin k0_t4_loop.trips → Vec F S8x128 e} {X Y : Vec F S128x128 e} (k : Fin k0_t4_loop.trips)
    (h : RowsDone R X k.val Y) : rows8 Y k = rows8 X k := by
  funext x
  have := h k ((Rect.unit (s := S128x128) (k0_off7 k) S8x128.size (k0_off7_inb k)).emb x) x
    (by show k0_off7 k 0 + 1 * (x 0).val = _; rw [k0_off7_eq k]; show 8 * k.val + 1 * (x 0).val = _; omega)
    (by show k0_off7 k 1 + 1 * (x 1).val = _; rw [k0_off7_eq k]; show 0 + 1 * (x 1).val = _; omega)
  rw [if_neg (Nat.lt_irrefl _)] at this
  have e1 : ∀ Z : Vec F S128x128 e, rows8 Z k x = Z ((Rect.unit (s := S128x128) (k0_off7 k) S8x128.size (k0_off7_inb k)).emb x) :=
    fun Z => congrFun (VecWindow.window_eq_ld Z (k0_off7 k) S8x128.size (k0_off7_inb k)) x
  rw [e1, e1]; exact this

/-- Storing the next eight rows keeps the earlier rows and adds them. -/
theorem RowsDone.step {e : EltTy} {sp : Space} (v : View sig .tc sp S128x128 e) (f : v.ty.Contents (Elt F))
    {R : Fin k0_t4_loop.trips → Vec F S8x128 e} {X : Vec F S128x128 e} (k : Fin k0_t4_loop.trips)
    (h : RowsDone R X k.val (v.read (Elt F) f)) :
    RowsDone R X (k.val + 1)
      (v.read (Elt F) (v.writes (Elt F) f [⟨Rect.unit (k0_off7 k) S8x128.size (k0_off7_inb k), R k⟩])) := by
  intro j y x h0 h1
  have hx0 : (x 0).val < 8 := (x 0).isLt
  by_cases e : j = k
  · subst e
    rw [if_pos (Nat.lt_succ_self _)]
    exact View.read_writes_cons_unit_of_mem v f _ _ [] y x (k0_off7_eq j)
      (Fin.forall_fin_two.mpr ⟨h0, h1.trans (Nat.zero_add _).symm⟩)
  · have hne : j.val ≠ k.val := fun h => e (Fin.ext h)
    have hcond : (j.val < k.val + 1) ↔ (j.val < k.val) := by omega
    simp only [hcond]
    rw [← h j y x h0 h1]
    refine View.read_writes_cons_unit_of_not_mem v f _ _ [] y (k0_off7_eq k) 0 ?_
    show (y 0).val < 8 * k.val ∨ 8 * k.val + 8 ≤ (y 0).val
    omega

theorem t2_trips : k0_t2_loop.trips = 14 := by decide +kernel
theorem t3_trips : k0_t3_loop.trips = 4 := by decide +kernel
theorem t4_trips : k0_t4_loop.trips = 16 := by decide +kernel
theorem t1_trips : k0_t1_loop.trips = 5 := by decide +kernel

/-- The array whose groups of eight rows are `R`. -/
def rowsOf {e : EltTy} (R : Fin k0_t4_loop.trips → Vec F S8x128 e) : Vec F S128x128 e := fun y =>
  R ⟨(y 0).val / 8, by rw [t4_trips]; have h : (y 0).val < 128 := (y 0).isLt; omega⟩
    (ValueIdx.ix2 ⟨(y 0).val % 8, Nat.mod_lt _ (by omega)⟩ ⟨(y 1).val, (y 1).isLt⟩)

theorem RowsDone.eq {e : EltTy} {R : Fin k0_t4_loop.trips → Vec F S8x128 e} {X : Vec F S128x128 e} {n : ℕ} {Y : Vec F S128x128 e}
    (h : RowsDone R X n Y) (hn : 16 ≤ n) : Y = rowsOf R := by
  funext y
  have h0 : (y 0).val < 128 := (y 0).isLt
  refine (h ⟨(y 0).val / 8, by rw [t4_trips]; omega⟩ y (ValueIdx.ix2 ⟨(y 0).val % 8, Nat.mod_lt _ (by omega)⟩ ⟨(y 1).val, (y 1).isLt⟩) ?_ rfl).trans (if_pos ?_)
  · show (y 0).val = 8 * ((y 0).val / 8) + (y 0).val % 8
    omega
  · show (y 0).val / 8 < n
    omega

/-- The array whose first `n` groups of eight rows are `R`'s, the others `X`'s. -/
def mixRows {e : EltTy} (R : Fin k0_t4_loop.trips → Vec F S8x128 e) (X : Vec F S128x128 e) : ℕ → Vec F S128x128 e
  | 0 => X
  | n + 1 => fun y => if (y 0).val / 8 < n + 1 then rowsOf R y else X y

theorem mixRows_apply {e : EltTy} (R : Fin k0_t4_loop.trips → Vec F S8x128 e) (X : Vec F S128x128 e) (n : ℕ) (y : S128x128.Idx) :
    mixRows R X n y = if (y 0).val / 8 < n then rowsOf R y else X y := by
  cases n with
  | zero => rw [if_neg (Nat.not_lt_zero _)]; rfl
  | succ n => rfl

theorem rowsOf_apply {e : EltTy} (R : Fin k0_t4_loop.trips → Vec F S8x128 e) (k : Fin k0_t4_loop.trips) (y : S128x128.Idx) (x : S8x128.Idx)
    (h0 : (y 0).val = 8 * k.val + (x 0).val) (h1 : (y 1).val = (x 1).val) : rowsOf R y = R k x := by
  have hx0 : (x 0).val < 8 := (x 0).isLt
  have ek : (⟨(y 0).val / 8, by rw [t4_trips]; have h : (y 0).val < 128 := (y 0).isLt; omega⟩ : Fin k0_t4_loop.trips) = k :=
    Fin.ext (by show (y 0).val / 8 = k.val; omega)
  unfold rowsOf
  rw [ek]
  exact congrArg (R k) (funext (Fin.forall_fin_two.mpr ⟨Fin.ext (by show (y 0).val % 8 = (x 0).val; omega), Fin.ext h1⟩))

theorem mixRows_done {e : EltTy} {R : Fin k0_t4_loop.trips → Vec F S8x128 e} {X Y : Vec F S128x128 e} {n : ℕ} (h : Y = mixRows R X n) : RowsDone R X n Y := by
  intro k y x h0 h1
  have hx0 : (x 0).val < 8 := (x 0).isLt
  have ek : (y 0).val / 8 = k.val := by omega
  rw [h, mixRows_apply, ek, rowsOf_apply R k y x h0 h1]

theorem RowsDone.mix {e : EltTy} {R : Fin k0_t4_loop.trips → Vec F S8x128 e} {X Y : Vec F S128x128 e} {n : ℕ} (h : RowsDone R X n Y) : Y = mixRows R X n := by
  funext y
  have h0 : (y 0).val < 128 := (y 0).isLt
  rw [mixRows_apply]
  exact h ⟨(y 0).val / 8, by rw [t4_trips]; omega⟩ y (ValueIdx.ix2 ⟨(y 0).val % 8, Nat.mod_lt _ (by omega)⟩ ⟨(y 1).val, (y 1).isLt⟩)
    (by show (y 0).val = 8 * ((y 0).val / 8) + (y 0).val % 8; omega) rfl

/-! ## The loops' invariants -/

set_option warn.classDefReducibility false in
/-- The loop over four tiles of a row: the tiles done so far stand in the matrix. -/
def inv3 (𝒱 : Variants) (c : Dev nD) (bd : Option 𝒱.V) (E : Set ℕ) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (v3 : Vec F S32x128 .i32) (k1 : Fin k0_t1_loop.trips) (v10 : BitVec 32) (k2 : Fin k0_t2_loop.trips) (v33 : BitVec 32) (X3 : BufTy.Contents (Elt F) arg3.view.ty) (X9 : BufTy.Contents (Elt F) arg9.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v3 k1 v10 k2 v33 where
  inv k _ := iprop((arg3.view.loc (c : Thread nD τ) ↦[arg3.view.set]{fullShare} X3) ∗ (arg9.view.loc (c : Thread nD τ) ↦[arg9.view.set]{fullShare} X9) ∗ ∃ f, (arg10.view.loc (c : Thread nD τ) ↦[arg10.view.set]{fullShare} f) ∗ ⌜TilesDone (tileAt v3 (arg3.view.read (Elt F) X3) (View.readAt (Elt F) arg9.view (Rect.unit (s := S5x112x512) (k0_off4 k1) S1x112x512.size (k0_off4_inb k1)).toLoadRect X9) k1) (4 * k2.val + k) (arg10.view.read (Elt F) f)⌝)
  step k acc := by
    have hk : k.val < 4 := t3_lt k
    unfold k0_t3_body
    iintro ⟨H3, H9, ⟨%f, H10, %hf⟩⟩
    sl_exec
    sl_step
    isplitl [H3]; · iexact H3
    isplitl [H9]; · iexact H9
    iexists _
    isplitl [H10]; · iexact H10
    ipureintro
    exact TilesDone.step arg10.view f k2 k hf

set_option warn.classDefReducibility false in
/-- The loop over the fourteen rows of tiles. -/
def inv2 (𝒱 : Variants) (c : Dev nD) (bd : Option 𝒱.V) (E : Set ℕ) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (v3 : Vec F S32x128 .i32) (k1 : Fin k0_t1_loop.trips) (v10 : BitVec 32) (X3 : BufTy.Contents (Elt F) arg3.view.ty) (X9 : BufTy.Contents (Elt F) arg9.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v3 k1 v10 where
  inv k _ := iprop((arg3.view.loc (c : Thread nD τ) ↦[arg3.view.set]{fullShare} X3) ∗ (arg9.view.loc (c : Thread nD τ) ↦[arg9.view.set]{fullShare} X9) ∗ ∃ f, (arg10.view.loc (c : Thread nD τ) ↦[arg10.view.set]{fullShare} f) ∗ ⌜TilesDone (tileAt v3 (arg3.view.read (Elt F) X3) (View.readAt (Elt F) arg9.view (Rect.unit (s := S5x112x512) (k0_off4 k1) S1x112x512.size (k0_off4_inb k1)).toLoadRect X9) k1) (4 * k) (arg10.view.read (Elt F) f)⌝)
  step k acc := by
    unfold k0_t2_body
    iintro ⟨H3, H9, ⟨%f, H10, %hf⟩⟩
    let L := fun v33 => inv3 𝒱 c bd E i arg1 harg1 arg2 harg2 arg3 harg3 arg4 harg4 arg5 harg5 arg6 harg6 arg7 harg7 arg8 harg8 arg9 harg9 arg10 harg10 arg11 harg11 arg12 harg12 arg13 harg13 arg14 harg14 v3 k1 v10 k v33 X3 X9
    sl_exec
    sl_step
    isplitl [H3]; · iexact H3
    isplitl [H9]; · iexact H9
    iexists _
    isplitl [H10]; · iexact H10
    ipureintro
    exact hL3

set_option warn.classDefReducibility false in
/-- The loop over the sixteen groups of eight rows of the running state. -/
def inv4 (𝒱 : Variants) (c : Dev nD) (bd : Option 𝒱.V) (E : Set ℕ) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (v30 : BitVec 32) (X11 : BufTy.Contents (Elt F) arg11.view.ty) (G12 : BufTy.Contents (Elt F) arg12.view.ty) (G13 : BufTy.Contents (Elt F) arg13.view.ty) (G14 : BufTy.Contents (Elt F) arg14.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v30 where
  inv k _ := iprop((arg11.view.loc (c : Thread nD τ) ↦[arg11.view.set]{fullShare} X11) ∗ (∃ f, (arg12.view.loc (c : Thread nD τ) ↦[arg12.view.set]{fullShare} f) ∗ ⌜arg12.view.read (Elt F) f = mixRows (topRows (arg11.view.read (Elt F) X11) ⟨arg12.view.read (Elt F) G12, arg13.view.read (Elt F) G13, arg14.view.read (Elt F) G14⟩) (arg12.view.read (Elt F) G12) k⌝)
    ∗ (∃ f, (arg13.view.loc (c : Thread nD τ) ↦[arg13.view.set]{fullShare} f) ∗ ⌜arg13.view.read (Elt F) f = mixRows (secRows (arg11.view.read (Elt F) X11) ⟨arg12.view.read (Elt F) G12, arg13.view.read (Elt F) G13, arg14.view.read (Elt F) G14⟩) (arg13.view.read (Elt F) G13) k⌝)
    ∗ (∃ f, (arg14.view.loc (c : Thread nD τ) ↦[arg14.view.set]{fullShare} f) ∗ ⌜arg14.view.read (Elt F) f = mixRows (idxRows v30 (arg11.view.read (Elt F) X11) ⟨arg12.view.read (Elt F) G12, arg13.view.read (Elt F) G13, arg14.view.read (Elt F) G14⟩) (arg14.view.read (Elt F) G14) k⌝))
  step k acc := by
    have hk : k.val < 16 := t4_lt k
    unfold k0_t4_body
    iintro ⟨H11, ⟨%f12, H12, %h12⟩, ⟨%f13, H13, %h13⟩, ⟨%f14, H14, %h14⟩⟩
    sl_exec
    sl_step
    generalize hs : (⟨arg12.view.read (Elt F) G12, arg13.view.read (Elt F) G13, arg14.view.read (Elt F) G14⟩ : St F) = s at h12 h13 h14 ⊢
    have d12 := mixRows_done h12
    have d13 := mixRows_done h13
    have d14 := mixRows_done h14
    have e12 : rows8 (arg12.view.read (Elt F) f12) k = rows8 s.top k := by rw [d12.read, ← hs]
    have e13 : rows8 (arg13.view.read (Elt F) f13) k = rows8 s.sec k := by rw [d13.read, ← hs]
    have e14 : rows8 (arg14.view.read (Elt F) f14) k = rows8 s.idx k := by rw [d14.read, ← hs]
    have t12 : topRows (arg11.view.read (Elt F) X11) ⟨arg12.view.read (Elt F) f12, arg13.view.read (Elt F) f13, arg14.view.read (Elt F) f14⟩ k = topRows (arg11.view.read (Elt F) X11) s k := by
      unfold topRows; rw [e12]
    have t13 : secRows (arg11.view.read (Elt F) X11) ⟨arg12.view.read (Elt F) f12, arg13.view.read (Elt F) f13, arg14.view.read (Elt F) f14⟩ k = secRows (arg11.view.read (Elt F) X11) s k := by
      unfold secRows; rw [e12, e13]
    have t14 : idxRows v30 (arg11.view.read (Elt F) X11) ⟨arg12.view.read (Elt F) f12, arg13.view.read (Elt F) f13, arg14.view.read (Elt F) f14⟩ k = idxRows v30 (arg11.view.read (Elt F) X11) s k := by
      unfold idxRows; rw [e12, e14]
    isplitl [H11]; · iexact H11
    isplitl [H12]
    · iexists _; isplitl [H12]; · iexact H12
      ipureintro; have := (RowsDone.step arg12.view f12 k d12).mix; rw [← t12] at this; exact this
    isplitl [H13]
    · iexists _; isplitl [H13]; · iexact H13
      ipureintro; have := (RowsDone.step arg13.view f13 k d13).mix; rw [← t13] at this; exact this
    iexists _; isplitl [H14]; · iexact H14
    ipureintro; have := (RowsDone.step arg14.view f14 k d14).mix; rw [← t14] at this; exact this

/-! ## One block and a run of blocks -/

/-- The matrix whose tiles are `T`. -/
def rhsOf (T : Fin k0_t2_loop.trips → Fin k0_t3_loop.trips → FVec F S256x128 .bf16) : Vec F S3584x512 .bf16 := fun y =>
  T ⟨(y 0).val / 256, by rw [t2_trips]; have h : (y 0).val < 3584 := (y 0).isLt; omega⟩
    ⟨(y 1).val / 128, by rw [t3_trips]; have h : (y 1).val < 512 := (y 1).isLt; omega⟩
    (ValueIdx.ix2 ⟨(y 0).val % 256, Nat.mod_lt _ (by omega)⟩ ⟨(y 1).val % 128, Nat.mod_lt _ (by omega)⟩)

theorem TilesDone.eq {T : Fin k0_t2_loop.trips → Fin k0_t3_loop.trips → FVec F S256x128 .bf16} {n : ℕ} {R : Vec F S3584x512 .bf16}
    (h : TilesDone T n R) (hn : 56 ≤ n) : R = rhsOf T := by
  funext y
  have h0 : (y 0).val < 3584 := (y 0).isLt
  have h1 : (y 1).val < 512 := (y 1).isLt
  refine h _ _ ?_ y _ ?_ ?_
  · show 4 * ((y 0).val / 256) + (y 1).val / 128 < n
    omega
  · show (y 0).val = 256 * ((y 0).val / 256) + (y 0).val % 256
    omega
  · show (y 1).val = 128 * ((y 1).val / 128) + (y 1).val % 128
    omega

/-- The logits of one block of 512 tokens of the vocabulary, from the table, the activations, the point's packed weights
and scales. -/
def logitsOf (tb : Vec F S32x128 .i32) (xw : Vec F S128x3584 .bf16) (W : Vec F S2560x1792 .i8) (S : Vec F S112x2560 .bf16)
    (k1 : Fin k0_t1_loop.trips) : Vec F S128x512 .f32 :=
  k0_pay8 xw (rhsOf (tileAt tb W (k0_pay6 (VecWindow.window S (k0_off1 k1) S112x512.size (k0_off1_inb k1))) k1))

/-- The first token of block `k1` of grid point `arg0`, as a 32-bit word. -/
def baseOf (arg0 : BitVec 32) (k1 : Fin k0_t1_loop.trips) : BitVec 32 :=
  Scalar.muli (Scalar.addi (Scalar.muli arg0 5#32) (Scalar.addi 0#32 (Scalar.muli (Scf.iv 0#32 1#32 k1) 1#32))) 512#32

/-- The running state after a block of logits. -/
def stepSt (base : BitVec 32) (L : Vec F S128x512 .f32) (s : St F) : St F :=
  ⟨rowsOf (topRows L s), rowsOf (secRows L s), rowsOf (idxRows base L s)⟩

/-- The running state after the first `n` blocks of a grid point. -/
def blocks (arg0 : BitVec 32) (tb : Vec F S32x128 .i32) (xw : Vec F S128x3584 .bf16) (W : Vec F S2560x1792 .i8) (S : Vec F S112x2560 .bf16)
    (s : St F) : ℕ → St F
  | 0 => s
  | n + 1 => if h : n < k0_t1_loop.trips then
      stepSt (baseOf arg0 ⟨n, h⟩) (logitsOf tb xw W S ⟨n, h⟩) (blocks arg0 tb xw W S s n) else blocks arg0 tb xw W S s n

theorem blocks_succ (arg0 : BitVec 32) (tb : Vec F S32x128 .i32) (xw : Vec F S128x3584 .bf16) (W : Vec F S2560x1792 .i8) (S : Vec F S112x2560 .bf16)
    (s : St F) (k : Fin k0_t1_loop.trips) : blocks arg0 tb xw W S s (k.val + 1)
      = stepSt (baseOf arg0 k) (logitsOf tb xw W S k) (blocks arg0 tb xw W S s k.val) := dif_pos k.isLt

theorem blocks_zero (arg0 : BitVec 32) (tb : Vec F S32x128 .i32) (xw : Vec F S128x3584 .bf16) (W : Vec F S2560x1792 .i8) (S : Vec F S112x2560 .bf16)
    (s : St F) : blocks arg0 tb xw W S s 0 = s := rfl

attribute [irreducible] blocks

set_option warn.classDefReducibility false in
/-- The loop over the five blocks of a grid point. -/
def inv1 (𝒱 : Variants) (c : Dev nD) (bd : Option 𝒱.V) (E : Set ℕ) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (arg0 : BitVec 32) (v3 : Vec F S32x128 .i32) (X3 : BufTy.Contents (Elt F) arg3.view.ty) (X4 : BufTy.Contents (Elt F) arg4.view.ty) (X8 : BufTy.Contents (Elt F) arg8.view.ty) (s : St F) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg0 v3 where
  inv k _ := iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))
    ∗ (∃ f, (arg12.view.loc (c : Thread nD τ) ↦[arg12.view.set]{fullShare} f) ∗ ⌜arg12.view.read (Elt F) f = (blocks arg0 v3 (arg8.view.read (Elt F) X8) (arg3.view.read (Elt F) X3) (arg4.view.read (Elt F) X4) s k).top⌝)
    ∗ (∃ f, (arg13.view.loc (c : Thread nD τ) ↦[arg13.view.set]{fullShare} f) ∗ ⌜arg13.view.read (Elt F) f = (blocks arg0 v3 (arg8.view.read (Elt F) X8) (arg3.view.read (Elt F) X3) (arg4.view.read (Elt F) X4) s k).sec⌝)
    ∗ (∃ f, (arg14.view.loc (c : Thread nD τ) ↦[arg14.view.set]{fullShare} f) ∗ ⌜arg14.view.read (Elt F) f = (blocks arg0 v3 (arg8.view.read (Elt F) X8) (arg3.view.read (Elt F) X3) (arg4.view.read (Elt F) X4) s k).idx⌝))
  step k acc := by
    have hk : k.val < 5 := Nat.lt_of_lt_of_le k.isLt k0_t1_abs.2.1
    unfold k0_t1_body
    iintro ⟨H3, H4, H8, ⟨%f9, H9⟩, ⟨%f10, H10⟩, ⟨%f11, H11⟩, Hst⟩
    let L2 := fun v10 X9 => inv2 𝒱 c bd E i arg1 harg1 arg2 harg2 arg3 harg3 arg4 harg4 arg5 harg5 arg6 harg6 arg7 harg7 arg8 harg8 arg9 harg9 arg10 harg10 arg11 harg11 arg12 harg12 arg13 harg13 arg14 harg14 v3 k v10 X3 X9
    have hz : TilesDone (tileAt v3 (arg3.view.read (Elt F) X3) (View.readAt (Elt F) arg9.view (Rect.unit (s := S5x112x512) (k0_off4 k) S1x112x512.size (k0_off4_inb k)).toLoadRect
        (arg9.view.writes (Elt F) f9 [⟨Rect.unit (s := S5x112x512) (k0_off2 k) S1x112x512.size (k0_off2_inb k), k0_pay6 (View.readAt (Elt F) arg4.view (Rect.unit (s := S112x2560) (k0_off1 k) S112x512.size (k0_off1_inb k)).toLoadRect X4)⟩])) k)
        (4 * 0) (arg10.view.read (Elt F) f10) := fun a b h => absurd h (Nat.not_lt_zero _)
    sl_exec
    icases Hst with ⟨⟨%f12, H12, %h12⟩, ⟨%f13, H13, %h13⟩, ⟨%f14, H14, %h14⟩⟩
    have hSc : View.readAt (Elt F) arg9.view (Rect.unit (s := S5x112x512) (k0_off4 k) S1x112x512.size (k0_off4_inb k)).toLoadRect
        (arg9.view.writes (Elt F) f9 [⟨Rect.unit (s := S5x112x512) (k0_off2 k) S1x112x512.size (k0_off2_inb k), k0_pay6 (View.readAt (Elt F) arg4.view (Rect.unit (s := S112x2560) (k0_off1 k) S112x512.size (k0_off1_inb k)).toLoadRect X4)⟩])
        = k0_pay6 (VecWindow.window (arg4.view.read (Elt F) X4) (k0_off1 k) S112x512.size (k0_off1_inb k)) := by
      funext x
      refine View.read_writes_cons_unit_of_mem arg9.view f9 (k0_off2_inb k) _ [] _ x (k0_off2_eq k) fun a => ?_
      show k0_off4 k a + 1 * (x a).val = _
      exact congrArg₂ (· + ·) (congrFun (k0_off4_eq k) a) (Nat.one_mul _)
    have hLg : arg11.view.read (Elt F) (arg11.view.writes (Elt F) arg11.view.junk (inv1.sl.H11_1 c arg8 arg10 X8 fL0))
        = logitsOf v3 (arg8.view.read (Elt F) X8) (arg3.view.read (Elt F) X3) (arg4.view.read (Elt F) X4) k := by
      refine (View.read_writes_full arg11.view _ inb_S128x512_S128x512_0_0 _ []).trans ?_
      unfold logitsOf
      rw [View.readAt_full, View.readAt_full, hL3.eq (by rw [show Scf.trips k0_t2_loop.lb k0_t2_loop.ub k0_t2_loop.st = 14 from t2_trips]), hSc]
    let L4 := inv4 𝒱 c bd E i arg1 harg1 arg2 harg2 arg3 harg3 arg4 harg4 arg5 harg5 arg6 harg6 arg7 harg7 arg8 harg8 arg9 harg9 arg10 harg10 arg11 harg11 arg12 harg12 arg13 harg13 arg14 harg14 (baseOf arg0 k) (arg11.view.writes (Elt F) arg11.view.junk (inv1.sl.H11_1 c arg8 arg10 X8 fL0)) f12 f13 f14
    sl_exec
    sl_step
    have hb : ∀ {e : EltTy} {R : Fin k0_t4_loop.trips → Vec F S8x128 e} {X Y : Vec F S128x128 e},
        Y = mixRows R X (Scf.trips k0_t4_loop.lb k0_t4_loop.ub k0_t4_loop.st) → Y = rowsOf R :=
      fun h => (mixRows_done h).eq (by rw [show Scf.trips k0_t4_loop.lb k0_t4_loop.ub k0_t4_loop.st = 16 from t4_trips])
    have r12 := hb hL2
    have r13 := hb hL4
    have r14 := hb hL6
    rw [hLg, h12, h13, h14] at r12 r13 r14
    rw [blocks_succ]
    isplitl [H3]; · iexact H3
    isplitl [H4]; · iexact H4
    isplitl [H8]; · iexact H8
    isplitl [H9]; · iexists _; iexact H9
    isplitl [H10]; · iexists _; iexact H10
    isplitl [H11]; · iexists _; iexact H11
    isplitl [H12]
    · iexists _; isplitl [H12]; · iexact H12
      ipureintro; exact r12
    isplitl [H13]
    · iexists _; isplitl [H13]; · iexact H13
      ipureintro; exact r13
    iexists _; isplitl [H14]; · iexact H14
    ipureintro; exact r14

end Cert.Kernel.Hand
end
-- ==== Proof.BodyBits.lean ====
module

public import proofs.«01_k».proof.Proof.Body
public import proofs.«01_k».proof.Proof.LoopsBits
public import Idealize.ShloMosaic.Lib.Pipeline.FrameBody
public import proofs.«01_k».proof.Proof.Gen.Kernel.Frame

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]
local notation "𝕄" => MT nD τ sig Unit (Elt F) ℕ (UR sig nD τ) ℕ

/-- The running state before anything was seen. -/
def initSt : St F := ⟨k0_pay1, k0_pay2, k0_pay3⟩

/-- The running state a grid point leaves. -/
def pointSt (i : grid0.Coords) (tb : Vec F S32x128 .i32) (xw : Vec F S128x3584 .bf16) (W : Vec F S2560x1792 .i8) (S : Vec F S112x2560 .bf16) (s : St F) : St F :=
  blocks (BitVec.ofNat 32 (i 0).val) tb xw W S s k0_t1_loop.trips

/-- The condition of the first conditional. -/
abbrev condFirst (i : grid0.Coords) : Prop := (Scalar.cmpi .ne (Scalar.extui (Scalar.cmpi .eq (BitVec.ofNat 32 (i 0).val) 0#32)) 0#32) = 1#1
/-- The condition of the last conditional. -/
abbrev condLast (i : grid0.Coords) : Prop := k0_cond2 i = 1#1

/-- The first grid point: it converts the activations, starts the running state and runs its blocks. -/
theorem body_A (c : Dev nD) (E : Set ℕ) (K : PUnit → sProp 𝕄) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (hc0 : condFirst i) (hc1 : ¬condLast i)
    (x0 : Vec F S32x128 .i32) (x1 : Vec F S128x3584 .bf16) (x2 : Vec F S2560x1792 .i8) (x3 : Vec F S112x2560 .bf16)
    (xi4 : Vec F S1x128 .i32) (xi5 : Vec F S1x128 .f32) (xi6 : Vec F S1x128 .f32) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xi6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xi6 ∗ owns (c : Thread nD τ) arg8 fullShare (k0_pay4 x1) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (pointSt i x0 (k0_pay4 x1) x2 x3 initSt).top ∗ owns (c : Thread nD τ) arg13 fullShare (pointSt i x0 (k0_pay4 x1) x2 x3 initSt).sec ∗ owns (c : Thread nD τ) arg14 fullShare (pointSt i x0 (k0_pay4 x1) x2 x3 initSt).idx) -∗ K ⟨⟩))
      ⊢ wp frame (wpE (defs₀ (F := F)) Variants.none c none) E (cc0_iq4nl_head i arg1 harg1 arg2 harg2 arg3 harg3 arg4 harg4 arg5 harg5 arg6 harg6 arg7 harg7 arg8 harg8 arg9 harg9 arg10 harg10 arg11 harg11 arg12 harg12 arg13 harg13 arg14 harg14) K := by
    simp only [cc0_iq4nl_head_eq_skeleton]; unfold cc0_iq4nl_head_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    let s : St F := initSt
    sl_exec (disch := first | sl_exact hc0 | sl_exact hc1)
    have z12 : arg12.view.read (Elt F) (arg12.view.writes (Elt F) arg12.view.junk body_A.sl.HS4_1) = (blocks (BitVec.ofNat 32 (i 0).val) (View.readAt (Elt F) arg1.view (Rect.unit (s := S32x128) ![0, 0] S32x128.size (by decide)).toLoadRect (harg1.unread x0)) (arg8.view.read (Elt F) (arg8.view.writes (Elt F) arg8.view.junk (body_A.sl.HS0_1 c arg2 harg2 x1))) (arg3.view.read (Elt F) (harg3.unread x2)) (arg4.view.read (Elt F) (harg4.unread x3)) s 0).top := by rw [blocks_zero]; exact View.read_writes_full arg12.view _ _ _ []
    have z13 : arg13.view.read (Elt F) (arg13.view.writes (Elt F) arg13.view.junk body_A.sl.HS5_1) = (blocks (BitVec.ofNat 32 (i 0).val) (View.readAt (Elt F) arg1.view (Rect.unit (s := S32x128) ![0, 0] S32x128.size (by decide)).toLoadRect (harg1.unread x0)) (arg8.view.read (Elt F) (arg8.view.writes (Elt F) arg8.view.junk (body_A.sl.HS0_1 c arg2 harg2 x1))) (arg3.view.read (Elt F) (harg3.unread x2)) (arg4.view.read (Elt F) (harg4.unread x3)) s 0).sec := by rw [blocks_zero]; exact View.read_writes_full arg13.view _ _ _ []
    have z14 : arg14.view.read (Elt F) (arg14.view.writes (Elt F) arg14.view.junk body_A.sl.HS6_1) = (blocks (BitVec.ofNat 32 (i 0).val) (View.readAt (Elt F) arg1.view (Rect.unit (s := S32x128) ![0, 0] S32x128.size (by decide)).toLoadRect (harg1.unread x0)) (arg8.view.read (Elt F) (arg8.view.writes (Elt F) arg8.view.junk (body_A.sl.HS0_1 c arg2 harg2 x1))) (arg3.view.read (Elt F) (harg3.unread x2)) (arg4.view.read (Elt F) (harg4.unread x3)) s 0).idx := by rw [blocks_zero]; exact View.read_writes_full arg14.view _ _ _ []
    let L1 := fun v3 => inv1 Variants.none c none E i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) v3 (harg3.unread x2) (harg4.unread x3) (arg8.view.writes (Elt F) arg8.view.junk (body_A.sl.HS0_1 c arg2 harg2 x1)) s
    sl_exec (disch := first | sl_exact hc0 | sl_exact hc1)
    have e8 : arg8.view.read (Elt F) (arg8.view.writes (Elt F) arg8.view.junk (body_A.sl.HS0_1 c arg2 harg2 x1)) = k0_pay4 x1 :=
      (View.read_writes_full arg8.view _ _ _ []).trans (congrArg k0_pay4 ((View.readAt_full _ _ _).trans (harg2.read_unread x1)))
    have eP : (blocks (BitVec.ofNat 32 (i 0).val) (View.readAt (Elt F) arg1.view (Rect.unit (s := S32x128) ![0, 0] S32x128.size (by decide)).toLoadRect (harg1.unread x0)) (arg8.view.read (Elt F) (arg8.view.writes (Elt F) arg8.view.junk (body_A.sl.HS0_1 c arg2 harg2 x1))) (arg3.view.read (Elt F) (harg3.unread x2)) (arg4.view.read (Elt F) (harg4.unread x3)) s k0_t1_loop.trips) = (pointSt i x0 (k0_pay4 x1) x2 x3 initSt) := by
      rw [e8, harg3.read_unread, harg4.read_unread, show (View.readAt (Elt F) arg1.view (Rect.unit (s := S32x128) ![0, 0] S32x128.size (by decide)).toLoadRect (harg1.unread x0)) = x0 from (View.readAt_full _ _ _).trans (harg1.read_unread x0)]; rfl
    have e12 := hL7.trans (congrArg St.top eP)
    have e13 := hL9.trans (congrArg St.sec eP)
    have e14 := hL11.trans (congrArg St.idx eP)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact harg6.read_unread _
    isplitl [H6]
    · iexists _; isplitr; swap; · iexact H6
      ipureintro; exact harg7.read_unread _
    isplitl [HS0]
    · iexists _; isplitr; swap; · iexact HS0
      ipureintro; exact e8
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _; isplitr; swap; · iexact HS4
      ipureintro; exact e12
    isplitl [HS5]
    · iexists _; isplitr; swap; · iexact HS5
      ipureintro; exact e13
    iexists _; isplitr; swap; · iexact HS6
    ipureintro; exact e14

/-- An inner grid point: it runs its blocks on the running state the point before it left. -/
theorem body_B (c : Dev nD) (E : Set ℕ) (K : PUnit → sProp 𝕄) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (hc0 : ¬condFirst i) (hc1 : ¬condLast i)
    (x0 : Vec F S32x128 .i32) (x1 : Vec F S128x3584 .bf16) (x2 : Vec F S2560x1792 .i8) (x3 : Vec F S112x2560 .bf16)
    (xi4 : Vec F S1x128 .i32) (xi5 : Vec F S1x128 .f32) (xi6 : Vec F S1x128 .f32) (xs0 : Vec F S128x3584 .bf16) (s : St F) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xi6 ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s.top ∗ owns (c : Thread nD τ) arg13 fullShare s.sec ∗ owns (c : Thread nD τ) arg14 fullShare s.idx ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xi6 ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (pointSt i x0 xs0 x2 x3 s).top ∗ owns (c : Thread nD τ) arg13 fullShare (pointSt i x0 xs0 x2 x3 s).sec ∗ owns (c : Thread nD τ) arg14 fullShare (pointSt i x0 xs0 x2 x3 s).idx) -∗ K ⟨⟩))
      ⊢ wp frame (wpE (defs₀ (F := F)) Variants.none c none) E (cc0_iq4nl_head i arg1 harg1 arg2 harg2 arg3 harg3 arg4 harg4 arg5 harg5 arg6 harg6 arg7 harg7 arg8 harg8 arg9 harg9 arg10 harg10 arg11 harg11 arg12 harg12 arg13 harg13 arg14 harg14) K := by
    simp only [cc0_iq4nl_head_eq_skeleton]; unfold cc0_iq4nl_head_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hfs0
    obtain rfl := harg12.eq_unread hfs4
    obtain rfl := harg13.eq_unread hfs5
    obtain rfl := harg14.eq_unread hfs6
    have z12 : arg12.view.read (Elt F) (harg12.unread s.top) = (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s 0).top := by rw [blocks_zero]; exact harg12.read_unread _
    have z13 : arg13.view.read (Elt F) (harg13.unread s.sec) = (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s 0).sec := by rw [blocks_zero]; exact harg13.read_unread _
    have z14 : arg14.view.read (Elt F) (harg14.unread s.idx) = (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s 0).idx := by rw [blocks_zero]; exact harg14.read_unread _
    let L1 := fun v3 => inv1 Variants.none c none E i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) v3 (harg3.unread x2) (harg4.unread x3) (harg8.unread xs0) s
    sl_exec (disch := first | sl_exact hc0 | sl_exact hc1)
    have e8 : arg8.view.read (Elt F) (harg8.unread xs0) = xs0 := harg8.read_unread xs0
    have eP : (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s k0_t1_loop.trips) = (pointSt i x0 xs0 x2 x3 s) := by
      rw [e8, harg3.read_unread, harg4.read_unread, show (View.readAt (Elt F) arg1.view (Rect.unit (s := S32x128) ![0, 0] S32x128.size (by decide)).toLoadRect (harg1.unread x0)) = x0 from (View.readAt_full _ _ _).trans (harg1.read_unread x0)]; rfl
    have e12 := hL7.trans (congrArg St.top eP)
    have e13 := hL9.trans (congrArg St.sec eP)
    have e14 := hL11.trans (congrArg St.idx eP)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact harg6.read_unread _
    isplitl [H6]
    · iexists _; isplitr; swap; · iexact H6
      ipureintro; exact harg7.read_unread _
    isplitl [HS0]
    · iexists _; isplitr; swap; · iexact HS0
      ipureintro; exact e8
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _; isplitr; swap; · iexact HS4
      ipureintro; exact e12
    isplitl [HS5]
    · iexists _; isplitr; swap; · iexact HS5
      ipureintro; exact e13
    iexists _; isplitr; swap; · iexact HS6
    ipureintro; exact e14

/-- The last grid point: it runs its blocks and writes the three results out of the running state. -/
theorem body_C (c : Dev nD) (E : Set ℕ) (K : PUnit → sProp 𝕄) (i : grid0.Coords) (arg1 : Memref sig .tc .vmem S32x128 .i32) (harg1 : arg1.IsWhole) (arg2 : Memref sig .tc .vmem S128x3584 .bf16) (harg2 : arg2.IsWhole) (arg3 : Memref sig .tc .vmem S2560x1792 .i8) (harg3 : arg3.IsWhole) (arg4 : Memref sig .tc .vmem S112x2560 .bf16) (harg4 : arg4.IsWhole) (arg5 : Memref sig .tc .vmem S1x128 .i32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x3584 .bf16) (harg8 : arg8.IsWhole) (arg9 : Memref sig .tc .vmem S5x112x512 .f32) (harg9 : arg9.IsWhole) (arg10 : Memref sig .tc .vmem S3584x512 .bf16) (harg10 : arg10.IsWhole) (arg11 : Memref sig .tc .vmem S128x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .i32) (harg14 : arg14.IsWhole) (hc0 : ¬condFirst i) (hc1 : condLast i)
    (x0 : Vec F S32x128 .i32) (x1 : Vec F S128x3584 .bf16) (x2 : Vec F S2560x1792 .i8) (x3 : Vec F S112x2560 .bf16)
     (xs0 : Vec F S128x3584 .bf16) (s : St F) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s.top ∗ owns (c : Thread nD τ) arg13 fullShare s.sec ∗ owns (c : Thread nD τ) arg14 fullShare s.idx ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay15 (pointSt i x0 xs0 x2 x3 s).top (pointSt i x0 xs0 x2 x3 s).idx) ∗ owns (c : Thread nD τ) arg6 fullShare (k0_pay16 (pointSt i x0 xs0 x2 x3 s).top (pointSt i x0 xs0 x2 x3 s).sec (pointSt i x0 xs0 x2 x3 s).idx) ∗ owns (c : Thread nD τ) arg7 fullShare (k0_pay14 (pointSt i x0 xs0 x2 x3 s).top) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (pointSt i x0 xs0 x2 x3 s).top ∗ owns (c : Thread nD τ) arg13 fullShare (pointSt i x0 xs0 x2 x3 s).sec ∗ owns (c : Thread nD τ) arg14 fullShare (pointSt i x0 xs0 x2 x3 s).idx) -∗ K ⟨⟩))
      ⊢ wp frame (wpE (defs₀ (F := F)) Variants.none c none) E (cc0_iq4nl_head i arg1 harg1 arg2 harg2 arg3 harg3 arg4 harg4 arg5 harg5 arg6 harg6 arg7 harg7 arg8 harg8 arg9 harg9 arg10 harg10 arg11 harg11 arg12 harg12 arg13 harg13 arg14 harg14) K := by
    simp only [cc0_iq4nl_head_eq_skeleton]; unfold cc0_iq4nl_head_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, Hk⟩
    obtain rfl := harg1.eq_unread hf0
    obtain rfl := harg2.eq_unread hf1
    obtain rfl := harg3.eq_unread hf2
    obtain rfl := harg4.eq_unread hf3
    obtain rfl := harg8.eq_unread hfs0
    obtain rfl := harg12.eq_unread hfs4
    obtain rfl := harg13.eq_unread hfs5
    obtain rfl := harg14.eq_unread hfs6
    have z12 : arg12.view.read (Elt F) (harg12.unread s.top) = (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s 0).top := by rw [blocks_zero]; exact harg12.read_unread _
    have z13 : arg13.view.read (Elt F) (harg13.unread s.sec) = (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s 0).sec := by rw [blocks_zero]; exact harg13.read_unread _
    have z14 : arg14.view.read (Elt F) (harg14.unread s.idx) = (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s 0).idx := by rw [blocks_zero]; exact harg14.read_unread _
    let L1 := fun v3 => inv1 Variants.none c none E i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) v3 (harg3.unread x2) (harg4.unread x3) (harg8.unread xs0) s
    sl_exec (disch := first | sl_exact hc0 | sl_exact hc1)
    have e8 : arg8.view.read (Elt F) (harg8.unread xs0) = xs0 := harg8.read_unread xs0
    have eP : (blocks (BitVec.ofNat 32 (i 0).val) (View.readAt (Elt F) arg1.view (Rect.unit (s := S32x128) ![0, 0] S32x128.size (by decide)).toLoadRect (harg1.unread x0)) (arg8.view.read (Elt F) (harg8.unread xs0)) (arg3.view.read (Elt F) (harg3.unread x2)) (arg4.view.read (Elt F) (harg4.unread x3)) s k0_t1_loop.trips) = (pointSt i x0 xs0 x2 x3 s) := by
      rw [e8, harg3.read_unread, harg4.read_unread, show (View.readAt (Elt F) arg1.view (Rect.unit (s := S32x128) ![0, 0] S32x128.size (by decide)).toLoadRect (harg1.unread x0)) = x0 from (View.readAt_full _ _ _).trans (harg1.read_unread x0)]; rfl
    have e12 := hL7.trans (congrArg St.top eP)
    have e13 := hL9.trans (congrArg St.sec eP)
    have e14 := hL11.trans (congrArg St.idx eP)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact (View.read_writes_full _ _ _ _ []).trans (congrArg₂ k0_pay15 ((View.readAt_full _ _ _).trans e12) ((View.readAt_full _ _ _).trans e14))
    isplitl [H5]
    · iexists _; isplitr; swap; · iexact H5
      ipureintro; exact (View.read_writes_full _ _ _ _ []).trans (congr (congrArg₂ k0_pay16 ((View.readAt_full _ _ _).trans e12) ((View.readAt_full _ _ _).trans e13)) ((View.readAt_full _ _ _).trans e14))
    isplitl [H6]
    · iexists _; isplitr; swap; · iexact H6
      ipureintro; exact (View.read_writes_full _ _ _ _ []).trans (congrArg k0_pay14 ((View.readAt_full _ _ _).trans e12))
    isplitl [HS0]
    · iexists _; isplitr; swap; · iexact HS0
      ipureintro; exact e8
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _; isplitr; swap; · iexact HS4
      ipureintro; exact e12
    isplitl [HS5]
    · iexists _; isplitr; swap; · iexact HS5
      ipureintro; exact e13
    iexists _; isplitr; swap; · iexact HS6
    ipureintro; exact e14

end Cert.Kernel.Hand
end
-- ==== Proof.RunBits.lean ====
module

public import proofs.«01_k».proof.Proof.Run
public import proofs.«01_k».proof.Proof.BodyBits
public import Idealize.ShloMosaic.Lib.WordCmp
public import Idealize.ShloMosaic.Lib.Ring
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
/-! ## The body's branch conditions -/

/-- It holds at the first point only — by arithmetic of the point. -/
theorem hcondFirst : ∀ t : Fin cfg0.N, condFirst (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [condFirst, e0]
    word_cmp
   : ∀ t : Fin grid0.N, condFirst (grid0.coords t) ↔ t.val % 25 = 0)

/-- It holds at the last point only — by arithmetic of the point. -/
theorem hcondLast : ∀ t : Fin cfg0.N, condLast (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [condLast, k0_cond2, e0]
    word_cmp
   : ∀ t : Fin grid0.N, condLast (grid0.coords t) ↔ t.val % 25 = 24)

/-! ## Where the windows are idle -/

/-- An input window is never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Output window 4 is idle before the last point, is not written back there, and is live at the last. -/
theorem idleAt0_4 : ∀ t : Fin cfg0.N, ¬condLast (grid0.coords t) → cfg0.idle 4 (grid0.coords t) = true := by decide +kernel
theorem noFlush0_4 : ∀ t : Fin cfg0.N, ¬condLast (grid0.coords t) → (cfg0.win 4).flush t = false := by decide +kernel
theorem liveAt0_4 : ∀ t : Fin cfg0.N, condLast (grid0.coords t) → cfg0.idle 4 (grid0.coords t) = false := by decide +kernel
/-- Output window 5 is idle before the last point, is not written back there, and is live at the last. -/
theorem idleAt0_5 : ∀ t : Fin cfg0.N, ¬condLast (grid0.coords t) → cfg0.idle 5 (grid0.coords t) = true := by decide +kernel
theorem noFlush0_5 : ∀ t : Fin cfg0.N, ¬condLast (grid0.coords t) → (cfg0.win 5).flush t = false := by decide +kernel
theorem liveAt0_5 : ∀ t : Fin cfg0.N, condLast (grid0.coords t) → cfg0.idle 5 (grid0.coords t) = false := by decide +kernel
/-- Output window 6 is idle before the last point, is not written back there, and is live at the last. -/
theorem idleAt0_6 : ∀ t : Fin cfg0.N, ¬condLast (grid0.coords t) → cfg0.idle 6 (grid0.coords t) = true := by decide +kernel
theorem noFlush0_6 : ∀ t : Fin cfg0.N, ¬condLast (grid0.coords t) → (cfg0.win 6).flush t = false := by decide +kernel
theorem liveAt0_6 : ∀ t : Fin cfg0.N, condLast (grid0.coords t) → cfg0.idle 6 (grid0.coords t) = false := by decide +kernel
/-- Each window's current staging memref at point `t`, spelled as the pipeline passes it (`bodyAt0`), and its wholeness. -/
abbrev ms0_0 (t : Fin cfg0.N) : Memref sig .tc .vmem S32x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x1792 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S112x2560 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x3584 .bf16 := Memref.whole cc0_scratch0
abbrev scM0_1 : Memref sig .tc .vmem S5x112x512 .f32 := Memref.whole cc0_scratch1
abbrev scM0_2 : Memref sig .tc .vmem S3584x512 .bf16 := Memref.whole cc0_scratch2
abbrev scM0_3 : Memref sig .tc .vmem S128x512 .f32 := Memref.whole cc0_scratch3
abbrev scM0_4 : Memref sig .tc .vmem S128x128 .f32 := Memref.whole cc0_scratch4
abbrev scM0_5 : Memref sig .tc .vmem S128x128 .f32 := Memref.whole cc0_scratch5
abbrev scM0_6 : Memref sig .tc .vmem S128x128 .i32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

variable (m : (ℓ : Loc nD τ sig) → Buf (Elt F) ℓ) (ρ : Dev nD → PrngReg)

/-- The activations the first point converts, which every later point reads. -/
def xwAt (c : Dev nD) : Vec F S128x3584 .bf16 := k0_pay4 (iblk m c 1 ⟨0, by rw [show cfg0.N = 25 from N_0]; omega⟩)

/-- The running state after point `n`. -/
def stAt (c : Dev nD) : (n : ℕ) → n < cfg0.N → St F
  | 0, hn => pointSt (grid0.coords ⟨0, hn⟩) (iblk m c 0 ⟨0, hn⟩) (xwAt m c) (iblk m c 2 ⟨0, hn⟩) (iblk m c 3 ⟨0, hn⟩) initSt
  | n + 1, hn => pointSt (grid0.coords ⟨n + 1, hn⟩) (iblk m c 0 ⟨n + 1, hn⟩) (xwAt m c) (iblk m c 2 ⟨n + 1, hn⟩) (iblk m c 3 ⟨n + 1, hn⟩) (stAt c n (Nat.lt_of_succ_lt hn))

/-- The running state after a point that is not the first is what the point makes of the state before it. -/
theorem stAt_pos (c : Dev nD) (t : Fin cfg0.N) (hz : t.val ≠ 0) :
    stAt m c t.val t.isLt = pointSt (grid0.coords t) (iblk m c 0 t) (xwAt m c) (iblk m c 2 t) (iblk m c 3 t) (stAt m c (t.val - 1) (by omega)) := by
  obtain ⟨n, hn⟩ := t
  cases n with
  | zero => exact absurd rfl hz
  | succ n => rfl

/-- The invariant between points: before the first everything at anything, afterwards the converted activations and the running state. -/
def PhiS (c : Dev nD) : (n : ℕ) → n ≤ cfg0.N → sProp 𝕄
  | 0, _ => Pipeline.ΦA spec0 c
  | n + 1, hn => iprop(iprop(owns (c : Thread nD τ) scM0_0 fullShare (xwAt m c) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (stAt m c n hn).top ∗ owns (c : Thread nD τ) scM0_5 fullShare (stAt m c n hn).sec ∗ owns (c : Thread nD τ) scM0_6 fullShare (stAt m c n hn).idx) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (xwAt m c) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (stAt m c n hn).top ∗ owns (c : Thread nD τ) scM0_5 fullShare (stAt m c n hn).sec ∗ owns (c : Thread nD τ) scM0_6 fullShare (stAt m c n hn).idx) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (xwAt m c) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (stAt m c (n - 1) (by omega)).top ∗ owns (c : Thread nD τ) scM0_5 fullShare (stAt m c (n - 1) (by omega)).sec ∗ owns (c : Thread nD τ) scM0_6 fullShare (stAt m c (n - 1) (by omega)).idx) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `stAt`; the invariant the class's
    (`PhiS`: the class's `ΦA` before the first point, then the scoped rest with the carried scratch at `stAt`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay15 (stAt m c t.val t.isLt).top (stAt m c t.val t.isLt).idx
    | ⟨5, _⟩ => k0_pay16 (stAt m c t.val t.isLt).top (stAt m c t.val t.isLt).sec (stAt m c t.val t.isLt).idx
    | ⟨6, _⟩ => k0_pay14 (stAt m c t.val t.isLt).top
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay15 (stAt m c t.val t.isLt).top (stAt m c t.val t.isLt).idx := by dsimp only [dats]
theorem after0_5 (c : Dev nD) (t : Fin cfg0.N) : (dats m 0 c).after 5 t = k0_pay16 (stAt m c t.val t.isLt).top (stAt m c t.val t.isLt).sec (stAt m c t.val t.isLt).idx := by dsimp only [dats]
theorem after0_6 (c : Dev nD) (t : Fin cfg0.N) : (dats m 0 c).after 6 t = k0_pay14 (stAt m c t.val t.isLt).top := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1000000 in
/-- The body at any point: by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt (show cfg0.N = 25 from N_0)
  by_cases hc1 : condLast (grid0.coords t)
  · have h1 := (hcondLast t).mp hc1
    have hz : t.val ≠ 0 := by omega
    have hc0 : ¬condFirst (grid0.coords t) := fun h => by have := (hcondFirst t).mp h; omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t hc1], after0_4]
    rw [show (dats m 0 c).leavesExact 5 t = owns (c : Thread nD τ) (ms0_5 t) fullShare ((dats m 0 c).after 5 t) from by
      unfold Dat.leavesExact; rw [liveAt0_5 t hc1], after0_5]
    rw [show (dats m 0 c).leavesExact 6 t = owns (c : Thread nD τ) (ms0_6 t) fullShare ((dats m 0 c).after 6 t) from by
      unfold Dat.leavesExact; rw [liveAt0_6 t hc1], after0_6]
    rw [PhiS_castSucc m c t, PhiS_pos m c _ _ hz, stAt_pos m c t hz]
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
    iapply (body_C c Set.univ _ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 (iblk m c 0 t) (iblk m c 1 t) (iblk m c 2 t) (iblk m c 3 t) (xwAt m c) (stAt m c (t.val - 1) (by omega)))
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t hc1) (noFlush0_4 t hc1)]
    rw [Dat.leavesExact_idle (dats m 0 c) 5 t (idleAt0_5 t hc1) (noFlush0_5 t hc1)]
    rw [Dat.leavesExact_idle (dats m 0 c) 6 t (idleAt0_6 t hc1) (noFlush0_6 t hc1)]
    by_cases hc0 : condFirst (grid0.coords t)
    · have hz : t.val = 0 := by have := (hcondFirst t).mp hc0; omega
      obtain ⟨n, hn⟩ := t
      obtain rfl : n = 0 := hz
      rw [PhiS_castSucc m c ⟨0, hn⟩, PhiS_zero m c _ _ rfl, PhiA0_eq]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
      iapply (body_A c Set.univ _ (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 (iblk m c 0 ⟨0, hn⟩) (iblk m c 1 ⟨0, hn⟩) (iblk m c 2 ⟨0, hn⟩) (iblk m c 3 ⟨0, hn⟩) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, HS0, HS1, HS2, HS3, HS4, HS5, HS6⟩
      isplitl [HS0 HS1 HS2 HS3 HS4 HS5 HS6 Hg]
      · isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · have hz : t.val ≠ 0 := fun h => hc0 ((hcondFirst t).mpr (by rw [h]))
      rw [PhiS_castSucc m c t, PhiS_pos m c _ _ hz, stAt_pos m c t hz]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
      iapply (body_B c Set.univ _ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 (iblk m c 0 t) (iblk m c 1 t) (iblk m c 2 t) (iblk m c 3 t) _ _ _ (xwAt m c) (stAt m c (t.val - 1) (by omega)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, HS0, HS1, HS2, HS3, HS4, HS5, HS6⟩
      isplitl [HS0 HS1 HS2 HS3 HS4 HS5 HS6 Hg]
      · isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexact HS1
    isplitl [HS2]
    · iexact HS2
    isplitl [HS3]
    · iexact HS3
    isplitl [HS4]
    · iexists _; iexact HS4
    isplitl [HS5]
    · iexists _; iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 25 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.RefRun.lean ====
/- The reference program's @main as the list of its 208 host operations, and its run read back: every weakly
   fair execution terminates with each result buffer at the operations' composed pure term of the arguments'
   launch contents, and leaves the arguments unchanged. The text follows the run module the kit writes for a
   reference, with the argument of the arg-max reduction's function written curried. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev ops_part0_0 : List (HloOp τ sig (Elt F)) :=
  [ reshape main_arg0 main_v0 (rfl : (.bf16 : EltTy) = .bf16) shapeCasts_S128x1x3584_S128x112x2x16,
    unary main_v0 main_v1 ((extractStridedSlice S128x112x1x16 ![0, 0, 0, 0] · slices_S128x112x2x16_S128x112x1x16_0_0_0_0) : (⟨S128x112x2x16, .bf16⟩ : BufTy).Contents (Elt F) → (⟨S128x112x1x16, .bf16⟩ : BufTy).Contents (Elt F)),
    reshape main_v1 main_v2 (rfl : (.bf16 : EltTy) = .bf16) shapeCasts_S128x112x1x16_S128x112x16,
    reshape main_v2 main_v3 (rfl : (.bf16 : EltTy) = .bf16) shapeCasts_S128x112x16_S128x1792,
    unary main_v0 main_v4 ((extractStridedSlice S128x112x1x16 ![0, 0, 1, 0] · slices_S128x112x2x16_S128x112x1x16_0_0_1_0) : (⟨S128x112x2x16, .bf16⟩ : BufTy).Contents (Elt F) → (⟨S128x112x1x16, .bf16⟩ : BufTy).Contents (Elt F)),
    reshape main_v4 main_v5 (rfl : (.bf16 : EltTy) = .bf16) shapeCasts_S128x112x1x16_S128x112x16,
    reshape main_v5 main_v6 (rfl : (.bf16 : EltTy) = .bf16) shapeCasts_S128x112x16_S128x1792,
    unary main_arg2 main_v7 (broadcastInDim S64000x112x16 ![0, 1] bcast_S64000x112_S64000x112x16_0_1 : (⟨S64000x112, .bf16⟩ : BufTy).Contents (Elt F) → (⟨S64000x112x16, .bf16⟩ : BufTy).Contents (Elt F)),
    reshape main_v7 main_v8 (rfl : (.bf16 : EltTy) = .bf16) shapeCasts_S64000x112x16_S64000x1792,
    unary main_arg1 main_v9 ((extui 32 · natLt_8_32) : (⟨S64000x1792, .i8⟩ : BufTy).Contents (Elt F) → (⟨S64000x1792, .i32⟩ : BufTy).Contents (Elt F)),
    nullary main_c (constantI S_ 32 15#32),
    unary main_c main_v10 (broadcastInDim S64000x1792 ![] bcast_S_S64000x1792 : (⟨S_, .i32⟩ : BufTy).Contents (Elt F) → (⟨S64000x1792, .i32⟩ : BufTy).Contents (Elt F)),
    binary main_v9 main_v10 main_v11 (andi : (⟨S64000x1792, .i32⟩ : BufTy).Contents (Elt F) → (⟨S64000x1792, .i32⟩ : BufTy).Contents (Elt F) → (⟨S64000x1792, .i32⟩ : BufTy).Contents (Elt F)),
    nullary main_c_0 (constantI S_ 32 4#32),
    unary main_c_0 main_v12 (broadcastInDim S64000x1792 ![] bcast_S_S64000x1792 : (⟨S_, .i32⟩ : BufTy).Contents (Elt F) → (⟨S64000x1792, .i32⟩ : BufTy).Contents (Elt F)),
    binary main_v9 main_v12 main_v13 (Host.shrsi : (⟨S64000x1792, .i32⟩ : BufTy).Contents (Elt F) → (⟨S64000x1792, .i32⟩ : BufTy).Contents (Elt F) → (⟨S64000x1792, .i32⟩ : BufTy).Contents (Elt F)),
    nullary main_c_1 (constantI S_ 32 0#32),
    unary main_c_1 main_v14 (broadcastInDim S64000x1792 ![] bcast_S_S64000x1792 : (⟨S_, .i32⟩ : BufTy).Contents (Elt F) → (⟨S64000x1792, .i32⟩ : BufTy).Contents (Elt F)),
    binary main_v11 main_v14 main_v15 (Host.shrsi : (⟨S64000x1792, .i32⟩ : BufTy).Contents (Elt F) → (⟨S64000x1792, .i32⟩ : BufTy).Contents (Elt F) → (⟨S64000x1792, .i32⟩ : BufTy).Contents (Elt F)),
    nullary main_c_2 (constantI S_ 32 1#32),
    unary main_c_2 main_v16 (broadcastInDim S64000x1792 ![] bcast_S_S64000x1792 : (⟨S_, .i32⟩ : BufTy).Contents (Elt F) → (⟨S64000x1792, .i32⟩ : BufTy).Contents (Elt F)),
    binary main_v15 main_v16 main_v17 (andi : (⟨S64000x1792, .i32⟩ : BufTy).Contents (Elt F) → (⟨S64000x1792, .i32⟩ : BufTy).Contents (Elt F) → (⟨S64000x1792, .i32⟩ : BufTy).Contents (Elt F)),
    nullary main_c_3 (constantI S_ 32 1#32),
    unary main_c_3 main_v18 (broadcastInDim S64000x1792 ![] bcast_S_S64000x1792 : (⟨S_, .i32⟩ : BufTy).Contents (Elt F) → (⟨S64000x1792, .i32⟩ : BufTy).Contents (Elt F)),
    binary main_v17 main_v18 main_v19 (cmpi .eq : (⟨S64000x1792, .i32⟩ : BufTy).Contents (Elt F) → (⟨S64000x1792, .i32⟩ : BufTy).Contents (Elt F) → (⟨S64000x1792, .i1⟩ : BufTy).Contents (Elt F)),
    nullary main_cst (constant S_ .bf16 0xC2D0#16),
    nullary main_cst_4 (constant S_ .bf16 0xC2FE#16),
    TRef.unary (TRef.of (T := ⟨S_, .bf16⟩) main_cst) (TRef.of (T := ⟨S64000x1792, .bf16⟩) main_call0_v0) (broadcastInDim S64000x1792 ![] bcast_S_S64000x1792),
    TRef.unary (TRef.of (T := ⟨S_, .bf16⟩) main_cst_4) (TRef.of (T := ⟨S64000x1792, .bf16⟩) main_call0_v1) (broadcastInDim S64000x1792 ![] bcast_S_S64000x1792),
    TRef.ternary (TRef.of (T := ⟨S64000x1792, .i1⟩) main_v19) (TRef.of (T := ⟨S64000x1792, .bf16⟩) main_call0_v0) (TRef.of (T := ⟨S64000x1792, .bf16⟩) main_call0_v1) (TRef.of (T := ⟨S64000x1792, .bf16⟩) main_v20) select ]

abbrev ops_part0_1 : List (HloOp τ sig (Elt F)) :=
  [ nullary main_cst_5 (constant S_ .bf16 0xC282#16),
    nullary main_cst_6 (constant S_ .bf16 0xC2A6#16),
    TRef.unary (TRef.of (T := ⟨S_, .bf16⟩) main_cst_5) (TRef.of (T := ⟨S64000x1792, .bf16⟩) main_call1_v0) (broadcastInDim S64000x1792 ![] bcast_S_S64000x1792),
    TRef.unary (TRef.of (T := ⟨S_, .bf16⟩) main_cst_6) (TRef.of (T := ⟨S64000x1792, .bf16⟩) main_call1_v1) (broadcastInDim S64000x1792 ![] bcast_S_S64000x1792),
    TRef.ternary (TRef.of (T := ⟨S64000x1792, .i1⟩) main_v19) (TRef.of (T := ⟨S64000x1792, .bf16⟩) main_call1_v0) (TRef.of (T := ⟨S64000x1792, .bf16⟩) main_call1_v1) (TRef.of (T := ⟨S64000x1792, .bf16⟩) main_v21) select,
    nullary main_cst_7 (constant S_ .bf16 0xC20C#16),
    nullary main_cst_8 (constant S_ .bf16 0xC244#16),
    TRef.unary (TRef.of (T := ⟨S_, .bf16⟩) main_cst_7) (TRef.of (T := ⟨S64000x1792, .bf16⟩) main_call2_v0) (broadcastInDim S64000x1792 ![] bcast_S_S64000x1792),
    TRef.unary (TRef.of (T := ⟨S_, .bf16⟩) main_cst_8) (TRef.of (T := ⟨S64000x1792, .bf16⟩) main_call2_v1) (broadcastInDim S64000x1792 ![] bcast_S_S64000x1792),
    TRef.ternary (TRef.of (T := ⟨S64000x1792, .i1⟩) main_v19) (TRef.of (T := ⟨S64000x1792, .bf16⟩) main_call2_v0) (TRef.of (T := ⟨S64000x1792, .bf16⟩) main_call2_v1) (TRef.of (T := ⟨S64000x1792, .bf16⟩) main_v22) select,
    nullary main_cst_9 (constant S_ .bf16 0xC120#16),
    nullary main_cst_10 (constant S_ .bf16 0xC1B0#16),
    TRef.unary (TRef.of (T := ⟨S_, .bf16⟩) main_cst_9) (TRef.of (T := ⟨S64000x1792, .bf16⟩) main_call3_v0) (broadcastInDim S64000x1792 ![] bcast_S_S64000x1792),
    TRef.unary (TRef.of (T := ⟨S_, .bf16⟩) main_cst_10) (TRef.of (T := ⟨S64000x1792, .bf16⟩) main_call3_v1) (broadcastInDim S64000x1792 ![] bcast_S_S64000x1792),
    TRef.ternary (TRef.of (T := ⟨S64000x1792, .i1⟩) main_v19) (TRef.of (T := ⟨S64000x1792, .bf16⟩) main_call3_v0) (TRef.of (T := ⟨S64000x1792, .bf16⟩) main_call3_v1) (TRef.of (T := ⟨S64000x1792, .bf16⟩) main_v23) select,
    nullary main_cst_11 (constant S_ .bf16 0x4150#16),
    nullary main_cst_12 (constant S_ .bf16 0x3F80#16),
    TRef.unary (TRef.of (T := ⟨S_, .bf16⟩) main_cst_11) (TRef.of (T := ⟨S64000x1792, .bf16⟩) main_call4_v0) (broadcastInDim S64000x1792 ![] bcast_S_S64000x1792),
    TRef.unary (TRef.of (T := ⟨S_, .bf16⟩) main_cst_12) (TRef.of (T := ⟨S64000x1792, .bf16⟩) main_call4_v1) (broadcastInDim S64000x1792 ![] bcast_S_S64000x1792),
    TRef.ternary (TRef.of (T := ⟨S64000x1792, .i1⟩) main_v19) (TRef.of (T := ⟨S64000x1792, .bf16⟩) main_call4_v0) (TRef.of (T := ⟨S64000x1792, .bf16⟩) main_call4_v1) (TRef.of (T := ⟨S64000x1792, .bf16⟩) main_v24) select,
    nullary main_cst_13 (constant S_ .bf16 0x4218#16),
    nullary main_cst_14 (constant S_ .bf16 0x41C8#16),
    TRef.unary (TRef.of (T := ⟨S_, .bf16⟩) main_cst_13) (TRef.of (T := ⟨S64000x1792, .bf16⟩) main_call5_v0) (broadcastInDim S64000x1792 ![] bcast_S_S64000x1792),
    TRef.unary (TRef.of (T := ⟨S_, .bf16⟩) main_cst_14) (TRef.of (T := ⟨S64000x1792, .bf16⟩) main_call5_v1) (broadcastInDim S64000x1792 ![] bcast_S_S64000x1792),
    TRef.ternary (TRef.of (T := ⟨S64000x1792, .i1⟩) main_v19) (TRef.of (T := ⟨S64000x1792, .bf16⟩) main_call5_v0) (TRef.of (T := ⟨S64000x1792, .bf16⟩) main_call5_v1) (TRef.of (T := ⟨S64000x1792, .bf16⟩) main_v25) select,
    nullary main_cst_15 (constant S_ .bf16 0x428A#16),
    nullary main_cst_16 (constant S_ .bf16 0x4254#16),
    TRef.unary (TRef.of (T := ⟨S_, .bf16⟩) main_cst_15) (TRef.of (T := ⟨S64000x1792, .bf16⟩) main_call6_v0) (broadcastInDim S64000x1792 ![] bcast_S_S64000x1792),
    TRef.unary (TRef.of (T := ⟨S_, .bf16⟩) main_cst_16) (TRef.of (T := ⟨S64000x1792, .bf16⟩) main_call6_v1) (broadcastInDim S64000x1792 ![] bcast_S_S64000x1792),
    TRef.ternary (TRef.of (T := ⟨S64000x1792, .i1⟩) main_v19) (TRef.of (T := ⟨S64000x1792, .bf16⟩) main_call6_v0) (TRef.of (T := ⟨S64000x1792, .bf16⟩) main_call6_v1) (TRef.of (T := ⟨S64000x1792, .bf16⟩) main_v26) select ]

abbrev ops_part0_2 : List (HloOp τ sig (Elt F)) :=
  [ nullary main_cst_17 (constant S_ .bf16 0x42E2#16),
    nullary main_cst_18 (constant S_ .bf16 0x42B2#16),
    TRef.unary (TRef.of (T := ⟨S_, .bf16⟩) main_cst_17) (TRef.of (T := ⟨S64000x1792, .bf16⟩) main_call7_v0) (broadcastInDim S64000x1792 ![] bcast_S_S64000x1792),
    TRef.unary (TRef.of (T := ⟨S_, .bf16⟩) main_cst_18) (TRef.of (T := ⟨S64000x1792, .bf16⟩) main_call7_v1) (broadcastInDim S64000x1792 ![] bcast_S_S64000x1792),
    TRef.ternary (TRef.of (T := ⟨S64000x1792, .i1⟩) main_v19) (TRef.of (T := ⟨S64000x1792, .bf16⟩) main_call7_v0) (TRef.of (T := ⟨S64000x1792, .bf16⟩) main_call7_v1) (TRef.of (T := ⟨S64000x1792, .bf16⟩) main_v27) select,
    nullary main_c_19 (constantI S_ 32 1#32),
    unary main_c_19 main_v28 (broadcastInDim S64000x1792 ![] bcast_S_S64000x1792 : (⟨S_, .i32⟩ : BufTy).Contents (Elt F) → (⟨S64000x1792, .i32⟩ : BufTy).Contents (Elt F)),
    binary main_v11 main_v28 main_v29 (Host.shrsi : (⟨S64000x1792, .i32⟩ : BufTy).Contents (Elt F) → (⟨S64000x1792, .i32⟩ : BufTy).Contents (Elt F) → (⟨S64000x1792, .i32⟩ : BufTy).Contents (Elt F)),
    nullary main_c_20 (constantI S_ 32 1#32),
    unary main_c_20 main_v30 (broadcastInDim S64000x1792 ![] bcast_S_S64000x1792 : (⟨S_, .i32⟩ : BufTy).Contents (Elt F) → (⟨S64000x1792, .i32⟩ : BufTy).Contents (Elt F)),
    binary main_v29 main_v30 main_v31 (andi : (⟨S64000x1792, .i32⟩ : BufTy).Contents (Elt F) → (⟨S64000x1792, .i32⟩ : BufTy).Contents (Elt F) → (⟨S64000x1792, .i32⟩ : BufTy).Contents (Elt F)),
    nullary main_c_21 (constantI S_ 32 1#32),
    unary main_c_21 main_v32 (broadcastInDim S64000x1792 ![] bcast_S_S64000x1792 : (⟨S_, .i32⟩ : BufTy).Contents (Elt F) → (⟨S64000x1792, .i32⟩ : BufTy).Contents (Elt F)),
    binary main_v31 main_v32 main_v33 (cmpi .eq : (⟨S64000x1792, .i32⟩ : BufTy).Contents (Elt F) → (⟨S64000x1792, .i32⟩ : BufTy).Contents (Elt F) → (⟨S64000x1792, .i1⟩ : BufTy).Contents (Elt F)),
    TRef.ternary (TRef.of (T := ⟨S64000x1792, .i1⟩) main_v33) (TRef.of (T := ⟨S64000x1792, .bf16⟩) main_v21) (TRef.of (T := ⟨S64000x1792, .bf16⟩) main_v20) (TRef.of (T := ⟨S64000x1792, .bf16⟩) main_v34) select,
    TRef.ternary (TRef.of (T := ⟨S64000x1792, .i1⟩) main_v33) (TRef.of (T := ⟨S64000x1792, .bf16⟩) main_v23) (TRef.of (T := ⟨S64000x1792, .bf16⟩) main_v22) (TRef.of (T := ⟨S64000x1792, .bf16⟩) main_v35) select ]

/-- Window `main_part0`'s operations. Not an abbreviation: `main_eq` below splits `ops` into the windows and no further. -/
def ops_part0 : List (HloOp τ sig (Elt F)) :=
  ops_part0_0 ++ (ops_part0_1 ++ (ops_part0_2))

abbrev ops_part1_0 : List (HloOp τ sig (Elt F)) :=
  [ TRef.ternary (TRef.of (T := ⟨S64000x1792, .i1⟩) main_v33) (TRef.of (T := ⟨S64000x1792, .bf16⟩) main_v25) (TRef.of (T := ⟨S64000x1792, .bf16⟩) main_v24) (TRef.of (T := ⟨S64000x1792, .bf16⟩) main_v36) select,
    TRef.ternary (TRef.of (T := ⟨S64000x1792, .i1⟩) main_v33) (TRef.of (T := ⟨S64000x1792, .bf16⟩) main_v27) (TRef.of (T := ⟨S64000x1792, .bf16⟩) main_v26) (TRef.of (T := ⟨S64000x1792, .bf16⟩) main_v37) select,
    nullary main_c_22 (constantI S_ 32 2#32),
    unary main_c_22 main_v38 (broadcastInDim S64000x1792 ![] bcast_S_S64000x1792 : (⟨S_, .i32⟩ : BufTy).Contents (Elt F) → (⟨S64000x1792, .i32⟩ : BufTy).Contents (Elt F)),
    binary main_v11 main_v38 main_v39 (Host.shrsi : (⟨S64000x1792, .i32⟩ : BufTy).Contents (Elt F) → (⟨S64000x1792, .i32⟩ : BufTy).Contents (Elt F) → (⟨S64000x1792, .i32⟩ : BufTy).Contents (Elt F)),
    nullary main_c_23 (constantI S_ 32 1#32),
    unary main_c_23 main_v40 (broadcastInDim S64000x1792 ![] bcast_S_S64000x1792 : (⟨S_, .i32⟩ : BufTy).Contents (Elt F) → (⟨S64000x1792, .i32⟩ : BufTy).Contents (Elt F)),
    binary main_v39 main_v40 main_v41 (andi : (⟨S64000x1792, .i32⟩ : BufTy).Contents (Elt F) → (⟨S64000x1792, .i32⟩ : BufTy).Contents (Elt F) → (⟨S64000x1792, .i32⟩ : BufTy).Contents (Elt F)),
    nullary main_c_24 (constantI S_ 32 1#32),
    unary main_c_24 main_v42 (broadcastInDim S64000x1792 ![] bcast_S_S64000x1792 : (⟨S_, .i32⟩ : BufTy).Contents (Elt F) → (⟨S64000x1792, .i32⟩ : BufTy).Contents (Elt F)),
    binary main_v41 main_v42 main_v43 (cmpi .eq : (⟨S64000x1792, .i32⟩ : BufTy).Contents (Elt F) → (⟨S64000x1792, .i32⟩ : BufTy).Contents (Elt F) → (⟨S64000x1792, .i1⟩ : BufTy).Contents (Elt F)),
    TRef.ternary (TRef.of (T := ⟨S64000x1792, .i1⟩) main_v43) (TRef.of (T := ⟨S64000x1792, .bf16⟩) main_v35) (TRef.of (T := ⟨S64000x1792, .bf16⟩) main_v34) (TRef.of (T := ⟨S64000x1792, .bf16⟩) main_v44) select,
    TRef.ternary (TRef.of (T := ⟨S64000x1792, .i1⟩) main_v43) (TRef.of (T := ⟨S64000x1792, .bf16⟩) main_v37) (TRef.of (T := ⟨S64000x1792, .bf16⟩) main_v36) (TRef.of (T := ⟨S64000x1792, .bf16⟩) main_v45) select,
    nullary main_c_25 (constantI S_ 32 3#32),
    unary main_c_25 main_v46 (broadcastInDim S64000x1792 ![] bcast_S_S64000x1792 : (⟨S_, .i32⟩ : BufTy).Contents (Elt F) → (⟨S64000x1792, .i32⟩ : BufTy).Contents (Elt F)),
    binary main_v11 main_v46 main_v47 (Host.shrsi : (⟨S64000x1792, .i32⟩ : BufTy).Contents (Elt F) → (⟨S64000x1792, .i32⟩ : BufTy).Contents (Elt F) → (⟨S64000x1792, .i32⟩ : BufTy).Contents (Elt F)),
    nullary main_c_26 (constantI S_ 32 1#32),
    unary main_c_26 main_v48 (broadcastInDim S64000x1792 ![] bcast_S_S64000x1792 : (⟨S_, .i32⟩ : BufTy).Contents (Elt F) → (⟨S64000x1792, .i32⟩ : BufTy).Contents (Elt F)),
    binary main_v47 main_v48 main_v49 (andi : (⟨S64000x1792, .i32⟩ : BufTy).Contents (Elt F) → (⟨S64000x1792, .i32⟩ : BufTy).Contents (Elt F) → (⟨S64000x1792, .i32⟩ : BufTy).Contents (Elt F)),
    nullary main_c_27 (constantI S_ 32 1#32),
    unary main_c_27 main_v50 (broadcastInDim S64000x1792 ![] bcast_S_S64000x1792 : (⟨S_, .i32⟩ : BufTy).Contents (Elt F) → (⟨S64000x1792, .i32⟩ : BufTy).Contents (Elt F)),
    binary main_v49 main_v50 main_v51 (cmpi .eq : (⟨S64000x1792, .i32⟩ : BufTy).Contents (Elt F) → (⟨S64000x1792, .i32⟩ : BufTy).Contents (Elt F) → (⟨S64000x1792, .i1⟩ : BufTy).Contents (Elt F)),
    TRef.ternary (TRef.of (T := ⟨S64000x1792, .i1⟩) main_v51) (TRef.of (T := ⟨S64000x1792, .bf16⟩) main_v45) (TRef.of (T := ⟨S64000x1792, .bf16⟩) main_v44) (TRef.of (T := ⟨S64000x1792, .bf16⟩) main_v52) select,
    binary main_v52 main_v8 main_v53 (mulf : (⟨S64000x1792, .bf16⟩ : BufTy).Contents (Elt F) → (⟨S64000x1792, .bf16⟩ : BufTy).Contents (Elt F) → (⟨S64000x1792, .bf16⟩ : BufTy).Contents (Elt F)),
    nullary main_c_28 (constantI S_ 32 0#32),
    unary main_c_28 main_v54 (broadcastInDim S64000x1792 ![] bcast_S_S64000x1792 : (⟨S_, .i32⟩ : BufTy).Contents (Elt F) → (⟨S64000x1792, .i32⟩ : BufTy).Contents (Elt F)),
    binary main_v13 main_v54 main_v55 (Host.shrsi : (⟨S64000x1792, .i32⟩ : BufTy).Contents (Elt F) → (⟨S64000x1792, .i32⟩ : BufTy).Contents (Elt F) → (⟨S64000x1792, .i32⟩ : BufTy).Contents (Elt F)),
    nullary main_c_29 (constantI S_ 32 1#32),
    unary main_c_29 main_v56 (broadcastInDim S64000x1792 ![] bcast_S_S64000x1792 : (⟨S_, .i32⟩ : BufTy).Contents (Elt F) → (⟨S64000x1792, .i32⟩ : BufTy).Contents (Elt F)),
    binary main_v55 main_v56 main_v57 (andi : (⟨S64000x1792, .i32⟩ : BufTy).Contents (Elt F) → (⟨S64000x1792, .i32⟩ : BufTy).Contents (Elt F) → (⟨S64000x1792, .i32⟩ : BufTy).Contents (Elt F)) ]

abbrev ops_part1_1 : List (HloOp τ sig (Elt F)) :=
  [ nullary main_c_30 (constantI S_ 32 1#32),
    unary main_c_30 main_v58 (broadcastInDim S64000x1792 ![] bcast_S_S64000x1792 : (⟨S_, .i32⟩ : BufTy).Contents (Elt F) → (⟨S64000x1792, .i32⟩ : BufTy).Contents (Elt F)),
    binary main_v57 main_v58 main_v59 (cmpi .eq : (⟨S64000x1792, .i32⟩ : BufTy).Contents (Elt F) → (⟨S64000x1792, .i32⟩ : BufTy).Contents (Elt F) → (⟨S64000x1792, .i1⟩ : BufTy).Contents (Elt F)),
    nullary main_cst_31 (constant S_ .bf16 0xC2D0#16),
    nullary main_cst_32 (constant S_ .bf16 0xC2FE#16),
    TRef.unary (TRef.of (T := ⟨S_, .bf16⟩) main_cst_31) (TRef.of (T := ⟨S64000x1792, .bf16⟩) main_call15_v0) (broadcastInDim S64000x1792 ![] bcast_S_S64000x1792),
    TRef.unary (TRef.of (T := ⟨S_, .bf16⟩) main_cst_32) (TRef.of (T := ⟨S64000x1792, .bf16⟩) main_call15_v1) (broadcastInDim S64000x1792 ![] bcast_S_S64000x1792),
    TRef.ternary (TRef.of (T := ⟨S64000x1792, .i1⟩) main_v59) (TRef.of (T := ⟨S64000x1792, .bf16⟩) main_call15_v0) (TRef.of (T := ⟨S64000x1792, .bf16⟩) main_call15_v1) (TRef.of (T := ⟨S64000x1792, .bf16⟩) main_v60) select,
    nullary main_cst_33 (constant S_ .bf16 0xC282#16),
    nullary main_cst_34 (constant S_ .bf16 0xC2A6#16),
    TRef.unary (TRef.of (T := ⟨S_, .bf16⟩) main_cst_33) (TRef.of (T := ⟨S64000x1792, .bf16⟩) main_call16_v0) (broadcastInDim S64000x1792 ![] bcast_S_S64000x1792),
    TRef.unary (TRef.of (T := ⟨S_, .bf16⟩) main_cst_34) (TRef.of (T := ⟨S64000x1792, .bf16⟩) main_call16_v1) (broadcastInDim S64000x1792 ![] bcast_S_S64000x1792),
    TRef.ternary (TRef.of (T := ⟨S64000x1792, .i1⟩) main_v59) (TRef.of (T := ⟨S64000x1792, .bf16⟩) main_call16_v0) (TRef.of (T := ⟨S64000x1792, .bf16⟩) main_call16_v1) (TRef.of (T := ⟨S64000x1792, .bf16⟩) main_v61) select,
    nullary main_cst_35 (constant S_ .bf16 0xC20C#16),
    nullary main_cst_36 (constant S_ .bf16 0xC244#16),
    TRef.unary (TRef.of (T := ⟨S_, .bf16⟩) main_cst_35) (TRef.of (T := ⟨S64000x1792, .bf16⟩) main_call17_v0) (broadcastInDim S64000x1792 ![] bcast_S_S64000x1792),
    TRef.unary (TRef.of (T := ⟨S_, .bf16⟩) main_cst_36) (TRef.of (T := ⟨S64000x1792, .bf16⟩) main_call17_v1) (broadcastInDim S64000x1792 ![] bcast_S_S64000x1792),
    TRef.ternary (TRef.of (T := ⟨S64000x1792, .i1⟩) main_v59) (TRef.of (T := ⟨S64000x1792, .bf16⟩) main_call17_v0) (TRef.of (T := ⟨S64000x1792, .bf16⟩) main_call17_v1) (TRef.of (T := ⟨S64000x1792, .bf16⟩) main_v62) select,
    nullary main_cst_37 (constant S_ .bf16 0xC120#16),
    nullary main_cst_38 (constant S_ .bf16 0xC1B0#16),
    TRef.unary (TRef.of (T := ⟨S_, .bf16⟩) main_cst_37) (TRef.of (T := ⟨S64000x1792, .bf16⟩) main_call18_v0) (broadcastInDim S64000x1792 ![] bcast_S_S64000x1792),
    TRef.unary (TRef.of (T := ⟨S_, .bf16⟩) main_cst_38) (TRef.of (T := ⟨S64000x1792, .bf16⟩) main_call18_v1) (broadcastInDim S64000x1792 ![] bcast_S_S64000x1792),
    TRef.ternary (TRef.of (T := ⟨S64000x1792, .i1⟩) main_v59) (TRef.of (T := ⟨S64000x1792, .bf16⟩) main_call18_v0) (TRef.of (T := ⟨S64000x1792, .bf16⟩) main_call18_v1) (TRef.of (T := ⟨S64000x1792, .bf16⟩) main_v63) select,
    nullary main_cst_39 (constant S_ .bf16 0x4150#16),
    nullary main_cst_40 (constant S_ .bf16 0x3F80#16),
    TRef.unary (TRef.of (T := ⟨S_, .bf16⟩) main_cst_39) (TRef.of (T := ⟨S64000x1792, .bf16⟩) main_call19_v0) (broadcastInDim S64000x1792 ![] bcast_S_S64000x1792),
    TRef.unary (TRef.of (T := ⟨S_, .bf16⟩) main_cst_40) (TRef.of (T := ⟨S64000x1792, .bf16⟩) main_call19_v1) (broadcastInDim S64000x1792 ![] bcast_S_S64000x1792),
    TRef.ternary (TRef.of (T := ⟨S64000x1792, .i1⟩) main_v59) (TRef.of (T := ⟨S64000x1792, .bf16⟩) main_call19_v0) (TRef.of (T := ⟨S64000x1792, .bf16⟩) main_call19_v1) (TRef.of (T := ⟨S64000x1792, .bf16⟩) main_v64) select,
    nullary main_cst_41 (constant S_ .bf16 0x4218#16),
    nullary main_cst_42 (constant S_ .bf16 0x41C8#16) ]

abbrev ops_part1_2 : List (HloOp τ sig (Elt F)) :=
  [ TRef.unary (TRef.of (T := ⟨S_, .bf16⟩) main_cst_41) (TRef.of (T := ⟨S64000x1792, .bf16⟩) main_call20_v0) (broadcastInDim S64000x1792 ![] bcast_S_S64000x1792),
    TRef.unary (TRef.of (T := ⟨S_, .bf16⟩) main_cst_42) (TRef.of (T := ⟨S64000x1792, .bf16⟩) main_call20_v1) (broadcastInDim S64000x1792 ![] bcast_S_S64000x1792),
    TRef.ternary (TRef.of (T := ⟨S64000x1792, .i1⟩) main_v59) (TRef.of (T := ⟨S64000x1792, .bf16⟩) main_call20_v0) (TRef.of (T := ⟨S64000x1792, .bf16⟩) main_call20_v1) (TRef.of (T := ⟨S64000x1792, .bf16⟩) main_v65) select,
    nullary main_cst_43 (constant S_ .bf16 0x428A#16),
    nullary main_cst_44 (constant S_ .bf16 0x4254#16),
    TRef.unary (TRef.of (T := ⟨S_, .bf16⟩) main_cst_43) (TRef.of (T := ⟨S64000x1792, .bf16⟩) main_call21_v0) (broadcastInDim S64000x1792 ![] bcast_S_S64000x1792),
    TRef.unary (TRef.of (T := ⟨S_, .bf16⟩) main_cst_44) (TRef.of (T := ⟨S64000x1792, .bf16⟩) main_call21_v1) (broadcastInDim S64000x1792 ![] bcast_S_S64000x1792),
    TRef.ternary (TRef.of (T := ⟨S64000x1792, .i1⟩) main_v59) (TRef.of (T := ⟨S64000x1792, .bf16⟩) main_call21_v0) (TRef.of (T := ⟨S64000x1792, .bf16⟩) main_call21_v1) (TRef.of (T := ⟨S64000x1792, .bf16⟩) main_v66) select,
    nullary main_cst_45 (constant S_ .bf16 0x42E2#16),
    nullary main_cst_46 (constant S_ .bf16 0x42B2#16),
    TRef.unary (TRef.of (T := ⟨S_, .bf16⟩) main_cst_45) (TRef.of (T := ⟨S64000x1792, .bf16⟩) main_call22_v0) (broadcastInDim S64000x1792 ![] bcast_S_S64000x1792),
    TRef.unary (TRef.of (T := ⟨S_, .bf16⟩) main_cst_46) (TRef.of (T := ⟨S64000x1792, .bf16⟩) main_call22_v1) (broadcastInDim S64000x1792 ![] bcast_S_S64000x1792),
    TRef.ternary (TRef.of (T := ⟨S64000x1792, .i1⟩) main_v59) (TRef.of (T := ⟨S64000x1792, .bf16⟩) main_call22_v0) (TRef.of (T := ⟨S64000x1792, .bf16⟩) main_call22_v1) (TRef.of (T := ⟨S64000x1792, .bf16⟩) main_v67) select,
    nullary main_c_47 (constantI S_ 32 1#32),
    unary main_c_47 main_v68 (broadcastInDim S64000x1792 ![] bcast_S_S64000x1792 : (⟨S_, .i32⟩ : BufTy).Contents (Elt F) → (⟨S64000x1792, .i32⟩ : BufTy).Contents (Elt F)),
    binary main_v13 main_v68 main_v69 (Host.shrsi : (⟨S64000x1792, .i32⟩ : BufTy).Contents (Elt F) → (⟨S64000x1792, .i32⟩ : BufTy).Contents (Elt F) → (⟨S64000x1792, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

abbrev ops_part2 : List (HloOp τ sig (Elt F)) :=
  [ nullary main_c_48 (constantI S_ 32 1#32),
    unary main_c_48 main_v70 (broadcastInDim S64000x1792 ![] bcast_S_S64000x1792 : (⟨S_, .i32⟩ : BufTy).Contents (Elt F) → (⟨S64000x1792, .i32⟩ : BufTy).Contents (Elt F)),
    binary main_v69 main_v70 main_v71 (andi : (⟨S64000x1792, .i32⟩ : BufTy).Contents (Elt F) → (⟨S64000x1792, .i32⟩ : BufTy).Contents (Elt F) → (⟨S64000x1792, .i32⟩ : BufTy).Contents (Elt F)),
    nullary main_c_49 (constantI S_ 32 1#32),
    unary main_c_49 main_v72 (broadcastInDim S64000x1792 ![] bcast_S_S64000x1792 : (⟨S_, .i32⟩ : BufTy).Contents (Elt F) → (⟨S64000x1792, .i32⟩ : BufTy).Contents (Elt F)),
    binary main_v71 main_v72 main_v73 (cmpi .eq : (⟨S64000x1792, .i32⟩ : BufTy).Contents (Elt F) → (⟨S64000x1792, .i32⟩ : BufTy).Contents (Elt F) → (⟨S64000x1792, .i1⟩ : BufTy).Contents (Elt F)),
    TRef.ternary (TRef.of (T := ⟨S64000x1792, .i1⟩) main_v73) (TRef.of (T := ⟨S64000x1792, .bf16⟩) main_v61) (TRef.of (T := ⟨S64000x1792, .bf16⟩) main_v60) (TRef.of (T := ⟨S64000x1792, .bf16⟩) main_v74) select,
    TRef.ternary (TRef.of (T := ⟨S64000x1792, .i1⟩) main_v73) (TRef.of (T := ⟨S64000x1792, .bf16⟩) main_v63) (TRef.of (T := ⟨S64000x1792, .bf16⟩) main_v62) (TRef.of (T := ⟨S64000x1792, .bf16⟩) main_v75) select,
    TRef.ternary (TRef.of (T := ⟨S64000x1792, .i1⟩) main_v73) (TRef.of (T := ⟨S64000x1792, .bf16⟩) main_v65) (TRef.of (T := ⟨S64000x1792, .bf16⟩) main_v64) (TRef.of (T := ⟨S64000x1792, .bf16⟩) main_v76) select,
    TRef.ternary (TRef.of (T := ⟨S64000x1792, .i1⟩) main_v73) (TRef.of (T := ⟨S64000x1792, .bf16⟩) main_v67) (TRef.of (T := ⟨S64000x1792, .bf16⟩) main_v66) (TRef.of (T := ⟨S64000x1792, .bf16⟩) main_v77) select,
    nullary main_c_50 (constantI S_ 32 2#32),
    unary main_c_50 main_v78 (broadcastInDim S64000x1792 ![] bcast_S_S64000x1792 : (⟨S_, .i32⟩ : BufTy).Contents (Elt F) → (⟨S64000x1792, .i32⟩ : BufTy).Contents (Elt F)),
    binary main_v13 main_v78 main_v79 (Host.shrsi : (⟨S64000x1792, .i32⟩ : BufTy).Contents (Elt F) → (⟨S64000x1792, .i32⟩ : BufTy).Contents (Elt F) → (⟨S64000x1792, .i32⟩ : BufTy).Contents (Elt F)),
    nullary main_c_51 (constantI S_ 32 1#32),
    unary main_c_51 main_v80 (broadcastInDim S64000x1792 ![] bcast_S_S64000x1792 : (⟨S_, .i32⟩ : BufTy).Contents (Elt F) → (⟨S64000x1792, .i32⟩ : BufTy).Contents (Elt F)),
    binary main_v79 main_v80 main_v81 (andi : (⟨S64000x1792, .i32⟩ : BufTy).Contents (Elt F) → (⟨S64000x1792, .i32⟩ : BufTy).Contents (Elt F) → (⟨S64000x1792, .i32⟩ : BufTy).Contents (Elt F)),
    nullary main_c_52 (constantI S_ 32 1#32),
    unary main_c_52 main_v82 (broadcastInDim S64000x1792 ![] bcast_S_S64000x1792 : (⟨S_, .i32⟩ : BufTy).Contents (Elt F) → (⟨S64000x1792, .i32⟩ : BufTy).Contents (Elt F)),
    binary main_v81 main_v82 main_v83 (cmpi .eq : (⟨S64000x1792, .i32⟩ : BufTy).Contents (Elt F) → (⟨S64000x1792, .i32⟩ : BufTy).Contents (Elt F) → (⟨S64000x1792, .i1⟩ : BufTy).Contents (Elt F)),
    TRef.ternary (TRef.of (T := ⟨S64000x1792, .i1⟩) main_v83) (TRef.of (T := ⟨S64000x1792, .bf16⟩) main_v75) (TRef.of (T := ⟨S64000x1792, .bf16⟩) main_v74) (TRef.of (T := ⟨S64000x1792, .bf16⟩) main_v84) select,
    TRef.ternary (TRef.of (T := ⟨S64000x1792, .i1⟩) main_v83) (TRef.of (T := ⟨S64000x1792, .bf16⟩) main_v77) (TRef.of (T := ⟨S64000x1792, .bf16⟩) main_v76) (TRef.of (T := ⟨S64000x1792, .bf16⟩) main_v85) select,
    nullary main_c_53 (constantI S_ 32 3#32),
    unary main_c_53 main_v86 (broadcastInDim S64000x1792 ![] bcast_S_S64000x1792 : (⟨S_, .i32⟩ : BufTy).Contents (Elt F) → (⟨S64000x1792, .i32⟩ : BufTy).Contents (Elt F)),
    binary main_v13 main_v86 main_v87 (Host.shrsi : (⟨S64000x1792, .i32⟩ : BufTy).Contents (Elt F) → (⟨S64000x1792, .i32⟩ : BufTy).Contents (Elt F) → (⟨S64000x1792, .i32⟩ : BufTy).Contents (Elt F)),
    nullary main_c_54 (constantI S_ 32 1#32),
    unary main_c_54 main_v88 (broadcastInDim S64000x1792 ![] bcast_S_S64000x1792 : (⟨S_, .i32⟩ : BufTy).Contents (Elt F) → (⟨S64000x1792, .i32⟩ : BufTy).Contents (Elt F)),
    binary main_v87 main_v88 main_v89 (andi : (⟨S64000x1792, .i32⟩ : BufTy).Contents (Elt F) → (⟨S64000x1792, .i32⟩ : BufTy).Contents (Elt F) → (⟨S64000x1792, .i32⟩ : BufTy).Contents (Elt F)),
    nullary main_c_55 (constantI S_ 32 1#32),
    unary main_c_55 main_v90 (broadcastInDim S64000x1792 ![] bcast_S_S64000x1792 : (⟨S_, .i32⟩ : BufTy).Contents (Elt F) → (⟨S64000x1792, .i32⟩ : BufTy).Contents (Elt F)),
    binary main_v89 main_v90 main_v91 (cmpi .eq : (⟨S64000x1792, .i32⟩ : BufTy).Contents (Elt F) → (⟨S64000x1792, .i32⟩ : BufTy).Contents (Elt F) → (⟨S64000x1792, .i1⟩ : BufTy).Contents (Elt F)),
    TRef.ternary (TRef.of (T := ⟨S64000x1792, .i1⟩) main_v91) (TRef.of (T := ⟨S64000x1792, .bf16⟩) main_v85) (TRef.of (T := ⟨S64000x1792, .bf16⟩) main_v84) (TRef.of (T := ⟨S64000x1792, .bf16⟩) main_v92) select,
    binary main_v92 main_v8 main_v93 (mulf : (⟨S64000x1792, .bf16⟩ : BufTy).Contents (Elt F) → (⟨S64000x1792, .bf16⟩ : BufTy).Contents (Elt F) → (⟨S64000x1792, .bf16⟩ : BufTy).Contents (Elt F)),
    binary main_v3 main_v53 main_v94 ((fun l r => Host.dotGeneral dot_S128x1792_S64000x1792_S128x64000_1_1_0_0_n_n none l r) : (⟨S128x1792, .bf16⟩ : BufTy).Contents (Elt F) → (⟨S64000x1792, .bf16⟩ : BufTy).Contents (Elt F) → (⟨S128x64000, .f32⟩ : BufTy).Contents (Elt F)),
    binary main_v6 main_v93 main_v95 ((fun l r => Host.dotGeneral dot_S128x1792_S64000x1792_S128x64000_1_1_0_0_n_n none l r) : (⟨S128x1792, .bf16⟩ : BufTy).Contents (Elt F) → (⟨S64000x1792, .bf16⟩ : BufTy).Contents (Elt F) → (⟨S128x64000, .f32⟩ : BufTy).Contents (Elt F)),
    binary main_v94 main_v95 main_v96 (addf : (⟨S128x64000, .f32⟩ : BufTy).Contents (Elt F) → (⟨S128x64000, .f32⟩ : BufTy).Contents (Elt F) → (⟨S128x64000, .f32⟩ : BufTy).Contents (Elt F)),
    nullary main_v97 (iotaInDim S128x64000 32 1),
    nullary main_cst_56 (constant S_ .f32 0xFF800000#32),
    binary main_v96 main_cst_56 main_v98 ((fun x v => Host.reduce FloatOps.maximumf x v reducesTo_S128x64000_S128_d1 h_S_) : (⟨S128x64000, .f32⟩ : BufTy).Contents (Elt F) → (⟨S_, .f32⟩ : BufTy).Contents (Elt F) → (⟨S128, .f32⟩ : BufTy).Contents (Elt F)),
    TRef.nullary (TRef.of (T := ⟨S128x64000, .i32⟩) main_call30_v0) (iotaInDim S128x64000 32 1),
    TRef.nullary (TRef.of (T := ⟨S_, .f32⟩) main_call30_cst) (constant S_ .f32 0xFF800000#32),
    TRef.nullary (TRef.of (T := ⟨S_, .i32⟩) main_call30_c) (constantI S_ 32 0#32),
    TRef.quaternary (TRef.of (T := ⟨S128x64000, .f32⟩) main_v96) (TRef.of (T := ⟨S128x64000, .i32⟩) main_call30_v0) (TRef.of (T := ⟨S_, .f32⟩) main_call30_cst) (TRef.of (T := ⟨S_, .i32⟩) main_call30_c) (TRef.of (T := ⟨S128, .f32⟩) main_call30_v1_0) (fun x y u v => fun j => (Host.argReduce reducer_argmax_f32_i32 x y u v reducesTo_S128x64000_S128_d1 h_S_ j).1),
    TRef.quaternary (TRef.of (T := ⟨S128x64000, .f32⟩) main_v96) (TRef.of (T := ⟨S128x64000, .i32⟩) main_call30_v0) (TRef.of (T := ⟨S_, .f32⟩) main_call30_cst) (TRef.of (T := ⟨S_, .i32⟩) main_call30_c) (TRef.of (T := ⟨S128, .i32⟩) main_v99) (fun x y u v => fun j => (Host.argReduce reducer_argmax_f32_i32 x y u v reducesTo_S128x64000_S128_d1 h_S_ j).2),
    unary main_v99 main_v100 (broadcastInDim S128x1 ![0] bcast_S128_S128x1_0 : (⟨S128, .i32⟩ : BufTy).Contents (Elt F) → (⟨S128x1, .i32⟩ : BufTy).Contents (Elt F)),
    unary main_v100 main_v101 (broadcastInDim S128x64000 ![0, 1] bcast_S128x1_S128x64000_0_1 : (⟨S128x1, .i32⟩ : BufTy).Contents (Elt F) → (⟨S128x64000, .i32⟩ : BufTy).Contents (Elt F)),
    binary main_v97 main_v101 main_v102 (cmpi .eq : (⟨S128x64000, .i32⟩ : BufTy).Contents (Elt F) → (⟨S128x64000, .i32⟩ : BufTy).Contents (Elt F) → (⟨S128x64000, .i1⟩ : BufTy).Contents (Elt F)),
    nullary main_cst_57 (constant S_ .f32 0xFF800000#32),
    TRef.unary (TRef.of (T := ⟨S_, .f32⟩) main_cst_57) (TRef.of (T := ⟨S_, .f32⟩) main_call31_v0) id,
    TRef.unary (TRef.of (T := ⟨S_, .f32⟩) main_call31_v0) (TRef.of (T := ⟨S128x64000, .f32⟩) main_call31_v1) (broadcastInDim S128x64000 ![] bcast_S_S128x64000),
    TRef.ternary (TRef.of (T := ⟨S128x64000, .i1⟩) main_v102) (TRef.of (T := ⟨S128x64000, .f32⟩) main_call31_v1) (TRef.of (T := ⟨S128x64000, .f32⟩) main_v96) (TRef.of (T := ⟨S128x64000, .f32⟩) main_v103) select,
    nullary main_cst_58 (constant S_ .f32 0xFF800000#32),
    binary main_v103 main_cst_58 main_v104 ((fun x v => Host.reduce FloatOps.maximumf x v reducesTo_S128x64000_S128_d1 h_S_) : (⟨S128x64000, .f32⟩ : BufTy).Contents (Elt F) → (⟨S_, .f32⟩ : BufTy).Contents (Elt F) → (⟨S128, .f32⟩ : BufTy).Contents (Elt F)),
    binary main_v98 main_v104 main_v105 (subf : (⟨S128, .f32⟩ : BufTy).Contents (Elt F) → (⟨S128, .f32⟩ : BufTy).Contents (Elt F) → (⟨S128, .f32⟩ : BufTy).Contents (Elt F)),
    reshape main_v99 main_v106 (rfl : (.i32 : EltTy) = .i32) shapeCasts_S128_S1x128,
    reshape main_v105 main_v107 (rfl : (.f32 : EltTy) = .f32) shapeCasts_S128_S1x128,
    reshape main_v98 main_v108 (rfl : (.f32 : EltTy) = .f32) shapeCasts_S128_S1x128 ]

/-- @main's 208 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨reshape_bufs_sub .., unary_bufs_sub .., reshape_bufs_sub .., reshape_bufs_sub .., unary_bufs_sub .., reshape_bufs_sub .., reshape_bufs_sub .., unary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., ternary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨ternary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., nullary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., unary_bufs_sub .., ternary_bufs_sub .., nullary_bufs_sub .., nullary_bufs_sub .., unary_bufs_sub .., unary_bufs_sub .., ternary_bufs_sub .., nullary_bufs_sub .., nullary_bufs_sub .., unary_bufs_sub .., unary_bufs_sub .., ternary_bufs_sub .., nullary_bufs_sub .., unary_bufs_sub .., binary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., ternary_bufs_sub .., ternary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., binary_bufs_sub .., binary_bufs_sub .., nullary_bufs_sub .., nullary_bufs_sub .., binary_bufs_sub .., nullary_bufs_sub .., nullary_bufs_sub .., nullary_bufs_sub .., quaternary_bufs_sub .., quaternary_bufs_sub .., unary_bufs_sub .., unary_bufs_sub .., binary_bufs_sub .., nullary_bufs_sub .., unary_bufs_sub .., unary_bufs_sub .., ternary_bufs_sub .., nullary_bufs_sub .., binary_bufs_sub .., binary_bufs_sub .., reshape_bufs_sub .., reshape_bufs_sub .., reshape_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

set_option maxRecDepth 8192 in
def res_main_v0 (V0 : Valuation τ sig (Elt F)) : (Proc.devRef .tc main_v0 : DevRef τ sig).ty.Contents (Elt F) :=
  shapeCast _ (V0 (Proc.devRef .tc main_arg0)) shapeCasts_S128x1x3584_S128x112x2x16

set_option maxRecDepth 8192 in
def res_main_v8 (V0 : Valuation τ sig (Elt F)) : (Proc.devRef .tc main_v8 : DevRef τ sig).ty.Contents (Elt F) :=
  shapeCast _ (broadcastInDim S64000x112x16 ![0, 1] bcast_S64000x112_S64000x112x16_0_1 (V0 (Proc.devRef .tc main_arg2))) shapeCasts_S64000x112x16_S64000x1792

set_option maxRecDepth 8192 in
def res_main_v9 (V0 : Valuation τ sig (Elt F)) : (Proc.devRef .tc main_v9 : DevRef τ sig).ty.Contents (Elt F) :=
  extui 32 (V0 (Proc.devRef .tc main_arg1)) natLt_8_32

set_option maxRecDepth 8192 in
def res_main_v11 (V0 : Valuation τ sig (Elt F)) : (Proc.devRef .tc main_v11 : DevRef τ sig).ty.Contents (Elt F) :=
  andi (res_main_v9 V0) (broadcastInDim S64000x1792 ![] bcast_S_S64000x1792 (constantI S_ 32 15#32))

set_option maxRecDepth 8192 in
def res_main_v13 (V0 : Valuation τ sig (Elt F)) : (Proc.devRef .tc main_v13 : DevRef τ sig).ty.Contents (Elt F) :=
  Host.shrsi (res_main_v9 V0) (broadcastInDim S64000x1792 ![] bcast_S_S64000x1792 (constantI S_ 32 4#32))

set_option maxRecDepth 8192 in
def res_main_v19 (V0 : Valuation τ sig (Elt F)) : (Proc.devRef .tc main_v19 : DevRef τ sig).ty.Contents (Elt F) :=
  cmpi .eq (andi (Host.shrsi (res_main_v11 V0) (broadcastInDim S64000x1792 ![] bcast_S_S64000x1792 (constantI S_ 32 0#32))) (broadcastInDim S64000x1792 ![] bcast_S_S64000x1792 (constantI S_ 32 1#32))) (broadcastInDim S64000x1792 ![] bcast_S_S64000x1792 (constantI S_ 32 1#32))

set_option maxRecDepth 8192 in
def res_main_v33 (V0 : Valuation τ sig (Elt F)) : (Proc.devRef .tc main_v33 : DevRef τ sig).ty.Contents (Elt F) :=
  cmpi .eq (andi (Host.shrsi (res_main_v11 V0) (broadcastInDim S64000x1792 ![] bcast_S_S64000x1792 (constantI S_ 32 1#32))) (broadcastInDim S64000x1792 ![] bcast_S_S64000x1792 (constantI S_ 32 1#32))) (broadcastInDim S64000x1792 ![] bcast_S_S64000x1792 (constantI S_ 32 1#32))

set_option maxRecDepth 8192 in
def res_main_v43 (V0 : Valuation τ sig (Elt F)) : (Proc.devRef .tc main_v43 : DevRef τ sig).ty.Contents (Elt F) :=
  cmpi .eq (andi (Host.shrsi (res_main_v11 V0) (broadcastInDim S64000x1792 ![] bcast_S_S64000x1792 (constantI S_ 32 2#32))) (broadcastInDim S64000x1792 ![] bcast_S_S64000x1792 (constantI S_ 32 1#32))) (broadcastInDim S64000x1792 ![] bcast_S_S64000x1792 (constantI S_ 32 1#32))

set_option maxRecDepth 8192 in
def res_main_v59 (V0 : Valuation τ sig (Elt F)) : (Proc.devRef .tc main_v59 : DevRef τ sig).ty.Contents (Elt F) :=
  cmpi .eq (andi (Host.shrsi (res_main_v13 V0) (broadcastInDim S64000x1792 ![] bcast_S_S64000x1792 (constantI S_ 32 0#32))) (broadcastInDim S64000x1792 ![] bcast_S_S64000x1792 (constantI S_ 32 1#32))) (broadcastInDim S64000x1792 ![] bcast_S_S64000x1792 (constantI S_ 32 1#32))

set_option maxRecDepth 8192 in
def res_main_v73 (V0 : Valuation τ sig (Elt F)) : (Proc.devRef .tc main_v73 : DevRef τ sig).ty.Contents (Elt F) :=
  cmpi .eq (andi (Host.shrsi (res_main_v13 V0) (broadcastInDim S64000x1792 ![] bcast_S_S64000x1792 (constantI S_ 32 1#32))) (broadcastInDim S64000x1792 ![] bcast_S_S64000x1792 (constantI S_ 32 1#32))) (broadcastInDim S64000x1792 ![] bcast_S_S64000x1792 (constantI S_ 32 1#32))

set_option maxRecDepth 8192 in
def res_main_v83 (V0 : Valuation τ sig (Elt F)) : (Proc.devRef .tc main_v83 : DevRef τ sig).ty.Contents (Elt F) :=
  cmpi .eq (andi (Host.shrsi (res_main_v13 V0) (broadcastInDim S64000x1792 ![] bcast_S_S64000x1792 (constantI S_ 32 2#32))) (broadcastInDim S64000x1792 ![] bcast_S_S64000x1792 (constantI S_ 32 1#32))) (broadcastInDim S64000x1792 ![] bcast_S_S64000x1792 (constantI S_ 32 1#32))

set_option maxRecDepth 8192 in
def res_main_v96 (V0 : Valuation τ sig (Elt F)) : (Proc.devRef .tc main_v96 : DevRef τ sig).ty.Contents (Elt F) :=
  addf (Host.dotGeneral dot_S128x1792_S64000x1792_S128x64000_1_1_0_0_n_n none (shapeCast _ (shapeCast _ (extractStridedSlice S128x112x1x16 ![0, 0, 0, 0] (res_main_v0 V0) slices_S128x112x2x16_S128x112x1x16_0_0_0_0) shapeCasts_S128x112x1x16_S128x112x16) shapeCasts_S128x112x16_S128x1792) (mulf (select (cmpi .eq (andi (Host.shrsi (res_main_v11 V0) (broadcastInDim S64000x1792 ![] bcast_S_S64000x1792 (constantI S_ 32 3#32))) (broadcastInDim S64000x1792 ![] bcast_S_S64000x1792 (constantI S_ 32 1#32))) (broadcastInDim S64000x1792 ![] bcast_S_S64000x1792 (constantI S_ 32 1#32))) (select (res_main_v43 V0) (select (res_main_v33 V0) (select (res_main_v19 V0) (broadcastInDim S64000x1792 ![] bcast_S_S64000x1792 (constant S_ .bf16 0x42E2#16)) (broadcastInDim S64000x1792 ![] bcast_S_S64000x1792 (constant S_ .bf16 0x42B2#16))) (select (res_main_v19 V0) (broadcastInDim S64000x1792 ![] bcast_S_S64000x1792 (constant S_ .bf16 0x428A#16)) (broadcastInDim S64000x1792 ![] bcast_S_S64000x1792 (constant S_ .bf16 0x4254#16)))) (select (res_main_v33 V0) (select (res_main_v19 V0) (broadcastInDim S64000x1792 ![] bcast_S_S64000x1792 (constant S_ .bf16 0x4218#16)) (broadcastInDim S64000x1792 ![] bcast_S_S64000x1792 (constant S_ .bf16 0x41C8#16))) (select (res_main_v19 V0) (broadcastInDim S64000x1792 ![] bcast_S_S64000x1792 (constant S_ .bf16 0x4150#16)) (broadcastInDim S64000x1792 ![] bcast_S_S64000x1792 (constant S_ .bf16 0x3F80#16))))) (select (res_main_v43 V0) (select (res_main_v33 V0) (select (res_main_v19 V0) (broadcastInDim S64000x1792 ![] bcast_S_S64000x1792 (constant S_ .bf16 0xC120#16)) (broadcastInDim S64000x1792 ![] bcast_S_S64000x1792 (constant S_ .bf16 0xC1B0#16))) (select (res_main_v19 V0) (broadcastInDim S64000x1792 ![] bcast_S_S64000x1792 (constant S_ .bf16 0xC20C#16)) (broadcastInDim S64000x1792 ![] bcast_S_S64000x1792 (constant S_ .bf16 0xC244#16)))) (select (res_main_v33 V0) (select (res_main_v19 V0) (broadcastInDim S64000x1792 ![] bcast_S_S64000x1792 (constant S_ .bf16 0xC282#16)) (broadcastInDim S64000x1792 ![] bcast_S_S64000x1792 (constant S_ .bf16 0xC2A6#16))) (select (res_main_v19 V0) (broadcastInDim S64000x1792 ![] bcast_S_S64000x1792 (constant S_ .bf16 0xC2D0#16)) (broadcastInDim S64000x1792 ![] bcast_S_S64000x1792 (constant S_ .bf16 0xC2FE#16)))))) (res_main_v8 V0))) (Host.dotGeneral dot_S128x1792_S64000x1792_S128x64000_1_1_0_0_n_n none (shapeCast _ (shapeCast _ (extractStridedSlice S128x112x1x16 ![0, 0, 1, 0] (res_main_v0 V0) slices_S128x112x2x16_S128x112x1x16_0_0_1_0) shapeCasts_S128x112x1x16_S128x112x16) shapeCasts_S128x112x16_S128x1792) (mulf (select (cmpi .eq (andi (Host.shrsi (res_main_v13 V0) (broadcastInDim S64000x1792 ![] bcast_S_S64000x1792 (constantI S_ 32 3#32))) (broadcastInDim S64000x1792 ![] bcast_S_S64000x1792 (constantI S_ 32 1#32))) (broadcastInDim S64000x1792 ![] bcast_S_S64000x1792 (constantI S_ 32 1#32))) (select (res_main_v83 V0) (select (res_main_v73 V0) (select (res_main_v59 V0) (broadcastInDim S64000x1792 ![] bcast_S_S64000x1792 (constant S_ .bf16 0x42E2#16)) (broadcastInDim S64000x1792 ![] bcast_S_S64000x1792 (constant S_ .bf16 0x42B2#16))) (select (res_main_v59 V0) (broadcastInDim S64000x1792 ![] bcast_S_S64000x1792 (constant S_ .bf16 0x428A#16)) (broadcastInDim S64000x1792 ![] bcast_S_S64000x1792 (constant S_ .bf16 0x4254#16)))) (select (res_main_v73 V0) (select (res_main_v59 V0) (broadcastInDim S64000x1792 ![] bcast_S_S64000x1792 (constant S_ .bf16 0x4218#16)) (broadcastInDim S64000x1792 ![] bcast_S_S64000x1792 (constant S_ .bf16 0x41C8#16))) (select (res_main_v59 V0) (broadcastInDim S64000x1792 ![] bcast_S_S64000x1792 (constant S_ .bf16 0x4150#16)) (broadcastInDim S64000x1792 ![] bcast_S_S64000x1792 (constant S_ .bf16 0x3F80#16))))) (select (res_main_v83 V0) (select (res_main_v73 V0) (select (res_main_v59 V0) (broadcastInDim S64000x1792 ![] bcast_S_S64000x1792 (constant S_ .bf16 0xC120#16)) (broadcastInDim S64000x1792 ![] bcast_S_S64000x1792 (constant S_ .bf16 0xC1B0#16))) (select (res_main_v59 V0) (broadcastInDim S64000x1792 ![] bcast_S_S64000x1792 (constant S_ .bf16 0xC20C#16)) (broadcastInDim S64000x1792 ![] bcast_S_S64000x1792 (constant S_ .bf16 0xC244#16)))) (select (res_main_v73 V0) (select (res_main_v59 V0) (broadcastInDim S64000x1792 ![] bcast_S_S64000x1792 (constant S_ .bf16 0xC282#16)) (broadcastInDim S64000x1792 ![] bcast_S_S64000x1792 (constant S_ .bf16 0xC2A6#16))) (select (res_main_v59 V0) (broadcastInDim S64000x1792 ![] bcast_S_S64000x1792 (constant S_ .bf16 0xC2D0#16)) (broadcastInDim S64000x1792 ![] bcast_S_S64000x1792 (constant S_ .bf16 0xC2FE#16)))))) (res_main_v8 V0)))

set_option maxRecDepth 8192 in
def res_main_v98 (V0 : Valuation τ sig (Elt F)) : (Proc.devRef .tc main_v98 : DevRef τ sig).ty.Contents (Elt F) :=
  Host.reduce FloatOps.maximumf (res_main_v96 V0) (constant S_ .f32 0xFF800000#32) reducesTo_S128x64000_S128_d1 h_S_

set_option maxRecDepth 8192 in
def res_main_call30_v0 (V0 : Valuation τ sig (Elt F)) : (Proc.devRef .tc main_call30_v0 : DevRef τ sig).ty.Contents (Elt F) :=
  iotaInDim S128x64000 32 1

set_option maxRecDepth 8192 in
def res_main_call30_cst (V0 : Valuation τ sig (Elt F)) : (Proc.devRef .tc main_call30_cst : DevRef τ sig).ty.Contents (Elt F) :=
  constant S_ .f32 0xFF800000#32

set_option maxRecDepth 8192 in
def res_main_call30_c (V0 : Valuation τ sig (Elt F)) : (Proc.devRef .tc main_call30_c : DevRef τ sig).ty.Contents (Elt F) :=
  constantI S_ 32 0#32

set_option maxRecDepth 8192 in
def res_main_v99 (V0 : Valuation τ sig (Elt F)) : (Proc.devRef .tc main_v99 : DevRef τ sig).ty.Contents (Elt F) :=
  fun j => (Host.argReduce reducer_argmax_f32_i32 (res_main_v96 V0) (res_main_call30_v0 V0) (res_main_call30_cst V0) (res_main_call30_c V0) reducesTo_S128x64000_S128_d1 h_S_ j).2

def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

def val0_1 (V0 : Valuation τ sig (Elt F)) : Valuation τ sig (Elt F) := after ops_part0_0 (val0 V0)
abbrev ops_part0_0_W : List (Ref sig .tc) := [main_v0, main_v1, main_v2, main_v3, main_v4, main_v5, main_v6, main_v7, main_v8, main_v9, main_c, main_v10, main_v11, main_c_0, main_v12, main_v13, main_c_1, main_v14, main_v15, main_c_2, main_v16, main_v17, main_c_3, main_v18, main_v19, main_cst, main_cst_4, main_call0_v0, main_call0_v1, main_v20]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v3 (V0 : Valuation τ sig (Elt F)) : val0_1 V0 (no_index (Proc.devRef .tc main_v3)) = shapeCast _ (shapeCast _ (extractStridedSlice S128x112x1x16 ![0, 0, 0, 0] (res_main_v0 V0) slices_S128x112x2x16_S128x112x1x16_0_0_0_0) shapeCasts_S128x112x1x16_S128x112x16) shapeCasts_S128x112x16_S128x1792 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v6 (V0 : Valuation τ sig (Elt F)) : val0_1 V0 (no_index (Proc.devRef .tc main_v6)) = shapeCast _ (shapeCast _ (extractStridedSlice S128x112x1x16 ![0, 0, 1, 0] (res_main_v0 V0) slices_S128x112x2x16_S128x112x1x16_0_0_1_0) shapeCasts_S128x112x1x16_S128x112x16) shapeCasts_S128x112x16_S128x1792 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v8 (V0 : Valuation τ sig (Elt F)) : val0_1 V0 (no_index (Proc.devRef .tc main_v8)) = res_main_v8 V0 := by
  unfold val0_1
  simp only [ops_part0_0, TRef.ternary, TRef.unary, TRef.toBuf, TRef.ofBuf, cast_eq]
  after_results_simp
  simp only [val0_main_arg2] <;> rfl
set_option maxRecDepth 8192 in
set_option maxHeartbeats 2000000 in
theorem val0_1_main_v11 (V0 : Valuation τ sig (Elt F)) : val0_1 V0 (no_index (Proc.devRef .tc main_v11)) = res_main_v11 V0 := by
  unfold val0_1
  simp only [ops_part0_0, TRef.ternary, TRef.unary, TRef.toBuf, TRef.ofBuf, cast_eq]
  after_results_simp
  simp only [val0_main_arg1] <;> rfl
set_option maxRecDepth 8192 in
set_option maxHeartbeats 2000000 in
theorem val0_1_main_v13 (V0 : Valuation τ sig (Elt F)) : val0_1 V0 (no_index (Proc.devRef .tc main_v13)) = res_main_v13 V0 := by
  unfold val0_1
  simp only [ops_part0_0, TRef.ternary, TRef.unary, TRef.toBuf, TRef.ofBuf, cast_eq]
  after_results_simp
  simp only [val0_main_arg1] <;> rfl
set_option maxRecDepth 8192 in
set_option maxHeartbeats 2000000 in
theorem val0_1_main_v19 (V0 : Valuation τ sig (Elt F)) : val0_1 V0 (no_index (Proc.devRef .tc main_v19)) = res_main_v19 V0 := by
  unfold val0_1
  simp only [ops_part0_0, TRef.ternary, TRef.unary, TRef.toBuf, TRef.ofBuf, cast_eq]
  after_results_simp
  simp only [val0_main_arg1] <;> rfl
set_option maxRecDepth 8192 in
set_option maxHeartbeats 2000000 in
theorem val0_1_main_v20 (V0 : Valuation τ sig (Elt F)) : val0_1 V0 (no_index (Proc.devRef .tc main_v20)) = select (res_main_v19 V0) (broadcastInDim S64000x1792 ![] bcast_S_S64000x1792 (constant S_ .bf16 0xC2D0#16)) (broadcastInDim S64000x1792 ![] bcast_S_S64000x1792 (constant S_ .bf16 0xC2FE#16)) := by
  unfold val0_1
  simp only [ops_part0_0, TRef.ternary, TRef.unary, TRef.toBuf, TRef.ofBuf, cast_eq]
  after_results_simp
  simp only [val0_main_arg1] <;> rfl

def val0_2 (V0 : Valuation τ sig (Elt F)) : Valuation τ sig (Elt F) := after ops_part0_1 (val0_1 V0)
abbrev ops_part0_1_W : List (Ref sig .tc) := [main_cst_5, main_cst_6, main_call1_v0, main_call1_v1, main_v21, main_cst_7, main_cst_8, main_call2_v0, main_call2_v1, main_v22, main_cst_9, main_cst_10, main_call3_v0, main_call3_v1, main_v23, main_cst_11, main_cst_12, main_call4_v0, main_call4_v1, main_v24, main_cst_13, main_cst_14, main_call5_v0, main_call5_v1, main_v25, main_cst_15, main_cst_16, main_call6_v0, main_call6_v1, main_v26]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_v3 (V0 : Valuation τ sig (Elt F)) : val0_2 V0 (no_index (Proc.devRef .tc main_v3)) = shapeCast _ (shapeCast _ (extractStridedSlice S128x112x1x16 ![0, 0, 0, 0] (res_main_v0 V0) slices_S128x112x2x16_S128x112x1x16_0_0_0_0) shapeCasts_S128x112x1x16_S128x112x16) shapeCasts_S128x112x16_S128x1792 :=
  (val0_2_keep V0 main_v3 (by decide)).trans (val0_1_main_v3 V0)
theorem val0_2_main_v6 (V0 : Valuation τ sig (Elt F)) : val0_2 V0 (no_index (Proc.devRef .tc main_v6)) = shapeCast _ (shapeCast _ (extractStridedSlice S128x112x1x16 ![0, 0, 1, 0] (res_main_v0 V0) slices_S128x112x2x16_S128x112x1x16_0_0_1_0) shapeCasts_S128x112x1x16_S128x112x16) shapeCasts_S128x112x16_S128x1792 :=
  (val0_2_keep V0 main_v6 (by decide)).trans (val0_1_main_v6 V0)
theorem val0_2_main_v8 (V0 : Valuation τ sig (Elt F)) : val0_2 V0 (no_index (Proc.devRef .tc main_v8)) = res_main_v8 V0 :=
  (val0_2_keep V0 main_v8 (by decide)).trans (val0_1_main_v8 V0)
theorem val0_2_main_v11 (V0 : Valuation τ sig (Elt F)) : val0_2 V0 (no_index (Proc.devRef .tc main_v11)) = res_main_v11 V0 :=
  (val0_2_keep V0 main_v11 (by decide)).trans (val0_1_main_v11 V0)
theorem val0_2_main_v13 (V0 : Valuation τ sig (Elt F)) : val0_2 V0 (no_index (Proc.devRef .tc main_v13)) = res_main_v13 V0 :=
  (val0_2_keep V0 main_v13 (by decide)).trans (val0_1_main_v13 V0)
theorem val0_2_main_v19 (V0 : Valuation τ sig (Elt F)) : val0_2 V0 (no_index (Proc.devRef .tc main_v19)) = res_main_v19 V0 :=
  (val0_2_keep V0 main_v19 (by decide)).trans (val0_1_main_v19 V0)
theorem val0_2_main_v20 (V0 : Valuation τ sig (Elt F)) : val0_2 V0 (no_index (Proc.devRef .tc main_v20)) = select (res_main_v19 V0) (broadcastInDim S64000x1792 ![] bcast_S_S64000x1792 (constant S_ .bf16 0xC2D0#16)) (broadcastInDim S64000x1792 ![] bcast_S_S64000x1792 (constant S_ .bf16 0xC2FE#16)) :=
  (val0_2_keep V0 main_v20 (by decide)).trans (val0_1_main_v20 V0)
set_option maxRecDepth 8192 in
set_option maxHeartbeats 2000000 in
theorem val0_2_main_v21 (V0 : Valuation τ sig (Elt F)) : val0_2 V0 (no_index (Proc.devRef .tc main_v21)) = select (res_main_v19 V0) (broadcastInDim S64000x1792 ![] bcast_S_S64000x1792 (constant S_ .bf16 0xC282#16)) (broadcastInDim S64000x1792 ![] bcast_S_S64000x1792 (constant S_ .bf16 0xC2A6#16)) := by
  unfold val0_2
  simp only [ops_part0_1, TRef.ternary, TRef.unary, TRef.toBuf, TRef.ofBuf, cast_eq]
  after_results_simp
  simp only [val0_1_main_v19] <;> rfl
set_option maxRecDepth 8192 in
set_option maxHeartbeats 2000000 in
theorem val0_2_main_v22 (V0 : Valuation τ sig (Elt F)) : val0_2 V0 (no_index (Proc.devRef .tc main_v22)) = select (res_main_v19 V0) (broadcastInDim S64000x1792 ![] bcast_S_S64000x1792 (constant S_ .bf16 0xC20C#16)) (broadcastInDim S64000x1792 ![] bcast_S_S64000x1792 (constant S_ .bf16 0xC244#16)) := by
  unfold val0_2
  simp only [ops_part0_1, TRef.ternary, TRef.unary, TRef.toBuf, TRef.ofBuf, cast_eq]
  after_results_simp
  simp only [val0_1_main_v19] <;> rfl
set_option maxRecDepth 8192 in
set_option maxHeartbeats 2000000 in
theorem val0_2_main_v23 (V0 : Valuation τ sig (Elt F)) : val0_2 V0 (no_index (Proc.devRef .tc main_v23)) = select (res_main_v19 V0) (broadcastInDim S64000x1792 ![] bcast_S_S64000x1792 (constant S_ .bf16 0xC120#16)) (broadcastInDim S64000x1792 ![] bcast_S_S64000x1792 (constant S_ .bf16 0xC1B0#16)) := by
  unfold val0_2
  simp only [ops_part0_1, TRef.ternary, TRef.unary, TRef.toBuf, TRef.ofBuf, cast_eq]
  after_results_simp
  simp only [val0_1_main_v19] <;> rfl
set_option maxRecDepth 8192 in
set_option maxHeartbeats 2000000 in
theorem val0_2_main_v24 (V0 : Valuation τ sig (Elt F)) : val0_2 V0 (no_index (Proc.devRef .tc main_v24)) = select (res_main_v19 V0) (broadcastInDim S64000x1792 ![] bcast_S_S64000x1792 (constant S_ .bf16 0x4150#16)) (broadcastInDim S64000x1792 ![] bcast_S_S64000x1792 (constant S_ .bf16 0x3F80#16)) := by
  unfold val0_2
  simp only [ops_part0_1, TRef.ternary, TRef.unary, TRef.toBuf, TRef.ofBuf, cast_eq]
  after_results_simp
  simp only [val0_1_main_v19] <;> rfl
set_option maxRecDepth 8192 in
set_option maxHeartbeats 2000000 in
theorem val0_2_main_v25 (V0 : Valuation τ sig (Elt F)) : val0_2 V0 (no_index (Proc.devRef .tc main_v25)) = select (res_main_v19 V0) (broadcastInDim S64000x1792 ![] bcast_S_S64000x1792 (constant S_ .bf16 0x4218#16)) (broadcastInDim S64000x1792 ![] bcast_S_S64000x1792 (constant S_ .bf16 0x41C8#16)) := by
  unfold val0_2
  simp only [ops_part0_1, TRef.ternary, TRef.unary, TRef.toBuf, TRef.ofBuf, cast_eq]
  after_results_simp
  simp only [val0_1_main_v19] <;> rfl
set_option maxRecDepth 8192 in
set_option maxHeartbeats 2000000 in
theorem val0_2_main_v26 (V0 : Valuation τ sig (Elt F)) : val0_2 V0 (no_index (Proc.devRef .tc main_v26)) = select (res_main_v19 V0) (broadcastInDim S64000x1792 ![] bcast_S_S64000x1792 (constant S_ .bf16 0x428A#16)) (broadcastInDim S64000x1792 ![] bcast_S_S64000x1792 (constant S_ .bf16 0x4254#16)) := by
  unfold val0_2
  simp only [ops_part0_1, TRef.ternary, TRef.unary, TRef.toBuf, TRef.ofBuf, cast_eq]
  after_results_simp
  simp only [val0_1_main_v19] <;> rfl

def val1 (V0 : Valuation τ sig (Elt F)) : Valuation τ sig (Elt F) := after ops_part0_2 (val0_2 V0)
abbrev ops_part0_2_W : List (Ref sig .tc) := [main_cst_17, main_cst_18, main_call7_v0, main_call7_v1, main_v27, main_c_19, main_v28, main_v29, main_c_20, main_v30, main_v31, main_c_21, main_v32, main_v33, main_v34, main_v35]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_v3 (V0 : Valuation τ sig (Elt F)) : val1 V0 (no_index (Proc.devRef .tc main_v3)) = shapeCast _ (shapeCast _ (extractStridedSlice S128x112x1x16 ![0, 0, 0, 0] (res_main_v0 V0) slices_S128x112x2x16_S128x112x1x16_0_0_0_0) shapeCasts_S128x112x1x16_S128x112x16) shapeCasts_S128x112x16_S128x1792 :=
  (val1_keep V0 main_v3 (by decide)).trans (val0_2_main_v3 V0)
theorem val1_main_v6 (V0 : Valuation τ sig (Elt F)) : val1 V0 (no_index (Proc.devRef .tc main_v6)) = shapeCast _ (shapeCast _ (extractStridedSlice S128x112x1x16 ![0, 0, 1, 0] (res_main_v0 V0) slices_S128x112x2x16_S128x112x1x16_0_0_1_0) shapeCasts_S128x112x1x16_S128x112x16) shapeCasts_S128x112x16_S128x1792 :=
  (val1_keep V0 main_v6 (by decide)).trans (val0_2_main_v6 V0)
theorem val1_main_v8 (V0 : Valuation τ sig (Elt F)) : val1 V0 (no_index (Proc.devRef .tc main_v8)) = res_main_v8 V0 :=
  (val1_keep V0 main_v8 (by decide)).trans (val0_2_main_v8 V0)
theorem val1_main_v11 (V0 : Valuation τ sig (Elt F)) : val1 V0 (no_index (Proc.devRef .tc main_v11)) = res_main_v11 V0 :=
  (val1_keep V0 main_v11 (by decide)).trans (val0_2_main_v11 V0)
theorem val1_main_v13 (V0 : Valuation τ sig (Elt F)) : val1 V0 (no_index (Proc.devRef .tc main_v13)) = res_main_v13 V0 :=
  (val1_keep V0 main_v13 (by decide)).trans (val0_2_main_v13 V0)
theorem val1_main_v24 (V0 : Valuation τ sig (Elt F)) : val1 V0 (no_index (Proc.devRef .tc main_v24)) = select (res_main_v19 V0) (broadcastInDim S64000x1792 ![] bcast_S_S64000x1792 (constant S_ .bf16 0x4150#16)) (broadcastInDim S64000x1792 ![] bcast_S_S64000x1792 (constant S_ .bf16 0x3F80#16)) :=
  (val1_keep V0 main_v24 (by decide)).trans (val0_2_main_v24 V0)
theorem val1_main_v25 (V0 : Valuation τ sig (Elt F)) : val1 V0 (no_index (Proc.devRef .tc main_v25)) = select (res_main_v19 V0) (broadcastInDim S64000x1792 ![] bcast_S_S64000x1792 (constant S_ .bf16 0x4218#16)) (broadcastInDim S64000x1792 ![] bcast_S_S64000x1792 (constant S_ .bf16 0x41C8#16)) :=
  (val1_keep V0 main_v25 (by decide)).trans (val0_2_main_v25 V0)
theorem val1_main_v26 (V0 : Valuation τ sig (Elt F)) : val1 V0 (no_index (Proc.devRef .tc main_v26)) = select (res_main_v19 V0) (broadcastInDim S64000x1792 ![] bcast_S_S64000x1792 (constant S_ .bf16 0x428A#16)) (broadcastInDim S64000x1792 ![] bcast_S_S64000x1792 (constant S_ .bf16 0x4254#16)) :=
  (val1_keep V0 main_v26 (by decide)).trans (val0_2_main_v26 V0)
set_option maxRecDepth 8192 in
set_option maxHeartbeats 1600000 in
theorem val1_main_v27 (V0 : Valuation τ sig (Elt F)) : val1 V0 (no_index (Proc.devRef .tc main_v27)) = select (res_main_v19 V0) (broadcastInDim S64000x1792 ![] bcast_S_S64000x1792 (constant S_ .bf16 0x42E2#16)) (broadcastInDim S64000x1792 ![] bcast_S_S64000x1792 (constant S_ .bf16 0x42B2#16)) := by
  unfold val1
  simp only [ops_part0_2, TRef.ternary, TRef.unary, TRef.toBuf, TRef.ofBuf, cast_eq]
  after_results_simp
  simp only [val0_2_main_v19] <;> rfl
set_option maxRecDepth 8192 in
set_option maxHeartbeats 1600000 in
theorem val1_main_v33 (V0 : Valuation τ sig (Elt F)) : val1 V0 (no_index (Proc.devRef .tc main_v33)) = res_main_v33 V0 := by
  unfold val1
  simp only [ops_part0_2, TRef.ternary, TRef.unary, TRef.toBuf, TRef.ofBuf, cast_eq]
  after_results_simp
  simp only [val0_2_main_v11] <;> rfl
set_option maxRecDepth 8192 in
set_option maxHeartbeats 1600000 in
theorem val1_main_v34 (V0 : Valuation τ sig (Elt F)) : val1 V0 (no_index (Proc.devRef .tc main_v34)) = select (res_main_v33 V0) (select (res_main_v19 V0) (broadcastInDim S64000x1792 ![] bcast_S_S64000x1792 (constant S_ .bf16 0xC282#16)) (broadcastInDim S64000x1792 ![] bcast_S_S64000x1792 (constant S_ .bf16 0xC2A6#16))) (select (res_main_v19 V0) (broadcastInDim S64000x1792 ![] bcast_S_S64000x1792 (constant S_ .bf16 0xC2D0#16)) (broadcastInDim S64000x1792 ![] bcast_S_S64000x1792 (constant S_ .bf16 0xC2FE#16))) := by
  unfold val1
  simp only [ops_part0_2, TRef.ternary, TRef.unary, TRef.toBuf, TRef.ofBuf, cast_eq]
  after_results_simp
  simp only [val0_2_main_v20, val0_2_main_v21, val0_2_main_v11] <;> rfl
set_option maxRecDepth 8192 in
set_option maxHeartbeats 1600000 in
theorem val1_main_v35 (V0 : Valuation τ sig (Elt F)) : val1 V0 (no_index (Proc.devRef .tc main_v35)) = select (res_main_v33 V0) (select (res_main_v19 V0) (broadcastInDim S64000x1792 ![] bcast_S_S64000x1792 (constant S_ .bf16 0xC120#16)) (broadcastInDim S64000x1792 ![] bcast_S_S64000x1792 (constant S_ .bf16 0xC1B0#16))) (select (res_main_v19 V0) (broadcastInDim S64000x1792 ![] bcast_S_S64000x1792 (constant S_ .bf16 0xC20C#16)) (broadcastInDim S64000x1792 ![] bcast_S_S64000x1792 (constant S_ .bf16 0xC244#16))) := by
  unfold val1
  simp only [ops_part0_2, TRef.ternary, TRef.unary, TRef.toBuf, TRef.ofBuf, cast_eq]
  after_results_simp
  simp only [val0_2_main_v22, val0_2_main_v23, val0_2_main_v11] <;> rfl

def val1_1 (V0 : Valuation τ sig (Elt F)) : Valuation τ sig (Elt F) := after ops_part1_0 (val1 V0)
abbrev ops_part1_0_W : List (Ref sig .tc) := [main_v36, main_v37, main_c_22, main_v38, main_v39, main_c_23, main_v40, main_v41, main_c_24, main_v42, main_v43, main_v44, main_v45, main_c_25, main_v46, main_v47, main_c_26, main_v48, main_v49, main_c_27, main_v50, main_v51, main_v52, main_v53, main_c_28, main_v54, main_v55, main_c_29, main_v56, main_v57]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_v3 (V0 : Valuation τ sig (Elt F)) : val1_1 V0 (no_index (Proc.devRef .tc main_v3)) = shapeCast _ (shapeCast _ (extractStridedSlice S128x112x1x16 ![0, 0, 0, 0] (res_main_v0 V0) slices_S128x112x2x16_S128x112x1x16_0_0_0_0) shapeCasts_S128x112x1x16_S128x112x16) shapeCasts_S128x112x16_S128x1792 :=
  (val1_1_keep V0 main_v3 (by decide)).trans (val1_main_v3 V0)
theorem val1_1_main_v6 (V0 : Valuation τ sig (Elt F)) : val1_1 V0 (no_index (Proc.devRef .tc main_v6)) = shapeCast _ (shapeCast _ (extractStridedSlice S128x112x1x16 ![0, 0, 1, 0] (res_main_v0 V0) slices_S128x112x2x16_S128x112x1x16_0_0_1_0) shapeCasts_S128x112x1x16_S128x112x16) shapeCasts_S128x112x16_S128x1792 :=
  (val1_1_keep V0 main_v6 (by decide)).trans (val1_main_v6 V0)
theorem val1_1_main_v8 (V0 : Valuation τ sig (Elt F)) : val1_1 V0 (no_index (Proc.devRef .tc main_v8)) = res_main_v8 V0 :=
  (val1_1_keep V0 main_v8 (by decide)).trans (val1_main_v8 V0)
theorem val1_1_main_v13 (V0 : Valuation τ sig (Elt F)) : val1_1 V0 (no_index (Proc.devRef .tc main_v13)) = res_main_v13 V0 :=
  (val1_1_keep V0 main_v13 (by decide)).trans (val1_main_v13 V0)
set_option maxRecDepth 8192 in
set_option maxHeartbeats 2000000 in
theorem val1_1_main_v53 (V0 : Valuation τ sig (Elt F)) : val1_1 V0 (no_index (Proc.devRef .tc main_v53)) = mulf (select (cmpi .eq (andi (Host.shrsi (res_main_v11 V0) (broadcastInDim S64000x1792 ![] bcast_S_S64000x1792 (constantI S_ 32 3#32))) (broadcastInDim S64000x1792 ![] bcast_S_S64000x1792 (constantI S_ 32 1#32))) (broadcastInDim S64000x1792 ![] bcast_S_S64000x1792 (constantI S_ 32 1#32))) (select (res_main_v43 V0) (select (res_main_v33 V0) (select (res_main_v19 V0) (broadcastInDim S64000x1792 ![] bcast_S_S64000x1792 (constant S_ .bf16 0x42E2#16)) (broadcastInDim S64000x1792 ![] bcast_S_S64000x1792 (constant S_ .bf16 0x42B2#16))) (select (res_main_v19 V0) (broadcastInDim S64000x1792 ![] bcast_S_S64000x1792 (constant S_ .bf16 0x428A#16)) (broadcastInDim S64000x1792 ![] bcast_S_S64000x1792 (constant S_ .bf16 0x4254#16)))) (select (res_main_v33 V0) (select (res_main_v19 V0) (broadcastInDim S64000x1792 ![] bcast_S_S64000x1792 (constant S_ .bf16 0x4218#16)) (broadcastInDim S64000x1792 ![] bcast_S_S64000x1792 (constant S_ .bf16 0x41C8#16))) (select (res_main_v19 V0) (broadcastInDim S64000x1792 ![] bcast_S_S64000x1792 (constant S_ .bf16 0x4150#16)) (broadcastInDim S64000x1792 ![] bcast_S_S64000x1792 (constant S_ .bf16 0x3F80#16))))) (select (res_main_v43 V0) (select (res_main_v33 V0) (select (res_main_v19 V0) (broadcastInDim S64000x1792 ![] bcast_S_S64000x1792 (constant S_ .bf16 0xC120#16)) (broadcastInDim S64000x1792 ![] bcast_S_S64000x1792 (constant S_ .bf16 0xC1B0#16))) (select (res_main_v19 V0) (broadcastInDim S64000x1792 ![] bcast_S_S64000x1792 (constant S_ .bf16 0xC20C#16)) (broadcastInDim S64000x1792 ![] bcast_S_S64000x1792 (constant S_ .bf16 0xC244#16)))) (select (res_main_v33 V0) (select (res_main_v19 V0) (broadcastInDim S64000x1792 ![] bcast_S_S64000x1792 (constant S_ .bf16 0xC282#16)) (broadcastInDim S64000x1792 ![] bcast_S_S64000x1792 (constant S_ .bf16 0xC2A6#16))) (select (res_main_v19 V0) (broadcastInDim S64000x1792 ![] bcast_S_S64000x1792 (constant S_ .bf16 0xC2D0#16)) (broadcastInDim S64000x1792 ![] bcast_S_S64000x1792 (constant S_ .bf16 0xC2FE#16)))))) (res_main_v8 V0) := by
  unfold val1_1
  simp only [ops_part1_0, TRef.ternary, TRef.toBuf, TRef.ofBuf, cast_eq]
  after_results_simp
  simp only [val1_main_v8, val1_main_v34, val1_main_v35, val1_main_v11, val1_main_v24, val1_main_v25, val1_main_v33, val1_main_v26, val1_main_v27] <;> rfl
set_option maxRecDepth 8192 in
set_option maxHeartbeats 2000000 in
theorem val1_1_main_v57 (V0 : Valuation τ sig (Elt F)) : val1_1 V0 (no_index (Proc.devRef .tc main_v57)) = andi (Host.shrsi (res_main_v13 V0) (broadcastInDim S64000x1792 ![] bcast_S_S64000x1792 (constantI S_ 32 0#32))) (broadcastInDim S64000x1792 ![] bcast_S_S64000x1792 (constantI S_ 32 1#32)) := by
  unfold val1_1
  simp only [ops_part1_0, TRef.ternary, TRef.toBuf, TRef.ofBuf, cast_eq]
  after_results_simp
  simp only [val1_main_v13] <;> rfl

def val1_2 (V0 : Valuation τ sig (Elt F)) : Valuation τ sig (Elt F) := after ops_part1_1 (val1_1 V0)
abbrev ops_part1_1_W : List (Ref sig .tc) := [main_c_30, main_v58, main_v59, main_cst_31, main_cst_32, main_call15_v0, main_call15_v1, main_v60, main_cst_33, main_cst_34, main_call16_v0, main_call16_v1, main_v61, main_cst_35, main_cst_36, main_call17_v0, main_call17_v1, main_v62, main_cst_37, main_cst_38, main_call18_v0, main_call18_v1, main_v63, main_cst_39, main_cst_40, main_call19_v0, main_call19_v1, main_v64, main_cst_41, main_cst_42]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_v3 (V0 : Valuation τ sig (Elt F)) : val1_2 V0 (no_index (Proc.devRef .tc main_v3)) = shapeCast _ (shapeCast _ (extractStridedSlice S128x112x1x16 ![0, 0, 0, 0] (res_main_v0 V0) slices_S128x112x2x16_S128x112x1x16_0_0_0_0) shapeCasts_S128x112x1x16_S128x112x16) shapeCasts_S128x112x16_S128x1792 :=
  (val1_2_keep V0 main_v3 (by decide)).trans (val1_1_main_v3 V0)
theorem val1_2_main_v6 (V0 : Valuation τ sig (Elt F)) : val1_2 V0 (no_index (Proc.devRef .tc main_v6)) = shapeCast _ (shapeCast _ (extractStridedSlice S128x112x1x16 ![0, 0, 1, 0] (res_main_v0 V0) slices_S128x112x2x16_S128x112x1x16_0_0_1_0) shapeCasts_S128x112x1x16_S128x112x16) shapeCasts_S128x112x16_S128x1792 :=
  (val1_2_keep V0 main_v6 (by decide)).trans (val1_1_main_v6 V0)
theorem val1_2_main_v8 (V0 : Valuation τ sig (Elt F)) : val1_2 V0 (no_index (Proc.devRef .tc main_v8)) = res_main_v8 V0 :=
  (val1_2_keep V0 main_v8 (by decide)).trans (val1_1_main_v8 V0)
theorem val1_2_main_v13 (V0 : Valuation τ sig (Elt F)) : val1_2 V0 (no_index (Proc.devRef .tc main_v13)) = res_main_v13 V0 :=
  (val1_2_keep V0 main_v13 (by decide)).trans (val1_1_main_v13 V0)
theorem val1_2_main_v53 (V0 : Valuation τ sig (Elt F)) : val1_2 V0 (no_index (Proc.devRef .tc main_v53)) = mulf (select (cmpi .eq (andi (Host.shrsi (res_main_v11 V0) (broadcastInDim S64000x1792 ![] bcast_S_S64000x1792 (constantI S_ 32 3#32))) (broadcastInDim S64000x1792 ![] bcast_S_S64000x1792 (constantI S_ 32 1#32))) (broadcastInDim S64000x1792 ![] bcast_S_S64000x1792 (constantI S_ 32 1#32))) (select (res_main_v43 V0) (select (res_main_v33 V0) (select (res_main_v19 V0) (broadcastInDim S64000x1792 ![] bcast_S_S64000x1792 (constant S_ .bf16 0x42E2#16)) (broadcastInDim S64000x1792 ![] bcast_S_S64000x1792 (constant S_ .bf16 0x42B2#16))) (select (res_main_v19 V0) (broadcastInDim S64000x1792 ![] bcast_S_S64000x1792 (constant S_ .bf16 0x428A#16)) (broadcastInDim S64000x1792 ![] bcast_S_S64000x1792 (constant S_ .bf16 0x4254#16)))) (select (res_main_v33 V0) (select (res_main_v19 V0) (broadcastInDim S64000x1792 ![] bcast_S_S64000x1792 (constant S_ .bf16 0x4218#16)) (broadcastInDim S64000x1792 ![] bcast_S_S64000x1792 (constant S_ .bf16 0x41C8#16))) (select (res_main_v19 V0) (broadcastInDim S64000x1792 ![] bcast_S_S64000x1792 (constant S_ .bf16 0x4150#16)) (broadcastInDim S64000x1792 ![] bcast_S_S64000x1792 (constant S_ .bf16 0x3F80#16))))) (select (res_main_v43 V0) (select (res_main_v33 V0) (select (res_main_v19 V0) (broadcastInDim S64000x1792 ![] bcast_S_S64000x1792 (constant S_ .bf16 0xC120#16)) (broadcastInDim S64000x1792 ![] bcast_S_S64000x1792 (constant S_ .bf16 0xC1B0#16))) (select (res_main_v19 V0) (broadcastInDim S64000x1792 ![] bcast_S_S64000x1792 (constant S_ .bf16 0xC20C#16)) (broadcastInDim S64000x1792 ![] bcast_S_S64000x1792 (constant S_ .bf16 0xC244#16)))) (select (res_main_v33 V0) (select (res_main_v19 V0) (broadcastInDim S64000x1792 ![] bcast_S_S64000x1792 (constant S_ .bf16 0xC282#16)) (broadcastInDim S64000x1792 ![] bcast_S_S64000x1792 (constant S_ .bf16 0xC2A6#16))) (select (res_main_v19 V0) (broadcastInDim S64000x1792 ![] bcast_S_S64000x1792 (constant S_ .bf16 0xC2D0#16)) (broadcastInDim S64000x1792 ![] bcast_S_S64000x1792 (constant S_ .bf16 0xC2FE#16)))))) (res_main_v8 V0) :=
  (val1_2_keep V0 main_v53 (by decide)).trans (val1_1_main_v53 V0)
set_option maxRecDepth 8192 in
set_option maxHeartbeats 2000000 in
theorem val1_2_main_v59 (V0 : Valuation τ sig (Elt F)) : val1_2 V0 (no_index (Proc.devRef .tc main_v59)) = res_main_v59 V0 := by
  unfold val1_2
  simp only [ops_part1_1, TRef.ternary, TRef.unary, TRef.toBuf, TRef.ofBuf, cast_eq]
  after_results_simp
  simp only [val1_1_main_v57] <;> rfl
set_option maxRecDepth 8192 in
set_option maxHeartbeats 2000000 in
theorem val1_2_main_v60 (V0 : Valuation τ sig (Elt F)) : val1_2 V0 (no_index (Proc.devRef .tc main_v60)) = select (res_main_v59 V0) (broadcastInDim S64000x1792 ![] bcast_S_S64000x1792 (constant S_ .bf16 0xC2D0#16)) (broadcastInDim S64000x1792 ![] bcast_S_S64000x1792 (constant S_ .bf16 0xC2FE#16)) := by
  unfold val1_2
  simp only [ops_part1_1, TRef.ternary, TRef.unary, TRef.toBuf, TRef.ofBuf, cast_eq]
  after_results_simp
  simp only [val1_1_main_v57] <;> rfl
set_option maxRecDepth 8192 in
set_option maxHeartbeats 2000000 in
theorem val1_2_main_v61 (V0 : Valuation τ sig (Elt F)) : val1_2 V0 (no_index (Proc.devRef .tc main_v61)) = select (res_main_v59 V0) (broadcastInDim S64000x1792 ![] bcast_S_S64000x1792 (constant S_ .bf16 0xC282#16)) (broadcastInDim S64000x1792 ![] bcast_S_S64000x1792 (constant S_ .bf16 0xC2A6#16)) := by
  unfold val1_2
  simp only [ops_part1_1, TRef.ternary, TRef.unary, TRef.toBuf, TRef.ofBuf, cast_eq]
  after_results_simp
  simp only [val1_1_main_v57] <;> rfl
set_option maxRecDepth 8192 in
set_option maxHeartbeats 2000000 in
theorem val1_2_main_v62 (V0 : Valuation τ sig (Elt F)) : val1_2 V0 (no_index (Proc.devRef .tc main_v62)) = select (res_main_v59 V0) (broadcastInDim S64000x1792 ![] bcast_S_S64000x1792 (constant S_ .bf16 0xC20C#16)) (broadcastInDim S64000x1792 ![] bcast_S_S64000x1792 (constant S_ .bf16 0xC244#16)) := by
  unfold val1_2
  simp only [ops_part1_1, TRef.ternary, TRef.unary, TRef.toBuf, TRef.ofBuf, cast_eq]
  after_results_simp
  simp only [val1_1_main_v57] <;> rfl
set_option maxRecDepth 8192 in
set_option maxHeartbeats 2000000 in
theorem val1_2_main_v63 (V0 : Valuation τ sig (Elt F)) : val1_2 V0 (no_index (Proc.devRef .tc main_v63)) = select (res_main_v59 V0) (broadcastInDim S64000x1792 ![] bcast_S_S64000x1792 (constant S_ .bf16 0xC120#16)) (broadcastInDim S64000x1792 ![] bcast_S_S64000x1792 (constant S_ .bf16 0xC1B0#16)) := by
  unfold val1_2
  simp only [ops_part1_1, TRef.ternary, TRef.unary, TRef.toBuf, TRef.ofBuf, cast_eq]
  after_results_simp
  simp only [val1_1_main_v57] <;> rfl
set_option maxRecDepth 8192 in
set_option maxHeartbeats 2000000 in
theorem val1_2_main_v64 (V0 : Valuation τ sig (Elt F)) : val1_2 V0 (no_index (Proc.devRef .tc main_v64)) = select (res_main_v59 V0) (broadcastInDim S64000x1792 ![] bcast_S_S64000x1792 (constant S_ .bf16 0x4150#16)) (broadcastInDim S64000x1792 ![] bcast_S_S64000x1792 (constant S_ .bf16 0x3F80#16)) := by
  unfold val1_2
  simp only [ops_part1_1, TRef.ternary, TRef.unary, TRef.toBuf, TRef.ofBuf, cast_eq]
  after_results_simp
  simp only [val1_1_main_v57] <;> rfl
set_option maxRecDepth 8192 in
set_option maxHeartbeats 2000000 in
theorem val1_2_main_cst_41 (V0 : Valuation τ sig (Elt F)) : val1_2 V0 (no_index (Proc.devRef .tc main_cst_41)) = constant S_ .bf16 0x4218#16 := by
  unfold val1_2
  simp only [ops_part1_1, TRef.ternary, TRef.unary, TRef.toBuf, TRef.ofBuf, cast_eq]
  after_results_simp
  all_goals rfl
set_option maxRecDepth 8192 in
set_option maxHeartbeats 2000000 in
theorem val1_2_main_cst_42 (V0 : Valuation τ sig (Elt F)) : val1_2 V0 (no_index (Proc.devRef .tc main_cst_42)) = constant S_ .bf16 0x41C8#16 := by
  unfold val1_2
  simp only [ops_part1_1, TRef.ternary, TRef.unary, TRef.toBuf, TRef.ofBuf, cast_eq]
  after_results_simp
  all_goals rfl

def val2 (V0 : Valuation τ sig (Elt F)) : Valuation τ sig (Elt F) := after ops_part1_2 (val1_2 V0)
abbrev ops_part1_2_W : List (Ref sig .tc) := [main_call20_v0, main_call20_v1, main_v65, main_cst_43, main_cst_44, main_call21_v0, main_call21_v1, main_v66, main_cst_45, main_cst_46, main_call22_v0, main_call22_v1, main_v67, main_c_47, main_v68, main_v69]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_v3 (V0 : Valuation τ sig (Elt F)) : val2 V0 (no_index (Proc.devRef .tc main_v3)) = shapeCast _ (shapeCast _ (extractStridedSlice S128x112x1x16 ![0, 0, 0, 0] (res_main_v0 V0) slices_S128x112x2x16_S128x112x1x16_0_0_0_0) shapeCasts_S128x112x1x16_S128x112x16) shapeCasts_S128x112x16_S128x1792 :=
  (val2_keep V0 main_v3 (by decide)).trans (val1_2_main_v3 V0)
theorem val2_main_v6 (V0 : Valuation τ sig (Elt F)) : val2 V0 (no_index (Proc.devRef .tc main_v6)) = shapeCast _ (shapeCast _ (extractStridedSlice S128x112x1x16 ![0, 0, 1, 0] (res_main_v0 V0) slices_S128x112x2x16_S128x112x1x16_0_0_1_0) shapeCasts_S128x112x1x16_S128x112x16) shapeCasts_S128x112x16_S128x1792 :=
  (val2_keep V0 main_v6 (by decide)).trans (val1_2_main_v6 V0)
theorem val2_main_v8 (V0 : Valuation τ sig (Elt F)) : val2 V0 (no_index (Proc.devRef .tc main_v8)) = res_main_v8 V0 :=
  (val2_keep V0 main_v8 (by decide)).trans (val1_2_main_v8 V0)
theorem val2_main_v13 (V0 : Valuation τ sig (Elt F)) : val2 V0 (no_index (Proc.devRef .tc main_v13)) = res_main_v13 V0 :=
  (val2_keep V0 main_v13 (by decide)).trans (val1_2_main_v13 V0)
theorem val2_main_v53 (V0 : Valuation τ sig (Elt F)) : val2 V0 (no_index (Proc.devRef .tc main_v53)) = mulf (select (cmpi .eq (andi (Host.shrsi (res_main_v11 V0) (broadcastInDim S64000x1792 ![] bcast_S_S64000x1792 (constantI S_ 32 3#32))) (broadcastInDim S64000x1792 ![] bcast_S_S64000x1792 (constantI S_ 32 1#32))) (broadcastInDim S64000x1792 ![] bcast_S_S64000x1792 (constantI S_ 32 1#32))) (select (res_main_v43 V0) (select (res_main_v33 V0) (select (res_main_v19 V0) (broadcastInDim S64000x1792 ![] bcast_S_S64000x1792 (constant S_ .bf16 0x42E2#16)) (broadcastInDim S64000x1792 ![] bcast_S_S64000x1792 (constant S_ .bf16 0x42B2#16))) (select (res_main_v19 V0) (broadcastInDim S64000x1792 ![] bcast_S_S64000x1792 (constant S_ .bf16 0x428A#16)) (broadcastInDim S64000x1792 ![] bcast_S_S64000x1792 (constant S_ .bf16 0x4254#16)))) (select (res_main_v33 V0) (select (res_main_v19 V0) (broadcastInDim S64000x1792 ![] bcast_S_S64000x1792 (constant S_ .bf16 0x4218#16)) (broadcastInDim S64000x1792 ![] bcast_S_S64000x1792 (constant S_ .bf16 0x41C8#16))) (select (res_main_v19 V0) (broadcastInDim S64000x1792 ![] bcast_S_S64000x1792 (constant S_ .bf16 0x4150#16)) (broadcastInDim S64000x1792 ![] bcast_S_S64000x1792 (constant S_ .bf16 0x3F80#16))))) (select (res_main_v43 V0) (select (res_main_v33 V0) (select (res_main_v19 V0) (broadcastInDim S64000x1792 ![] bcast_S_S64000x1792 (constant S_ .bf16 0xC120#16)) (broadcastInDim S64000x1792 ![] bcast_S_S64000x1792 (constant S_ .bf16 0xC1B0#16))) (select (res_main_v19 V0) (broadcastInDim S64000x1792 ![] bcast_S_S64000x1792 (constant S_ .bf16 0xC20C#16)) (broadcastInDim S64000x1792 ![] bcast_S_S64000x1792 (constant S_ .bf16 0xC244#16)))) (select (res_main_v33 V0) (select (res_main_v19 V0) (broadcastInDim S64000x1792 ![] bcast_S_S64000x1792 (constant S_ .bf16 0xC282#16)) (broadcastInDim S64000x1792 ![] bcast_S_S64000x1792 (constant S_ .bf16 0xC2A6#16))) (select (res_main_v19 V0) (broadcastInDim S64000x1792 ![] bcast_S_S64000x1792 (constant S_ .bf16 0xC2D0#16)) (broadcastInDim S64000x1792 ![] bcast_S_S64000x1792 (constant S_ .bf16 0xC2FE#16)))))) (res_main_v8 V0) :=
  (val2_keep V0 main_v53 (by decide)).trans (val1_2_main_v53 V0)
theorem val2_main_v60 (V0 : Valuation τ sig (Elt F)) : val2 V0 (no_index (Proc.devRef .tc main_v60)) = select (res_main_v59 V0) (broadcastInDim S64000x1792 ![] bcast_S_S64000x1792 (constant S_ .bf16 0xC2D0#16)) (broadcastInDim S64000x1792 ![] bcast_S_S64000x1792 (constant S_ .bf16 0xC2FE#16)) :=
  (val2_keep V0 main_v60 (by decide)).trans (val1_2_main_v60 V0)
theorem val2_main_v61 (V0 : Valuation τ sig (Elt F)) : val2 V0 (no_index (Proc.devRef .tc main_v61)) = select (res_main_v59 V0) (broadcastInDim S64000x1792 ![] bcast_S_S64000x1792 (constant S_ .bf16 0xC282#16)) (broadcastInDim S64000x1792 ![] bcast_S_S64000x1792 (constant S_ .bf16 0xC2A6#16)) :=
  (val2_keep V0 main_v61 (by decide)).trans (val1_2_main_v61 V0)
theorem val2_main_v62 (V0 : Valuation τ sig (Elt F)) : val2 V0 (no_index (Proc.devRef .tc main_v62)) = select (res_main_v59 V0) (broadcastInDim S64000x1792 ![] bcast_S_S64000x1792 (constant S_ .bf16 0xC20C#16)) (broadcastInDim S64000x1792 ![] bcast_S_S64000x1792 (constant S_ .bf16 0xC244#16)) :=
  (val2_keep V0 main_v62 (by decide)).trans (val1_2_main_v62 V0)
theorem val2_main_v63 (V0 : Valuation τ sig (Elt F)) : val2 V0 (no_index (Proc.devRef .tc main_v63)) = select (res_main_v59 V0) (broadcastInDim S64000x1792 ![] bcast_S_S64000x1792 (constant S_ .bf16 0xC120#16)) (broadcastInDim S64000x1792 ![] bcast_S_S64000x1792 (constant S_ .bf16 0xC1B0#16)) :=
  (val2_keep V0 main_v63 (by decide)).trans (val1_2_main_v63 V0)
theorem val2_main_v64 (V0 : Valuation τ sig (Elt F)) : val2 V0 (no_index (Proc.devRef .tc main_v64)) = select (res_main_v59 V0) (broadcastInDim S64000x1792 ![] bcast_S_S64000x1792 (constant S_ .bf16 0x4150#16)) (broadcastInDim S64000x1792 ![] bcast_S_S64000x1792 (constant S_ .bf16 0x3F80#16)) :=
  (val2_keep V0 main_v64 (by decide)).trans (val1_2_main_v64 V0)
set_option maxRecDepth 8192 in
set_option maxHeartbeats 1600000 in
theorem val2_main_v65 (V0 : Valuation τ sig (Elt F)) : val2 V0 (no_index (Proc.devRef .tc main_v65)) = select (res_main_v59 V0) (broadcastInDim S64000x1792 ![] bcast_S_S64000x1792 (constant S_ .bf16 0x4218#16)) (broadcastInDim S64000x1792 ![] bcast_S_S64000x1792 (constant S_ .bf16 0x41C8#16)) := by
  unfold val2
  simp only [ops_part1_2, TRef.ternary, TRef.unary, TRef.toBuf, TRef.ofBuf, cast_eq]
  after_results_simp
  simp only [val1_2_main_cst_42, val1_2_main_cst_41, val1_2_main_v59] <;> rfl
set_option maxRecDepth 8192 in
set_option maxHeartbeats 1600000 in
theorem val2_main_v66 (V0 : Valuation τ sig (Elt F)) : val2 V0 (no_index (Proc.devRef .tc main_v66)) = select (res_main_v59 V0) (broadcastInDim S64000x1792 ![] bcast_S_S64000x1792 (constant S_ .bf16 0x428A#16)) (broadcastInDim S64000x1792 ![] bcast_S_S64000x1792 (constant S_ .bf16 0x4254#16)) := by
  unfold val2
  simp only [ops_part1_2, TRef.ternary, TRef.unary, TRef.toBuf, TRef.ofBuf, cast_eq]
  after_results_simp
  simp only [val1_2_main_v59] <;> rfl
set_option maxRecDepth 8192 in
set_option maxHeartbeats 1600000 in
theorem val2_main_v67 (V0 : Valuation τ sig (Elt F)) : val2 V0 (no_index (Proc.devRef .tc main_v67)) = select (res_main_v59 V0) (broadcastInDim S64000x1792 ![] bcast_S_S64000x1792 (constant S_ .bf16 0x42E2#16)) (broadcastInDim S64000x1792 ![] bcast_S_S64000x1792 (constant S_ .bf16 0x42B2#16)) := by
  unfold val2
  simp only [ops_part1_2, TRef.ternary, TRef.unary, TRef.toBuf, TRef.ofBuf, cast_eq]
  after_results_simp
  simp only [val1_2_main_v59] <;> rfl
set_option maxRecDepth 8192 in
set_option maxHeartbeats 1600000 in
theorem val2_main_v69 (V0 : Valuation τ sig (Elt F)) : val2 V0 (no_index (Proc.devRef .tc main_v69)) = Host.shrsi (res_main_v13 V0) (broadcastInDim S64000x1792 ![] bcast_S_S64000x1792 (constantI S_ 32 1#32)) := by
  unfold val2
  simp only [ops_part1_2, TRef.ternary, TRef.unary, TRef.toBuf, TRef.ofBuf, cast_eq]
  after_results_simp
  simp only [val1_2_main_v13] <;> rfl

end Cert.ReferenceIdeal.Value

end
-- ==== Proof.RefEnd.lean ====
/- The last window of the reference's run and the run itself. The window is cut behind the logits, so that the
   reductions over the vocabulary are read back over any logits. -/
module

public import proofs.«01_k».proof.Proof.RefRun

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The window up to the logits. -/
abbrev ops_p2a : List (HloOp τ sig (Elt F)) :=
  [ nullary main_c_48 (constantI S_ 32 1#32),
    unary main_c_48 main_v70 (broadcastInDim S64000x1792 ![] bcast_S_S64000x1792 : (⟨S_, .i32⟩ : BufTy).Contents (Elt F) → (⟨S64000x1792, .i32⟩ : BufTy).Contents (Elt F)),
    binary main_v69 main_v70 main_v71 (andi : (⟨S64000x1792, .i32⟩ : BufTy).Contents (Elt F) → (⟨S64000x1792, .i32⟩ : BufTy).Contents (Elt F) → (⟨S64000x1792, .i32⟩ : BufTy).Contents (Elt F)),
    nullary main_c_49 (constantI S_ 32 1#32),
    unary main_c_49 main_v72 (broadcastInDim S64000x1792 ![] bcast_S_S64000x1792 : (⟨S_, .i32⟩ : BufTy).Contents (Elt F) → (⟨S64000x1792, .i32⟩ : BufTy).Contents (Elt F)),
    binary main_v71 main_v72 main_v73 (cmpi .eq : (⟨S64000x1792, .i32⟩ : BufTy).Contents (Elt F) → (⟨S64000x1792, .i32⟩ : BufTy).Contents (Elt F) → (⟨S64000x1792, .i1⟩ : BufTy).Contents (Elt F)),
    TRef.ternary (TRef.of (T := ⟨S64000x1792, .i1⟩) main_v73) (TRef.of (T := ⟨S64000x1792, .bf16⟩) main_v61) (TRef.of (T := ⟨S64000x1792, .bf16⟩) main_v60) (TRef.of (T := ⟨S64000x1792, .bf16⟩) main_v74) select,
    TRef.ternary (TRef.of (T := ⟨S64000x1792, .i1⟩) main_v73) (TRef.of (T := ⟨S64000x1792, .bf16⟩) main_v63) (TRef.of (T := ⟨S64000x1792, .bf16⟩) main_v62) (TRef.of (T := ⟨S64000x1792, .bf16⟩) main_v75) select,
    TRef.ternary (TRef.of (T := ⟨S64000x1792, .i1⟩) main_v73) (TRef.of (T := ⟨S64000x1792, .bf16⟩) main_v65) (TRef.of (T := ⟨S64000x1792, .bf16⟩) main_v64) (TRef.of (T := ⟨S64000x1792, .bf16⟩) main_v76) select,
    TRef.ternary (TRef.of (T := ⟨S64000x1792, .i1⟩) main_v73) (TRef.of (T := ⟨S64000x1792, .bf16⟩) main_v67) (TRef.of (T := ⟨S64000x1792, .bf16⟩) main_v66) (TRef.of (T := ⟨S64000x1792, .bf16⟩) main_v77) select,
    nullary main_c_50 (constantI S_ 32 2#32),
    unary main_c_50 main_v78 (broadcastInDim S64000x1792 ![] bcast_S_S64000x1792 : (⟨S_, .i32⟩ : BufTy).Contents (Elt F) → (⟨S64000x1792, .i32⟩ : BufTy).Contents (Elt F)),
    binary main_v13 main_v78 main_v79 (Host.shrsi : (⟨S64000x1792, .i32⟩ : BufTy).Contents (Elt F) → (⟨S64000x1792, .i32⟩ : BufTy).Contents (Elt F) → (⟨S64000x1792, .i32⟩ : BufTy).Contents (Elt F)),
    nullary main_c_51 (constantI S_ 32 1#32),
    unary main_c_51 main_v80 (broadcastInDim S64000x1792 ![] bcast_S_S64000x1792 : (⟨S_, .i32⟩ : BufTy).Contents (Elt F) → (⟨S64000x1792, .i32⟩ : BufTy).Contents (Elt F)),
    binary main_v79 main_v80 main_v81 (andi : (⟨S64000x1792, .i32⟩ : BufTy).Contents (Elt F) → (⟨S64000x1792, .i32⟩ : BufTy).Contents (Elt F) → (⟨S64000x1792, .i32⟩ : BufTy).Contents (Elt F)),
    nullary main_c_52 (constantI S_ 32 1#32),
    unary main_c_52 main_v82 (broadcastInDim S64000x1792 ![] bcast_S_S64000x1792 : (⟨S_, .i32⟩ : BufTy).Contents (Elt F) → (⟨S64000x1792, .i32⟩ : BufTy).Contents (Elt F)),
    binary main_v81 main_v82 main_v83 (cmpi .eq : (⟨S64000x1792, .i32⟩ : BufTy).Contents (Elt F) → (⟨S64000x1792, .i32⟩ : BufTy).Contents (Elt F) → (⟨S64000x1792, .i1⟩ : BufTy).Contents (Elt F)),
    TRef.ternary (TRef.of (T := ⟨S64000x1792, .i1⟩) main_v83) (TRef.of (T := ⟨S64000x1792, .bf16⟩) main_v75) (TRef.of (T := ⟨S64000x1792, .bf16⟩) main_v74) (TRef.of (T := ⟨S64000x1792, .bf16⟩) main_v84) select,
    TRef.ternary (TRef.of (T := ⟨S64000x1792, .i1⟩) main_v83) (TRef.of (T := ⟨S64000x1792, .bf16⟩) main_v77) (TRef.of (T := ⟨S64000x1792, .bf16⟩) main_v76) (TRef.of (T := ⟨S64000x1792, .bf16⟩) main_v85) select,
    nullary main_c_53 (constantI S_ 32 3#32),
    unary main_c_53 main_v86 (broadcastInDim S64000x1792 ![] bcast_S_S64000x1792 : (⟨S_, .i32⟩ : BufTy).Contents (Elt F) → (⟨S64000x1792, .i32⟩ : BufTy).Contents (Elt F)),
    binary main_v13 main_v86 main_v87 (Host.shrsi : (⟨S64000x1792, .i32⟩ : BufTy).Contents (Elt F) → (⟨S64000x1792, .i32⟩ : BufTy).Contents (Elt F) → (⟨S64000x1792, .i32⟩ : BufTy).Contents (Elt F)),
    nullary main_c_54 (constantI S_ 32 1#32),
    unary main_c_54 main_v88 (broadcastInDim S64000x1792 ![] bcast_S_S64000x1792 : (⟨S_, .i32⟩ : BufTy).Contents (Elt F) → (⟨S64000x1792, .i32⟩ : BufTy).Contents (Elt F)),
    binary main_v87 main_v88 main_v89 (andi : (⟨S64000x1792, .i32⟩ : BufTy).Contents (Elt F) → (⟨S64000x1792, .i32⟩ : BufTy).Contents (Elt F) → (⟨S64000x1792, .i32⟩ : BufTy).Contents (Elt F)),
    nullary main_c_55 (constantI S_ 32 1#32),
    unary main_c_55 main_v90 (broadcastInDim S64000x1792 ![] bcast_S_S64000x1792 : (⟨S_, .i32⟩ : BufTy).Contents (Elt F) → (⟨S64000x1792, .i32⟩ : BufTy).Contents (Elt F)),
    binary main_v89 main_v90 main_v91 (cmpi .eq : (⟨S64000x1792, .i32⟩ : BufTy).Contents (Elt F) → (⟨S64000x1792, .i32⟩ : BufTy).Contents (Elt F) → (⟨S64000x1792, .i1⟩ : BufTy).Contents (Elt F)),
    TRef.ternary (TRef.of (T := ⟨S64000x1792, .i1⟩) main_v91) (TRef.of (T := ⟨S64000x1792, .bf16⟩) main_v85) (TRef.of (T := ⟨S64000x1792, .bf16⟩) main_v84) (TRef.of (T := ⟨S64000x1792, .bf16⟩) main_v92) select,
    binary main_v92 main_v8 main_v93 (mulf : (⟨S64000x1792, .bf16⟩ : BufTy).Contents (Elt F) → (⟨S64000x1792, .bf16⟩ : BufTy).Contents (Elt F) → (⟨S64000x1792, .bf16⟩ : BufTy).Contents (Elt F)),
    binary main_v3 main_v53 main_v94 ((fun l r => Host.dotGeneral dot_S128x1792_S64000x1792_S128x64000_1_1_0_0_n_n none l r) : (⟨S128x1792, .bf16⟩ : BufTy).Contents (Elt F) → (⟨S64000x1792, .bf16⟩ : BufTy).Contents (Elt F) → (⟨S128x64000, .f32⟩ : BufTy).Contents (Elt F)),
    binary main_v6 main_v93 main_v95 ((fun l r => Host.dotGeneral dot_S128x1792_S64000x1792_S128x64000_1_1_0_0_n_n none l r) : (⟨S128x1792, .bf16⟩ : BufTy).Contents (Elt F) → (⟨S64000x1792, .bf16⟩ : BufTy).Contents (Elt F) → (⟨S128x64000, .f32⟩ : BufTy).Contents (Elt F)),
    binary main_v94 main_v95 main_v96 (addf : (⟨S128x64000, .f32⟩ : BufTy).Contents (Elt F) → (⟨S128x64000, .f32⟩ : BufTy).Contents (Elt F) → (⟨S128x64000, .f32⟩ : BufTy).Contents (Elt F)) ]

/-- The window behind the logits, over any reductions. -/
abbrev ops_p2g (fr : (⟨S128x64000, .f32⟩ : BufTy).Contents (Elt F) → (⟨S_, .f32⟩ : BufTy).Contents (Elt F) → (⟨S128, .f32⟩ : BufTy).Contents (Elt F))
    (fa : (⟨S128x64000, .f32⟩ : BufTy).Contents (Elt F) → (⟨S128x64000, .i32⟩ : BufTy).Contents (Elt F) → (⟨S_, .f32⟩ : BufTy).Contents (Elt F) → (⟨S_, .i32⟩ : BufTy).Contents (Elt F) → (⟨S128, .f32⟩ : BufTy).Contents (Elt F))
    (fb : (⟨S128x64000, .f32⟩ : BufTy).Contents (Elt F) → (⟨S128x64000, .i32⟩ : BufTy).Contents (Elt F) → (⟨S_, .f32⟩ : BufTy).Contents (Elt F) → (⟨S_, .i32⟩ : BufTy).Contents (Elt F) → (⟨S128, .i32⟩ : BufTy).Contents (Elt F)) : List (HloOp τ sig (Elt F)) :=
  [ nullary main_v97 (iotaInDim S128x64000 32 1),
    nullary main_cst_56 (constant S_ .f32 0xFF800000#32),
    binary main_v96 main_cst_56 main_v98 fr,
    TRef.nullary (TRef.of (T := ⟨S128x64000, .i32⟩) main_call30_v0) (iotaInDim S128x64000 32 1),
    TRef.nullary (TRef.of (T := ⟨S_, .f32⟩) main_call30_cst) (constant S_ .f32 0xFF800000#32),
    TRef.nullary (TRef.of (T := ⟨S_, .i32⟩) main_call30_c) (constantI S_ 32 0#32),
    TRef.quaternary (TRef.of (T := ⟨S128x64000, .f32⟩) main_v96) (TRef.of (T := ⟨S128x64000, .i32⟩) main_call30_v0) (TRef.of (T := ⟨S_, .f32⟩) main_call30_cst) (TRef.of (T := ⟨S_, .i32⟩) main_call30_c) (TRef.of (T := ⟨S128, .f32⟩) main_call30_v1_0) fa,
    TRef.quaternary (TRef.of (T := ⟨S128x64000, .f32⟩) main_v96) (TRef.of (T := ⟨S128x64000, .i32⟩) main_call30_v0) (TRef.of (T := ⟨S_, .f32⟩) main_call30_cst) (TRef.of (T := ⟨S_, .i32⟩) main_call30_c) (TRef.of (T := ⟨S128, .i32⟩) main_v99) fb,
    unary main_v99 main_v100 (broadcastInDim S128x1 ![0] bcast_S128_S128x1_0 : (⟨S128, .i32⟩ : BufTy).Contents (Elt F) → (⟨S128x1, .i32⟩ : BufTy).Contents (Elt F)),
    unary main_v100 main_v101 (broadcastInDim S128x64000 ![0, 1] bcast_S128x1_S128x64000_0_1 : (⟨S128x1, .i32⟩ : BufTy).Contents (Elt F) → (⟨S128x64000, .i32⟩ : BufTy).Contents (Elt F)),
    binary main_v97 main_v101 main_v102 (cmpi .eq : (⟨S128x64000, .i32⟩ : BufTy).Contents (Elt F) → (⟨S128x64000, .i32⟩ : BufTy).Contents (Elt F) → (⟨S128x64000, .i1⟩ : BufTy).Contents (Elt F)),
    nullary main_cst_57 (constant S_ .f32 0xFF800000#32),
    TRef.unary (TRef.of (T := ⟨S_, .f32⟩) main_cst_57) (TRef.of (T := ⟨S_, .f32⟩) main_call31_v0) id,
    TRef.unary (TRef.of (T := ⟨S_, .f32⟩) main_call31_v0) (TRef.of (T := ⟨S128x64000, .f32⟩) main_call31_v1) (broadcastInDim S128x64000 ![] bcast_S_S128x64000),
    TRef.ternary (TRef.of (T := ⟨S128x64000, .i1⟩) main_v102) (TRef.of (T := ⟨S128x64000, .f32⟩) main_call31_v1) (TRef.of (T := ⟨S128x64000, .f32⟩) main_v96) (TRef.of (T := ⟨S128x64000, .f32⟩) main_v103) select,
    nullary main_cst_58 (constant S_ .f32 0xFF800000#32),
    binary main_v103 main_cst_58 main_v104 fr,
    binary main_v98 main_v104 main_v105 (subf : (⟨S128, .f32⟩ : BufTy).Contents (Elt F) → (⟨S128, .f32⟩ : BufTy).Contents (Elt F) → (⟨S128, .f32⟩ : BufTy).Contents (Elt F)),
    reshape main_v99 main_v106 (rfl : (.i32 : EltTy) = .i32) shapeCasts_S128_S1x128,
    reshape main_v105 main_v107 (rfl : (.f32 : EltTy) = .f32) shapeCasts_S128_S1x128,
    reshape main_v98 main_v108 (rfl : (.f32 : EltTy) = .f32) shapeCasts_S128_S1x128 ]

/-- The window behind the logits. -/
abbrev ops_p2b : List (HloOp τ sig (Elt F)) :=
  ops_p2g (fun x v => Host.reduce FloatOps.maximumf x v reducesTo_S128x64000_S128_d1 h_S_)
    (fun x y u v => fun j => (Host.argReduce reducer_argmax_f32_i32 x y u v reducesTo_S128x64000_S128_d1 h_S_ j).1)
    (fun x y u v => fun j => (Host.argReduce reducer_argmax_f32_i32 x y u v reducesTo_S128x64000_S128_d1 h_S_ j).2)

theorem ops_p2_eq : (ops_part2 : List (HloOp τ sig (Elt F))) = ops_p2a ++ ops_p2b := rfl

def val3 (V0 : Valuation τ sig (Elt F)) : Valuation τ sig (Elt F) := after ops_part2 (val2 V0)
abbrev ops_part2_W : List (Ref sig .tc) := [main_c_48, main_v70, main_v71, main_c_49, main_v72, main_v73, main_v74, main_v75, main_v76, main_v77, main_c_50, main_v78, main_v79, main_c_51, main_v80, main_v81, main_c_52, main_v82, main_v83, main_v84, main_v85, main_c_53, main_v86, main_v87, main_c_54, main_v88, main_v89, main_c_55, main_v90, main_v91, main_v92, main_v93, main_v94, main_v95, main_v96, main_v97, main_cst_56, main_v98, main_call30_v0, main_call30_cst, main_call30_c, main_call30_v1_0, main_v99, main_v100, main_v101, main_v102, main_cst_57, main_call31_v0, main_call31_v1, main_v103, main_cst_58, main_v104, main_v105, main_v106, main_v107, main_v108]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)

set_option maxRecDepth 8192 in
set_option maxHeartbeats 2000000 in
theorem val3a_main_v96 (V0 : Valuation τ sig (Elt F)) : after ops_p2a (val2 V0) (no_index (Proc.devRef .tc main_v96)) = res_main_v96 V0 := by
  simp only [ops_p2a, TRef.nullary, TRef.quaternary, TRef.ternary, TRef.unary, TRef.toBuf, TRef.ofBuf, cast_eq]
  after_results_simp
  simp only [val2_main_v8, val2_main_v60, val2_main_v61, val2_main_v69, val2_main_v62, val2_main_v63, val2_main_v13, val2_main_v64, val2_main_v65, val2_main_v66, val2_main_v67, val2_main_v6, val2_main_v53, val2_main_v3] <;> rfl

/-- The largest logit of each row. -/
def topOf (L : (⟨S128x64000, .f32⟩ : BufTy).Contents (Elt F)) : (⟨S128, .f32⟩ : BufTy).Contents (Elt F) :=
  Host.reduce FloatOps.maximumf L (constant S_ .f32 0xFF800000#32) reducesTo_S128x64000_S128_d1 h_S_
/-- The vocabulary index of each row's largest logit. -/
def tokOf (L : (⟨S128x64000, .f32⟩ : BufTy).Contents (Elt F)) : (⟨S128, .i32⟩ : BufTy).Contents (Elt F) :=
  fun j => (Host.argReduce reducer_argmax_f32_i32 L (iotaInDim S128x64000 32 1) (constant S_ .f32 0xFF800000#32) (constantI S_ 32 0#32) reducesTo_S128x64000_S128_d1 h_S_ j).2
/-- The largest logit of each row away from its `tokOf`. -/
def secOf (L : (⟨S128x64000, .f32⟩ : BufTy).Contents (Elt F)) : (⟨S128, .f32⟩ : BufTy).Contents (Elt F) :=
  Host.reduce FloatOps.maximumf (select (cmpi .eq (iotaInDim S128x64000 32 1) (broadcastInDim S128x64000 ![0, 1] bcast_S128x1_S128x64000_0_1 (broadcastInDim S128x1 ![0] bcast_S128_S128x1_0 (tokOf L)))) (broadcastInDim S128x64000 ![] bcast_S_S128x64000 (id (constant S_ .f32 0xFF800000#32))) L) (constant S_ .f32 0xFF800000#32) reducesTo_S128x64000_S128_d1 h_S_

set_option maxRecDepth 8192 in
set_option maxHeartbeats 2000000 in
theorem p2g_main_v106 (fr : (⟨S128x64000, .f32⟩ : BufTy).Contents (Elt F) → (⟨S_, .f32⟩ : BufTy).Contents (Elt F) → (⟨S128, .f32⟩ : BufTy).Contents (Elt F))
    (fa : (⟨S128x64000, .f32⟩ : BufTy).Contents (Elt F) → (⟨S128x64000, .i32⟩ : BufTy).Contents (Elt F) → (⟨S_, .f32⟩ : BufTy).Contents (Elt F) → (⟨S_, .i32⟩ : BufTy).Contents (Elt F) → (⟨S128, .f32⟩ : BufTy).Contents (Elt F))
    (fb : (⟨S128x64000, .f32⟩ : BufTy).Contents (Elt F) → (⟨S128x64000, .i32⟩ : BufTy).Contents (Elt F) → (⟨S_, .f32⟩ : BufTy).Contents (Elt F) → (⟨S_, .i32⟩ : BufTy).Contents (Elt F) → (⟨S128, .i32⟩ : BufTy).Contents (Elt F))
    (V : Valuation τ sig (Elt F)) (L : (⟨S128x64000, .f32⟩ : BufTy).Contents (Elt F)) (hL : V (no_index (Proc.devRef .tc main_v96)) = L) :
    after (ops_p2g fr fa fb) V (no_index (Proc.devRef .tc main_v106)) = shapeCast (α := Elt F .i32) S1x128 (fb L (iotaInDim S128x64000 32 1) (constant S_ .f32 0xFF800000#32) (constantI S_ 32 0#32)) shapeCasts_S128_S1x128 := by
  simp only [ops_p2g, TRef.nullary, TRef.quaternary, TRef.ternary, TRef.unary, TRef.toBuf, TRef.ofBuf, cast_eq]
  after_results_simp
  simp only [hL]
  rfl

theorem val3_main_v106 (V0 : Valuation τ sig (Elt F)) : val3 V0 (no_index (Proc.devRef .tc main_v106)) = shapeCast (α := Elt F .i32) S1x128 (tokOf (res_main_v96 V0)) shapeCasts_S128_S1x128 := by
  unfold val3
  rw [ops_p2_eq, after_append]
  exact p2g_main_v106 _ _ _ _ _ (val3a_main_v96 V0)

set_option maxRecDepth 8192 in
set_option maxHeartbeats 2000000 in
theorem p2g_main_v107 (fr : (⟨S128x64000, .f32⟩ : BufTy).Contents (Elt F) → (⟨S_, .f32⟩ : BufTy).Contents (Elt F) → (⟨S128, .f32⟩ : BufTy).Contents (Elt F))
    (fa : (⟨S128x64000, .f32⟩ : BufTy).Contents (Elt F) → (⟨S128x64000, .i32⟩ : BufTy).Contents (Elt F) → (⟨S_, .f32⟩ : BufTy).Contents (Elt F) → (⟨S_, .i32⟩ : BufTy).Contents (Elt F) → (⟨S128, .f32⟩ : BufTy).Contents (Elt F))
    (fb : (⟨S128x64000, .f32⟩ : BufTy).Contents (Elt F) → (⟨S128x64000, .i32⟩ : BufTy).Contents (Elt F) → (⟨S_, .f32⟩ : BufTy).Contents (Elt F) → (⟨S_, .i32⟩ : BufTy).Contents (Elt F) → (⟨S128, .i32⟩ : BufTy).Contents (Elt F))
    (V : Valuation τ sig (Elt F)) (L : (⟨S128x64000, .f32⟩ : BufTy).Contents (Elt F)) (hL : V (no_index (Proc.devRef .tc main_v96)) = L) :
    after (ops_p2g fr fa fb) V (no_index (Proc.devRef .tc main_v107)) = shapeCast (α := Elt F .f32) S1x128 (subf (fr L (constant S_ .f32 0xFF800000#32)) (fr (select (cmpi .eq (iotaInDim S128x64000 32 1) (broadcastInDim S128x64000 ![0, 1] bcast_S128x1_S128x64000_0_1 (broadcastInDim S128x1 ![0] bcast_S128_S128x1_0 (fb L (iotaInDim S128x64000 32 1) (constant S_ .f32 0xFF800000#32) (constantI S_ 32 0#32))))) (broadcastInDim S128x64000 ![] bcast_S_S128x64000 (id (constant S_ .f32 0xFF800000#32))) L) (constant S_ .f32 0xFF800000#32))) shapeCasts_S128_S1x128 := by
  simp only [ops_p2g, TRef.nullary, TRef.quaternary, TRef.ternary, TRef.unary, TRef.toBuf, TRef.ofBuf, cast_eq]
  after_results_simp
  simp only [hL]
  rfl

theorem val3_main_v107 (V0 : Valuation τ sig (Elt F)) : val3 V0 (no_index (Proc.devRef .tc main_v107)) = shapeCast (α := Elt F .f32) S1x128 (subf (topOf (res_main_v96 V0)) (secOf (res_main_v96 V0))) shapeCasts_S128_S1x128 := by
  unfold val3
  rw [ops_p2_eq, after_append]
  exact p2g_main_v107 _ _ _ _ _ (val3a_main_v96 V0)

set_option maxRecDepth 8192 in
set_option maxHeartbeats 2000000 in
theorem p2g_main_v108 (fr : (⟨S128x64000, .f32⟩ : BufTy).Contents (Elt F) → (⟨S_, .f32⟩ : BufTy).Contents (Elt F) → (⟨S128, .f32⟩ : BufTy).Contents (Elt F))
    (fa : (⟨S128x64000, .f32⟩ : BufTy).Contents (Elt F) → (⟨S128x64000, .i32⟩ : BufTy).Contents (Elt F) → (⟨S_, .f32⟩ : BufTy).Contents (Elt F) → (⟨S_, .i32⟩ : BufTy).Contents (Elt F) → (⟨S128, .f32⟩ : BufTy).Contents (Elt F))
    (fb : (⟨S128x64000, .f32⟩ : BufTy).Contents (Elt F) → (⟨S128x64000, .i32⟩ : BufTy).Contents (Elt F) → (⟨S_, .f32⟩ : BufTy).Contents (Elt F) → (⟨S_, .i32⟩ : BufTy).Contents (Elt F) → (⟨S128, .i32⟩ : BufTy).Contents (Elt F))
    (V : Valuation τ sig (Elt F)) (L : (⟨S128x64000, .f32⟩ : BufTy).Contents (Elt F)) (hL : V (no_index (Proc.devRef .tc main_v96)) = L) :
    after (ops_p2g fr fa fb) V (no_index (Proc.devRef .tc main_v108)) = shapeCast (α := Elt F .f32) S1x128 (fr L (constant S_ .f32 0xFF800000#32)) shapeCasts_S128_S1x128 := by
  simp only [ops_p2g, TRef.nullary, TRef.quaternary, TRef.ternary, TRef.unary, TRef.toBuf, TRef.ofBuf, cast_eq]
  after_results_simp
  simp only [hL]
  rfl

theorem val3_main_v108 (V0 : Valuation τ sig (Elt F)) : val3 V0 (no_index (Proc.devRef .tc main_v108)) = shapeCast (α := Elt F .f32) S1x128 (topOf (res_main_v96 V0)) shapeCasts_S128_S1x128 := by
  unfold val3
  rw [ops_p2_eq, after_append]
  exact p2g_main_v108 _ _ _ _ _ (val3a_main_v96 V0)

theorem after_ops (V0 : Valuation τ sig (Elt F)) : after ops V0 = val3 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106) = shapeCast (α := Elt F .i32) S1x128 (tokOf (res_main_v96 (launchContents m c))) shapeCasts_S128_S1x128
      ∧ r.2.mem ((c.tc : Thread nD τ).loc main_v107) = shapeCast (α := Elt F .f32) S1x128 (subf (topOf (res_main_v96 (launchContents m c))) (secOf (res_main_v96 (launchContents m c)))) shapeCasts_S128_S1x128
      ∧ r.2.mem ((c.tc : Thread nD τ).loc main_v108) = shapeCast (α := Elt F .f32) S1x128 (topOf (res_main_v96 (launchContents m c))) shapeCasts_S128_S1x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v106).trans ((congrFun (after_ops (launchContents m c)) (Proc.devRef .tc main_v106)).trans (val3_main_v106 (launchContents m c))),
      (h c main_v107).trans ((congrFun (after_ops (launchContents m c)) (Proc.devRef .tc main_v107)).trans (val3_main_v107 (launchContents m c))),
      (h c main_v108).trans ((congrFun (after_ops (launchContents m c)) (Proc.devRef .tc main_v108)).trans (val3_main_v108 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c)))⟩)
    (run_seq scopedRefs_eq scopedSems_eq defs main (fun _ => ops) main_eq (fun _ => ops_sub) m ρ fun _ => ops_fresh)

end Cert.ReferenceIdeal.Value

end
-- ==== Proof.Tile.lean ====
/- One dequantised tile read at an index: the table's entry at the nibble, times the scale. -/
module

public import proofs.«01_k».proof.Proof.Loops
public import Idealize.ShloMosaic.Lib.BitcastFour
public import Idealize.ShloMosaic.Lib.ValueLayout
public import Idealize.ShloMosaic.Lib.Pipeline.Value
public import Idealize.ShloMosaic.PureOps.Ideal.Laws

@[expose] public section

set_option maxRecDepth 16384

noncomputable section

namespace Cert.KernelIdeal.Hand

open Idealize.ShloMosaic Idealize.ShloMosaic.ValueIdx
open Cert.KernelIdeal Cert.KernelIdeal.Gen

variable {F : FTy → Type} [FloatOps F]

/-! ## Bytes of a word -/

/-- Thirty-two-bit words read at eight bits, at rank 2: byte `p` of a lane is byte `p % 4` of word `p / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (i : Nat) (hi : i < 8) (a : Fin r)
    (ha : a.val = p.val / 4) :
    (bitcast ⟨2, ![R, n]⟩ 8 x h (ix2 p l)).getLsbD i = (x (ix2 a l)).getLsbD (8 * (p.val % 4) + i) := by
  rw [bitcast_getLsbD x h _ i hi (by decide)]
  have hr : (⟨2, ![R, n]⟩ : Shape).row (ix2 p l) = p.val := rfl
  have eq : ((⟨2, ![R, n]⟩ : Shape).row (ix2 p l) * 8 + i) % 32 = 8 * (p.val % 4) + i := by rw [hr]; omega
  rw [eq]
  congr 2
  funext c
  match c with
  | ⟨0, _⟩ => exact Fin.ext ((h.srcIdx_row _ _ _ ⟨0, Nat.zero_lt_two⟩ rfl).trans (by rw [hr]; show _ = a.val; omega))
  | ⟨1, _⟩ => exact Fin.ext (h.srcIdx_other _ _ _ ⟨1, Nat.one_lt_two⟩ (by show ¬ 1 + 2 = 2; omega))

/-- The mask of the low nibbles of a word, bit by bit. -/
theorem mask_bit : ∀ q : Fin 32, (252645135#32).getLsbD q.val = decide (q.val % 8 < 4) := by decide

/-- A nibble of a byte: the low one or the high one. -/
def nib (h : Bool) (b : BitVec 8) : BitVec 8 := if h then b >>> 4 else b &&& 15#8

theorem nib_bit (h : Bool) (b : BitVec 8) (i : Nat) (hi : i < 8) :
    (nib h b).getLsbD i = (b.getLsbD (if h then i + 4 else i) && decide (i < 4)) := by
  unfold nib
  cases h
  · have : ∀ i : Fin 8, (15#8).getLsbD i.val = decide (i.val < 4) := by decide
    simp only [Bool.false_eq_true, if_false, BitVec.getLsbD_and]
    rw [show (15#8).getLsbD i = decide (i < 4) from this ⟨i, hi⟩]
  · simp only [if_true, BitVec.getLsbD_ushiftRight]
    rw [Nat.add_comm 4 i]
    by_cases h4 : i < 4
    · simp [h4]
    · simp [h4, BitVec.getLsbD_of_ge b (i + 4) (by omega)]

theorem nib_lt (h : Bool) (b : BitVec 8) : (nib h b).toNat < 16 := by
  unfold nib
  cases h
  · simp only [Bool.false_eq_true, if_false, BitVec.toNat_and]
    exact Nat.lt_of_le_of_lt Nat.and_le_right (by decide)
  · have := b.isLt
    simp only [if_true, BitVec.toNat_ushiftRight, Nat.shiftRight_eq_div_pow]
    omega

theorem nib_signExtend (h : Bool) (b : BitVec 8) : ((nib h b).signExtend 32).toNat = (nib h b).toNat := by
  have h1 := nib_lt h b
  have : (nib h b).msb = false := BitVec.msb_eq_false_iff_two_mul_lt.mpr (by omega)
  rw [BitVec.signExtend_eq_setWidth_of_msb_false this, BitVec.toNat_setWidth]
  omega

/-- The low nibbles of 32 rows of bytes, read as words, masked, read as bytes again. -/
def loW (x : IVec S32x128 8) : IVec S32x128 8 :=
  bitcast S32x128 8 (andi (bitcast S8x128 32 x bitcasts_S32x128_w8_S8x128_w32) (broadcast S8x128 252645135#32)) bitcasts_S8x128_w32_S32x128_w8
/-- The high nibbles, through a shift of the words. -/
def hiW (x : IVec S32x128 8) : IVec S32x128 8 :=
  bitcast S32x128 8 (andi (shrui (bitcast S8x128 32 x bitcasts_S32x128_w8_S8x128_w32) (broadcast S8x128 4#32)) (broadcast S8x128 252645135#32)) bitcasts_S8x128_w32_S32x128_w8

theorem loW_apply (x : IVec S32x128 8) (p : Fin 32) (l : Fin 128) : loW x (ix2 p l) = nib false (x (ix2 p l)) := by
  apply BitVec.eq_of_getLsbD_eq
  intro i hi
  have hp := p.isLt
  unfold loW
  rw [bitcast_32_8_getLsbD_ix2 _ _ p l i hi ⟨p.val / 4, by omega⟩ rfl, nib_bit _ _ i hi]
  show (BitVec.and _ _).getLsbD _ = _
  rw [show ∀ a b : BitVec 32, a.and b = a &&& b from fun _ _ => rfl, BitVec.getLsbD_and]
  rw [bitcast_8_32_getLsbD_ix2 x _ ⟨p.val / 4, by omega⟩ l (8 * (p.val % 4) + i) (by omega) p (by show p.val = 4 * (p.val / 4) + _; omega)]
  have e1 : (8 * (p.val % 4) + i) % 8 = i := by omega
  have hm := mask_bit ⟨8 * (p.val % 4) + i, by omega⟩
  simp only [e1] at hm ⊢
  rw [show (broadcast S8x128 252645135#32 : IVec S8x128 32) (ix2 ⟨p.val / 4, by omega⟩ l) = 252645135#32 from rfl, hm]
  simp

theorem hiW_apply (x : IVec S32x128 8) (p : Fin 32) (l : Fin 128) : hiW x (ix2 p l) = nib true (x (ix2 p l)) := by
  apply BitVec.eq_of_getLsbD_eq
  intro i hi
  have hp := p.isLt
  unfold hiW
  rw [bitcast_32_8_getLsbD_ix2 _ _ p l i hi ⟨p.val / 4, by omega⟩ rfl, nib_bit _ _ i hi]
  refine Eq.trans (b := (BitVec.and (IntOp.shrui .vector (bitcast S8x128 32 x bitcasts_S32x128_w8_S8x128_w32 (ix2 ⟨p.val / 4, by omega⟩ l))
    ((broadcast S8x128 4#32 : IVec S8x128 32) (ix2 ⟨p.val / 4, by omega⟩ l)))
    ((broadcast S8x128 252645135#32 : IVec S8x128 32) (ix2 ⟨p.val / 4, by omega⟩ l))).getLsbD (8 * (p.val % 4) + i)) rfl ?_
  rw [show ∀ a b : BitVec 32, a.and b = a &&& b from fun _ _ => rfl, BitVec.getLsbD_and]
  have hm := mask_bit ⟨8 * (p.val % 4) + i, by omega⟩
  have e1 : (8 * (p.val % 4) + i) % 8 = i := by omega
  simp only [e1] at hm
  rw [show (broadcast S8x128 252645135#32 : IVec S8x128 32) (ix2 ⟨p.val / 4, by omega⟩ l) = 252645135#32 from rfl,
    show (broadcast S8x128 4#32 : IVec S8x128 32) (ix2 ⟨p.val / 4, by omega⟩ l) = 4#32 from rfl, hm]
  by_cases h4 : i < 4
  · have hs : ∀ v : BitVec 32, (IntOp.shrui .vector v 4#32) = v >>> 4 := fun v => by simp [IntOp.shrui]
    rw [hs, BitVec.getLsbD_ushiftRight]
    rw [bitcast_8_32_getLsbD_ix2 x _ ⟨p.val / 4, by omega⟩ l (4 + (8 * (p.val % 4) + i)) (by omega) p (by show p.val = 4 * (p.val / 4) + _; omega)]
    have e2 : (4 + (8 * (p.val % 4) + i)) % 8 = i + 4 := by omega
    rw [e2]; simp
  · simp [h4]

/-! ## The pieces of a tile -/

/-- The table's entries at 32 rows of codes, as bf16 numbers. -/
def codeF (tb : IVec S32x128 32) (q : IVec S32x128 8) : FVec F S32x128 .bf16 :=
  sitofp .bf16 (dynamicGather 1 tb (shapeCast S32x128 (shapeCast S32x128x1 (extsi 32 q natLt_8_32) shapeCasts_S32x128_S32x128x1) shapeCasts_S32x128x1_S32x128))

/-- A row of scales over sixteen rows. -/
def scF (s : Vec F S1x128 .f32) : FVec F S16x128 .bf16 :=
  truncf .bf16 (broadcastTo S16x128 (shapeCast S1x128 s shapeCasts_S1x128_S1x128) broadcasts_S1x128_S16x128) bitsLt_bf16_f32

theorem slicesB (j : Fin 4) : S128x128.Slices ![32 * j.val, 0] S32x128 := by revert j; decide
theorem slicesH (r : Fin 2) : S32x128.Slices ![16 * r.val, 0] S16x128 := by revert r; decide

/-- Thirty-two of the tile's rows of bytes. -/
def subB (b : IVec S128x128 8) (j : Fin 4) : IVec S32x128 8 := extractStridedSlice S32x128 ![32 * j.val, 0] b (slicesB j)
/-- Sixteen of thirty-two rows. -/
def half (X : FVec F S32x128 .bf16) (r : Fin 2) : FVec F S16x128 .bf16 := extractStridedSlice S16x128 ![16 * r.val, 0] X (slicesH r)

/-- Piece `n` of the sixteen a tile is put together from: nibble `n % 2` of the tile's group `n / 2`. -/
def piece (tb : Vec F S32x128 .i32) (w : Vec F S128x128 .i8) (s : Fin 4 → Fin 2 → Vec F S1x128 .f32) (n : Fin 16) : FVec F S16x128 .bf16 :=
  mulf (half (codeF (k0_pay5 (F := F) tb) ((if n.val % 2 = 0 then loW else hiW) (subB (k0_pay17 (F := F) w) ⟨n.val / 4, by omega⟩))) ⟨n.val / 2 % 2, by omega⟩)
    (scF (s ⟨n.val / 4, by omega⟩ ⟨n.val / 2 % 2, by omega⟩))

theorem pieces_concat {α : Type} (f : Fin 16 → S16x128.Idx → α) :
    Shape.Concatenates ((List.ofFn fun n : Fin 16 => (⟨S16x128, f n⟩ : (s : Shape) × (s.Idx → α))).map (·.1)) S256x128 0 := by
  have h : (List.ofFn fun n : Fin 16 => (⟨S16x128, f n⟩ : (s : Shape) × (s.Idx → α))).map (·.1) = List.replicate 16 S16x128 := rfl
  rw [h]
  decide

theorem tileOf_eq (tb : Vec F S32x128 .i32) (w : Vec F S128x128 .i8) (s : Fin 4 → Fin 2 → Vec F S1x128 .f32) :
    tileOf tb w s = shapeCast S256x128 (concatenate S256x128 0 (List.ofFn fun n : Fin 16 => ⟨S16x128, piece tb w s n⟩) (pieces_concat _))
      shapeCasts_S256x128_S256x128 := by
  unfold tileOf k0_pay7 k0_pay48
  rfl

theorem codeF_apply (tb : Vec F S32x128 .i32) (q : IVec S32x128 8) (p : Fin 32) (l : Fin 128) :
    codeF (F := F) (k0_pay5 (F := F) tb) q (ix2 p l)
      = FloatOps.sitofp .bf16 (tb (ix2 p ⟨((q (ix2 p l)).signExtend 32).toNat % 128, Nat.mod_lt _ (by decide)⟩)) := by
  unfold codeF k0_pay5
  rw [shapeCast_shapeCast, shapeCast_self]
  show FloatOps.sitofp .bf16 (tb _) = _
  congr 2
  funext a
  match a with
  | ⟨0, _⟩ => rfl
  | ⟨1, _⟩ => rfl

theorem scF_apply (s : Vec Ideal S1x128 .f32) (p : Fin 16) (l : Fin 128) : scF s (ix2 p l) = (s (ix2 0 l) : EReal) := by
  unfold scF
  refine Eq.trans (b := broadcastTo S16x128 (shapeCast S1x128 s shapeCasts_S1x128_S1x128) broadcasts_S1x128_S16x128 (ix2 p l)) rfl ?_
  rw [shapeCast_self]
  exact broadcastTo_1b_ab_apply s _ p l

/-- The table's entry at a nibble, as a number. -/
def cell (tb : Vec Ideal S32x128 .i32) (p : Fin 32) (q : BitVec 8) : EReal :=
  (((tb (ix2 p ⟨q.toNat % 128, Nat.mod_lt _ (by decide)⟩)).toInt : ℝ) : EReal)

theorem piece_apply (tb : Vec Ideal S32x128 .i32) (w : Vec Ideal S128x128 .i8) (s : Fin 4 → Fin 2 → Vec Ideal S1x128 .f32) (n : Fin 16)
    (p : Fin 16) (l : Fin 128) (k : Fin 128) (hk : k.val = 16 * (n.val / 2) + p.val) (m : Fin 32) (hm : m.val = 16 * (n.val / 2 % 2) + p.val) :
    piece tb w s n (ix2 p l)
      = cell tb m (nib (decide (n.val % 2 = 1)) (w (ix2 l k))) * (s ⟨n.val / 4, by omega⟩ ⟨n.val / 2 % 2, by omega⟩ (ix2 0 l) : EReal) := by
  unfold piece
  show half _ _ (ix2 p l) * scF _ (ix2 p l) = _
  rw [scF_apply]
  congr 1
  unfold half
  rw [slice2_axis0_apply (16 * (n.val / 2 % 2)) _ _ p l m hm, codeF_apply]
  have hb : subB (k0_pay17 (F := Ideal) w) ⟨n.val / 4, by omega⟩ (ix2 m l) = w (ix2 l k) := by
    unfold subB k0_pay17
    rw [slice2_axis0_apply (32 * (n.val / 4)) _ _ m l k (by omega)]
    exact transpose_ix2_apply w _ k l
  have hq : (if n.val % 2 = 0 then loW else hiW) (subB (k0_pay17 (F := Ideal) w) ⟨n.val / 4, by omega⟩) (ix2 m l)
      = nib (decide (n.val % 2 = 1)) (w (ix2 l k)) := by
    by_cases h : n.val % 2 = 0
    · rw [if_pos h, loW_apply, hb, decide_eq_false (by omega)]
    · rw [if_neg h, hiW_apply, hb, decide_eq_true (by omega)]
  rw [hq]
  unfold cell
  simp only [nib_signExtend]
  rfl

/-- A tile at row `32 g + 16 h + p`, column `l`: the table's entry at nibble `h` of the tile's byte `(l, 16 g + p)`, times
    the scale of group `g`. -/
theorem tileOf_apply (tb : Vec Ideal S32x128 .i32) (w : Vec Ideal S128x128 .i8) (s : Fin 4 → Fin 2 → Vec Ideal S1x128 .f32)
    (r : Fin 256) (l : Fin 128) (k : Fin 128) (hk : k.val = 16 * (r.val / 32) + r.val % 16) (m : Fin 32)
    (hm : m.val = 16 * (r.val / 32 % 2) + r.val % 16) :
    tileOf tb w s (ix2 r l)
      = cell tb m (nib (decide (r.val / 16 % 2 = 1)) (w (ix2 l k))) * (s ⟨r.val / 64, by omega⟩ ⟨r.val / 32 % 2, by omega⟩ (ix2 0 l) : EReal) := by
  rw [tileOf_eq, shapeCast_self]
  rw [concatenate_ofFn_apply (t := S256x128) (s₁ := S16x128) 0 (piece tb w s) _ rfl 16 rfl (ix2 r l) ⟨r.val / 16, by omega⟩ rfl
    (ix2 ⟨r.val % 16, Nat.mod_lt _ (by decide)⟩ l) rfl (fun b hb => match b, hb with | ⟨0, _⟩, hb => absurd rfl hb | ⟨1, _⟩, _ => rfl)]
  rw [piece_apply tb w s _ _ l k (by show k.val = 16 * (r.val / 16 / 2) + r.val % 16; omega) m
    (by show m.val = 16 * (r.val / 16 / 2 % 2) + r.val % 16; omega)]
  have e : ∀ a b : ℕ, ∀ ha hb hc hd, a = r.val / 64 → b = r.val / 32 % 2 →
      s ⟨a, ha⟩ ⟨b, hb⟩ = s ⟨r.val / 64, hc⟩ ⟨r.val / 32 % 2, hd⟩ := by rintro a b _ _ _ _ rfl rfl; rfl
  rw [e (r.val / 16 / 4) (r.val / 16 / 2 % 2) _ _ _ _ (by omega) (by omega)]

end Cert.KernelIdeal.Hand

end
-- ==== Proof.Logits.lean ====
/- The kernel's logits over the exact numbers, read at an index: a sum over the channels of the activation times the table's
   entry times the scale. -/
module

public import proofs.«01_k».proof.Proof.Tile
public import Idealize.ShloMosaic.Lib.MatmulPlain

@[expose] public section

set_option maxRecDepth 16384

noncomputable section

namespace Cert.KernelIdeal.Hand

open Idealize.ShloMosaic Idealize.ShloMosaic.ValueIdx
open Cert.KernelIdeal Cert.KernelIdeal.Gen

theorem wTile_apply (W : Vec Ideal S2560x1792 .i8) (k1 : Fin k0_t1_loop.trips) (k2 : Fin k0_t2_loop.trips) (k3 : Fin k0_t3_loop.trips)
    (l k : Fin 128) (a : Fin 2560) (b : Fin 1792) (ha : a.val = 512 * k1.val + 128 * k3.val + l.val) (hb : b.val = 128 * k2.val + k.val) :
    wTile W k1 k2 k3 (ix2 l k) = W (ix2 a b) := by
  refine congrArg W (funext fun i => ?_)
  match i with
  | ⟨0, _⟩ => refine Fin.ext ?_; show k0_off3 k1 k2 k3 0 + 1 * l.val = a.val; rw [k0_off3_eq]; show 512 * k1.val + 128 * k3.val + 1 * l.val = a.val; omega
  | ⟨1, _⟩ => refine Fin.ext ?_; show k0_off3 k1 k2 k3 1 + 1 * k.val = b.val; rw [k0_off3_eq]; show 128 * k2.val + 1 * k.val = b.val; omega

theorem scale_apply (S : Vec Ideal S112x2560 .bf16) (k1 : Fin k0_t1_loop.trips) (k2 : Fin k0_t2_loop.trips) (k3 : Fin k0_t3_loop.trips)
    (r₁ : Fin 4) (r₂ : Fin 2) (l : Fin 128) (g : Fin 112) (a : Fin 2560) (hg : g.val = 8 * k2.val + 2 * r₁.val + r₂.val)
    (ha : a.val = 512 * k1.val + 128 * k3.val + l.val) :
    scRow (k0_pay6 (VecWindow.window S (k0_off1 k1) S112x512.size (k0_off1_inb k1))) k2 k3 r₁ r₂ (ix2 0 l) = S (ix2 g a) := by
  have hk3 := t3_lt k3
  have hl := l.isLt
  have h1 : ∀ X : Vec Ideal S1x112x512 .f32, scRow X k2 k3 r₁ r₂ (ix2 0 l)
      = shapeCast S112x512 X squeezes_S1x112x512_S112x512.numel_eq (ix2 g ⟨128 * k3.val + l.val, by omega⟩) := fun X => by
    refine congrArg (shapeCast S112x512 X squeezes_S1x112x512_S112x512.numel_eq) (funext fun i => ?_)
    match i with
    | ⟨0, _⟩ =>
      refine Fin.ext ?_
      show k0_off5 k2 k3 (BitVec.ofNat 32 (2 * r₁.val)) (BitVec.ofNat 32 r₂.val) 0 + 1 * 0 = g.val
      rw [k0_off5_eq]; show 8 * k2.val + 2 * r₁.val + r₂.val + 1 * 0 = g.val; omega
    | ⟨1, _⟩ =>
      refine Fin.ext ?_
      show k0_off5 k2 k3 (BitVec.ofNat 32 (2 * r₁.val)) (BitVec.ofNat 32 r₂.val) 1 + 1 * l.val = 128 * k3.val + l.val
      rw [k0_off5_eq]; show 128 * k3.val + 1 * l.val = _; omega
  rw [h1]
  unfold k0_pay6
  rw [shapeCast_shapeCast, shapeCast_self]
  refine congrArg S (funext fun i => ?_)
  match i with
  | ⟨0, _⟩ => refine Fin.ext ?_; show k0_off1 k1 0 + 1 * g.val = g.val; rw [k0_off1_eq]; show 0 + 1 * g.val = g.val; omega
  | ⟨1, _⟩ => refine Fin.ext ?_; show k0_off1 k1 1 + 1 * (128 * k3.val + l.val) = a.val; rw [k0_off1_eq]; show 512 * k1.val + 1 * (128 * k3.val + l.val) = a.val; omega

/-- One entry of the dequantised matrix. -/
theorem rhs_apply (tb : Vec Ideal S32x128 .i32) (W : Vec Ideal S2560x1792 .i8) (S : Vec Ideal S112x2560 .bf16) (k1 : Fin k0_t1_loop.trips)
    (K : Fin 3584) (c : Fin 512) (a : Fin 2560) (ha : a.val = 512 * k1.val + c.val) (b : Fin 1792) (hb : b.val = 16 * (K.val / 32) + K.val % 16)
    (g : Fin 112) (hg : g.val = K.val / 32) (m : Fin 32) (hm : m.val = 16 * (K.val / 32 % 2) + K.val % 16) :
    rhsOf (tileAt tb W (k0_pay6 (VecWindow.window S (k0_off1 k1) S112x512.size (k0_off1_inb k1))) k1) (ix2 K c)
      = cell tb m (nib (decide (K.val / 16 % 2 = 1)) (W (ix2 a b))) * (S (ix2 g a) : EReal) := by
  have hK := K.isLt
  have hc := c.isLt
  obtain ⟨k2, hk2⟩ : ∃ k2 : Fin k0_t2_loop.trips, k2.val = K.val / 256 := ⟨⟨K.val / 256, by rw [t2_trips]; omega⟩, rfl⟩
  obtain ⟨k3, hk3⟩ : ∃ k3 : Fin k0_t3_loop.trips, k3.val = c.val / 128 := ⟨⟨c.val / 128, by rw [t3_trips]; omega⟩, rfl⟩
  have e2 : (⟨K.val / 256, by rw [t2_trips]; omega⟩ : Fin k0_t2_loop.trips) = k2 := Fin.ext hk2.symm
  have e3 : (⟨c.val / 128, by rw [t3_trips]; omega⟩ : Fin k0_t3_loop.trips) = k3 := Fin.ext hk3.symm
  show tileAt tb W _ k1 ⟨K.val / 256, by rw [t2_trips]; omega⟩ ⟨c.val / 128, by rw [t3_trips]; omega⟩
    (ix2 (⟨K.val % 256, Nat.mod_lt _ (by omega)⟩ : Fin 256) (⟨c.val % 128, Nat.mod_lt _ (by omega)⟩ : Fin 128)) = _
  rw [e2, e3]
  unfold tileAt
  rw [tileOf_apply tb _ _ ⟨K.val % 256, Nat.mod_lt _ (by omega)⟩ ⟨c.val % 128, Nat.mod_lt _ (by omega)⟩
    ⟨16 * (K.val % 256 / 32) + K.val % 256 % 16, by omega⟩ rfl m (by show m.val = 16 * (K.val % 256 / 32 % 2) + K.val % 256 % 16; omega)]
  rw [wTile_apply W k1 k2 k3 _ _ a b (by show a.val = 512 * k1.val + 128 * k3.val + c.val % 128; omega)
    (by show b.val = 128 * k2.val + (16 * (K.val % 256 / 32) + K.val % 256 % 16); omega)]
  rw [scale_apply S k1 k2 k3 _ _ _ g a (by show g.val = 8 * k2.val + 2 * (K.val % 256 / 64) + K.val % 256 / 32 % 2; omega)
    (by show a.val = 512 * k1.val + 128 * k3.val + c.val % 128; omega)]
  have e4 : K.val % 256 / 16 % 2 = K.val / 16 % 2 := by omega
  show cell tb m (nib (decide (K.val % 256 / 16 % 2 = 1)) _) * _ = _
  rw [e4]

/-- One logit: the table's entries and the scales are given by the channel. -/
theorem logitsOf_apply (tb : Vec Ideal S32x128 .i32) (xw : Vec Ideal S128x3584 .bf16) (W : Vec Ideal S2560x1792 .i8) (S : Vec Ideal S112x2560 .bf16)
    (k1 : Fin k0_t1_loop.trips) (n : Fin 128) (c : Fin 512) (a : Fin 2560) (ha : a.val = 512 * k1.val + c.val) :
    logitsOf tb xw W S k1 (ix2 n c) = ∑ K : Fin 3584, (xw (ix2 n K) : EReal)
      * (cell tb ⟨16 * (K.val / 32 % 2) + K.val % 16, by omega⟩ (nib (decide (K.val / 16 % 2 = 1)) (W (ix2 a ⟨16 * (K.val / 32) + K.val % 16, by omega⟩)))
        * (S (ix2 ⟨K.val / 32, by omega⟩ a) : EReal)) := by
  unfold logitsOf k0_pay8
  rw [shapeCast_self]
  refine (Ideal.matmul_plain_apply none xw _ _ n c).trans ?_
  have hz : (constant (F := Ideal) S128x512 .f32 0x00000000#32 (ix2 n c) : EReal) = 0 := Ideal.ofBits_zero_f32
  refine Eq.trans (congrArg (· + _) hz) ?_
  rw [zero_add]
  exact Finset.sum_congr rfl fun K _ => congrArg (fun z : EReal => (xw (ix2 n K) : EReal) * z)
    (rhs_apply tb W S k1 K c a ha _ rfl _ rfl _ rfl)

end Cert.KernelIdeal.Hand
-- ==== Proof.RefRead.lean ====
/- The reference program one operation at a time: the value each operation writes as a function of the
   arguments it depends on, read at an index from its operands at an index. The text follows the read module the
   kit writes for a reference; the reductions over the vocabulary are read in a later module. -/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S128x1x3584, .bf16⟩ : BufTy).Contents (Elt F)) : (⟨S128x112x2x16, .bf16⟩ : BufTy).Contents (Elt F) :=
  shapeCast _ (x0) shapeCasts_S128x1x3584_S128x112x2x16
abbrev idx_main_v0 (i : S128x112x2x16.Idx) : S128x1x3584.Idx := fun a => match a with
  | ⟨0, _⟩ => ⟨((((i 0).val * 112 + (i 1).val) * 2 + (i 2).val) * 16 + (i 3).val) / 3584, by have h0 : (i 0).val < 128 := (i 0).isLt; have h1 : (i 1).val < 112 := (i 1).isLt; have h2 : (i 2).val < 2 := (i 2).isLt; have h3 : (i 3).val < 16 := (i 3).isLt; show ((((i 0).val * 112 + (i 1).val) * 2 + (i 2).val) * 16 + (i 3).val) / 3584 < 128; omega⟩
  | ⟨1, _⟩ => ⟨0, Nat.one_pos⟩
  | ⟨2, _⟩ => ⟨((((i 0).val * 112 + (i 1).val) * 2 + (i 2).val) * 16 + (i 3).val) % 3584, by have h0 : (i 0).val < 128 := (i 0).isLt; have h1 : (i 1).val < 112 := (i 1).isLt; have h2 : (i 2).val < 2 := (i 2).isLt; have h3 : (i 3).val < 16 := (i 3).isLt; show ((((i 0).val * 112 + (i 1).val) * 2 + (i 2).val) * 16 + (i 3).val) % 3584 < 3584; omega⟩
theorem val_main_v0_apply (x0 : (⟨S128x1x3584, .bf16⟩ : BufTy).Contents (Elt F)) (i : S128x112x2x16.Idx) :
    val_main_v0 (F := F) x0 i = x0 (idx_main_v0 i) := by
  unfold val_main_v0
  exact shapeCast_apply x0 shapeCasts_S128x1x3584_S128x112x2x16 i (idx_main_v0 i)
    (by rewrite [Shape.rowMajor_val_three, Shape.rowMajor_val_four]; have h0 : (i 0).val < 128 := (i 0).isLt; have h1 : (i 1).val < 112 := (i 1).isLt; have h2 : (i 2).val < 2 := (i 2).isLt; have h3 : (i 3).val < 16 := (i 3).isLt; show (((((i 0).val * 112 + (i 1).val) * 2 + (i 2).val) * 16 + (i 3).val) / 3584 * 1 + 0) * 3584 + ((((i 0).val * 112 + (i 1).val) * 2 + (i 2).val) * 16 + (i 3).val) % 3584 = (((i 0).val * 112 + (i 1).val) * 2 + (i 2).val) * 16 + (i 3).val; omega)

def val_main_v1 (x0 : (⟨S128x1x3584, .bf16⟩ : BufTy).Contents (Elt F)) : (⟨S128x112x1x16, .bf16⟩ : BufTy).Contents (Elt F) :=
  extractStridedSlice S128x112x1x16 ![0, 0, 0, 0] (val_main_v0 (F := F) x0) slices_S128x112x2x16_S128x112x1x16_0_0_0_0
abbrev idx_main_v1 (i : S128x112x1x16.Idx) : S128x112x2x16.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v1_apply (x0 : (⟨S128x1x3584, .bf16⟩ : BufTy).Contents (Elt F)) (i : S128x112x1x16.Idx) :
    val_main_v1 (F := F) x0 i = val_main_v0 (F := F) x0 (idx_main_v1 i) := by
  unfold val_main_v1
  generalize val_main_v0 (F := F) x0 = y
  exact extractStridedSlice_apply ![0, 0, 0, 0] y slices_S128x112x2x16_S128x112x1x16_0_0_0_0 i (idx_main_v1 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v2 (x0 : (⟨S128x1x3584, .bf16⟩ : BufTy).Contents (Elt F)) : (⟨S128x112x16, .bf16⟩ : BufTy).Contents (Elt F) :=
  shapeCast _ (val_main_v1 (F := F) x0) shapeCasts_S128x112x1x16_S128x112x16
abbrev idx_main_v2 (i : S128x112x16.Idx) : S128x112x1x16.Idx := fun a => match a with
  | ⟨0, _⟩ => ⟨(((i 0).val * 112 + (i 1).val) * 16 + (i 2).val) / 1792, by have h0 : (i 0).val < 128 := (i 0).isLt; have h1 : (i 1).val < 112 := (i 1).isLt; have h2 : (i 2).val < 16 := (i 2).isLt; show (((i 0).val * 112 + (i 1).val) * 16 + (i 2).val) / 1792 < 128; omega⟩
  | ⟨1, _⟩ => ⟨(((i 0).val * 112 + (i 1).val) * 16 + (i 2).val) / 16 % 112, by have h0 : (i 0).val < 128 := (i 0).isLt; have h1 : (i 1).val < 112 := (i 1).isLt; have h2 : (i 2).val < 16 := (i 2).isLt; show (((i 0).val * 112 + (i 1).val) * 16 + (i 2).val) / 16 % 112 < 112; omega⟩
  | ⟨2, _⟩ => ⟨0, Nat.one_pos⟩
  | ⟨3, _⟩ => ⟨(((i 0).val * 112 + (i 1).val) * 16 + (i 2).val) % 16, by have h0 : (i 0).val < 128 := (i 0).isLt; have h1 : (i 1).val < 112 := (i 1).isLt; have h2 : (i 2).val < 16 := (i 2).isLt; show (((i 0).val * 112 + (i 1).val) * 16 + (i 2).val) % 16 < 16; omega⟩
theorem val_main_v2_apply (x0 : (⟨S128x1x3584, .bf16⟩ : BufTy).Contents (Elt F)) (i : S128x112x16.Idx) :
    val_main_v2 (F := F) x0 i = val_main_v1 (F := F) x0 (idx_main_v2 i) := by
  unfold val_main_v2
  generalize val_main_v1 (F := F) x0 = y
  exact shapeCast_apply y shapeCasts_S128x112x1x16_S128x112x16 i (idx_main_v2 i)
    (by rewrite [Shape.rowMajor_val_four, Shape.rowMajor_val_three]; have h0 : (i 0).val < 128 := (i 0).isLt; have h1 : (i 1).val < 112 := (i 1).isLt; have h2 : (i 2).val < 16 := (i 2).isLt; show (((((i 0).val * 112 + (i 1).val) * 16 + (i 2).val) / 1792 * 112 + (((i 0).val * 112 + (i 1).val) * 16 + (i 2).val) / 16 % 112) * 1 + 0) * 16 + (((i 0).val * 112 + (i 1).val) * 16 + (i 2).val) % 16 = ((i 0).val * 112 + (i 1).val) * 16 + (i 2).val; omega)

def val_main_v3 (x0 : (⟨S128x1x3584, .bf16⟩ : BufTy).Contents (Elt F)) : (⟨S128x1792, .bf16⟩ : BufTy).Contents (Elt F) :=
  shapeCast _ (val_main_v2 (F := F) x0) shapeCasts_S128x112x16_S128x1792
abbrev idx_main_v3 (i : S128x1792.Idx) : S128x112x16.Idx := fun a => match a with
  | ⟨0, _⟩ => ⟨((i 0).val * 1792 + (i 1).val) / 1792, by have h0 : (i 0).val < 128 := (i 0).isLt; have h1 : (i 1).val < 1792 := (i 1).isLt; show ((i 0).val * 1792 + (i 1).val) / 1792 < 128; omega⟩
  | ⟨1, _⟩ => ⟨((i 0).val * 1792 + (i 1).val) / 16 % 112, by have h0 : (i 0).val < 128 := (i 0).isLt; have h1 : (i 1).val < 1792 := (i 1).isLt; show ((i 0).val * 1792 + (i 1).val) / 16 % 112 < 112; omega⟩
  | ⟨2, _⟩ => ⟨((i 0).val * 1792 + (i 1).val) % 16, by have h0 : (i 0).val < 128 := (i 0).isLt; have h1 : (i 1).val < 1792 := (i 1).isLt; show ((i 0).val * 1792 + (i 1).val) % 16 < 16; omega⟩
theorem val_main_v3_apply (x0 : (⟨S128x1x3584, .bf16⟩ : BufTy).Contents (Elt F)) (i : S128x1792.Idx) :
    val_main_v3 (F := F) x0 i = val_main_v2 (F := F) x0 (idx_main_v3 i) := by
  unfold val_main_v3
  generalize val_main_v2 (F := F) x0 = y
  exact shapeCast_apply y shapeCasts_S128x112x16_S128x1792 i (idx_main_v3 i)
    (by rewrite [Shape.rowMajor_val_three, Shape.rowMajor_val_two]; have h0 : (i 0).val < 128 := (i 0).isLt; have h1 : (i 1).val < 1792 := (i 1).isLt; show (((i 0).val * 1792 + (i 1).val) / 1792 * 112 + ((i 0).val * 1792 + (i 1).val) / 16 % 112) * 16 + ((i 0).val * 1792 + (i 1).val) % 16 = (i 0).val * 1792 + (i 1).val; omega)

def val_main_v4 (x0 : (⟨S128x1x3584, .bf16⟩ : BufTy).Contents (Elt F)) : (⟨S128x112x1x16, .bf16⟩ : BufTy).Contents (Elt F) :=
  extractStridedSlice S128x112x1x16 ![0, 0, 1, 0] (val_main_v0 (F := F) x0) slices_S128x112x2x16_S128x112x1x16_0_0_1_0
abbrev idx_main_v4 (i : S128x112x1x16.Idx) : S128x112x2x16.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v4_apply (x0 : (⟨S128x1x3584, .bf16⟩ : BufTy).Contents (Elt F)) (i : S128x112x1x16.Idx) :
    val_main_v4 (F := F) x0 i = val_main_v0 (F := F) x0 (idx_main_v4 i) := by
  unfold val_main_v4
  generalize val_main_v0 (F := F) x0 = y
  exact extractStridedSlice_apply ![0, 0, 1, 0] y slices_S128x112x2x16_S128x112x1x16_0_0_1_0 i (idx_main_v4 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v5 (x0 : (⟨S128x1x3584, .bf16⟩ : BufTy).Contents (Elt F)) : (⟨S128x112x16, .bf16⟩ : BufTy).Contents (Elt F) :=
  shapeCast _ (val_main_v4 (F := F) x0) shapeCasts_S128x112x1x16_S128x112x16
abbrev idx_main_v5 (i : S128x112x16.Idx) : S128x112x1x16.Idx := fun a => match a with
  | ⟨0, _⟩ => ⟨(((i 0).val * 112 + (i 1).val) * 16 + (i 2).val) / 1792, by have h0 : (i 0).val < 128 := (i 0).isLt; have h1 : (i 1).val < 112 := (i 1).isLt; have h2 : (i 2).val < 16 := (i 2).isLt; show (((i 0).val * 112 + (i 1).val) * 16 + (i 2).val) / 1792 < 128; omega⟩
  | ⟨1, _⟩ => ⟨(((i 0).val * 112 + (i 1).val) * 16 + (i 2).val) / 16 % 112, by have h0 : (i 0).val < 128 := (i 0).isLt; have h1 : (i 1).val < 112 := (i 1).isLt; have h2 : (i 2).val < 16 := (i 2).isLt; show (((i 0).val * 112 + (i 1).val) * 16 + (i 2).val) / 16 % 112 < 112; omega⟩
  | ⟨2, _⟩ => ⟨0, Nat.one_pos⟩
  | ⟨3, _⟩ => ⟨(((i 0).val * 112 + (i 1).val) * 16 + (i 2).val) % 16, by have h0 : (i 0).val < 128 := (i 0).isLt; have h1 : (i 1).val < 112 := (i 1).isLt; have h2 : (i 2).val < 16 := (i 2).isLt; show (((i 0).val * 112 + (i 1).val) * 16 + (i 2).val) % 16 < 16; omega⟩
theorem val_main_v5_apply (x0 : (⟨S128x1x3584, .bf16⟩ : BufTy).Contents (Elt F)) (i : S128x112x16.Idx) :
    val_main_v5 (F := F) x0 i = val_main_v4 (F := F) x0 (idx_main_v5 i) := by
  unfold val_main_v5
  generalize val_main_v4 (F := F) x0 = y
  exact shapeCast_apply y shapeCasts_S128x112x1x16_S128x112x16 i (idx_main_v5 i)
    (by rewrite [Shape.rowMajor_val_four, Shape.rowMajor_val_three]; have h0 : (i 0).val < 128 := (i 0).isLt; have h1 : (i 1).val < 112 := (i 1).isLt; have h2 : (i 2).val < 16 := (i 2).isLt; show (((((i 0).val * 112 + (i 1).val) * 16 + (i 2).val) / 1792 * 112 + (((i 0).val * 112 + (i 1).val) * 16 + (i 2).val) / 16 % 112) * 1 + 0) * 16 + (((i 0).val * 112 + (i 1).val) * 16 + (i 2).val) % 16 = ((i 0).val * 112 + (i 1).val) * 16 + (i 2).val; omega)

def val_main_v6 (x0 : (⟨S128x1x3584, .bf16⟩ : BufTy).Contents (Elt F)) : (⟨S128x1792, .bf16⟩ : BufTy).Contents (Elt F) :=
  shapeCast _ (val_main_v5 (F := F) x0) shapeCasts_S128x112x16_S128x1792
abbrev idx_main_v6 (i : S128x1792.Idx) : S128x112x16.Idx := fun a => match a with
  | ⟨0, _⟩ => ⟨((i 0).val * 1792 + (i 1).val) / 1792, by have h0 : (i 0).val < 128 := (i 0).isLt; have h1 : (i 1).val < 1792 := (i 1).isLt; show ((i 0).val * 1792 + (i 1).val) / 1792 < 128; omega⟩
  | ⟨1, _⟩ => ⟨((i 0).val * 1792 + (i 1).val) / 16 % 112, by have h0 : (i 0).val < 128 := (i 0).isLt; have h1 : (i 1).val < 1792 := (i 1).isLt; show ((i 0).val * 1792 + (i 1).val) / 16 % 112 < 112; omega⟩
  | ⟨2, _⟩ => ⟨((i 0).val * 1792 + (i 1).val) % 16, by have h0 : (i 0).val < 128 := (i 0).isLt; have h1 : (i 1).val < 1792 := (i 1).isLt; show ((i 0).val * 1792 + (i 1).val) % 16 < 16; omega⟩
theorem val_main_v6_apply (x0 : (⟨S128x1x3584, .bf16⟩ : BufTy).Contents (Elt F)) (i : S128x1792.Idx) :
    val_main_v6 (F := F) x0 i = val_main_v5 (F := F) x0 (idx_main_v6 i) := by
  unfold val_main_v6
  generalize val_main_v5 (F := F) x0 = y
  exact shapeCast_apply y shapeCasts_S128x112x16_S128x1792 i (idx_main_v6 i)
    (by rewrite [Shape.rowMajor_val_three, Shape.rowMajor_val_two]; have h0 : (i 0).val < 128 := (i 0).isLt; have h1 : (i 1).val < 1792 := (i 1).isLt; show (((i 0).val * 1792 + (i 1).val) / 1792 * 112 + ((i 0).val * 1792 + (i 1).val) / 16 % 112) * 16 + ((i 0).val * 1792 + (i 1).val) % 16 = (i 0).val * 1792 + (i 1).val; omega)

def val_main_v7 (x2 : (⟨S64000x112, .bf16⟩ : BufTy).Contents (Elt F)) : (⟨S64000x112x16, .bf16⟩ : BufTy).Contents (Elt F) :=
  broadcastInDim S64000x112x16 ![0, 1] bcast_S64000x112_S64000x112x16_0_1 (x2)
abbrev idx_main_v7 (i : S64000x112x16.Idx) : S64000x112.Idx := fun a => match a with
  | ⟨0, _⟩ => ⟨(i 0).val, (i 0).isLt⟩
  | ⟨1, _⟩ => ⟨(i 1).val, (i 1).isLt⟩
theorem val_main_v7_apply (x2 : (⟨S64000x112, .bf16⟩ : BufTy).Contents (Elt F)) (i : S64000x112x16.Idx) :
    val_main_v7 (F := F) x2 i = x2 (idx_main_v7 i) := by
  unfold val_main_v7
  exact broadcastInDim_apply _ bcast_S64000x112_S64000x112x16_0_1 x2 i (idx_main_v7 i) (fun a => match a with
    | ⟨0, _⟩ => by show (i 0).val = if (64000 : Nat) = 1 then 0 else (i 0).val; rw [if_neg (by decide)]
    | ⟨1, _⟩ => by show (i 1).val = if (112 : Nat) = 1 then 0 else (i 1).val; rw [if_neg (by decide)])

def val_main_v8 (x2 : (⟨S64000x112, .bf16⟩ : BufTy).Contents (Elt F)) : (⟨S64000x1792, .bf16⟩ : BufTy).Contents (Elt F) :=
  shapeCast _ (val_main_v7 (F := F) x2) shapeCasts_S64000x112x16_S64000x1792
abbrev idx_main_v8 (i : S64000x1792.Idx) : S64000x112x16.Idx := fun a => match a with
  | ⟨0, _⟩ => ⟨((i 0).val * 1792 + (i 1).val) / 1792, by have h0 : (i 0).val < 64000 := (i 0).isLt; have h1 : (i 1).val < 1792 := (i 1).isLt; show ((i 0).val * 1792 + (i 1).val) / 1792 < 64000; omega⟩
  | ⟨1, _⟩ => ⟨((i 0).val * 1792 + (i 1).val) / 16 % 112, by have h0 : (i 0).val < 64000 := (i 0).isLt; have h1 : (i 1).val < 1792 := (i 1).isLt; show ((i 0).val * 1792 + (i 1).val) / 16 % 112 < 112; omega⟩
  | ⟨2, _⟩ => ⟨((i 0).val * 1792 + (i 1).val) % 16, by have h0 : (i 0).val < 64000 := (i 0).isLt; have h1 : (i 1).val < 1792 := (i 1).isLt; show ((i 0).val * 1792 + (i 1).val) % 16 < 16; omega⟩
theorem val_main_v8_apply (x2 : (⟨S64000x112, .bf16⟩ : BufTy).Contents (Elt F)) (i : S64000x1792.Idx) :
    val_main_v8 (F := F) x2 i = val_main_v7 (F := F) x2 (idx_main_v8 i) := by
  unfold val_main_v8
  generalize val_main_v7 (F := F) x2 = y
  exact shapeCast_apply y shapeCasts_S64000x112x16_S64000x1792 i (idx_main_v8 i)
    (by rewrite [Shape.rowMajor_val_three, Shape.rowMajor_val_two]; have h0 : (i 0).val < 64000 := (i 0).isLt; have h1 : (i 1).val < 1792 := (i 1).isLt; show (((i 0).val * 1792 + (i 1).val) / 1792 * 112 + ((i 0).val * 1792 + (i 1).val) / 16 % 112) * 16 + ((i 0).val * 1792 + (i 1).val) % 16 = (i 0).val * 1792 + (i 1).val; omega)

def val_main_v9 (x1 : (⟨S64000x1792, .i8⟩ : BufTy).Contents (Elt F)) : (⟨S64000x1792, .i32⟩ : BufTy).Contents (Elt F) :=
  extui 32 (x1) natLt_8_32
theorem val_main_v9_apply (x1 : (⟨S64000x1792, .i8⟩ : BufTy).Contents (Elt F)) (i : S64000x1792.Idx) :
    val_main_v9 (F := F) x1 i = (x1 i).setWidth 32 := rfl

def val_main_c : (⟨S_, .i32⟩ : BufTy).Contents (Elt F) :=
  constantI S_ 32 15#32
theorem val_main_c_apply (i : S_.Idx) :
    val_main_c (F := F) i = 15#32 := rfl

def val_main_v10 : (⟨S64000x1792, .i32⟩ : BufTy).Contents (Elt F) :=
  broadcastInDim S64000x1792 ![] bcast_S_S64000x1792 (val_main_c (F := F))
abbrev idx_main_v10 (i : S64000x1792.Idx) : S_.Idx := fun a => a.elim0
theorem val_main_v10_apply (i : S64000x1792.Idx) :
    val_main_v10 (F := F) i = val_main_c (F := F) (idx_main_v10 i) := by
  unfold val_main_v10
  generalize val_main_c (F := F) = y
  exact broadcastInDim_apply _ bcast_S_S64000x1792 y i (idx_main_v10 i) (fun a => a.elim0)

def val_main_v11 (x1 : (⟨S64000x1792, .i8⟩ : BufTy).Contents (Elt F)) : (⟨S64000x1792, .i32⟩ : BufTy).Contents (Elt F) :=
  andi (val_main_v9 (F := F) x1) (val_main_v10 (F := F))
theorem val_main_v11_apply (x1 : (⟨S64000x1792, .i8⟩ : BufTy).Contents (Elt F)) (i : S64000x1792.Idx) :
    val_main_v11 (F := F) x1 i = IntOp.andi (val_main_v9 (F := F) x1 i) (val_main_v10 (F := F) i) := rfl

def val_main_c_0 : (⟨S_, .i32⟩ : BufTy).Contents (Elt F) :=
  constantI S_ 32 4#32
theorem val_main_c_0_apply (i : S_.Idx) :
    val_main_c_0 (F := F) i = 4#32 := rfl

def val_main_v12 : (⟨S64000x1792, .i32⟩ : BufTy).Contents (Elt F) :=
  broadcastInDim S64000x1792 ![] bcast_S_S64000x1792 (val_main_c_0 (F := F))
abbrev idx_main_v12 (i : S64000x1792.Idx) : S_.Idx := fun a => a.elim0
theorem val_main_v12_apply (i : S64000x1792.Idx) :
    val_main_v12 (F := F) i = val_main_c_0 (F := F) (idx_main_v12 i) := by
  unfold val_main_v12
  generalize val_main_c_0 (F := F) = y
  exact broadcastInDim_apply _ bcast_S_S64000x1792 y i (idx_main_v12 i) (fun a => a.elim0)

def val_main_v13 (x1 : (⟨S64000x1792, .i8⟩ : BufTy).Contents (Elt F)) : (⟨S64000x1792, .i32⟩ : BufTy).Contents (Elt F) :=
  Host.shrsi (val_main_v9 (F := F) x1) (val_main_v12 (F := F))
theorem val_main_v13_apply (x1 : (⟨S64000x1792, .i8⟩ : BufTy).Contents (Elt F)) (i : S64000x1792.Idx) :
    val_main_v13 (F := F) x1 i = IntOp.shrsi .host (val_main_v9 (F := F) x1 i) (val_main_v12 (F := F) i) := rfl

def val_main_c_1 : (⟨S_, .i32⟩ : BufTy).Contents (Elt F) :=
  constantI S_ 32 0#32
theorem val_main_c_1_apply (i : S_.Idx) :
    val_main_c_1 (F := F) i = 0#32 := rfl

def val_main_v14 : (⟨S64000x1792, .i32⟩ : BufTy).Contents (Elt F) :=
  broadcastInDim S64000x1792 ![] bcast_S_S64000x1792 (val_main_c_1 (F := F))
abbrev idx_main_v14 (i : S64000x1792.Idx) : S_.Idx := fun a => a.elim0
theorem val_main_v14_apply (i : S64000x1792.Idx) :
    val_main_v14 (F := F) i = val_main_c_1 (F := F) (idx_main_v14 i) := by
  unfold val_main_v14
  generalize val_main_c_1 (F := F) = y
  exact broadcastInDim_apply _ bcast_S_S64000x1792 y i (idx_main_v14 i) (fun a => a.elim0)

def val_main_v15 (x1 : (⟨S64000x1792, .i8⟩ : BufTy).Contents (Elt F)) : (⟨S64000x1792, .i32⟩ : BufTy).Contents (Elt F) :=
  Host.shrsi (val_main_v11 (F := F) x1) (val_main_v14 (F := F))
theorem val_main_v15_apply (x1 : (⟨S64000x1792, .i8⟩ : BufTy).Contents (Elt F)) (i : S64000x1792.Idx) :
    val_main_v15 (F := F) x1 i = IntOp.shrsi .host (val_main_v11 (F := F) x1 i) (val_main_v14 (F := F) i) := rfl

def val_main_c_2 : (⟨S_, .i32⟩ : BufTy).Contents (Elt F) :=
  constantI S_ 32 1#32
theorem val_main_c_2_apply (i : S_.Idx) :
    val_main_c_2 (F := F) i = 1#32 := rfl

def val_main_v16 : (⟨S64000x1792, .i32⟩ : BufTy).Contents (Elt F) :=
  broadcastInDim S64000x1792 ![] bcast_S_S64000x1792 (val_main_c_2 (F := F))
abbrev idx_main_v16 (i : S64000x1792.Idx) : S_.Idx := fun a => a.elim0
theorem val_main_v16_apply (i : S64000x1792.Idx) :
    val_main_v16 (F := F) i = val_main_c_2 (F := F) (idx_main_v16 i) := by
  unfold val_main_v16
  generalize val_main_c_2 (F := F) = y
  exact broadcastInDim_apply _ bcast_S_S64000x1792 y i (idx_main_v16 i) (fun a => a.elim0)

def val_main_v17 (x1 : (⟨S64000x1792, .i8⟩ : BufTy).Contents (Elt F)) : (⟨S64000x1792, .i32⟩ : BufTy).Contents (Elt F) :=
  andi (val_main_v15 (F := F) x1) (val_main_v16 (F := F))
theorem val_main_v17_apply (x1 : (⟨S64000x1792, .i8⟩ : BufTy).Contents (Elt F)) (i : S64000x1792.Idx) :
    val_main_v17 (F := F) x1 i = IntOp.andi (val_main_v15 (F := F) x1 i) (val_main_v16 (F := F) i) := rfl

def val_main_c_3 : (⟨S_, .i32⟩ : BufTy).Contents (Elt F) :=
  constantI S_ 32 1#32
theorem val_main_c_3_apply (i : S_.Idx) :
    val_main_c_3 (F := F) i = 1#32 := rfl

def val_main_v18 : (⟨S64000x1792, .i32⟩ : BufTy).Contents (Elt F) :=
  broadcastInDim S64000x1792 ![] bcast_S_S64000x1792 (val_main_c_3 (F := F))
abbrev idx_main_v18 (i : S64000x1792.Idx) : S_.Idx := fun a => a.elim0
theorem val_main_v18_apply (i : S64000x1792.Idx) :
    val_main_v18 (F := F) i = val_main_c_3 (F := F) (idx_main_v18 i) := by
  unfold val_main_v18
  generalize val_main_c_3 (F := F) = y
  exact broadcastInDim_apply _ bcast_S_S64000x1792 y i (idx_main_v18 i) (fun a => a.elim0)

def val_main_v19 (x1 : (⟨S64000x1792, .i8⟩ : BufTy).Contents (Elt F)) : (⟨S64000x1792, .i1⟩ : BufTy).Contents (Elt F) :=
  cmpi .eq (val_main_v17 (F := F) x1) (val_main_v18 (F := F))
theorem val_main_v19_apply (x1 : (⟨S64000x1792, .i8⟩ : BufTy).Contents (Elt F)) (i : S64000x1792.Idx) :
    val_main_v19 (F := F) x1 i = IntOp.cmpi .eq (val_main_v17 (F := F) x1 i) (val_main_v18 (F := F) i) := rfl

def val_main_cst : (⟨S_, .bf16⟩ : BufTy).Contents (Elt F) :=
  constant S_ .bf16 0xC2D0#16
theorem val_main_cst_apply (i : S_.Idx) :
    val_main_cst (F := F) i = FloatOps.ofBits .bf16 0xC2D0#16 := rfl

def val_main_cst_4 : (⟨S_, .bf16⟩ : BufTy).Contents (Elt F) :=
  constant S_ .bf16 0xC2FE#16
theorem val_main_cst_4_apply (i : S_.Idx) :
    val_main_cst_4 (F := F) i = FloatOps.ofBits .bf16 0xC2FE#16 := rfl

-- @_where's %0 = stablehlo.broadcast_in_dim %arg1, dims = [] : (tensor<bf16>) -> tensor<64000x1792xbf16>, in %20 = func.call @_where(…) (record main_call0)
def val_main_call0_v0 : (⟨S64000x1792, .bf16⟩ : BufTy).Contents (Elt F) :=
  broadcastInDim S64000x1792 ![] bcast_S_S64000x1792 (val_main_cst (F := F))
abbrev idx_main_call0_v0 (i : S64000x1792.Idx) : S_.Idx := fun a => a.elim0
theorem val_main_call0_v0_apply (i : S64000x1792.Idx) :
    val_main_call0_v0 (F := F) i = val_main_cst (F := F) (idx_main_call0_v0 i) := by
  unfold val_main_call0_v0
  generalize val_main_cst (F := F) = y
  exact broadcastInDim_apply _ bcast_S_S64000x1792 y i (idx_main_call0_v0 i) (fun a => a.elim0)

-- @_where's %1 = stablehlo.broadcast_in_dim %arg2, dims = [] : (tensor<bf16>) -> tensor<64000x1792xbf16>, in %20 = func.call @_where(…) (record main_call0)
def val_main_call0_v1 : (⟨S64000x1792, .bf16⟩ : BufTy).Contents (Elt F) :=
  broadcastInDim S64000x1792 ![] bcast_S_S64000x1792 (val_main_cst_4 (F := F))
abbrev idx_main_call0_v1 (i : S64000x1792.Idx) : S_.Idx := fun a => a.elim0
theorem val_main_call0_v1_apply (i : S64000x1792.Idx) :
    val_main_call0_v1 (F := F) i = val_main_cst_4 (F := F) (idx_main_call0_v1 i) := by
  unfold val_main_call0_v1
  generalize val_main_cst_4 (F := F) = y
  exact broadcastInDim_apply _ bcast_S_S64000x1792 y i (idx_main_call0_v1 i) (fun a => a.elim0)

def val_main_v20 (x1 : (⟨S64000x1792, .i8⟩ : BufTy).Contents (Elt F)) : (⟨S64000x1792, .bf16⟩ : BufTy).Contents (Elt F) :=
  select (val_main_v19 (F := F) x1) (val_main_call0_v0 (F := F)) (val_main_call0_v1 (F := F))
theorem val_main_v20_apply (x1 : (⟨S64000x1792, .i8⟩ : BufTy).Contents (Elt F)) (i : S64000x1792.Idx) :
    val_main_v20 (F := F) x1 i = Scalar.select (val_main_v19 (F := F) x1 i) (val_main_call0_v0 (F := F) i) (val_main_call0_v1 (F := F) i) := rfl

def val_main_cst_5 : (⟨S_, .bf16⟩ : BufTy).Contents (Elt F) :=
  constant S_ .bf16 0xC282#16
theorem val_main_cst_5_apply (i : S_.Idx) :
    val_main_cst_5 (F := F) i = FloatOps.ofBits .bf16 0xC282#16 := rfl

def val_main_cst_6 : (⟨S_, .bf16⟩ : BufTy).Contents (Elt F) :=
  constant S_ .bf16 0xC2A6#16
theorem val_main_cst_6_apply (i : S_.Idx) :
    val_main_cst_6 (F := F) i = FloatOps.ofBits .bf16 0xC2A6#16 := rfl

-- @_where's %0 = stablehlo.broadcast_in_dim %arg1, dims = [] : (tensor<bf16>) -> tensor<64000x1792xbf16>, in %21 = func.call @_where(…) (record main_call1)
def val_main_call1_v0 : (⟨S64000x1792, .bf16⟩ : BufTy).Contents (Elt F) :=
  broadcastInDim S64000x1792 ![] bcast_S_S64000x1792 (val_main_cst_5 (F := F))
abbrev idx_main_call1_v0 (i : S64000x1792.Idx) : S_.Idx := fun a => a.elim0
theorem val_main_call1_v0_apply (i : S64000x1792.Idx) :
    val_main_call1_v0 (F := F) i = val_main_cst_5 (F := F) (idx_main_call1_v0 i) := by
  unfold val_main_call1_v0
  generalize val_main_cst_5 (F := F) = y
  exact broadcastInDim_apply _ bcast_S_S64000x1792 y i (idx_main_call1_v0 i) (fun a => a.elim0)

-- @_where's %1 = stablehlo.broadcast_in_dim %arg2, dims = [] : (tensor<bf16>) -> tensor<64000x1792xbf16>, in %21 = func.call @_where(…) (record main_call1)
def val_main_call1_v1 : (⟨S64000x1792, .bf16⟩ : BufTy).Contents (Elt F) :=
  broadcastInDim S64000x1792 ![] bcast_S_S64000x1792 (val_main_cst_6 (F := F))
abbrev idx_main_call1_v1 (i : S64000x1792.Idx) : S_.Idx := fun a => a.elim0
theorem val_main_call1_v1_apply (i : S64000x1792.Idx) :
    val_main_call1_v1 (F := F) i = val_main_cst_6 (F := F) (idx_main_call1_v1 i) := by
  unfold val_main_call1_v1
  generalize val_main_cst_6 (F := F) = y
  exact broadcastInDim_apply _ bcast_S_S64000x1792 y i (idx_main_call1_v1 i) (fun a => a.elim0)

def val_main_v21 (x1 : (⟨S64000x1792, .i8⟩ : BufTy).Contents (Elt F)) : (⟨S64000x1792, .bf16⟩ : BufTy).Contents (Elt F) :=
  select (val_main_v19 (F := F) x1) (val_main_call1_v0 (F := F)) (val_main_call1_v1 (F := F))
theorem val_main_v21_apply (x1 : (⟨S64000x1792, .i8⟩ : BufTy).Contents (Elt F)) (i : S64000x1792.Idx) :
    val_main_v21 (F := F) x1 i = Scalar.select (val_main_v19 (F := F) x1 i) (val_main_call1_v0 (F := F) i) (val_main_call1_v1 (F := F) i) := rfl

def val_main_cst_7 : (⟨S_, .bf16⟩ : BufTy).Contents (Elt F) :=
  constant S_ .bf16 0xC20C#16
theorem val_main_cst_7_apply (i : S_.Idx) :
    val_main_cst_7 (F := F) i = FloatOps.ofBits .bf16 0xC20C#16 := rfl

def val_main_cst_8 : (⟨S_, .bf16⟩ : BufTy).Contents (Elt F) :=
  constant S_ .bf16 0xC244#16
theorem val_main_cst_8_apply (i : S_.Idx) :
    val_main_cst_8 (F := F) i = FloatOps.ofBits .bf16 0xC244#16 := rfl

-- @_where's %0 = stablehlo.broadcast_in_dim %arg1, dims = [] : (tensor<bf16>) -> tensor<64000x1792xbf16>, in %22 = func.call @_where(…) (record main_call2)
def val_main_call2_v0 : (⟨S64000x1792, .bf16⟩ : BufTy).Contents (Elt F) :=
  broadcastInDim S64000x1792 ![] bcast_S_S64000x1792 (val_main_cst_7 (F := F))
abbrev idx_main_call2_v0 (i : S64000x1792.Idx) : S_.Idx := fun a => a.elim0
theorem val_main_call2_v0_apply (i : S64000x1792.Idx) :
    val_main_call2_v0 (F := F) i = val_main_cst_7 (F := F) (idx_main_call2_v0 i) := by
  unfold val_main_call2_v0
  generalize val_main_cst_7 (F := F) = y
  exact broadcastInDim_apply _ bcast_S_S64000x1792 y i (idx_main_call2_v0 i) (fun a => a.elim0)

-- @_where's %1 = stablehlo.broadcast_in_dim %arg2, dims = [] : (tensor<bf16>) -> tensor<64000x1792xbf16>, in %22 = func.call @_where(…) (record main_call2)
def val_main_call2_v1 : (⟨S64000x1792, .bf16⟩ : BufTy).Contents (Elt F) :=
  broadcastInDim S64000x1792 ![] bcast_S_S64000x1792 (val_main_cst_8 (F := F))
abbrev idx_main_call2_v1 (i : S64000x1792.Idx) : S_.Idx := fun a => a.elim0
theorem val_main_call2_v1_apply (i : S64000x1792.Idx) :
    val_main_call2_v1 (F := F) i = val_main_cst_8 (F := F) (idx_main_call2_v1 i) := by
  unfold val_main_call2_v1
  generalize val_main_cst_8 (F := F) = y
  exact broadcastInDim_apply _ bcast_S_S64000x1792 y i (idx_main_call2_v1 i) (fun a => a.elim0)

def val_main_v22 (x1 : (⟨S64000x1792, .i8⟩ : BufTy).Contents (Elt F)) : (⟨S64000x1792, .bf16⟩ : BufTy).Contents (Elt F) :=
  select (val_main_v19 (F := F) x1) (val_main_call2_v0 (F := F)) (val_main_call2_v1 (F := F))
theorem val_main_v22_apply (x1 : (⟨S64000x1792, .i8⟩ : BufTy).Contents (Elt F)) (i : S64000x1792.Idx) :
    val_main_v22 (F := F) x1 i = Scalar.select (val_main_v19 (F := F) x1 i) (val_main_call2_v0 (F := F) i) (val_main_call2_v1 (F := F) i) := rfl

def val_main_cst_9 : (⟨S_, .bf16⟩ : BufTy).Contents (Elt F) :=
  constant S_ .bf16 0xC120#16
theorem val_main_cst_9_apply (i : S_.Idx) :
    val_main_cst_9 (F := F) i = FloatOps.ofBits .bf16 0xC120#16 := rfl

def val_main_cst_10 : (⟨S_, .bf16⟩ : BufTy).Contents (Elt F) :=
  constant S_ .bf16 0xC1B0#16
theorem val_main_cst_10_apply (i : S_.Idx) :
    val_main_cst_10 (F := F) i = FloatOps.ofBits .bf16 0xC1B0#16 := rfl

-- @_where's %0 = stablehlo.broadcast_in_dim %arg1, dims = [] : (tensor<bf16>) -> tensor<64000x1792xbf16>, in %23 = func.call @_where(…) (record main_call3)
def val_main_call3_v0 : (⟨S64000x1792, .bf16⟩ : BufTy).Contents (Elt F) :=
  broadcastInDim S64000x1792 ![] bcast_S_S64000x1792 (val_main_cst_9 (F := F))
abbrev idx_main_call3_v0 (i : S64000x1792.Idx) : S_.Idx := fun a => a.elim0
theorem val_main_call3_v0_apply (i : S64000x1792.Idx) :
    val_main_call3_v0 (F := F) i = val_main_cst_9 (F := F) (idx_main_call3_v0 i) := by
  unfold val_main_call3_v0
  generalize val_main_cst_9 (F := F) = y
  exact broadcastInDim_apply _ bcast_S_S64000x1792 y i (idx_main_call3_v0 i) (fun a => a.elim0)

-- @_where's %1 = stablehlo.broadcast_in_dim %arg2, dims = [] : (tensor<bf16>) -> tensor<64000x1792xbf16>, in %23 = func.call @_where(…) (record main_call3)
def val_main_call3_v1 : (⟨S64000x1792, .bf16⟩ : BufTy).Contents (Elt F) :=
  broadcastInDim S64000x1792 ![] bcast_S_S64000x1792 (val_main_cst_10 (F := F))
abbrev idx_main_call3_v1 (i : S64000x1792.Idx) : S_.Idx := fun a => a.elim0
theorem val_main_call3_v1_apply (i : S64000x1792.Idx) :
    val_main_call3_v1 (F := F) i = val_main_cst_10 (F := F) (idx_main_call3_v1 i) := by
  unfold val_main_call3_v1
  generalize val_main_cst_10 (F := F) = y
  exact broadcastInDim_apply _ bcast_S_S64000x1792 y i (idx_main_call3_v1 i) (fun a => a.elim0)

def val_main_v23 (x1 : (⟨S64000x1792, .i8⟩ : BufTy).Contents (Elt F)) : (⟨S64000x1792, .bf16⟩ : BufTy).Contents (Elt F) :=
  select (val_main_v19 (F := F) x1) (val_main_call3_v0 (F := F)) (val_main_call3_v1 (F := F))
theorem val_main_v23_apply (x1 : (⟨S64000x1792, .i8⟩ : BufTy).Contents (Elt F)) (i : S64000x1792.Idx) :
    val_main_v23 (F := F) x1 i = Scalar.select (val_main_v19 (F := F) x1 i) (val_main_call3_v0 (F := F) i) (val_main_call3_v1 (F := F) i) := rfl

def val_main_cst_11 : (⟨S_, .bf16⟩ : BufTy).Contents (Elt F) :=
  constant S_ .bf16 0x4150#16
theorem val_main_cst_11_apply (i : S_.Idx) :
    val_main_cst_11 (F := F) i = FloatOps.ofBits .bf16 0x4150#16 := rfl

def val_main_cst_12 : (⟨S_, .bf16⟩ : BufTy).Contents (Elt F) :=
  constant S_ .bf16 0x3F80#16
theorem val_main_cst_12_apply (i : S_.Idx) :
    val_main_cst_12 (F := F) i = FloatOps.ofBits .bf16 0x3F80#16 := rfl

-- @_where's %0 = stablehlo.broadcast_in_dim %arg1, dims = [] : (tensor<bf16>) -> tensor<64000x1792xbf16>, in %24 = func.call @_where(…) (record main_call4)
def val_main_call4_v0 : (⟨S64000x1792, .bf16⟩ : BufTy).Contents (Elt F) :=
  broadcastInDim S64000x1792 ![] bcast_S_S64000x1792 (val_main_cst_11 (F := F))
abbrev idx_main_call4_v0 (i : S64000x1792.Idx) : S_.Idx := fun a => a.elim0
theorem val_main_call4_v0_apply (i : S64000x1792.Idx) :
    val_main_call4_v0 (F := F) i = val_main_cst_11 (F := F) (idx_main_call4_v0 i) := by
  unfold val_main_call4_v0
  generalize val_main_cst_11 (F := F) = y
  exact broadcastInDim_apply _ bcast_S_S64000x1792 y i (idx_main_call4_v0 i) (fun a => a.elim0)

-- @_where's %1 = stablehlo.broadcast_in_dim %arg2, dims = [] : (tensor<bf16>) -> tensor<64000x1792xbf16>, in %24 = func.call @_where(…) (record main_call4)
def val_main_call4_v1 : (⟨S64000x1792, .bf16⟩ : BufTy).Contents (Elt F) :=
  broadcastInDim S64000x1792 ![] bcast_S_S64000x1792 (val_main_cst_12 (F := F))
abbrev idx_main_call4_v1 (i : S64000x1792.Idx) : S_.Idx := fun a => a.elim0
theorem val_main_call4_v1_apply (i : S64000x1792.Idx) :
    val_main_call4_v1 (F := F) i = val_main_cst_12 (F := F) (idx_main_call4_v1 i) := by
  unfold val_main_call4_v1
  generalize val_main_cst_12 (F := F) = y
  exact broadcastInDim_apply _ bcast_S_S64000x1792 y i (idx_main_call4_v1 i) (fun a => a.elim0)

def val_main_v24 (x1 : (⟨S64000x1792, .i8⟩ : BufTy).Contents (Elt F)) : (⟨S64000x1792, .bf16⟩ : BufTy).Contents (Elt F) :=
  select (val_main_v19 (F := F) x1) (val_main_call4_v0 (F := F)) (val_main_call4_v1 (F := F))
theorem val_main_v24_apply (x1 : (⟨S64000x1792, .i8⟩ : BufTy).Contents (Elt F)) (i : S64000x1792.Idx) :
    val_main_v24 (F := F) x1 i = Scalar.select (val_main_v19 (F := F) x1 i) (val_main_call4_v0 (F := F) i) (val_main_call4_v1 (F := F) i) := rfl

def val_main_cst_13 : (⟨S_, .bf16⟩ : BufTy).Contents (Elt F) :=
  constant S_ .bf16 0x4218#16
theorem val_main_cst_13_apply (i : S_.Idx) :
    val_main_cst_13 (F := F) i = FloatOps.ofBits .bf16 0x4218#16 := rfl

def val_main_cst_14 : (⟨S_, .bf16⟩ : BufTy).Contents (Elt F) :=
  constant S_ .bf16 0x41C8#16
theorem val_main_cst_14_apply (i : S_.Idx) :
    val_main_cst_14 (F := F) i = FloatOps.ofBits .bf16 0x41C8#16 := rfl

-- @_where's %0 = stablehlo.broadcast_in_dim %arg1, dims = [] : (tensor<bf16>) -> tensor<64000x1792xbf16>, in %25 = func.call @_where(…) (record main_call5)
def val_main_call5_v0 : (⟨S64000x1792, .bf16⟩ : BufTy).Contents (Elt F) :=
  broadcastInDim S64000x1792 ![] bcast_S_S64000x1792 (val_main_cst_13 (F := F))
abbrev idx_main_call5_v0 (i : S64000x1792.Idx) : S_.Idx := fun a => a.elim0
theorem val_main_call5_v0_apply (i : S64000x1792.Idx) :
    val_main_call5_v0 (F := F) i = val_main_cst_13 (F := F) (idx_main_call5_v0 i) := by
  unfold val_main_call5_v0
  generalize val_main_cst_13 (F := F) = y
  exact broadcastInDim_apply _ bcast_S_S64000x1792 y i (idx_main_call5_v0 i) (fun a => a.elim0)

-- @_where's %1 = stablehlo.broadcast_in_dim %arg2, dims = [] : (tensor<bf16>) -> tensor<64000x1792xbf16>, in %25 = func.call @_where(…) (record main_call5)
def val_main_call5_v1 : (⟨S64000x1792, .bf16⟩ : BufTy).Contents (Elt F) :=
  broadcastInDim S64000x1792 ![] bcast_S_S64000x1792 (val_main_cst_14 (F := F))
abbrev idx_main_call5_v1 (i : S64000x1792.Idx) : S_.Idx := fun a => a.elim0
theorem val_main_call5_v1_apply (i : S64000x1792.Idx) :
    val_main_call5_v1 (F := F) i = val_main_cst_14 (F := F) (idx_main_call5_v1 i) := by
  unfold val_main_call5_v1
  generalize val_main_cst_14 (F := F) = y
  exact broadcastInDim_apply _ bcast_S_S64000x1792 y i (idx_main_call5_v1 i) (fun a => a.elim0)

def val_main_v25 (x1 : (⟨S64000x1792, .i8⟩ : BufTy).Contents (Elt F)) : (⟨S64000x1792, .bf16⟩ : BufTy).Contents (Elt F) :=
  select (val_main_v19 (F := F) x1) (val_main_call5_v0 (F := F)) (val_main_call5_v1 (F := F))
theorem val_main_v25_apply (x1 : (⟨S64000x1792, .i8⟩ : BufTy).Contents (Elt F)) (i : S64000x1792.Idx) :
    val_main_v25 (F := F) x1 i = Scalar.select (val_main_v19 (F := F) x1 i) (val_main_call5_v0 (F := F) i) (val_main_call5_v1 (F := F) i) := rfl

def val_main_cst_15 : (⟨S_, .bf16⟩ : BufTy).Contents (Elt F) :=
  constant S_ .bf16 0x428A#16
theorem val_main_cst_15_apply (i : S_.Idx) :
    val_main_cst_15 (F := F) i = FloatOps.ofBits .bf16 0x428A#16 := rfl

def val_main_cst_16 : (⟨S_, .bf16⟩ : BufTy).Contents (Elt F) :=
  constant S_ .bf16 0x4254#16
theorem val_main_cst_16_apply (i : S_.Idx) :
    val_main_cst_16 (F := F) i = FloatOps.ofBits .bf16 0x4254#16 := rfl

-- @_where's %0 = stablehlo.broadcast_in_dim %arg1, dims = [] : (tensor<bf16>) -> tensor<64000x1792xbf16>, in %26 = func.call @_where(…) (record main_call6)
def val_main_call6_v0 : (⟨S64000x1792, .bf16⟩ : BufTy).Contents (Elt F) :=
  broadcastInDim S64000x1792 ![] bcast_S_S64000x1792 (val_main_cst_15 (F := F))
abbrev idx_main_call6_v0 (i : S64000x1792.Idx) : S_.Idx := fun a => a.elim0
theorem val_main_call6_v0_apply (i : S64000x1792.Idx) :
    val_main_call6_v0 (F := F) i = val_main_cst_15 (F := F) (idx_main_call6_v0 i) := by
  unfold val_main_call6_v0
  generalize val_main_cst_15 (F := F) = y
  exact broadcastInDim_apply _ bcast_S_S64000x1792 y i (idx_main_call6_v0 i) (fun a => a.elim0)

-- @_where's %1 = stablehlo.broadcast_in_dim %arg2, dims = [] : (tensor<bf16>) -> tensor<64000x1792xbf16>, in %26 = func.call @_where(…) (record main_call6)
def val_main_call6_v1 : (⟨S64000x1792, .bf16⟩ : BufTy).Contents (Elt F) :=
  broadcastInDim S64000x1792 ![] bcast_S_S64000x1792 (val_main_cst_16 (F := F))
abbrev idx_main_call6_v1 (i : S64000x1792.Idx) : S_.Idx := fun a => a.elim0
theorem val_main_call6_v1_apply (i : S64000x1792.Idx) :
    val_main_call6_v1 (F := F) i = val_main_cst_16 (F := F) (idx_main_call6_v1 i) := by
  unfold val_main_call6_v1
  generalize val_main_cst_16 (F := F) = y
  exact broadcastInDim_apply _ bcast_S_S64000x1792 y i (idx_main_call6_v1 i) (fun a => a.elim0)

def val_main_v26 (x1 : (⟨S64000x1792, .i8⟩ : BufTy).Contents (Elt F)) : (⟨S64000x1792, .bf16⟩ : BufTy).Contents (Elt F) :=
  select (val_main_v19 (F := F) x1) (val_main_call6_v0 (F := F)) (val_main_call6_v1 (F := F))
theorem val_main_v26_apply (x1 : (⟨S64000x1792, .i8⟩ : BufTy).Contents (Elt F)) (i : S64000x1792.Idx) :
    val_main_v26 (F := F) x1 i = Scalar.select (val_main_v19 (F := F) x1 i) (val_main_call6_v0 (F := F) i) (val_main_call6_v1 (F := F) i) := rfl

def val_main_cst_17 : (⟨S_, .bf16⟩ : BufTy).Contents (Elt F) :=
  constant S_ .bf16 0x42E2#16
theorem val_main_cst_17_apply (i : S_.Idx) :
    val_main_cst_17 (F := F) i = FloatOps.ofBits .bf16 0x42E2#16 := rfl

def val_main_cst_18 : (⟨S_, .bf16⟩ : BufTy).Contents (Elt F) :=
  constant S_ .bf16 0x42B2#16
theorem val_main_cst_18_apply (i : S_.Idx) :
    val_main_cst_18 (F := F) i = FloatOps.ofBits .bf16 0x42B2#16 := rfl

-- @_where's %0 = stablehlo.broadcast_in_dim %arg1, dims = [] : (tensor<bf16>) -> tensor<64000x1792xbf16>, in %27 = func.call @_where(…) (record main_call7)
def val_main_call7_v0 : (⟨S64000x1792, .bf16⟩ : BufTy).Contents (Elt F) :=
  broadcastInDim S64000x1792 ![] bcast_S_S64000x1792 (val_main_cst_17 (F := F))
abbrev idx_main_call7_v0 (i : S64000x1792.Idx) : S_.Idx := fun a => a.elim0
theorem val_main_call7_v0_apply (i : S64000x1792.Idx) :
    val_main_call7_v0 (F := F) i = val_main_cst_17 (F := F) (idx_main_call7_v0 i) := by
  unfold val_main_call7_v0
  generalize val_main_cst_17 (F := F) = y
  exact broadcastInDim_apply _ bcast_S_S64000x1792 y i (idx_main_call7_v0 i) (fun a => a.elim0)

-- @_where's %1 = stablehlo.broadcast_in_dim %arg2, dims = [] : (tensor<bf16>) -> tensor<64000x1792xbf16>, in %27 = func.call @_where(…) (record main_call7)
def val_main_call7_v1 : (⟨S64000x1792, .bf16⟩ : BufTy).Contents (Elt F) :=
  broadcastInDim S64000x1792 ![] bcast_S_S64000x1792 (val_main_cst_18 (F := F))
abbrev idx_main_call7_v1 (i : S64000x1792.Idx) : S_.Idx := fun a => a.elim0
theorem val_main_call7_v1_apply (i : S64000x1792.Idx) :
    val_main_call7_v1 (F := F) i = val_main_cst_18 (F := F) (idx_main_call7_v1 i) := by
  unfold val_main_call7_v1
  generalize val_main_cst_18 (F := F) = y
  exact broadcastInDim_apply _ bcast_S_S64000x1792 y i (idx_main_call7_v1 i) (fun a => a.elim0)

def val_main_v27 (x1 : (⟨S64000x1792, .i8⟩ : BufTy).Contents (Elt F)) : (⟨S64000x1792, .bf16⟩ : BufTy).Contents (Elt F) :=
  select (val_main_v19 (F := F) x1) (val_main_call7_v0 (F := F)) (val_main_call7_v1 (F := F))
theorem val_main_v27_apply (x1 : (⟨S64000x1792, .i8⟩ : BufTy).Contents (Elt F)) (i : S64000x1792.Idx) :
    val_main_v27 (F := F) x1 i = Scalar.select (val_main_v19 (F := F) x1 i) (val_main_call7_v0 (F := F) i) (val_main_call7_v1 (F := F) i) := rfl

def val_main_c_19 : (⟨S_, .i32⟩ : BufTy).Contents (Elt F) :=
  constantI S_ 32 1#32
theorem val_main_c_19_apply (i : S_.Idx) :
    val_main_c_19 (F := F) i = 1#32 := rfl

def val_main_v28 : (⟨S64000x1792, .i32⟩ : BufTy).Contents (Elt F) :=
  broadcastInDim S64000x1792 ![] bcast_S_S64000x1792 (val_main_c_19 (F := F))
abbrev idx_main_v28 (i : S64000x1792.Idx) : S_.Idx := fun a => a.elim0
theorem val_main_v28_apply (i : S64000x1792.Idx) :
    val_main_v28 (F := F) i = val_main_c_19 (F := F) (idx_main_v28 i) := by
  unfold val_main_v28
  generalize val_main_c_19 (F := F) = y
  exact broadcastInDim_apply _ bcast_S_S64000x1792 y i (idx_main_v28 i) (fun a => a.elim0)

def val_main_v29 (x1 : (⟨S64000x1792, .i8⟩ : BufTy).Contents (Elt F)) : (⟨S64000x1792, .i32⟩ : BufTy).Contents (Elt F) :=
  Host.shrsi (val_main_v11 (F := F) x1) (val_main_v28 (F := F))
theorem val_main_v29_apply (x1 : (⟨S64000x1792, .i8⟩ : BufTy).Contents (Elt F)) (i : S64000x1792.Idx) :
    val_main_v29 (F := F) x1 i = IntOp.shrsi .host (val_main_v11 (F := F) x1 i) (val_main_v28 (F := F) i) := rfl

def val_main_c_20 : (⟨S_, .i32⟩ : BufTy).Contents (Elt F) :=
  constantI S_ 32 1#32
theorem val_main_c_20_apply (i : S_.Idx) :
    val_main_c_20 (F := F) i = 1#32 := rfl

def val_main_v30 : (⟨S64000x1792, .i32⟩ : BufTy).Contents (Elt F) :=
  broadcastInDim S64000x1792 ![] bcast_S_S64000x1792 (val_main_c_20 (F := F))
abbrev idx_main_v30 (i : S64000x1792.Idx) : S_.Idx := fun a => a.elim0
theorem val_main_v30_apply (i : S64000x1792.Idx) :
    val_main_v30 (F := F) i = val_main_c_20 (F := F) (idx_main_v30 i) := by
  unfold val_main_v30
  generalize val_main_c_20 (F := F) = y
  exact broadcastInDim_apply _ bcast_S_S64000x1792 y i (idx_main_v30 i) (fun a => a.elim0)

def val_main_v31 (x1 : (⟨S64000x1792, .i8⟩ : BufTy).Contents (Elt F)) : (⟨S64000x1792, .i32⟩ : BufTy).Contents (Elt F) :=
  andi (val_main_v29 (F := F) x1) (val_main_v30 (F := F))
theorem val_main_v31_apply (x1 : (⟨S64000x1792, .i8⟩ : BufTy).Contents (Elt F)) (i : S64000x1792.Idx) :
    val_main_v31 (F := F) x1 i = IntOp.andi (val_main_v29 (F := F) x1 i) (val_main_v30 (F := F) i) := rfl

def val_main_c_21 : (⟨S_, .i32⟩ : BufTy).Contents (Elt F) :=
  constantI S_ 32 1#32
theorem val_main_c_21_apply (i : S_.Idx) :
    val_main_c_21 (F := F) i = 1#32 := rfl

def val_main_v32 : (⟨S64000x1792, .i32⟩ : BufTy).Contents (Elt F) :=
  broadcastInDim S64000x1792 ![] bcast_S_S64000x1792 (val_main_c_21 (F := F))
abbrev idx_main_v32 (i : S64000x1792.Idx) : S_.Idx := fun a => a.elim0
theorem val_main_v32_apply (i : S64000x1792.Idx) :
    val_main_v32 (F := F) i = val_main_c_21 (F := F) (idx_main_v32 i) := by
  unfold val_main_v32
  generalize val_main_c_21 (F := F) = y
  exact broadcastInDim_apply _ bcast_S_S64000x1792 y i (idx_main_v32 i) (fun a => a.elim0)

def val_main_v33 (x1 : (⟨S64000x1792, .i8⟩ : BufTy).Contents (Elt F)) : (⟨S64000x1792, .i1⟩ : BufTy).Contents (Elt F) :=
  cmpi .eq (val_main_v31 (F := F) x1) (val_main_v32 (F := F))
theorem val_main_v33_apply (x1 : (⟨S64000x1792, .i8⟩ : BufTy).Contents (Elt F)) (i : S64000x1792.Idx) :
    val_main_v33 (F := F) x1 i = IntOp.cmpi .eq (val_main_v31 (F := F) x1 i) (val_main_v32 (F := F) i) := rfl

def val_main_v34 (x1 : (⟨S64000x1792, .i8⟩ : BufTy).Contents (Elt F)) : (⟨S64000x1792, .bf16⟩ : BufTy).Contents (Elt F) :=
  select (val_main_v33 (F := F) x1) (val_main_v21 (F := F) x1) (val_main_v20 (F := F) x1)
theorem val_main_v34_apply (x1 : (⟨S64000x1792, .i8⟩ : BufTy).Contents (Elt F)) (i : S64000x1792.Idx) :
    val_main_v34 (F := F) x1 i = Scalar.select (val_main_v33 (F := F) x1 i) (val_main_v21 (F := F) x1 i) (val_main_v20 (F := F) x1 i) := rfl

def val_main_v35 (x1 : (⟨S64000x1792, .i8⟩ : BufTy).Contents (Elt F)) : (⟨S64000x1792, .bf16⟩ : BufTy).Contents (Elt F) :=
  select (val_main_v33 (F := F) x1) (val_main_v23 (F := F) x1) (val_main_v22 (F := F) x1)
theorem val_main_v35_apply (x1 : (⟨S64000x1792, .i8⟩ : BufTy).Contents (Elt F)) (i : S64000x1792.Idx) :
    val_main_v35 (F := F) x1 i = Scalar.select (val_main_v33 (F := F) x1 i) (val_main_v23 (F := F) x1 i) (val_main_v22 (F := F) x1 i) := rfl

def val_main_v36 (x1 : (⟨S64000x1792, .i8⟩ : BufTy).Contents (Elt F)) : (⟨S64000x1792, .bf16⟩ : BufTy).Contents (Elt F) :=
  select (val_main_v33 (F := F) x1) (val_main_v25 (F := F) x1) (val_main_v24 (F := F) x1)
theorem val_main_v36_apply (x1 : (⟨S64000x1792, .i8⟩ : BufTy).Contents (Elt F)) (i : S64000x1792.Idx) :
    val_main_v36 (F := F) x1 i = Scalar.select (val_main_v33 (F := F) x1 i) (val_main_v25 (F := F) x1 i) (val_main_v24 (F := F) x1 i) := rfl

def val_main_v37 (x1 : (⟨S64000x1792, .i8⟩ : BufTy).Contents (Elt F)) : (⟨S64000x1792, .bf16⟩ : BufTy).Contents (Elt F) :=
  select (val_main_v33 (F := F) x1) (val_main_v27 (F := F) x1) (val_main_v26 (F := F) x1)
theorem val_main_v37_apply (x1 : (⟨S64000x1792, .i8⟩ : BufTy).Contents (Elt F)) (i : S64000x1792.Idx) :
    val_main_v37 (F := F) x1 i = Scalar.select (val_main_v33 (F := F) x1 i) (val_main_v27 (F := F) x1 i) (val_main_v26 (F := F) x1 i) := rfl

def val_main_c_22 : (⟨S_, .i32⟩ : BufTy).Contents (Elt F) :=
  constantI S_ 32 2#32
theorem val_main_c_22_apply (i : S_.Idx) :
    val_main_c_22 (F := F) i = 2#32 := rfl

def val_main_v38 : (⟨S64000x1792, .i32⟩ : BufTy).Contents (Elt F) :=
  broadcastInDim S64000x1792 ![] bcast_S_S64000x1792 (val_main_c_22 (F := F))
abbrev idx_main_v38 (i : S64000x1792.Idx) : S_.Idx := fun a => a.elim0
theorem val_main_v38_apply (i : S64000x1792.Idx) :
    val_main_v38 (F := F) i = val_main_c_22 (F := F) (idx_main_v38 i) := by
  unfold val_main_v38
  generalize val_main_c_22 (F := F) = y
  exact broadcastInDim_apply _ bcast_S_S64000x1792 y i (idx_main_v38 i) (fun a => a.elim0)

def val_main_v39 (x1 : (⟨S64000x1792, .i8⟩ : BufTy).Contents (Elt F)) : (⟨S64000x1792, .i32⟩ : BufTy).Contents (Elt F) :=
  Host.shrsi (val_main_v11 (F := F) x1) (val_main_v38 (F := F))
theorem val_main_v39_apply (x1 : (⟨S64000x1792, .i8⟩ : BufTy).Contents (Elt F)) (i : S64000x1792.Idx) :
    val_main_v39 (F := F) x1 i = IntOp.shrsi .host (val_main_v11 (F := F) x1 i) (val_main_v38 (F := F) i) := rfl

def val_main_c_23 : (⟨S_, .i32⟩ : BufTy).Contents (Elt F) :=
  constantI S_ 32 1#32
theorem val_main_c_23_apply (i : S_.Idx) :
    val_main_c_23 (F := F) i = 1#32 := rfl

def val_main_v40 : (⟨S64000x1792, .i32⟩ : BufTy).Contents (Elt F) :=
  broadcastInDim S64000x1792 ![] bcast_S_S64000x1792 (val_main_c_23 (F := F))
abbrev idx_main_v40 (i : S64000x1792.Idx) : S_.Idx := fun a => a.elim0
theorem val_main_v40_apply (i : S64000x1792.Idx) :
    val_main_v40 (F := F) i = val_main_c_23 (F := F) (idx_main_v40 i) := by
  unfold val_main_v40
  generalize val_main_c_23 (F := F) = y
  exact broadcastInDim_apply _ bcast_S_S64000x1792 y i (idx_main_v40 i) (fun a => a.elim0)

def val_main_v41 (x1 : (⟨S64000x1792, .i8⟩ : BufTy).Contents (Elt F)) : (⟨S64000x1792, .i32⟩ : BufTy).Contents (Elt F) :=
  andi (val_main_v39 (F := F) x1) (val_main_v40 (F := F))
theorem val_main_v41_apply (x1 : (⟨S64000x1792, .i8⟩ : BufTy).Contents (Elt F)) (i : S64000x1792.Idx) :
    val_main_v41 (F := F) x1 i = IntOp.andi (val_main_v39 (F := F) x1 i) (val_main_v40 (F := F) i) := rfl

def val_main_c_24 : (⟨S_, .i32⟩ : BufTy).Contents (Elt F) :=
  constantI S_ 32 1#32
theorem val_main_c_24_apply (i : S_.Idx) :
    val_main_c_24 (F := F) i = 1#32 := rfl

def val_main_v42 : (⟨S64000x1792, .i32⟩ : BufTy).Contents (Elt F) :=
  broadcastInDim S64000x1792 ![] bcast_S_S64000x1792 (val_main_c_24 (F := F))
abbrev idx_main_v42 (i : S64000x1792.Idx) : S_.Idx := fun a => a.elim0
theorem val_main_v42_apply (i : S64000x1792.Idx) :
    val_main_v42 (F := F) i = val_main_c_24 (F := F) (idx_main_v42 i) := by
  unfold val_main_v42
  generalize val_main_c_24 (F := F) = y
  exact broadcastInDim_apply _ bcast_S_S64000x1792 y i (idx_main_v42 i) (fun a => a.elim0)

def val_main_v43 (x1 : (⟨S64000x1792, .i8⟩ : BufTy).Contents (Elt F)) : (⟨S64000x1792, .i1⟩ : BufTy).Contents (Elt F) :=
  cmpi .eq (val_main_v41 (F := F) x1) (val_main_v42 (F := F))
theorem val_main_v43_apply (x1 : (⟨S64000x1792, .i8⟩ : BufTy).Contents (Elt F)) (i : S64000x1792.Idx) :
    val_main_v43 (F := F) x1 i = IntOp.cmpi .eq (val_main_v41 (F := F) x1 i) (val_main_v42 (F := F) i) := rfl

def val_main_v44 (x1 : (⟨S64000x1792, .i8⟩ : BufTy).Contents (Elt F)) : (⟨S64000x1792, .bf16⟩ : BufTy).Contents (Elt F) :=
  select (val_main_v43 (F := F) x1) (val_main_v35 (F := F) x1) (val_main_v34 (F := F) x1)
theorem val_main_v44_apply (x1 : (⟨S64000x1792, .i8⟩ : BufTy).Contents (Elt F)) (i : S64000x1792.Idx) :
    val_main_v44 (F := F) x1 i = Scalar.select (val_main_v43 (F := F) x1 i) (val_main_v35 (F := F) x1 i) (val_main_v34 (F := F) x1 i) := rfl

def val_main_v45 (x1 : (⟨S64000x1792, .i8⟩ : BufTy).Contents (Elt F)) : (⟨S64000x1792, .bf16⟩ : BufTy).Contents (Elt F) :=
  select (val_main_v43 (F := F) x1) (val_main_v37 (F := F) x1) (val_main_v36 (F := F) x1)
theorem val_main_v45_apply (x1 : (⟨S64000x1792, .i8⟩ : BufTy).Contents (Elt F)) (i : S64000x1792.Idx) :
    val_main_v45 (F := F) x1 i = Scalar.select (val_main_v43 (F := F) x1 i) (val_main_v37 (F := F) x1 i) (val_main_v36 (F := F) x1 i) := rfl

def val_main_c_25 : (⟨S_, .i32⟩ : BufTy).Contents (Elt F) :=
  constantI S_ 32 3#32
theorem val_main_c_25_apply (i : S_.Idx) :
    val_main_c_25 (F := F) i = 3#32 := rfl

def val_main_v46 : (⟨S64000x1792, .i32⟩ : BufTy).Contents (Elt F) :=
  broadcastInDim S64000x1792 ![] bcast_S_S64000x1792 (val_main_c_25 (F := F))
abbrev idx_main_v46 (i : S64000x1792.Idx) : S_.Idx := fun a => a.elim0
theorem val_main_v46_apply (i : S64000x1792.Idx) :
    val_main_v46 (F := F) i = val_main_c_25 (F := F) (idx_main_v46 i) := by
  unfold val_main_v46
  generalize val_main_c_25 (F := F) = y
  exact broadcastInDim_apply _ bcast_S_S64000x1792 y i (idx_main_v46 i) (fun a => a.elim0)

def val_main_v47 (x1 : (⟨S64000x1792, .i8⟩ : BufTy).Contents (Elt F)) : (⟨S64000x1792, .i32⟩ : BufTy).Contents (Elt F) :=
  Host.shrsi (val_main_v11 (F := F) x1) (val_main_v46 (F := F))
theorem val_main_v47_apply (x1 : (⟨S64000x1792, .i8⟩ : BufTy).Contents (Elt F)) (i : S64000x1792.Idx) :
    val_main_v47 (F := F) x1 i = IntOp.shrsi .host (val_main_v11 (F := F) x1 i) (val_main_v46 (F := F) i) := rfl

def val_main_c_26 : (⟨S_, .i32⟩ : BufTy).Contents (Elt F) :=
  constantI S_ 32 1#32
theorem val_main_c_26_apply (i : S_.Idx) :
    val_main_c_26 (F := F) i = 1#32 := rfl

def val_main_v48 : (⟨S64000x1792, .i32⟩ : BufTy).Contents (Elt F) :=
  broadcastInDim S64000x1792 ![] bcast_S_S64000x1792 (val_main_c_26 (F := F))
abbrev idx_main_v48 (i : S64000x1792.Idx) : S_.Idx := fun a => a.elim0
theorem val_main_v48_apply (i : S64000x1792.Idx) :
    val_main_v48 (F := F) i = val_main_c_26 (F := F) (idx_main_v48 i) := by
  unfold val_main_v48
  generalize val_main_c_26 (F := F) = y
  exact broadcastInDim_apply _ bcast_S_S64000x1792 y i (idx_main_v48 i) (fun a => a.elim0)

def val_main_v49 (x1 : (⟨S64000x1792, .i8⟩ : BufTy).Contents (Elt F)) : (⟨S64000x1792, .i32⟩ : BufTy).Contents (Elt F) :=
  andi (val_main_v47 (F := F) x1) (val_main_v48 (F := F))
theorem val_main_v49_apply (x1 : (⟨S64000x1792, .i8⟩ : BufTy).Contents (Elt F)) (i : S64000x1792.Idx) :
    val_main_v49 (F := F) x1 i = IntOp.andi (val_main_v47 (F := F) x1 i) (val_main_v48 (F := F) i) := rfl

def val_main_c_27 : (⟨S_, .i32⟩ : BufTy).Contents (Elt F) :=
  constantI S_ 32 1#32
theorem val_main_c_27_apply (i : S_.Idx) :
    val_main_c_27 (F := F) i = 1#32 := rfl

def val_main_v50 : (⟨S64000x1792, .i32⟩ : BufTy).Contents (Elt F) :=
  broadcastInDim S64000x1792 ![] bcast_S_S64000x1792 (val_main_c_27 (F := F))
abbrev idx_main_v50 (i : S64000x1792.Idx) : S_.Idx := fun a => a.elim0
theorem val_main_v50_apply (i : S64000x1792.Idx) :
    val_main_v50 (F := F) i = val_main_c_27 (F := F) (idx_main_v50 i) := by
  unfold val_main_v50
  generalize val_main_c_27 (F := F) = y
  exact broadcastInDim_apply _ bcast_S_S64000x1792 y i (idx_main_v50 i) (fun a => a.elim0)

def val_main_v51 (x1 : (⟨S64000x1792, .i8⟩ : BufTy).Contents (Elt F)) : (⟨S64000x1792, .i1⟩ : BufTy).Contents (Elt F) :=
  cmpi .eq (val_main_v49 (F := F) x1) (val_main_v50 (F := F))
theorem val_main_v51_apply (x1 : (⟨S64000x1792, .i8⟩ : BufTy).Contents (Elt F)) (i : S64000x1792.Idx) :
    val_main_v51 (F := F) x1 i = IntOp.cmpi .eq (val_main_v49 (F := F) x1 i) (val_main_v50 (F := F) i) := rfl

def val_main_v52 (x1 : (⟨S64000x1792, .i8⟩ : BufTy).Contents (Elt F)) : (⟨S64000x1792, .bf16⟩ : BufTy).Contents (Elt F) :=
  select (val_main_v51 (F := F) x1) (val_main_v45 (F := F) x1) (val_main_v44 (F := F) x1)
theorem val_main_v52_apply (x1 : (⟨S64000x1792, .i8⟩ : BufTy).Contents (Elt F)) (i : S64000x1792.Idx) :
    val_main_v52 (F := F) x1 i = Scalar.select (val_main_v51 (F := F) x1 i) (val_main_v45 (F := F) x1 i) (val_main_v44 (F := F) x1 i) := rfl

def val_main_v53 (x1 : (⟨S64000x1792, .i8⟩ : BufTy).Contents (Elt F)) (x2 : (⟨S64000x112, .bf16⟩ : BufTy).Contents (Elt F)) : (⟨S64000x1792, .bf16⟩ : BufTy).Contents (Elt F) :=
  mulf (val_main_v52 (F := F) x1) (val_main_v8 (F := F) x2)
theorem val_main_v53_apply (x1 : (⟨S64000x1792, .i8⟩ : BufTy).Contents (Elt F)) (x2 : (⟨S64000x112, .bf16⟩ : BufTy).Contents (Elt F)) (i : S64000x1792.Idx) :
    val_main_v53 (F := F) x1 x2 i = FloatOps.mulf (val_main_v52 (F := F) x1 i) (val_main_v8 (F := F) x2 i) := rfl

def val_main_c_28 : (⟨S_, .i32⟩ : BufTy).Contents (Elt F) :=
  constantI S_ 32 0#32
theorem val_main_c_28_apply (i : S_.Idx) :
    val_main_c_28 (F := F) i = 0#32 := rfl

def val_main_v54 : (⟨S64000x1792, .i32⟩ : BufTy).Contents (Elt F) :=
  broadcastInDim S64000x1792 ![] bcast_S_S64000x1792 (val_main_c_28 (F := F))
abbrev idx_main_v54 (i : S64000x1792.Idx) : S_.Idx := fun a => a.elim0
theorem val_main_v54_apply (i : S64000x1792.Idx) :
    val_main_v54 (F := F) i = val_main_c_28 (F := F) (idx_main_v54 i) := by
  unfold val_main_v54
  generalize val_main_c_28 (F := F) = y
  exact broadcastInDim_apply _ bcast_S_S64000x1792 y i (idx_main_v54 i) (fun a => a.elim0)

def val_main_v55 (x1 : (⟨S64000x1792, .i8⟩ : BufTy).Contents (Elt F)) : (⟨S64000x1792, .i32⟩ : BufTy).Contents (Elt F) :=
  Host.shrsi (val_main_v13 (F := F) x1) (val_main_v54 (F := F))
theorem val_main_v55_apply (x1 : (⟨S64000x1792, .i8⟩ : BufTy).Contents (Elt F)) (i : S64000x1792.Idx) :
    val_main_v55 (F := F) x1 i = IntOp.shrsi .host (val_main_v13 (F := F) x1 i) (val_main_v54 (F := F) i) := rfl

def val_main_c_29 : (⟨S_, .i32⟩ : BufTy).Contents (Elt F) :=
  constantI S_ 32 1#32
theorem val_main_c_29_apply (i : S_.Idx) :
    val_main_c_29 (F := F) i = 1#32 := rfl

def val_main_v56 : (⟨S64000x1792, .i32⟩ : BufTy).Contents (Elt F) :=
  broadcastInDim S64000x1792 ![] bcast_S_S64000x1792 (val_main_c_29 (F := F))
abbrev idx_main_v56 (i : S64000x1792.Idx) : S_.Idx := fun a => a.elim0
theorem val_main_v56_apply (i : S64000x1792.Idx) :
    val_main_v56 (F := F) i = val_main_c_29 (F := F) (idx_main_v56 i) := by
  unfold val_main_v56
  generalize val_main_c_29 (F := F) = y
  exact broadcastInDim_apply _ bcast_S_S64000x1792 y i (idx_main_v56 i) (fun a => a.elim0)

def val_main_v57 (x1 : (⟨S64000x1792, .i8⟩ : BufTy).Contents (Elt F)) : (⟨S64000x1792, .i32⟩ : BufTy).Contents (Elt F) :=
  andi (val_main_v55 (F := F) x1) (val_main_v56 (F := F))
theorem val_main_v57_apply (x1 : (⟨S64000x1792, .i8⟩ : BufTy).Contents (Elt F)) (i : S64000x1792.Idx) :
    val_main_v57 (F := F) x1 i = IntOp.andi (val_main_v55 (F := F) x1 i) (val_main_v56 (F := F) i) := rfl

def val_main_c_30 : (⟨S_, .i32⟩ : BufTy).Contents (Elt F) :=
  constantI S_ 32 1#32
theorem val_main_c_30_apply (i : S_.Idx) :
    val_main_c_30 (F := F) i = 1#32 := rfl

def val_main_v58 : (⟨S64000x1792, .i32⟩ : BufTy).Contents (Elt F) :=
  broadcastInDim S64000x1792 ![] bcast_S_S64000x1792 (val_main_c_30 (F := F))
abbrev idx_main_v58 (i : S64000x1792.Idx) : S_.Idx := fun a => a.elim0
theorem val_main_v58_apply (i : S64000x1792.Idx) :
    val_main_v58 (F := F) i = val_main_c_30 (F := F) (idx_main_v58 i) := by
  unfold val_main_v58
  generalize val_main_c_30 (F := F) = y
  exact broadcastInDim_apply _ bcast_S_S64000x1792 y i (idx_main_v58 i) (fun a => a.elim0)

def val_main_v59 (x1 : (⟨S64000x1792, .i8⟩ : BufTy).Contents (Elt F)) : (⟨S64000x1792, .i1⟩ : BufTy).Contents (Elt F) :=
  cmpi .eq (val_main_v57 (F := F) x1) (val_main_v58 (F := F))
theorem val_main_v59_apply (x1 : (⟨S64000x1792, .i8⟩ : BufTy).Contents (Elt F)) (i : S64000x1792.Idx) :
    val_main_v59 (F := F) x1 i = IntOp.cmpi .eq (val_main_v57 (F := F) x1 i) (val_main_v58 (F := F) i) := rfl

def val_main_cst_31 : (⟨S_, .bf16⟩ : BufTy).Contents (Elt F) :=
  constant S_ .bf16 0xC2D0#16
theorem val_main_cst_31_apply (i : S_.Idx) :
    val_main_cst_31 (F := F) i = FloatOps.ofBits .bf16 0xC2D0#16 := rfl

def val_main_cst_32 : (⟨S_, .bf16⟩ : BufTy).Contents (Elt F) :=
  constant S_ .bf16 0xC2FE#16
theorem val_main_cst_32_apply (i : S_.Idx) :
    val_main_cst_32 (F := F) i = FloatOps.ofBits .bf16 0xC2FE#16 := rfl

-- @_where's %0 = stablehlo.broadcast_in_dim %arg1, dims = [] : (tensor<bf16>) -> tensor<64000x1792xbf16>, in %60 = func.call @_where(…) (record main_call15)
def val_main_call15_v0 : (⟨S64000x1792, .bf16⟩ : BufTy).Contents (Elt F) :=
  broadcastInDim S64000x1792 ![] bcast_S_S64000x1792 (val_main_cst_31 (F := F))
abbrev idx_main_call15_v0 (i : S64000x1792.Idx) : S_.Idx := fun a => a.elim0
theorem val_main_call15_v0_apply (i : S64000x1792.Idx) :
    val_main_call15_v0 (F := F) i = val_main_cst_31 (F := F) (idx_main_call15_v0 i) := by
  unfold val_main_call15_v0
  generalize val_main_cst_31 (F := F) = y
  exact broadcastInDim_apply _ bcast_S_S64000x1792 y i (idx_main_call15_v0 i) (fun a => a.elim0)

-- @_where's %1 = stablehlo.broadcast_in_dim %arg2, dims = [] : (tensor<bf16>) -> tensor<64000x1792xbf16>, in %60 = func.call @_where(…) (record main_call15)
def val_main_call15_v1 : (⟨S64000x1792, .bf16⟩ : BufTy).Contents (Elt F) :=
  broadcastInDim S64000x1792 ![] bcast_S_S64000x1792 (val_main_cst_32 (F := F))
abbrev idx_main_call15_v1 (i : S64000x1792.Idx) : S_.Idx := fun a => a.elim0
theorem val_main_call15_v1_apply (i : S64000x1792.Idx) :
    val_main_call15_v1 (F := F) i = val_main_cst_32 (F := F) (idx_main_call15_v1 i) := by
  unfold val_main_call15_v1
  generalize val_main_cst_32 (F := F) = y
  exact broadcastInDim_apply _ bcast_S_S64000x1792 y i (idx_main_call15_v1 i) (fun a => a.elim0)

def val_main_v60 (x1 : (⟨S64000x1792, .i8⟩ : BufTy).Contents (Elt F)) : (⟨S64000x1792, .bf16⟩ : BufTy).Contents (Elt F) :=
  select (val_main_v59 (F := F) x1) (val_main_call15_v0 (F := F)) (val_main_call15_v1 (F := F))
theorem val_main_v60_apply (x1 : (⟨S64000x1792, .i8⟩ : BufTy).Contents (Elt F)) (i : S64000x1792.Idx) :
    val_main_v60 (F := F) x1 i = Scalar.select (val_main_v59 (F := F) x1 i) (val_main_call15_v0 (F := F) i) (val_main_call15_v1 (F := F) i) := rfl

def val_main_cst_33 : (⟨S_, .bf16⟩ : BufTy).Contents (Elt F) :=
  constant S_ .bf16 0xC282#16
theorem val_main_cst_33_apply (i : S_.Idx) :
    val_main_cst_33 (F := F) i = FloatOps.ofBits .bf16 0xC282#16 := rfl

def val_main_cst_34 : (⟨S_, .bf16⟩ : BufTy).Contents (Elt F) :=
  constant S_ .bf16 0xC2A6#16
theorem val_main_cst_34_apply (i : S_.Idx) :
    val_main_cst_34 (F := F) i = FloatOps.ofBits .bf16 0xC2A6#16 := rfl

-- @_where's %0 = stablehlo.broadcast_in_dim %arg1, dims = [] : (tensor<bf16>) -> tensor<64000x1792xbf16>, in %61 = func.call @_where(…) (record main_call16)
def val_main_call16_v0 : (⟨S64000x1792, .bf16⟩ : BufTy).Contents (Elt F) :=
  broadcastInDim S64000x1792 ![] bcast_S_S64000x1792 (val_main_cst_33 (F := F))
abbrev idx_main_call16_v0 (i : S64000x1792.Idx) : S_.Idx := fun a => a.elim0
theorem val_main_call16_v0_apply (i : S64000x1792.Idx) :
    val_main_call16_v0 (F := F) i = val_main_cst_33 (F := F) (idx_main_call16_v0 i) := by
  unfold val_main_call16_v0
  generalize val_main_cst_33 (F := F) = y
  exact broadcastInDim_apply _ bcast_S_S64000x1792 y i (idx_main_call16_v0 i) (fun a => a.elim0)

-- @_where's %1 = stablehlo.broadcast_in_dim %arg2, dims = [] : (tensor<bf16>) -> tensor<64000x1792xbf16>, in %61 = func.call @_where(…) (record main_call16)
def val_main_call16_v1 : (⟨S64000x1792, .bf16⟩ : BufTy).Contents (Elt F) :=
  broadcastInDim S64000x1792 ![] bcast_S_S64000x1792 (val_main_cst_34 (F := F))
abbrev idx_main_call16_v1 (i : S64000x1792.Idx) : S_.Idx := fun a => a.elim0
theorem val_main_call16_v1_apply (i : S64000x1792.Idx) :
    val_main_call16_v1 (F := F) i = val_main_cst_34 (F := F) (idx_main_call16_v1 i) := by
  unfold val_main_call16_v1
  generalize val_main_cst_34 (F := F) = y
  exact broadcastInDim_apply _ bcast_S_S64000x1792 y i (idx_main_call16_v1 i) (fun a => a.elim0)

def val_main_v61 (x1 : (⟨S64000x1792, .i8⟩ : BufTy).Contents (Elt F)) : (⟨S64000x1792, .bf16⟩ : BufTy).Contents (Elt F) :=
  select (val_main_v59 (F := F) x1) (val_main_call16_v0 (F := F)) (val_main_call16_v1 (F := F))
theorem val_main_v61_apply (x1 : (⟨S64000x1792, .i8⟩ : BufTy).Contents (Elt F)) (i : S64000x1792.Idx) :
    val_main_v61 (F := F) x1 i = Scalar.select (val_main_v59 (F := F) x1 i) (val_main_call16_v0 (F := F) i) (val_main_call16_v1 (F := F) i) := rfl

def val_main_cst_35 : (⟨S_, .bf16⟩ : BufTy).Contents (Elt F) :=
  constant S_ .bf16 0xC20C#16
theorem val_main_cst_35_apply (i : S_.Idx) :
    val_main_cst_35 (F := F) i = FloatOps.ofBits .bf16 0xC20C#16 := rfl

def val_main_cst_36 : (⟨S_, .bf16⟩ : BufTy).Contents (Elt F) :=
  constant S_ .bf16 0xC244#16
theorem val_main_cst_36_apply (i : S_.Idx) :
    val_main_cst_36 (F := F) i = FloatOps.ofBits .bf16 0xC244#16 := rfl

-- @_where's %0 = stablehlo.broadcast_in_dim %arg1, dims = [] : (tensor<bf16>) -> tensor<64000x1792xbf16>, in %62 = func.call @_where(…) (record main_call17)
def val_main_call17_v0 : (⟨S64000x1792, .bf16⟩ : BufTy).Contents (Elt F) :=
  broadcastInDim S64000x1792 ![] bcast_S_S64000x1792 (val_main_cst_35 (F := F))
abbrev idx_main_call17_v0 (i : S64000x1792.Idx) : S_.Idx := fun a => a.elim0
theorem val_main_call17_v0_apply (i : S64000x1792.Idx) :
    val_main_call17_v0 (F := F) i = val_main_cst_35 (F := F) (idx_main_call17_v0 i) := by
  unfold val_main_call17_v0
  generalize val_main_cst_35 (F := F) = y
  exact broadcastInDim_apply _ bcast_S_S64000x1792 y i (idx_main_call17_v0 i) (fun a => a.elim0)

-- @_where's %1 = stablehlo.broadcast_in_dim %arg2, dims = [] : (tensor<bf16>) -> tensor<64000x1792xbf16>, in %62 = func.call @_where(…) (record main_call17)
def val_main_call17_v1 : (⟨S64000x1792, .bf16⟩ : BufTy).Contents (Elt F) :=
  broadcastInDim S64000x1792 ![] bcast_S_S64000x1792 (val_main_cst_36 (F := F))
abbrev idx_main_call17_v1 (i : S64000x1792.Idx) : S_.Idx := fun a => a.elim0
theorem val_main_call17_v1_apply (i : S64000x1792.Idx) :
    val_main_call17_v1 (F := F) i = val_main_cst_36 (F := F) (idx_main_call17_v1 i) := by
  unfold val_main_call17_v1
  generalize val_main_cst_36 (F := F) = y
  exact broadcastInDim_apply _ bcast_S_S64000x1792 y i (idx_main_call17_v1 i) (fun a => a.elim0)

def val_main_v62 (x1 : (⟨S64000x1792, .i8⟩ : BufTy).Contents (Elt F)) : (⟨S64000x1792, .bf16⟩ : BufTy).Contents (Elt F) :=
  select (val_main_v59 (F := F) x1) (val_main_call17_v0 (F := F)) (val_main_call17_v1 (F := F))
theorem val_main_v62_apply (x1 : (⟨S64000x1792, .i8⟩ : BufTy).Contents (Elt F)) (i : S64000x1792.Idx) :
    val_main_v62 (F := F) x1 i = Scalar.select (val_main_v59 (F := F) x1 i) (val_main_call17_v0 (F := F) i) (val_main_call17_v1 (F := F) i) := rfl

def val_main_cst_37 : (⟨S_, .bf16⟩ : BufTy).Contents (Elt F) :=
  constant S_ .bf16 0xC120#16
theorem val_main_cst_37_apply (i : S_.Idx) :
    val_main_cst_37 (F := F) i = FloatOps.ofBits .bf16 0xC120#16 := rfl

def val_main_cst_38 : (⟨S_, .bf16⟩ : BufTy).Contents (Elt F) :=
  constant S_ .bf16 0xC1B0#16
theorem val_main_cst_38_apply (i : S_.Idx) :
    val_main_cst_38 (F := F) i = FloatOps.ofBits .bf16 0xC1B0#16 := rfl

-- @_where's %0 = stablehlo.broadcast_in_dim %arg1, dims = [] : (tensor<bf16>) -> tensor<64000x1792xbf16>, in %63 = func.call @_where(…) (record main_call18)
def val_main_call18_v0 : (⟨S64000x1792, .bf16⟩ : BufTy).Contents (Elt F) :=
  broadcastInDim S64000x1792 ![] bcast_S_S64000x1792 (val_main_cst_37 (F := F))
abbrev idx_main_call18_v0 (i : S64000x1792.Idx) : S_.Idx := fun a => a.elim0
theorem val_main_call18_v0_apply (i : S64000x1792.Idx) :
    val_main_call18_v0 (F := F) i = val_main_cst_37 (F := F) (idx_main_call18_v0 i) := by
  unfold val_main_call18_v0
  generalize val_main_cst_37 (F := F) = y
  exact broadcastInDim_apply _ bcast_S_S64000x1792 y i (idx_main_call18_v0 i) (fun a => a.elim0)

-- @_where's %1 = stablehlo.broadcast_in_dim %arg2, dims = [] : (tensor<bf16>) -> tensor<64000x1792xbf16>, in %63 = func.call @_where(…) (record main_call18)
def val_main_call18_v1 : (⟨S64000x1792, .bf16⟩ : BufTy).Contents (Elt F) :=
  broadcastInDim S64000x1792 ![] bcast_S_S64000x1792 (val_main_cst_38 (F := F))
abbrev idx_main_call18_v1 (i : S64000x1792.Idx) : S_.Idx := fun a => a.elim0
theorem val_main_call18_v1_apply (i : S64000x1792.Idx) :
    val_main_call18_v1 (F := F) i = val_main_cst_38 (F := F) (idx_main_call18_v1 i) := by
  unfold val_main_call18_v1
  generalize val_main_cst_38 (F := F) = y
  exact broadcastInDim_apply _ bcast_S_S64000x1792 y i (idx_main_call18_v1 i) (fun a => a.elim0)

def val_main_v63 (x1 : (⟨S64000x1792, .i8⟩ : BufTy).Contents (Elt F)) : (⟨S64000x1792, .bf16⟩ : BufTy).Contents (Elt F) :=
  select (val_main_v59 (F := F) x1) (val_main_call18_v0 (F := F)) (val_main_call18_v1 (F := F))
theorem val_main_v63_apply (x1 : (⟨S64000x1792, .i8⟩ : BufTy).Contents (Elt F)) (i : S64000x1792.Idx) :
    val_main_v63 (F := F) x1 i = Scalar.select (val_main_v59 (F := F) x1 i) (val_main_call18_v0 (F := F) i) (val_main_call18_v1 (F := F) i) := rfl

def val_main_cst_39 : (⟨S_, .bf16⟩ : BufTy).Contents (Elt F) :=
  constant S_ .bf16 0x4150#16
theorem val_main_cst_39_apply (i : S_.Idx) :
    val_main_cst_39 (F := F) i = FloatOps.ofBits .bf16 0x4150#16 := rfl

def val_main_cst_40 : (⟨S_, .bf16⟩ : BufTy).Contents (Elt F) :=
  constant S_ .bf16 0x3F80#16
theorem val_main_cst_40_apply (i : S_.Idx) :
    val_main_cst_40 (F := F) i = FloatOps.ofBits .bf16 0x3F80#16 := rfl

-- @_where's %0 = stablehlo.broadcast_in_dim %arg1, dims = [] : (tensor<bf16>) -> tensor<64000x1792xbf16>, in %64 = func.call @_where(…) (record main_call19)
def val_main_call19_v0 : (⟨S64000x1792, .bf16⟩ : BufTy).Contents (Elt F) :=
  broadcastInDim S64000x1792 ![] bcast_S_S64000x1792 (val_main_cst_39 (F := F))
abbrev idx_main_call19_v0 (i : S64000x1792.Idx) : S_.Idx := fun a => a.elim0
theorem val_main_call19_v0_apply (i : S64000x1792.Idx) :
    val_main_call19_v0 (F := F) i = val_main_cst_39 (F := F) (idx_main_call19_v0 i) := by
  unfold val_main_call19_v0
  generalize val_main_cst_39 (F := F) = y
  exact broadcastInDim_apply _ bcast_S_S64000x1792 y i (idx_main_call19_v0 i) (fun a => a.elim0)

-- @_where's %1 = stablehlo.broadcast_in_dim %arg2, dims = [] : (tensor<bf16>) -> tensor<64000x1792xbf16>, in %64 = func.call @_where(…) (record main_call19)
def val_main_call19_v1 : (⟨S64000x1792, .bf16⟩ : BufTy).Contents (Elt F) :=
  broadcastInDim S64000x1792 ![] bcast_S_S64000x1792 (val_main_cst_40 (F := F))
abbrev idx_main_call19_v1 (i : S64000x1792.Idx) : S_.Idx := fun a => a.elim0
theorem val_main_call19_v1_apply (i : S64000x1792.Idx) :
    val_main_call19_v1 (F := F) i = val_main_cst_40 (F := F) (idx_main_call19_v1 i) := by
  unfold val_main_call19_v1
  generalize val_main_cst_40 (F := F) = y
  exact broadcastInDim_apply _ bcast_S_S64000x1792 y i (idx_main_call19_v1 i) (fun a => a.elim0)

def val_main_v64 (x1 : (⟨S64000x1792, .i8⟩ : BufTy).Contents (Elt F)) : (⟨S64000x1792, .bf16⟩ : BufTy).Contents (Elt F) :=
  select (val_main_v59 (F := F) x1) (val_main_call19_v0 (F := F)) (val_main_call19_v1 (F := F))
theorem val_main_v64_apply (x1 : (⟨S64000x1792, .i8⟩ : BufTy).Contents (Elt F)) (i : S64000x1792.Idx) :
    val_main_v64 (F := F) x1 i = Scalar.select (val_main_v59 (F := F) x1 i) (val_main_call19_v0 (F := F) i) (val_main_call19_v1 (F := F) i) := rfl

def val_main_cst_41 : (⟨S_, .bf16⟩ : BufTy).Contents (Elt F) :=
  constant S_ .bf16 0x4218#16
theorem val_main_cst_41_apply (i : S_.Idx) :
    val_main_cst_41 (F := F) i = FloatOps.ofBits .bf16 0x4218#16 := rfl

def val_main_cst_42 : (⟨S_, .bf16⟩ : BufTy).Contents (Elt F) :=
  constant S_ .bf16 0x41C8#16
theorem val_main_cst_42_apply (i : S_.Idx) :
    val_main_cst_42 (F := F) i = FloatOps.ofBits .bf16 0x41C8#16 := rfl

-- @_where's %0 = stablehlo.broadcast_in_dim %arg1, dims = [] : (tensor<bf16>) -> tensor<64000x1792xbf16>, in %65 = func.call @_where(…) (record main_call20)
def val_main_call20_v0 : (⟨S64000x1792, .bf16⟩ : BufTy).Contents (Elt F) :=
  broadcastInDim S64000x1792 ![] bcast_S_S64000x1792 (val_main_cst_41 (F := F))
abbrev idx_main_call20_v0 (i : S64000x1792.Idx) : S_.Idx := fun a => a.elim0
theorem val_main_call20_v0_apply (i : S64000x1792.Idx) :
    val_main_call20_v0 (F := F) i = val_main_cst_41 (F := F) (idx_main_call20_v0 i) := by
  unfold val_main_call20_v0
  generalize val_main_cst_41 (F := F) = y
  exact broadcastInDim_apply _ bcast_S_S64000x1792 y i (idx_main_call20_v0 i) (fun a => a.elim0)

-- @_where's %1 = stablehlo.broadcast_in_dim %arg2, dims = [] : (tensor<bf16>) -> tensor<64000x1792xbf16>, in %65 = func.call @_where(…) (record main_call20)
def val_main_call20_v1 : (⟨S64000x1792, .bf16⟩ : BufTy).Contents (Elt F) :=
  broadcastInDim S64000x1792 ![] bcast_S_S64000x1792 (val_main_cst_42 (F := F))
abbrev idx_main_call20_v1 (i : S64000x1792.Idx) : S_.Idx := fun a => a.elim0
theorem val_main_call20_v1_apply (i : S64000x1792.Idx) :
    val_main_call20_v1 (F := F) i = val_main_cst_42 (F := F) (idx_main_call20_v1 i) := by
  unfold val_main_call20_v1
  generalize val_main_cst_42 (F := F) = y
  exact broadcastInDim_apply _ bcast_S_S64000x1792 y i (idx_main_call20_v1 i) (fun a => a.elim0)

def val_main_v65 (x1 : (⟨S64000x1792, .i8⟩ : BufTy).Contents (Elt F)) : (⟨S64000x1792, .bf16⟩ : BufTy).Contents (Elt F) :=
  select (val_main_v59 (F := F) x1) (val_main_call20_v0 (F := F)) (val_main_call20_v1 (F := F))
theorem val_main_v65_apply (x1 : (⟨S64000x1792, .i8⟩ : BufTy).Contents (Elt F)) (i : S64000x1792.Idx) :
    val_main_v65 (F := F) x1 i = Scalar.select (val_main_v59 (F := F) x1 i) (val_main_call20_v0 (F := F) i) (val_main_call20_v1 (F := F) i) := rfl

def val_main_cst_43 : (⟨S_, .bf16⟩ : BufTy).Contents (Elt F) :=
  constant S_ .bf16 0x428A#16
theorem val_main_cst_43_apply (i : S_.Idx) :
    val_main_cst_43 (F := F) i = FloatOps.ofBits .bf16 0x428A#16 := rfl

def val_main_cst_44 : (⟨S_, .bf16⟩ : BufTy).Contents (Elt F) :=
  constant S_ .bf16 0x4254#16
theorem val_main_cst_44_apply (i : S_.Idx) :
    val_main_cst_44 (F := F) i = FloatOps.ofBits .bf16 0x4254#16 := rfl

-- @_where's %0 = stablehlo.broadcast_in_dim %arg1, dims = [] : (tensor<bf16>) -> tensor<64000x1792xbf16>, in %66 = func.call @_where(…) (record main_call21)
def val_main_call21_v0 : (⟨S64000x1792, .bf16⟩ : BufTy).Contents (Elt F) :=
  broadcastInDim S64000x1792 ![] bcast_S_S64000x1792 (val_main_cst_43 (F := F))
abbrev idx_main_call21_v0 (i : S64000x1792.Idx) : S_.Idx := fun a => a.elim0
theorem val_main_call21_v0_apply (i : S64000x1792.Idx) :
    val_main_call21_v0 (F := F) i = val_main_cst_43 (F := F) (idx_main_call21_v0 i) := by
  unfold val_main_call21_v0
  generalize val_main_cst_43 (F := F) = y
  exact broadcastInDim_apply _ bcast_S_S64000x1792 y i (idx_main_call21_v0 i) (fun a => a.elim0)

-- @_where's %1 = stablehlo.broadcast_in_dim %arg2, dims = [] : (tensor<bf16>) -> tensor<64000x1792xbf16>, in %66 = func.call @_where(…) (record main_call21)
def val_main_call21_v1 : (⟨S64000x1792, .bf16⟩ : BufTy).Contents (Elt F) :=
  broadcastInDim S64000x1792 ![] bcast_S_S64000x1792 (val_main_cst_44 (F := F))
abbrev idx_main_call21_v1 (i : S64000x1792.Idx) : S_.Idx := fun a => a.elim0
theorem val_main_call21_v1_apply (i : S64000x1792.Idx) :
    val_main_call21_v1 (F := F) i = val_main_cst_44 (F := F) (idx_main_call21_v1 i) := by
  unfold val_main_call21_v1
  generalize val_main_cst_44 (F := F) = y
  exact broadcastInDim_apply _ bcast_S_S64000x1792 y i (idx_main_call21_v1 i) (fun a => a.elim0)

def val_main_v66 (x1 : (⟨S64000x1792, .i8⟩ : BufTy).Contents (Elt F)) : (⟨S64000x1792, .bf16⟩ : BufTy).Contents (Elt F) :=
  select (val_main_v59 (F := F) x1) (val_main_call21_v0 (F := F)) (val_main_call21_v1 (F := F))
theorem val_main_v66_apply (x1 : (⟨S64000x1792, .i8⟩ : BufTy).Contents (Elt F)) (i : S64000x1792.Idx) :
    val_main_v66 (F := F) x1 i = Scalar.select (val_main_v59 (F := F) x1 i) (val_main_call21_v0 (F := F) i) (val_main_call21_v1 (F := F) i) := rfl

def val_main_cst_45 : (⟨S_, .bf16⟩ : BufTy).Contents (Elt F) :=
  constant S_ .bf16 0x42E2#16
theorem val_main_cst_45_apply (i : S_.Idx) :
    val_main_cst_45 (F := F) i = FloatOps.ofBits .bf16 0x42E2#16 := rfl

def val_main_cst_46 : (⟨S_, .bf16⟩ : BufTy).Contents (Elt F) :=
  constant S_ .bf16 0x42B2#16
theorem val_main_cst_46_apply (i : S_.Idx) :
    val_main_cst_46 (F := F) i = FloatOps.ofBits .bf16 0x42B2#16 := rfl

-- @_where's %0 = stablehlo.broadcast_in_dim %arg1, dims = [] : (tensor<bf16>) -> tensor<64000x1792xbf16>, in %67 = func.call @_where(…) (record main_call22)
def val_main_call22_v0 : (⟨S64000x1792, .bf16⟩ : BufTy).Contents (Elt F) :=
  broadcastInDim S64000x1792 ![] bcast_S_S64000x1792 (val_main_cst_45 (F := F))
abbrev idx_main_call22_v0 (i : S64000x1792.Idx) : S_.Idx := fun a => a.elim0
theorem val_main_call22_v0_apply (i : S64000x1792.Idx) :
    val_main_call22_v0 (F := F) i = val_main_cst_45 (F := F) (idx_main_call22_v0 i) := by
  unfold val_main_call22_v0
  generalize val_main_cst_45 (F := F) = y
  exact broadcastInDim_apply _ bcast_S_S64000x1792 y i (idx_main_call22_v0 i) (fun a => a.elim0)

-- @_where's %1 = stablehlo.broadcast_in_dim %arg2, dims = [] : (tensor<bf16>) -> tensor<64000x1792xbf16>, in %67 = func.call @_where(…) (record main_call22)
def val_main_call22_v1 : (⟨S64000x1792, .bf16⟩ : BufTy).Contents (Elt F) :=
  broadcastInDim S64000x1792 ![] bcast_S_S64000x1792 (val_main_cst_46 (F := F))
abbrev idx_main_call22_v1 (i : S64000x1792.Idx) : S_.Idx := fun a => a.elim0
theorem val_main_call22_v1_apply (i : S64000x1792.Idx) :
    val_main_call22_v1 (F := F) i = val_main_cst_46 (F := F) (idx_main_call22_v1 i) := by
  unfold val_main_call22_v1
  generalize val_main_cst_46 (F := F) = y
  exact broadcastInDim_apply _ bcast_S_S64000x1792 y i (idx_main_call22_v1 i) (fun a => a.elim0)

def val_main_v67 (x1 : (⟨S64000x1792, .i8⟩ : BufTy).Contents (Elt F)) : (⟨S64000x1792, .bf16⟩ : BufTy).Contents (Elt F) :=
  select (val_main_v59 (F := F) x1) (val_main_call22_v0 (F := F)) (val_main_call22_v1 (F := F))
theorem val_main_v67_apply (x1 : (⟨S64000x1792, .i8⟩ : BufTy).Contents (Elt F)) (i : S64000x1792.Idx) :
    val_main_v67 (F := F) x1 i = Scalar.select (val_main_v59 (F := F) x1 i) (val_main_call22_v0 (F := F) i) (val_main_call22_v1 (F := F) i) := rfl

def val_main_c_47 : (⟨S_, .i32⟩ : BufTy).Contents (Elt F) :=
  constantI S_ 32 1#32
theorem val_main_c_47_apply (i : S_.Idx) :
    val_main_c_47 (F := F) i = 1#32 := rfl

def val_main_v68 : (⟨S64000x1792, .i32⟩ : BufTy).Contents (Elt F) :=
  broadcastInDim S64000x1792 ![] bcast_S_S64000x1792 (val_main_c_47 (F := F))
abbrev idx_main_v68 (i : S64000x1792.Idx) : S_.Idx := fun a => a.elim0
theorem val_main_v68_apply (i : S64000x1792.Idx) :
    val_main_v68 (F := F) i = val_main_c_47 (F := F) (idx_main_v68 i) := by
  unfold val_main_v68
  generalize val_main_c_47 (F := F) = y
  exact broadcastInDim_apply _ bcast_S_S64000x1792 y i (idx_main_v68 i) (fun a => a.elim0)

def val_main_v69 (x1 : (⟨S64000x1792, .i8⟩ : BufTy).Contents (Elt F)) : (⟨S64000x1792, .i32⟩ : BufTy).Contents (Elt F) :=
  Host.shrsi (val_main_v13 (F := F) x1) (val_main_v68 (F := F))
theorem val_main_v69_apply (x1 : (⟨S64000x1792, .i8⟩ : BufTy).Contents (Elt F)) (i : S64000x1792.Idx) :
    val_main_v69 (F := F) x1 i = IntOp.shrsi .host (val_main_v13 (F := F) x1 i) (val_main_v68 (F := F) i) := rfl

def val_main_c_48 : (⟨S_, .i32⟩ : BufTy).Contents (Elt F) :=
  constantI S_ 32 1#32
theorem val_main_c_48_apply (i : S_.Idx) :
    val_main_c_48 (F := F) i = 1#32 := rfl

def val_main_v70 : (⟨S64000x1792, .i32⟩ : BufTy).Contents (Elt F) :=
  broadcastInDim S64000x1792 ![] bcast_S_S64000x1792 (val_main_c_48 (F := F))
abbrev idx_main_v70 (i : S64000x1792.Idx) : S_.Idx := fun a => a.elim0
theorem val_main_v70_apply (i : S64000x1792.Idx) :
    val_main_v70 (F := F) i = val_main_c_48 (F := F) (idx_main_v70 i) := by
  unfold val_main_v70
  generalize val_main_c_48 (F := F) = y
  exact broadcastInDim_apply _ bcast_S_S64000x1792 y i (idx_main_v70 i) (fun a => a.elim0)

def val_main_v71 (x1 : (⟨S64000x1792, .i8⟩ : BufTy).Contents (Elt F)) : (⟨S64000x1792, .i32⟩ : BufTy).Contents (Elt F) :=
  andi (val_main_v69 (F := F) x1) (val_main_v70 (F := F))
theorem val_main_v71_apply (x1 : (⟨S64000x1792, .i8⟩ : BufTy).Contents (Elt F)) (i : S64000x1792.Idx) :
    val_main_v71 (F := F) x1 i = IntOp.andi (val_main_v69 (F := F) x1 i) (val_main_v70 (F := F) i) := rfl

def val_main_c_49 : (⟨S_, .i32⟩ : BufTy).Contents (Elt F) :=
  constantI S_ 32 1#32
theorem val_main_c_49_apply (i : S_.Idx) :
    val_main_c_49 (F := F) i = 1#32 := rfl

def val_main_v72 : (⟨S64000x1792, .i32⟩ : BufTy).Contents (Elt F) :=
  broadcastInDim S64000x1792 ![] bcast_S_S64000x1792 (val_main_c_49 (F := F))
abbrev idx_main_v72 (i : S64000x1792.Idx) : S_.Idx := fun a => a.elim0
theorem val_main_v72_apply (i : S64000x1792.Idx) :
    val_main_v72 (F := F) i = val_main_c_49 (F := F) (idx_main_v72 i) := by
  unfold val_main_v72
  generalize val_main_c_49 (F := F) = y
  exact broadcastInDim_apply _ bcast_S_S64000x1792 y i (idx_main_v72 i) (fun a => a.elim0)

def val_main_v73 (x1 : (⟨S64000x1792, .i8⟩ : BufTy).Contents (Elt F)) : (⟨S64000x1792, .i1⟩ : BufTy).Contents (Elt F) :=
  cmpi .eq (val_main_v71 (F := F) x1) (val_main_v72 (F := F))
theorem val_main_v73_apply (x1 : (⟨S64000x1792, .i8⟩ : BufTy).Contents (Elt F)) (i : S64000x1792.Idx) :
    val_main_v73 (F := F) x1 i = IntOp.cmpi .eq (val_main_v71 (F := F) x1 i) (val_main_v72 (F := F) i) := rfl

def val_main_v74 (x1 : (⟨S64000x1792, .i8⟩ : BufTy).Contents (Elt F)) : (⟨S64000x1792, .bf16⟩ : BufTy).Contents (Elt F) :=
  select (val_main_v73 (F := F) x1) (val_main_v61 (F := F) x1) (val_main_v60 (F := F) x1)
theorem val_main_v74_apply (x1 : (⟨S64000x1792, .i8⟩ : BufTy).Contents (Elt F)) (i : S64000x1792.Idx) :
    val_main_v74 (F := F) x1 i = Scalar.select (val_main_v73 (F := F) x1 i) (val_main_v61 (F := F) x1 i) (val_main_v60 (F := F) x1 i) := rfl

def val_main_v75 (x1 : (⟨S64000x1792, .i8⟩ : BufTy).Contents (Elt F)) : (⟨S64000x1792, .bf16⟩ : BufTy).Contents (Elt F) :=
  select (val_main_v73 (F := F) x1) (val_main_v63 (F := F) x1) (val_main_v62 (F := F) x1)
theorem val_main_v75_apply (x1 : (⟨S64000x1792, .i8⟩ : BufTy).Contents (Elt F)) (i : S64000x1792.Idx) :
    val_main_v75 (F := F) x1 i = Scalar.select (val_main_v73 (F := F) x1 i) (val_main_v63 (F := F) x1 i) (val_main_v62 (F := F) x1 i) := rfl

def val_main_v76 (x1 : (⟨S64000x1792, .i8⟩ : BufTy).Contents (Elt F)) : (⟨S64000x1792, .bf16⟩ : BufTy).Contents (Elt F) :=
  select (val_main_v73 (F := F) x1) (val_main_v65 (F := F) x1) (val_main_v64 (F := F) x1)
theorem val_main_v76_apply (x1 : (⟨S64000x1792, .i8⟩ : BufTy).Contents (Elt F)) (i : S64000x1792.Idx) :
    val_main_v76 (F := F) x1 i = Scalar.select (val_main_v73 (F := F) x1 i) (val_main_v65 (F := F) x1 i) (val_main_v64 (F := F) x1 i) := rfl

def val_main_v77 (x1 : (⟨S64000x1792, .i8⟩ : BufTy).Contents (Elt F)) : (⟨S64000x1792, .bf16⟩ : BufTy).Contents (Elt F) :=
  select (val_main_v73 (F := F) x1) (val_main_v67 (F := F) x1) (val_main_v66 (F := F) x1)
theorem val_main_v77_apply (x1 : (⟨S64000x1792, .i8⟩ : BufTy).Contents (Elt F)) (i : S64000x1792.Idx) :
    val_main_v77 (F := F) x1 i = Scalar.select (val_main_v73 (F := F) x1 i) (val_main_v67 (F := F) x1 i) (val_main_v66 (F := F) x1 i) := rfl

def val_main_c_50 : (⟨S_, .i32⟩ : BufTy).Contents (Elt F) :=
  constantI S_ 32 2#32
theorem val_main_c_50_apply (i : S_.Idx) :
    val_main_c_50 (F := F) i = 2#32 := rfl

def val_main_v78 : (⟨S64000x1792, .i32⟩ : BufTy).Contents (Elt F) :=
  broadcastInDim S64000x1792 ![] bcast_S_S64000x1792 (val_main_c_50 (F := F))
abbrev idx_main_v78 (i : S64000x1792.Idx) : S_.Idx := fun a => a.elim0
theorem val_main_v78_apply (i : S64000x1792.Idx) :
    val_main_v78 (F := F) i = val_main_c_50 (F := F) (idx_main_v78 i) := by
  unfold val_main_v78
  generalize val_main_c_50 (F := F) = y
  exact broadcastInDim_apply _ bcast_S_S64000x1792 y i (idx_main_v78 i) (fun a => a.elim0)

def val_main_v79 (x1 : (⟨S64000x1792, .i8⟩ : BufTy).Contents (Elt F)) : (⟨S64000x1792, .i32⟩ : BufTy).Contents (Elt F) :=
  Host.shrsi (val_main_v13 (F := F) x1) (val_main_v78 (F := F))
theorem val_main_v79_apply (x1 : (⟨S64000x1792, .i8⟩ : BufTy).Contents (Elt F)) (i : S64000x1792.Idx) :
    val_main_v79 (F := F) x1 i = IntOp.shrsi .host (val_main_v13 (F := F) x1 i) (val_main_v78 (F := F) i) := rfl

def val_main_c_51 : (⟨S_, .i32⟩ : BufTy).Contents (Elt F) :=
  constantI S_ 32 1#32
theorem val_main_c_51_apply (i : S_.Idx) :
    val_main_c_51 (F := F) i = 1#32 := rfl

def val_main_v80 : (⟨S64000x1792, .i32⟩ : BufTy).Contents (Elt F) :=
  broadcastInDim S64000x1792 ![] bcast_S_S64000x1792 (val_main_c_51 (F := F))
abbrev idx_main_v80 (i : S64000x1792.Idx) : S_.Idx := fun a => a.elim0
theorem val_main_v80_apply (i : S64000x1792.Idx) :
    val_main_v80 (F := F) i = val_main_c_51 (F := F) (idx_main_v80 i) := by
  unfold val_main_v80
  generalize val_main_c_51 (F := F) = y
  exact broadcastInDim_apply _ bcast_S_S64000x1792 y i (idx_main_v80 i) (fun a => a.elim0)

def val_main_v81 (x1 : (⟨S64000x1792, .i8⟩ : BufTy).Contents (Elt F)) : (⟨S64000x1792, .i32⟩ : BufTy).Contents (Elt F) :=
  andi (val_main_v79 (F := F) x1) (val_main_v80 (F := F))
theorem val_main_v81_apply (x1 : (⟨S64000x1792, .i8⟩ : BufTy).Contents (Elt F)) (i : S64000x1792.Idx) :
    val_main_v81 (F := F) x1 i = IntOp.andi (val_main_v79 (F := F) x1 i) (val_main_v80 (F := F) i) := rfl

def val_main_c_52 : (⟨S_, .i32⟩ : BufTy).Contents (Elt F) :=
  constantI S_ 32 1#32
theorem val_main_c_52_apply (i : S_.Idx) :
    val_main_c_52 (F := F) i = 1#32 := rfl

def val_main_v82 : (⟨S64000x1792, .i32⟩ : BufTy).Contents (Elt F) :=
  broadcastInDim S64000x1792 ![] bcast_S_S64000x1792 (val_main_c_52 (F := F))
abbrev idx_main_v82 (i : S64000x1792.Idx) : S_.Idx := fun a => a.elim0
theorem val_main_v82_apply (i : S64000x1792.Idx) :
    val_main_v82 (F := F) i = val_main_c_52 (F := F) (idx_main_v82 i) := by
  unfold val_main_v82
  generalize val_main_c_52 (F := F) = y
  exact broadcastInDim_apply _ bcast_S_S64000x1792 y i (idx_main_v82 i) (fun a => a.elim0)

def val_main_v83 (x1 : (⟨S64000x1792, .i8⟩ : BufTy).Contents (Elt F)) : (⟨S64000x1792, .i1⟩ : BufTy).Contents (Elt F) :=
  cmpi .eq (val_main_v81 (F := F) x1) (val_main_v82 (F := F))
theorem val_main_v83_apply (x1 : (⟨S64000x1792, .i8⟩ : BufTy).Contents (Elt F)) (i : S64000x1792.Idx) :
    val_main_v83 (F := F) x1 i = IntOp.cmpi .eq (val_main_v81 (F := F) x1 i) (val_main_v82 (F := F) i) := rfl

def val_main_v84 (x1 : (⟨S64000x1792, .i8⟩ : BufTy).Contents (Elt F)) : (⟨S64000x1792, .bf16⟩ : BufTy).Contents (Elt F) :=
  select (val_main_v83 (F := F) x1) (val_main_v75 (F := F) x1) (val_main_v74 (F := F) x1)
theorem val_main_v84_apply (x1 : (⟨S64000x1792, .i8⟩ : BufTy).Contents (Elt F)) (i : S64000x1792.Idx) :
    val_main_v84 (F := F) x1 i = Scalar.select (val_main_v83 (F := F) x1 i) (val_main_v75 (F := F) x1 i) (val_main_v74 (F := F) x1 i) := rfl

def val_main_v85 (x1 : (⟨S64000x1792, .i8⟩ : BufTy).Contents (Elt F)) : (⟨S64000x1792, .bf16⟩ : BufTy).Contents (Elt F) :=
  select (val_main_v83 (F := F) x1) (val_main_v77 (F := F) x1) (val_main_v76 (F := F) x1)
theorem val_main_v85_apply (x1 : (⟨S64000x1792, .i8⟩ : BufTy).Contents (Elt F)) (i : S64000x1792.Idx) :
    val_main_v85 (F := F) x1 i = Scalar.select (val_main_v83 (F := F) x1 i) (val_main_v77 (F := F) x1 i) (val_main_v76 (F := F) x1 i) := rfl

def val_main_c_53 : (⟨S_, .i32⟩ : BufTy).Contents (Elt F) :=
  constantI S_ 32 3#32
theorem val_main_c_53_apply (i : S_.Idx) :
    val_main_c_53 (F := F) i = 3#32 := rfl

def val_main_v86 : (⟨S64000x1792, .i32⟩ : BufTy).Contents (Elt F) :=
  broadcastInDim S64000x1792 ![] bcast_S_S64000x1792 (val_main_c_53 (F := F))
abbrev idx_main_v86 (i : S64000x1792.Idx) : S_.Idx := fun a => a.elim0
theorem val_main_v86_apply (i : S64000x1792.Idx) :
    val_main_v86 (F := F) i = val_main_c_53 (F := F) (idx_main_v86 i) := by
  unfold val_main_v86
  generalize val_main_c_53 (F := F) = y
  exact broadcastInDim_apply _ bcast_S_S64000x1792 y i (idx_main_v86 i) (fun a => a.elim0)

def val_main_v87 (x1 : (⟨S64000x1792, .i8⟩ : BufTy).Contents (Elt F)) : (⟨S64000x1792, .i32⟩ : BufTy).Contents (Elt F) :=
  Host.shrsi (val_main_v13 (F := F) x1) (val_main_v86 (F := F))
theorem val_main_v87_apply (x1 : (⟨S64000x1792, .i8⟩ : BufTy).Contents (Elt F)) (i : S64000x1792.Idx) :
    val_main_v87 (F := F) x1 i = IntOp.shrsi .host (val_main_v13 (F := F) x1 i) (val_main_v86 (F := F) i) := rfl

def val_main_c_54 : (⟨S_, .i32⟩ : BufTy).Contents (Elt F) :=
  constantI S_ 32 1#32
theorem val_main_c_54_apply (i : S_.Idx) :
    val_main_c_54 (F := F) i = 1#32 := rfl

def val_main_v88 : (⟨S64000x1792, .i32⟩ : BufTy).Contents (Elt F) :=
  broadcastInDim S64000x1792 ![] bcast_S_S64000x1792 (val_main_c_54 (F := F))
abbrev idx_main_v88 (i : S64000x1792.Idx) : S_.Idx := fun a => a.elim0
theorem val_main_v88_apply (i : S64000x1792.Idx) :
    val_main_v88 (F := F) i = val_main_c_54 (F := F) (idx_main_v88 i) := by
  unfold val_main_v88
  generalize val_main_c_54 (F := F) = y
  exact broadcastInDim_apply _ bcast_S_S64000x1792 y i (idx_main_v88 i) (fun a => a.elim0)

def val_main_v89 (x1 : (⟨S64000x1792, .i8⟩ : BufTy).Contents (Elt F)) : (⟨S64000x1792, .i32⟩ : BufTy).Contents (Elt F) :=
  andi (val_main_v87 (F := F) x1) (val_main_v88 (F := F))
theorem val_main_v89_apply (x1 : (⟨S64000x1792, .i8⟩ : BufTy).Contents (Elt F)) (i : S64000x1792.Idx) :
    val_main_v89 (F := F) x1 i = IntOp.andi (val_main_v87 (F := F) x1 i) (val_main_v88 (F := F) i) := rfl

def val_main_c_55 : (⟨S_, .i32⟩ : BufTy).Contents (Elt F) :=
  constantI S_ 32 1#32
theorem val_main_c_55_apply (i : S_.Idx) :
    val_main_c_55 (F := F) i = 1#32 := rfl

def val_main_v90 : (⟨S64000x1792, .i32⟩ : BufTy).Contents (Elt F) :=
  broadcastInDim S64000x1792 ![] bcast_S_S64000x1792 (val_main_c_55 (F := F))
abbrev idx_main_v90 (i : S64000x1792.Idx) : S_.Idx := fun a => a.elim0
theorem val_main_v90_apply (i : S64000x1792.Idx) :
    val_main_v90 (F := F) i = val_main_c_55 (F := F) (idx_main_v90 i) := by
  unfold val_main_v90
  generalize val_main_c_55 (F := F) = y
  exact broadcastInDim_apply _ bcast_S_S64000x1792 y i (idx_main_v90 i) (fun a => a.elim0)

def val_main_v91 (x1 : (⟨S64000x1792, .i8⟩ : BufTy).Contents (Elt F)) : (⟨S64000x1792, .i1⟩ : BufTy).Contents (Elt F) :=
  cmpi .eq (val_main_v89 (F := F) x1) (val_main_v90 (F := F))
theorem val_main_v91_apply (x1 : (⟨S64000x1792, .i8⟩ : BufTy).Contents (Elt F)) (i : S64000x1792.Idx) :
    val_main_v91 (F := F) x1 i = IntOp.cmpi .eq (val_main_v89 (F := F) x1 i) (val_main_v90 (F := F) i) := rfl

def val_main_v92 (x1 : (⟨S64000x1792, .i8⟩ : BufTy).Contents (Elt F)) : (⟨S64000x1792, .bf16⟩ : BufTy).Contents (Elt F) :=
  select (val_main_v91 (F := F) x1) (val_main_v85 (F := F) x1) (val_main_v84 (F := F) x1)
theorem val_main_v92_apply (x1 : (⟨S64000x1792, .i8⟩ : BufTy).Contents (Elt F)) (i : S64000x1792.Idx) :
    val_main_v92 (F := F) x1 i = Scalar.select (val_main_v91 (F := F) x1 i) (val_main_v85 (F := F) x1 i) (val_main_v84 (F := F) x1 i) := rfl

def val_main_v93 (x1 : (⟨S64000x1792, .i8⟩ : BufTy).Contents (Elt F)) (x2 : (⟨S64000x112, .bf16⟩ : BufTy).Contents (Elt F)) : (⟨S64000x1792, .bf16⟩ : BufTy).Contents (Elt F) :=
  mulf (val_main_v92 (F := F) x1) (val_main_v8 (F := F) x2)
theorem val_main_v93_apply (x1 : (⟨S64000x1792, .i8⟩ : BufTy).Contents (Elt F)) (x2 : (⟨S64000x112, .bf16⟩ : BufTy).Contents (Elt F)) (i : S64000x1792.Idx) :
    val_main_v93 (F := F) x1 x2 i = FloatOps.mulf (val_main_v92 (F := F) x1 i) (val_main_v8 (F := F) x2 i) := rfl

def val_main_v94 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S128x64000, .f32⟩ : BufTy).Contents (Elt F) :=
  Host.dotGeneral dot_S128x1792_S64000x1792_S128x64000_1_1_0_0_n_n none (val_main_v3 (F := F) x0) (val_main_v53 (F := F) x1 x2)
theorem lhs_main_v94_0 (i : S128x64000.Idx) (q : dot_S128x1792_S64000x1792_S128x64000_1_1_0_0_n_n.contr.Idx) :
    (dot_S128x1792_S64000x1792_S128x64000_1_1_0_0_n_n.lhsIdx i q 0).val = (i 0).val := by
  unfold DotDims.lhsIdx
  rw [dif_neg (show ¬(0 : Fin S128x1792.rank) ∈ dot_S128x1792_S64000x1792_S128x64000_1_1_0_0_n_n.lhsBatch by decide), dif_pos (show (0 : Fin S128x1792.rank) ∈ dot_S128x1792_S64000x1792_S128x64000_1_1_0_0_n_n.lhsNonContracting by decide)]
  rfl
theorem lhs_main_v94_1 (i : S128x64000.Idx) (q : dot_S128x1792_S64000x1792_S128x64000_1_1_0_0_n_n.contr.Idx) :
    (dot_S128x1792_S64000x1792_S128x64000_1_1_0_0_n_n.lhsIdx i q 1).val = (q ⟨0, by decide⟩).val :=
  dot_S128x1792_S64000x1792_S128x64000_1_1_0_0_n_n.lhsIdx_val_of_single rfl i q
theorem rhs_main_v94_0 (i : S128x64000.Idx) (q : dot_S128x1792_S64000x1792_S128x64000_1_1_0_0_n_n.contr.Idx) :
    (dot_S128x1792_S64000x1792_S128x64000_1_1_0_0_n_n.rhsIdx i q 0).val = (i 1).val := by
  unfold DotDims.rhsIdx
  rw [dif_neg (show ¬(0 : Fin S64000x1792.rank) ∈ dot_S128x1792_S64000x1792_S128x64000_1_1_0_0_n_n.rhsBatch by decide), dif_pos (show (0 : Fin S64000x1792.rank) ∈ dot_S128x1792_S64000x1792_S128x64000_1_1_0_0_n_n.rhsNonContracting by decide)]
  rfl
theorem rhs_main_v94_1 (i : S128x64000.Idx) (q : dot_S128x1792_S64000x1792_S128x64000_1_1_0_0_n_n.contr.Idx) :
    (dot_S128x1792_S64000x1792_S128x64000_1_1_0_0_n_n.rhsIdx i q 1).val = (q ⟨0, by decide⟩).val :=
  dot_S128x1792_S64000x1792_S128x64000_1_1_0_0_n_n.rhsIdx_val_of_single rfl i q
abbrev lidx_main_v94 (i : S128x64000.Idx) (k : Fin 1792) : S128x1792.Idx := fun a => match a with
  | ⟨0, _⟩ => ⟨(i 0).val, (i 0).isLt⟩
  | ⟨1, _⟩ => ⟨k.val, k.isLt⟩
abbrev ridx_main_v94 (i : S128x64000.Idx) (k : Fin 1792) : S64000x1792.Idx := fun a => match a with
  | ⟨0, _⟩ => ⟨(i 1).val, (i 1).isLt⟩
  | ⟨1, _⟩ => ⟨k.val, k.isLt⟩
/-- Stated at `F := Ideal`, where the host's `dot_general` is this sum; at a bit-exact instance it is an opaque function of its operands. -/
theorem val_main_v94_apply (x0 : (⟨S128x1x3584, .bf16⟩ : BufTy).Contents (Elt Ideal)) (x1 : (⟨S64000x1792, .i8⟩ : BufTy).Contents (Elt Ideal)) (x2 : (⟨S64000x112, .bf16⟩ : BufTy).Contents (Elt Ideal)) (i : S128x64000.Idx) :
    val_main_v94 (F := Ideal) x0 x1 x2 i = ∑ k : Fin 1792, (val_main_v3 (F := Ideal) x0) (lidx_main_v94 i k) * (val_main_v53 (F := Ideal) x1 x2) (ridx_main_v94 i k) := by
  unfold val_main_v94
  generalize val_main_v3 (F := Ideal) x0 = y0
  generalize val_main_v53 (F := Ideal) x1 x2 = y1
  simp only [Host.dotGeneral]
  rw [Ideal.dotGeneral_apply, ← Equiv.sum_comp (ValueIdx.contrEquiv1 dot_S128x1792_S64000x1792_S128x64000_1_1_0_0_n_n 1792 rfl rfl).symm]
  refine Finset.sum_congr rfl fun k _ => ?_
  have hk := ValueIdx.contrEquiv1_symm_val dot_S128x1792_S64000x1792_S128x64000_1_1_0_0_n_n 1792 rfl rfl k
  have el : dot_S128x1792_S64000x1792_S128x64000_1_1_0_0_n_n.lhsIdx i ((ValueIdx.contrEquiv1 dot_S128x1792_S64000x1792_S128x64000_1_1_0_0_n_n 1792 rfl rfl).symm k) = lidx_main_v94 i k := funext fun a => Fin.ext (by
    match a with
    | ⟨0, _⟩ => exact lhs_main_v94_0 _ _
    | ⟨1, _⟩ => exact (lhs_main_v94_1 _ _).trans hk)
  have er : dot_S128x1792_S64000x1792_S128x64000_1_1_0_0_n_n.rhsIdx i ((ValueIdx.contrEquiv1 dot_S128x1792_S64000x1792_S128x64000_1_1_0_0_n_n 1792 rfl rfl).symm k) = ridx_main_v94 i k := funext fun a => Fin.ext (by
    match a with
    | ⟨0, _⟩ => exact rhs_main_v94_0 _ _
    | ⟨1, _⟩ => exact (rhs_main_v94_1 _ _).trans hk)
  rw [el, er]

def val_main_v95 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S128x64000, .f32⟩ : BufTy).Contents (Elt F) :=
  Host.dotGeneral dot_S128x1792_S64000x1792_S128x64000_1_1_0_0_n_n none (val_main_v6 (F := F) x0) (val_main_v93 (F := F) x1 x2)
theorem lhs_main_v95_0 (i : S128x64000.Idx) (q : dot_S128x1792_S64000x1792_S128x64000_1_1_0_0_n_n.contr.Idx) :
    (dot_S128x1792_S64000x1792_S128x64000_1_1_0_0_n_n.lhsIdx i q 0).val = (i 0).val := by
  unfold DotDims.lhsIdx
  rw [dif_neg (show ¬(0 : Fin S128x1792.rank) ∈ dot_S128x1792_S64000x1792_S128x64000_1_1_0_0_n_n.lhsBatch by decide), dif_pos (show (0 : Fin S128x1792.rank) ∈ dot_S128x1792_S64000x1792_S128x64000_1_1_0_0_n_n.lhsNonContracting by decide)]
  rfl
theorem lhs_main_v95_1 (i : S128x64000.Idx) (q : dot_S128x1792_S64000x1792_S128x64000_1_1_0_0_n_n.contr.Idx) :
    (dot_S128x1792_S64000x1792_S128x64000_1_1_0_0_n_n.lhsIdx i q 1).val = (q ⟨0, by decide⟩).val :=
  dot_S128x1792_S64000x1792_S128x64000_1_1_0_0_n_n.lhsIdx_val_of_single rfl i q
theorem rhs_main_v95_0 (i : S128x64000.Idx) (q : dot_S128x1792_S64000x1792_S128x64000_1_1_0_0_n_n.contr.Idx) :
    (dot_S128x1792_S64000x1792_S128x64000_1_1_0_0_n_n.rhsIdx i q 0).val = (i 1).val := by
  unfold DotDims.rhsIdx
  rw [dif_neg (show ¬(0 : Fin S64000x1792.rank) ∈ dot_S128x1792_S64000x1792_S128x64000_1_1_0_0_n_n.rhsBatch by decide), dif_pos (show (0 : Fin S64000x1792.rank) ∈ dot_S128x1792_S64000x1792_S128x64000_1_1_0_0_n_n.rhsNonContracting by decide)]
  rfl
theorem rhs_main_v95_1 (i : S128x64000.Idx) (q : dot_S128x1792_S64000x1792_S128x64000_1_1_0_0_n_n.contr.Idx) :
    (dot_S128x1792_S64000x1792_S128x64000_1_1_0_0_n_n.rhsIdx i q 1).val = (q ⟨0, by decide⟩).val :=
  dot_S128x1792_S64000x1792_S128x64000_1_1_0_0_n_n.rhsIdx_val_of_single rfl i q
abbrev lidx_main_v95 (i : S128x64000.Idx) (k : Fin 1792) : S128x1792.Idx := fun a => match a with
  | ⟨0, _⟩ => ⟨(i 0).val, (i 0).isLt⟩
  | ⟨1, _⟩ => ⟨k.val, k.isLt⟩
abbrev ridx_main_v95 (i : S128x64000.Idx) (k : Fin 1792) : S64000x1792.Idx := fun a => match a with
  | ⟨0, _⟩ => ⟨(i 1).val, (i 1).isLt⟩
  | ⟨1, _⟩ => ⟨k.val, k.isLt⟩
/-- Stated at `F := Ideal`, where the host's `dot_general` is this sum; at a bit-exact instance it is an opaque function of its operands. -/
theorem val_main_v95_apply (x0 : (⟨S128x1x3584, .bf16⟩ : BufTy).Contents (Elt Ideal)) (x1 : (⟨S64000x1792, .i8⟩ : BufTy).Contents (Elt Ideal)) (x2 : (⟨S64000x112, .bf16⟩ : BufTy).Contents (Elt Ideal)) (i : S128x64000.Idx) :
    val_main_v95 (F := Ideal) x0 x1 x2 i = ∑ k : Fin 1792, (val_main_v6 (F := Ideal) x0) (lidx_main_v95 i k) * (val_main_v93 (F := Ideal) x1 x2) (ridx_main_v95 i k) := by
  unfold val_main_v95
  generalize val_main_v6 (F := Ideal) x0 = y0
  generalize val_main_v93 (F := Ideal) x1 x2 = y1
  simp only [Host.dotGeneral]
  rw [Ideal.dotGeneral_apply, ← Equiv.sum_comp (ValueIdx.contrEquiv1 dot_S128x1792_S64000x1792_S128x64000_1_1_0_0_n_n 1792 rfl rfl).symm]
  refine Finset.sum_congr rfl fun k _ => ?_
  have hk := ValueIdx.contrEquiv1_symm_val dot_S128x1792_S64000x1792_S128x64000_1_1_0_0_n_n 1792 rfl rfl k
  have el : dot_S128x1792_S64000x1792_S128x64000_1_1_0_0_n_n.lhsIdx i ((ValueIdx.contrEquiv1 dot_S128x1792_S64000x1792_S128x64000_1_1_0_0_n_n 1792 rfl rfl).symm k) = lidx_main_v95 i k := funext fun a => Fin.ext (by
    match a with
    | ⟨0, _⟩ => exact lhs_main_v95_0 _ _
    | ⟨1, _⟩ => exact (lhs_main_v95_1 _ _).trans hk)
  have er : dot_S128x1792_S64000x1792_S128x64000_1_1_0_0_n_n.rhsIdx i ((ValueIdx.contrEquiv1 dot_S128x1792_S64000x1792_S128x64000_1_1_0_0_n_n 1792 rfl rfl).symm k) = ridx_main_v95 i k := funext fun a => Fin.ext (by
    match a with
    | ⟨0, _⟩ => exact rhs_main_v95_0 _ _
    | ⟨1, _⟩ => exact (rhs_main_v95_1 _ _).trans hk)
  rw [el, er]

def val_main_v96 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S128x64000, .f32⟩ : BufTy).Contents (Elt F) :=
  addf (val_main_v94 (F := F) x0 x1 x2) (val_main_v95 (F := F) x0 x1 x2)
theorem val_main_v96_apply (x0 : (⟨S128x1x3584, .bf16⟩ : BufTy).Contents (Elt F)) (x1 : (⟨S64000x1792, .i8⟩ : BufTy).Contents (Elt F)) (x2 : (⟨S64000x112, .bf16⟩ : BufTy).Contents (Elt F)) (i : S128x64000.Idx) :
    val_main_v96 (F := F) x0 x1 x2 i = FloatOps.addf (val_main_v94 (F := F) x0 x1 x2 i) (val_main_v95 (F := F) x0 x1 x2 i) := rfl

def val_main_v97 : (⟨S128x64000, .i32⟩ : BufTy).Contents (Elt F) :=
  iotaInDim S128x64000 32 1
theorem val_main_v97_apply (i : S128x64000.Idx) :
    val_main_v97 (F := F) i = BitVec.ofNat 32 (i 1).val := rfl

def val_main_cst_56 : (⟨S_, .f32⟩ : BufTy).Contents (Elt F) :=
  constant S_ .f32 0xFF800000#32
theorem val_main_cst_56_apply (i : S_.Idx) :
    val_main_cst_56 (F := F) i = FloatOps.ofBits .f32 0xFF800000#32 := rfl

def val_main_v98 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S128, .f32⟩ : BufTy).Contents (Elt F) :=
  Host.reduce FloatOps.maximumf (val_main_v96 (F := F) x0 x1 x2) (val_main_cst_56 (F := F)) reducesTo_S128x64000_S128_d1 h_S_

-- @argmax's %0 = stablehlo.iota dim = 1 : tensor<128x64000xi32>, in %99 = func.call @argmax(…) (record main_call30)
def val_main_call30_v0 : (⟨S128x64000, .i32⟩ : BufTy).Contents (Elt F) :=
  iotaInDim S128x64000 32 1
theorem val_main_call30_v0_apply (i : S128x64000.Idx) :
    val_main_call30_v0 (F := F) i = BitVec.ofNat 32 (i 1).val := rfl

-- @argmax's %cst = stablehlo.constant dense<0xFF800000> : tensor<f32>, in %99 = func.call @argmax(…) (record main_call30)
def val_main_call30_cst : (⟨S_, .f32⟩ : BufTy).Contents (Elt F) :=
  constant S_ .f32 0xFF800000#32
theorem val_main_call30_cst_apply (i : S_.Idx) :
    val_main_call30_cst (F := F) i = FloatOps.ofBits .f32 0xFF800000#32 := rfl

-- @argmax's %c = stablehlo.constant dense<0> : tensor<i32>, in %99 = func.call @argmax(…) (record main_call30)
def val_main_call30_c : (⟨S_, .i32⟩ : BufTy).Contents (Elt F) :=
  constantI S_ 32 0#32
theorem val_main_call30_c_apply (i : S_.Idx) :
    val_main_call30_c (F := F) i = 0#32 := rfl

-- @argmax's %1:2 = stablehlo.reduce(%arg0 init: %cst), (%0 init: %c) across dimensions = [1] : (tensor<128x64000xf32>, tensor<128x64000xi32>, tensor<f32>, tensor<i32>) -> (tensor<128xf32>, tensor<128xi32>) reducer(%arg1: tensor<f32>, %arg3: tensor<f32>) (%arg2: tensor<i32>, %arg4: tensor<i32>) {, in %99 = func.call @argmax(…) (record main_call30)
def val_main_call30_v1_0 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S128, .f32⟩ : BufTy).Contents (Elt F) :=
  fun j => (Host.argReduce reducer_argmax_f32_i32 (val_main_v96 (F := F) x0 x1 x2) (val_main_call30_v0 (F := F)) (val_main_call30_cst (F := F)) (val_main_call30_c (F := F)) reducesTo_S128x64000_S128_d1 h_S_ j).1

def val_main_v99 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S128, .i32⟩ : BufTy).Contents (Elt F) :=
  fun j => (Host.argReduce reducer_argmax_f32_i32 (val_main_v96 (F := F) x0 x1 x2) (val_main_call30_v0 (F := F)) (val_main_call30_cst (F := F)) (val_main_call30_c (F := F)) reducesTo_S128x64000_S128_d1 h_S_ j).2

def val_main_v100 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S128x1, .i32⟩ : BufTy).Contents (Elt F) :=
  broadcastInDim S128x1 ![0] bcast_S128_S128x1_0 (val_main_v99 (F := F) x0 x1 x2)
abbrev idx_main_v100 (i : S128x1.Idx) : S128.Idx := fun a => match a with
  | ⟨0, _⟩ => ⟨(i 0).val, (i 0).isLt⟩
theorem val_main_v100_apply (x0 : (⟨S128x1x3584, .bf16⟩ : BufTy).Contents (Elt F)) (x1 : (⟨S64000x1792, .i8⟩ : BufTy).Contents (Elt F)) (x2 : (⟨S64000x112, .bf16⟩ : BufTy).Contents (Elt F)) (i : S128x1.Idx) :
    val_main_v100 (F := F) x0 x1 x2 i = val_main_v99 (F := F) x0 x1 x2 (idx_main_v100 i) := by
  unfold val_main_v100
  generalize val_main_v99 (F := F) x0 x1 x2 = y
  exact broadcastInDim_apply _ bcast_S128_S128x1_0 y i (idx_main_v100 i) (fun a => match a with
    | ⟨0, _⟩ => by show (i 0).val = if (128 : Nat) = 1 then 0 else (i 0).val; rw [if_neg (by decide)])

def val_main_v101 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S128x64000, .i32⟩ : BufTy).Contents (Elt F) :=
  broadcastInDim S128x64000 ![0, 1] bcast_S128x1_S128x64000_0_1 (val_main_v100 (F := F) x0 x1 x2)
abbrev idx_main_v101 (i : S128x64000.Idx) : S128x1.Idx := fun a => match a with
  | ⟨0, _⟩ => ⟨(i 0).val, (i 0).isLt⟩
  | ⟨1, _⟩ => ⟨0, Nat.one_pos⟩
theorem val_main_v101_apply (x0 : (⟨S128x1x3584, .bf16⟩ : BufTy).Contents (Elt F)) (x1 : (⟨S64000x1792, .i8⟩ : BufTy).Contents (Elt F)) (x2 : (⟨S64000x112, .bf16⟩ : BufTy).Contents (Elt F)) (i : S128x64000.Idx) :
    val_main_v101 (F := F) x0 x1 x2 i = val_main_v100 (F := F) x0 x1 x2 (idx_main_v101 i) := by
  unfold val_main_v101
  generalize val_main_v100 (F := F) x0 x1 x2 = y
  exact broadcastInDim_apply _ bcast_S128x1_S128x64000_0_1 y i (idx_main_v101 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

def val_main_v102 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S128x64000, .i1⟩ : BufTy).Contents (Elt F) :=
  cmpi .eq (val_main_v97 (F := F)) (val_main_v101 (F := F) x0 x1 x2)
theorem val_main_v102_apply (x0 : (⟨S128x1x3584, .bf16⟩ : BufTy).Contents (Elt F)) (x1 : (⟨S64000x1792, .i8⟩ : BufTy).Contents (Elt F)) (x2 : (⟨S64000x112, .bf16⟩ : BufTy).Contents (Elt F)) (i : S128x64000.Idx) :
    val_main_v102 (F := F) x0 x1 x2 i = IntOp.cmpi .eq (val_main_v97 (F := F) i) (val_main_v101 (F := F) x0 x1 x2 i) := rfl

def val_main_cst_57 : (⟨S_, .f32⟩ : BufTy).Contents (Elt F) :=
  constant S_ .f32 0xFF800000#32
theorem val_main_cst_57_apply (i : S_.Idx) :
    val_main_cst_57 (F := F) i = FloatOps.ofBits .f32 0xFF800000#32 := rfl

-- @_where_1's %0 = stablehlo.convert %arg1 : tensor<f32>, in %103 = func.call @_where_1(…) (record main_call31)
def val_main_call31_v0 : (⟨S_, .f32⟩ : BufTy).Contents (Elt F) :=
  id (val_main_cst_57 (F := F))
theorem val_main_call31_v0_apply (i : S_.Idx) :
    val_main_call31_v0 (F := F) i = (val_main_cst_57 (F := F) i) := rfl

-- @_where_1's %1 = stablehlo.broadcast_in_dim %0, dims = [] : (tensor<f32>) -> tensor<128x64000xf32>, in %103 = func.call @_where_1(…) (record main_call31)
def val_main_call31_v1 : (⟨S128x64000, .f32⟩ : BufTy).Contents (Elt F) :=
  broadcastInDim S128x64000 ![] bcast_S_S128x64000 (val_main_call31_v0 (F := F))
abbrev idx_main_call31_v1 (i : S128x64000.Idx) : S_.Idx := fun a => a.elim0
theorem val_main_call31_v1_apply (i : S128x64000.Idx) :
    val_main_call31_v1 (F := F) i = val_main_call31_v0 (F := F) (idx_main_call31_v1 i) := by
  unfold val_main_call31_v1
  generalize val_main_call31_v0 (F := F) = y
  exact broadcastInDim_apply _ bcast_S_S128x64000 y i (idx_main_call31_v1 i) (fun a => a.elim0)

def val_main_v103 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S128x64000, .f32⟩ : BufTy).Contents (Elt F) :=
  select (val_main_v102 (F := F) x0 x1 x2) (val_main_call31_v1 (F := F)) (val_main_v96 (F := F) x0 x1 x2)
theorem val_main_v103_apply (x0 : (⟨S128x1x3584, .bf16⟩ : BufTy).Contents (Elt F)) (x1 : (⟨S64000x1792, .i8⟩ : BufTy).Contents (Elt F)) (x2 : (⟨S64000x112, .bf16⟩ : BufTy).Contents (Elt F)) (i : S128x64000.Idx) :
    val_main_v103 (F := F) x0 x1 x2 i = Scalar.select (val_main_v102 (F := F) x0 x1 x2 i) (val_main_call31_v1 (F := F) i) (val_main_v96 (F := F) x0 x1 x2 i) := rfl

def val_main_cst_58 : (⟨S_, .f32⟩ : BufTy).Contents (Elt F) :=
  constant S_ .f32 0xFF800000#32
theorem val_main_cst_58_apply (i : S_.Idx) :
    val_main_cst_58 (F := F) i = FloatOps.ofBits .f32 0xFF800000#32 := rfl

def val_main_v104 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S128, .f32⟩ : BufTy).Contents (Elt F) :=
  Host.reduce FloatOps.maximumf (val_main_v103 (F := F) x0 x1 x2) (val_main_cst_58 (F := F)) reducesTo_S128x64000_S128_d1 h_S_

def val_main_v105 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S128, .f32⟩ : BufTy).Contents (Elt F) :=
  subf (val_main_v98 (F := F) x0 x1 x2) (val_main_v104 (F := F) x0 x1 x2)
theorem val_main_v105_apply (x0 : (⟨S128x1x3584, .bf16⟩ : BufTy).Contents (Elt F)) (x1 : (⟨S64000x1792, .i8⟩ : BufTy).Contents (Elt F)) (x2 : (⟨S64000x112, .bf16⟩ : BufTy).Contents (Elt F)) (i : S128.Idx) :
    val_main_v105 (F := F) x0 x1 x2 i = FloatOps.subf (val_main_v98 (F := F) x0 x1 x2 i) (val_main_v104 (F := F) x0 x1 x2 i) := rfl

def val_main_v106 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S1x128, .i32⟩ : BufTy).Contents (Elt F) :=
  shapeCast _ (val_main_v99 (F := F) x0 x1 x2) shapeCasts_S128_S1x128
abbrev idx_main_v106 (i : S1x128.Idx) : S128.Idx := fun a => match a with
  | ⟨0, _⟩ => ⟨(i 0).val * 128 + (i 1).val, by have h0 : (i 0).val < 1 := (i 0).isLt; have h1 : (i 1).val < 128 := (i 1).isLt; show (i 0).val * 128 + (i 1).val < 128; omega⟩
theorem val_main_v106_apply (x0 : (⟨S128x1x3584, .bf16⟩ : BufTy).Contents (Elt F)) (x1 : (⟨S64000x1792, .i8⟩ : BufTy).Contents (Elt F)) (x2 : (⟨S64000x112, .bf16⟩ : BufTy).Contents (Elt F)) (i : S1x128.Idx) :
    val_main_v106 (F := F) x0 x1 x2 i = val_main_v99 (F := F) x0 x1 x2 (idx_main_v106 i) := by
  unfold val_main_v106
  generalize val_main_v99 (F := F) x0 x1 x2 = y
  exact shapeCast_apply y shapeCasts_S128_S1x128 i (idx_main_v106 i)
    (by rewrite [Shape.rowMajor_val_one, Shape.rowMajor_val_two]; have h0 : (i 0).val < 1 := (i 0).isLt; have h1 : (i 1).val < 128 := (i 1).isLt; show (i 0).val * 128 + (i 1).val = (i 0).val * 128 + (i 1).val; omega)

def val_main_v107 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S1x128, .f32⟩ : BufTy).Contents (Elt F) :=
  shapeCast _ (val_main_v105 (F := F) x0 x1 x2) shapeCasts_S128_S1x128
abbrev idx_main_v107 (i : S1x128.Idx) : S128.Idx := fun a => match a with
  | ⟨0, _⟩ => ⟨(i 0).val * 128 + (i 1).val, by have h0 : (i 0).val < 1 := (i 0).isLt; have h1 : (i 1).val < 128 := (i 1).isLt; show (i 0).val * 128 + (i 1).val < 128; omega⟩
theorem val_main_v107_apply (x0 : (⟨S128x1x3584, .bf16⟩ : BufTy).Contents (Elt F)) (x1 : (⟨S64000x1792, .i8⟩ : BufTy).Contents (Elt F)) (x2 : (⟨S64000x112, .bf16⟩ : BufTy).Contents (Elt F)) (i : S1x128.Idx) :
    val_main_v107 (F := F) x0 x1 x2 i = val_main_v105 (F := F) x0 x1 x2 (idx_main_v107 i) := by
  unfold val_main_v107
  generalize val_main_v105 (F := F) x0 x1 x2 = y
  exact shapeCast_apply y shapeCasts_S128_S1x128 i (idx_main_v107 i)
    (by rewrite [Shape.rowMajor_val_one, Shape.rowMajor_val_two]; have h0 : (i 0).val < 1 := (i 0).isLt; have h1 : (i 1).val < 128 := (i 1).isLt; show (i 0).val * 128 + (i 1).val = (i 0).val * 128 + (i 1).val; omega)

def val_main_v108 (x0 : (⟨S128x1x3584, .bf16⟩ : BufTy).Contents (Elt F)) (x1 : (⟨S64000x1792, .i8⟩ : BufTy).Contents (Elt F)) (x2 : (⟨S64000x112, .bf16⟩ : BufTy).Contents (Elt F)) : (⟨S1x128, .f32⟩ : BufTy).Contents (Elt F) :=
  shapeCast _ (val_main_v98 (F := F) x0 x1 x2) shapeCasts_S128_S1x128
abbrev idx_main_v108 (i : S1x128.Idx) : S128.Idx := fun a => match a with
  | ⟨0, _⟩ => ⟨(i 0).val * 128 + (i 1).val, by have h0 : (i 0).val < 1 := (i 0).isLt; have h1 : (i 1).val < 128 := (i 1).isLt; show (i 0).val * 128 + (i 1).val < 128; omega⟩
theorem val_main_v108_apply (x0 : (⟨S128x1x3584, .bf16⟩ : BufTy).Contents (Elt F)) (x1 : (⟨S64000x1792, .i8⟩ : BufTy).Contents (Elt F)) (x2 : (⟨S64000x112, .bf16⟩ : BufTy).Contents (Elt F)) (i : S1x128.Idx) :
    val_main_v108 (F := F) x0 x1 x2 i = val_main_v98 (F := F) x0 x1 x2 (idx_main_v108 i) := by
  unfold val_main_v108
  generalize val_main_v98 (F := F) x0 x1 x2 = y
  exact shapeCast_apply y shapeCasts_S128_S1x128 i (idx_main_v108 i)
    (by rewrite [Shape.rowMajor_val_one, Shape.rowMajor_val_two]; have h0 : (i 0).val < 1 := (i 0).isLt; have h1 : (i 1).val < 128 := (i 1).isLt; show (i 0).val * 128 + (i 1).val = (i 0).val * 128 + (i 1).val; omega)

/-- The reference's logits over any contents are the stage of that name. -/
theorem res_main_v96_eq (V0 : Valuation τ sig (Elt F)) :
    Cert.ReferenceIdeal.Value.res_main_v96 V0
      = val_main_v96 (F := F) (V0 (Proc.devRef .tc main_arg0)) (V0 (Proc.devRef .tc main_arg1)) (V0 (Proc.devRef .tc main_arg2)) := rfl

end Cert.ReferenceIdeal.Read

end
-- ==== Proof.Equation.lean ====
/- The reference's logits over the exact numbers, read at an index: a sum over the low nibbles and one over the high nibbles,
   each nibble looked up by a tree of selections, and the two sums put together into one over the channels. -/
module

public import proofs.«01_k».proof.Proof.RefRead
public import proofs.«01_k».proof.Proof.Tile

@[expose] public section

set_option maxRecDepth 16384

noncomputable section

namespace Cert.ReferenceIdeal.Hand

open Idealize.ShloMosaic Idealize.ShloMosaic.ValueIdx
open Cert.ReferenceIdeal Cert.ReferenceIdeal.Gen Cert.ReferenceIdeal.Read

/-- Whether bit `j` of a word is set, as the reference tests it. -/
def bit (q : BitVec 32) (j : BitVec 32) : BitVec 1 := IntOp.cmpi .eq (IntOp.andi (IntOp.shrsi .host q j) 1#32) 1#32

/-- The reference's table lookup: a tree of selections by the four bits of a nibble. -/
def look (q : BitVec 32) : EReal :=
  let k := fun b : BitVec 16 => (FloatOps.ofBits (F := Ideal) .bf16 b : EReal)
  Scalar.select (bit q 3#32)
    (Scalar.select (bit q 2#32)
      (Scalar.select (bit q 1#32) (Scalar.select (bit q 0#32) (k 0x42E2#16) (k 0x42B2#16)) (Scalar.select (bit q 0#32) (k 0x428A#16) (k 0x4254#16)))
      (Scalar.select (bit q 1#32) (Scalar.select (bit q 0#32) (k 0x4218#16) (k 0x41C8#16)) (Scalar.select (bit q 0#32) (k 0x4150#16) (k 0x3F80#16))))
    (Scalar.select (bit q 2#32)
      (Scalar.select (bit q 1#32) (Scalar.select (bit q 0#32) (k 0xC120#16) (k 0xC1B0#16)) (Scalar.select (bit q 0#32) (k 0xC20C#16) (k 0xC244#16)))
      (Scalar.select (bit q 1#32) (Scalar.select (bit q 0#32) (k 0xC282#16) (k 0xC2A6#16)) (Scalar.select (bit q 0#32) (k 0xC2D0#16) (k 0xC2FE#16))))

/-- The sixteen values of the lookup. -/
def tableVal (v : ℕ) : ℤ :=
  ([-127, -104, -83, -65, -49, -35, -22, -10, 1, 13, 25, 38, 53, 69, 89, 113] : List ℤ).getD v 0

theorem look_eq (v : ℕ) (hv : v < 16) : look (BitVec.ofNat 32 v) = ((tableVal v : ℝ) : EReal) := by
  have hb : ∀ v : Fin 16, ∀ j : Fin 4, bit (BitVec.ofNat 32 v.val) (BitVec.ofNat 32 j.val) = if v.val.testBit j.val then 1#1 else 0#1 := by decide +kernel
  have h0 := hb ⟨v, hv⟩ 0
  have h1 := hb ⟨v, hv⟩ 1
  have h2 := hb ⟨v, hv⟩ 2
  have h3 := hb ⟨v, hv⟩ 3
  change bit (BitVec.ofNat 32 v) 0#32 = _ at h0
  change bit (BitVec.ofNat 32 v) 1#32 = _ at h1
  change bit (BitVec.ofNat 32 v) 2#32 = _ at h2
  change bit (BitVec.ofNat 32 v) 3#32 = _ at h3
  unfold look
  rw [h0, h1, h2, h3]
  clear h0 h1 h2 h3 hb
  interval_cases v <;> simp [Scalar.select, Nat.testBit, tableVal, FloatOps.ofBits, Ideal.ofBits, Ideal.ieee] <;> (try norm_num) <;> rw [← EReal.coe_mul] <;> norm_num

set_option maxHeartbeats 1000000 in
theorem v52_eq (x1 : (⟨S64000x1792, .i8⟩ : BufTy).Contents (Elt Ideal)) (i : S64000x1792.Idx) :
    val_main_v52 (F := Ideal) x1 i = look (IntOp.andi ((x1 i).setWidth 32) 15#32) := by
  rfl

set_option maxHeartbeats 1000000 in
theorem v92_eq (x1 : (⟨S64000x1792, .i8⟩ : BufTy).Contents (Elt Ideal)) (i : S64000x1792.Idx) :
    val_main_v92 (F := Ideal) x1 i = look (IntOp.shrsi .host ((x1 i).setWidth 32) 4#32) := by
  rfl

open Cert.KernelIdeal.Hand (nib nib_lt)

theorem nib_low (b : BitVec 8) : IntOp.andi (b.setWidth 32) 15#32 = BitVec.ofNat 32 (nib false b).toNat := by
  have h : ∀ b : BitVec 8, IntOp.andi (b.setWidth 32) 15#32 = BitVec.ofNat 32 (nib false b).toNat := by decide +kernel
  exact h b

theorem nib_high (b : BitVec 8) : IntOp.shrsi .host (b.setWidth 32) 4#32 = BitVec.ofNat 32 (nib true b).toNat := by
  have h : ∀ b : BitVec 8, IntOp.shrsi .host (b.setWidth 32) 4#32 = BitVec.ofNat 32 (nib true b).toNat := by decide +kernel
  exact h b

/-- A sum over the channels is a sum over those of the low nibbles and one over those of the high nibbles. -/
theorem sum_split {M : Type} [AddCommMonoid M] (f : Fin 3584 → M) :
    ∑ K : Fin 3584, f K = (∑ k : Fin 1792, f ⟨32 * (k.val / 16) + k.val % 16, by omega⟩) + ∑ k : Fin 1792, f ⟨32 * (k.val / 16) + 16 + k.val % 16, by omega⟩ := by
  let e : Fin 1792 ⊕ Fin 1792 → Fin 3584 :=
    Sum.elim (fun k => ⟨32 * (k.val / 16) + k.val % 16, by omega⟩) (fun k => ⟨32 * (k.val / 16) + 16 + k.val % 16, by omega⟩)
  have hi : Function.Injective e := by
    intro a b h
    have h' : (e a).val = (e b).val := congrArg Fin.val h
    rcases a with a | a <;> rcases b with b | b <;> simp only [e, Sum.elim_inl, Sum.elim_inr] at h'
    · exact congrArg Sum.inl (Fin.ext (by omega))
    · omega
    · omega
    · exact congrArg Sum.inr (Fin.ext (by omega))
  have hb : Function.Bijective e := (Fintype.bijective_iff_injective_and_card e).mpr ⟨hi, by simp⟩
  rw [← Fintype.sum_bijective e hb (fun z => f (e z)) f (fun _ => rfl), Fintype.sum_sum_type]
  rfl

/-- The activation of one channel times the dequantised entry at it. -/
def term (x0 : (⟨S128x1x3584, .bf16⟩ : BufTy).Contents (Elt Ideal)) (x1 : (⟨S64000x1792, .i8⟩ : BufTy).Contents (Elt Ideal))
    (x2 : (⟨S64000x112, .bf16⟩ : BufTy).Contents (Elt Ideal)) (n : Fin 128) (v : Fin 64000) (K : Fin 3584) : EReal :=
  (x0 (ix3 n 0 K) : EReal) * (((tableVal (nib (decide (K.val / 16 % 2 = 1)) (x1 (ix2 v ⟨16 * (K.val / 32) + K.val % 16, by omega⟩))).toNat : ℝ) : EReal)
    * (x2 (ix2 v ⟨K.val / 32, by omega⟩) : EReal))

theorem v3_eq (x0 : (⟨S128x1x3584, .bf16⟩ : BufTy).Contents (Elt Ideal)) (n : Fin 128) (k : Fin 1792) :
    val_main_v3 (F := Ideal) x0 (ix2 n k) = x0 (ix3 n 0 ⟨32 * (k.val / 16) + k.val % 16, by omega⟩) := by
  have hn := n.isLt
  have hk := k.isLt
  rw [val_main_v3_apply, val_main_v2_apply, val_main_v1_apply, val_main_v0_apply]
  refine congrArg x0 (funext fun a => Fin.ext ?_)
  match a with
  | ⟨0, _⟩ => simp only [idx_main_v0, idx_main_v1, idx_main_v2, idx_main_v3]; simp only [ix2, ix3]; omega
  | ⟨1, _⟩ => simp only [idx_main_v0, idx_main_v1, idx_main_v2, idx_main_v3]; simp only [ix2, ix3]; rfl
  | ⟨2, _⟩ => simp only [idx_main_v0, idx_main_v1, idx_main_v2, idx_main_v3]; simp only [ix2, ix3]; omega

theorem v6_eq (x0 : (⟨S128x1x3584, .bf16⟩ : BufTy).Contents (Elt Ideal)) (n : Fin 128) (k : Fin 1792) :
    val_main_v6 (F := Ideal) x0 (ix2 n k) = x0 (ix3 n 0 ⟨32 * (k.val / 16) + 16 + k.val % 16, by omega⟩) := by
  have hn := n.isLt
  have hk := k.isLt
  rw [val_main_v6_apply, val_main_v5_apply, val_main_v4_apply, val_main_v0_apply]
  refine congrArg x0 (funext fun a => Fin.ext ?_)
  match a with
  | ⟨0, _⟩ => simp only [idx_main_v0, idx_main_v4, idx_main_v5, idx_main_v6]; simp only [ix2, ix3]; omega
  | ⟨1, _⟩ => simp only [idx_main_v0, idx_main_v4, idx_main_v5, idx_main_v6]; simp only [ix2, ix3]; rfl
  | ⟨2, _⟩ => simp only [idx_main_v0, idx_main_v4, idx_main_v5, idx_main_v6]; simp only [ix2, ix3]; omega

theorem v8_eq (x2 : (⟨S64000x112, .bf16⟩ : BufTy).Contents (Elt Ideal)) (v : Fin 64000) (k : Fin 1792) :
    val_main_v8 (F := Ideal) x2 (ix2 v k) = x2 (ix2 v ⟨k.val / 16, by omega⟩) := by
  have hn := v.isLt
  have hk := k.isLt
  rw [val_main_v8_apply, val_main_v7_apply]
  refine congrArg x2 (funext fun a => Fin.ext ?_)
  match a with
  | ⟨0, _⟩ => simp only [idx_main_v7, idx_main_v8]; simp only [ix2, ix3]; omega
  | ⟨1, _⟩ => simp only [idx_main_v7, idx_main_v8]; simp only [ix2, ix3]; omega

theorem term_low (x0 : (⟨S128x1x3584, .bf16⟩ : BufTy).Contents (Elt Ideal)) (x1 : (⟨S64000x1792, .i8⟩ : BufTy).Contents (Elt Ideal))
    (x2 : (⟨S64000x112, .bf16⟩ : BufTy).Contents (Elt Ideal)) (n : Fin 128) (v : Fin 64000) (k : Fin 1792) :
    (val_main_v3 (F := Ideal) x0 (ix2 n k) : EReal) * val_main_v53 (F := Ideal) x1 x2 (ix2 v k)
      = term x0 x1 x2 n v ⟨32 * (k.val / 16) + k.val % 16, by omega⟩ := by
  have e53 : (val_main_v53 (F := Ideal) x1 x2 (ix2 v k) : EReal) = (val_main_v52 (F := Ideal) x1 (ix2 v k) : EReal) * val_main_v8 (F := Ideal) x2 (ix2 v k) := rfl
  have eb : (⟨16 * ((32 * (k.val / 16) + k.val % 16) / 32) + (32 * (k.val / 16) + k.val % 16) % 16, by omega⟩ : Fin 1792) = k := Fin.ext (by dsimp only; omega)
  have eg : (⟨(32 * (k.val / 16) + k.val % 16) / 32, by omega⟩ : Fin 112) = ⟨k.val / 16, by omega⟩ := Fin.ext (by dsimp only; omega)
  have eh : ¬ (32 * (k.val / 16) + k.val % 16) / 16 % 2 = 1 := by omega
  rw [e53, v3_eq, v8_eq, v52_eq, nib_low, look_eq _ (nib_lt _ _)]
  unfold term
  dsimp only
  rw [eb, eg, decide_eq_false eh]

theorem term_high (x0 : (⟨S128x1x3584, .bf16⟩ : BufTy).Contents (Elt Ideal)) (x1 : (⟨S64000x1792, .i8⟩ : BufTy).Contents (Elt Ideal))
    (x2 : (⟨S64000x112, .bf16⟩ : BufTy).Contents (Elt Ideal)) (n : Fin 128) (v : Fin 64000) (k : Fin 1792) :
    (val_main_v6 (F := Ideal) x0 (ix2 n k) : EReal) * val_main_v93 (F := Ideal) x1 x2 (ix2 v k)
      = term x0 x1 x2 n v ⟨32 * (k.val / 16) + 16 + k.val % 16, by omega⟩ := by
  have e93 : (val_main_v93 (F := Ideal) x1 x2 (ix2 v k) : EReal) = (val_main_v92 (F := Ideal) x1 (ix2 v k) : EReal) * val_main_v8 (F := Ideal) x2 (ix2 v k) := rfl
  have eb : (⟨16 * ((32 * (k.val / 16) + 16 + k.val % 16) / 32) + (32 * (k.val / 16) + 16 + k.val % 16) % 16, by omega⟩ : Fin 1792) = k := Fin.ext (by dsimp only; omega)
  have eg : (⟨(32 * (k.val / 16) + 16 + k.val % 16) / 32, by omega⟩ : Fin 112) = ⟨k.val / 16, by omega⟩ := Fin.ext (by dsimp only; omega)
  have eh : (32 * (k.val / 16) + 16 + k.val % 16) / 16 % 2 = 1 := by omega
  rw [e93, v6_eq, v8_eq, v92_eq, nib_high, look_eq _ (nib_lt _ _)]
  unfold term
  dsimp only
  rw [eb, eg, decide_eq_true eh]

/-- One logit of the reference, as one sum over the channels. -/
theorem logit_eq (x0 : (⟨S128x1x3584, .bf16⟩ : BufTy).Contents (Elt Ideal)) (x1 : (⟨S64000x1792, .i8⟩ : BufTy).Contents (Elt Ideal))
    (x2 : (⟨S64000x112, .bf16⟩ : BufTy).Contents (Elt Ideal)) (n : Fin 128) (v : Fin 64000) :
    (val_main_v96 (F := Ideal) x0 x1 x2 (ix2 n v) : EReal) = ∑ K : Fin 3584, term x0 x1 x2 n v K := by
  have e1 : ∀ k, lidx_main_v94 (ix2 n v) k = ix2 n k := fun k => eq_ix2 _
  have e2 : ∀ k, ridx_main_v94 (ix2 n v) k = ix2 v k := fun k => eq_ix2 _
  have e3 : ∀ k, lidx_main_v95 (ix2 n v) k = ix2 n k := fun k => eq_ix2 _
  have e4 : ∀ k, ridx_main_v95 (ix2 n v) k = ix2 v k := fun k => eq_ix2 _
  have h : (val_main_v96 (F := Ideal) x0 x1 x2 (ix2 n v) : EReal) = (val_main_v94 (F := Ideal) x0 x1 x2 (ix2 n v) : EReal) + val_main_v95 (F := Ideal) x0 x1 x2 (ix2 n v) := rfl
  rw [h, val_main_v94_apply, val_main_v95_apply, sum_split]
  refine congrArg₂ (fun a b : EReal => a + b) (Finset.sum_congr rfl fun k _ => ?_) (Finset.sum_congr rfl fun k _ => ?_)
  · rw [e1, e2]; exact term_low x0 x1 x2 n v k
  · rw [e3, e4]; exact term_high x0 x1 x2 n v k

end Cert.ReferenceIdeal.Hand
-- ==== Proof.Pure.lean ====
/- The running top-2 of a sequence, kept lane by lane, over any linear order with a least element. Suprema are
   spelt by what lies above them, `∀ c, r ≤ c ↔ …`, so that two readings of one supremum meet by antisymmetry. -/
module

public import Mathlib.Order.MinMax
public import Mathlib.Order.BoundedOrder.Basic
public import Mathlib.Tactic.Linarith

@[expose] public section

namespace Cert.Hand

variable {α : Type} [LinearOrder α] [OrderBot α]

/-- `r` is the largest of the `x q` at the `q` with `p q` (the least element if there is none). -/
def IsSup (p : ℕ → Prop) (x : ℕ → α) (r : α) : Prop := ∀ c, r ≤ c ↔ ∀ q, p q → x q ≤ c

theorem IsSup.unique {p : ℕ → Prop} {x : ℕ → α} {r s : α} (h : IsSup p x r) (h' : IsSup p x s) : r = s :=
  le_antisymm ((h s).mpr ((h' s).mp le_rfl)) ((h' r).mpr ((h r).mp le_rfl))

theorem IsSup.le {p : ℕ → Prop} {x : ℕ → α} {r : α} (h : IsSup p x r) {q : ℕ} (hq : p q) : x q ≤ r := (h r).mp le_rfl q hq

theorem IsSup.congr {p p' : ℕ → Prop} {x : ℕ → α} {r : α} (h : IsSup p x r) (hp : ∀ q, p q ↔ p' q) : IsSup p' x r :=
  fun c => (h c).trans ⟨fun g q hq => g q ((hp q).mpr hq), fun g q hq => g q ((hp q).mp hq)⟩

theorem IsSup.empty (x : ℕ → α) {p : ℕ → Prop} (hp : ∀ q, ¬ p q) : IsSup p x ⊥ :=
  fun c => ⟨fun _ q hq => absurd hq (hp q), fun _ => bot_le⟩

theorem IsSup.max {p p' : ℕ → Prop} {x : ℕ → α} {r s : α} (h : IsSup p x r) (h' : IsSup p' x s) :
    IsSup (fun q => p q ∨ p' q) x (max r s) :=
  fun c => by
    rw [max_le_iff, h c, h' c]
    exact ⟨fun g q hq => hq.elim (g.1 q) (g.2 q), fun g => ⟨fun q hq => g q (Or.inl hq), fun q hq => g q (Or.inr hq)⟩⟩

theorem IsSup.single (x : ℕ → α) (n : ℕ) : IsSup (fun q => q = n) x (x n) :=
  fun c => ⟨fun h q hq => hq ▸ h, fun h => h n rfl⟩

/-- After the first `n` of the `x q`: the largest, the first place that holds it, the largest away from that place. -/
structure Top2 (x : ℕ → α) (n : ℕ) (top sec : α) (p : ℕ) : Prop where
  isTop : IsSup (fun q => q < n) x top
  isSec : IsSup (fun q => q < n ∧ q ≠ p) x sec
  before : ∀ q, q < p → x q < top
  zero : n = 0 → p = 0
  pos : 0 < n → p < n ∧ x p = top

/-- Nothing read yet. -/
theorem Top2.nil (x : ℕ → α) : Top2 x 0 ⊥ ⊥ 0 where
  isTop := IsSup.empty x fun q h => Nat.not_lt_zero q h
  isSec := IsSup.empty x fun q h => Nat.not_lt_zero q h.1
  before := fun q h => absurd h (Nat.not_lt_zero q)
  zero := fun _ => rfl
  pos := fun h => absurd h (Nat.lt_irrefl 0)

/-- One more read. -/
theorem Top2.step {x : ℕ → α} {n : ℕ} {top sec : α} {p : ℕ} (h : Top2 x n top sec p) :
    Top2 x (n + 1) (max top (x n)) (max sec (min (x n) top)) (if top < x n then n else p) := by
  have htop : IsSup (fun q => q < n + 1) x (max top (x n)) :=
    (h.isTop.max (IsSup.single x n)).congr fun q => by omega
  by_cases hc : top < x n
  · rw [if_pos hc, min_eq_right hc.le, max_eq_right hc.le] at *
    refine ⟨htop, ?_, fun q hq => lt_of_le_of_lt (h.isTop.le hq) hc, fun h0 => absurd h0 (Nat.succ_ne_zero n),
      fun _ => ⟨Nat.lt_succ_self n, rfl⟩⟩
    have := h.isSec.max h.isTop
    exact this.congr fun q => by omega
  · have hle : x n ≤ top := not_lt.mp hc
    rw [if_neg hc, min_eq_left hle, max_eq_left hle] at *
    refine ⟨htop, ?_, h.before, fun h0 => absurd h0 (Nat.succ_ne_zero n), fun _ => ?_⟩
    · rcases Nat.eq_zero_or_pos n with h0 | h0
      · have hb : top = ⊥ := le_antisymm ((h.isTop ⊥).mpr fun q hq => absurd (h0 ▸ hq) (Nat.not_lt_zero q)) bot_le
        have hs : sec = ⊥ := le_antisymm ((h.isSec ⊥).mpr fun q hq => absurd (h0 ▸ hq.1) (Nat.not_lt_zero q)) bot_le
        have hx : x n = ⊥ := le_antisymm (hb ▸ hle) bot_le
        rw [hs, hx, max_self]
        have hp := h.zero h0
        exact IsSup.empty x fun q hq => by omega
      · have hp := (h.pos h0).1
        exact (h.isSec.max (IsSup.single x n)).congr fun q => by
          constructor
          · rintro (⟨a, b⟩ | a)
            · exact ⟨by omega, b⟩
            · exact ⟨by omega, by omega⟩
          · rintro ⟨a, b⟩
            rcases Nat.lt_or_ge q n with c | c
            · exact Or.inl ⟨c, b⟩
            · exact Or.inr (by omega)
    · rcases Nat.eq_zero_or_pos n with h0 | h0
      · have hb : top = ⊥ := le_antisymm ((h.isTop ⊥).mpr fun q hq => absurd (h0 ▸ hq) (Nat.not_lt_zero q)) bot_le
        have hp := h.zero h0
        refine ⟨by omega, ?_⟩
        rw [hp, ← h0, hb]
        exact le_antisymm (hb ▸ hle) bot_le
      · exact ⟨Nat.lt_succ_of_lt (h.pos h0).1, (h.pos h0).2⟩

/-- `t` is the first place below `n` that holds the largest value, `r`. -/
structure IsFirst (x : ℕ → α) (n : ℕ) (r : α) (t : ℕ) : Prop where
  sup : IsSup (fun q => q < n) x r
  lt : t < n
  eq : x t = r
  before : ∀ q, q < t → x q < r

theorem IsFirst.unique {x : ℕ → α} {n : ℕ} {r r' : α} {t t' : ℕ} (h : IsFirst x n r t) (h' : IsFirst x n r' t') : t = t' := by
  have e : r = r' := h.sup.unique h'.sup
  subst e
  rcases Nat.lt_trichotomy t t' with c | c | c
  · exact absurd h.eq (h'.before t c).ne
  · exact c
  · exact absurd h'.eq (h.before t' c).ne

/-- The last step. Lane `l` of 128 has read the `x (128 j + l)`, `j < J`: the lane's place is `128 j + l`. -/
structure Lanes (x : ℕ → α) (J : ℕ) (top sec : ℕ → α) (p : ℕ → ℕ) : Prop where
  lane : ∀ l, l < 128 → Top2 (fun j => x (128 * j + l)) J (top l) (sec l) (p l)
  pos : 0 < J

variable {x : ℕ → α} {J : ℕ} {top sec : ℕ → α} {p : ℕ → ℕ}

/-- The largest of the lanes' largest is the largest of all. -/
theorem Lanes.best (h : Lanes x J top sec p) {b : α} (hb : IsSup (fun l => l < 128) top b) : IsSup (fun q => q < 128 * J) x b :=
  fun c => by
    rw [hb c]
    constructor
    · intro g q hq
      have hl : q % 128 < 128 := Nat.mod_lt _ (by omega)
      have := (((h.lane _ hl).isTop c).mp (g _ hl)) (q / 128) (by omega)
      have e : 128 * (q / 128) + q % 128 = q := Nat.div_add_mod q 128
      simpa only [e] using this
    · intro g l hl
      exact ((h.lane l hl).isTop c).mpr fun j hj => g (128 * j + l) (by omega)

/-- The least of the places of the lanes that hold the largest is the first place of the largest. -/
theorem Lanes.first (h : Lanes x J top sec p) {b : α} (hb : IsSup (fun l => l < 128) top b) {t : ℕ}
    (hle : ∀ l, l < 128 → top l = b → t ≤ 128 * p l + l) {l₀ : ℕ} (hl₀ : l₀ < 128) (hlb : top l₀ = b) (ht : t = 128 * p l₀ + l₀) :
    IsFirst x (128 * J) b t := by
  have hB := h.best hb
  refine ⟨hB, ?_, ?_, ?_⟩
  · have := ((h.lane l₀ hl₀).pos h.pos).1
    omega
  · rw [ht, ← hlb]; exact ((h.lane l₀ hl₀).pos h.pos).2
  · intro q hq
    have hl : q % 128 < 128 := Nat.mod_lt _ (by omega)
    have e : 128 * (q / 128) + q % 128 = q := Nat.div_add_mod q 128
    have hp0 := ((h.lane l₀ hl₀).pos h.pos).1
    have hqJ : q < 128 * J := by omega
    refine lt_of_le_of_ne (hB.le hqJ) fun heq => ?_
    have htl : top (q % 128) = b := by
      refine le_antisymm (hb.le hl) ?_
      have := (h.lane _ hl).isTop.le (q := q / 128) (by omega)
      simp only [e] at this
      exact heq ▸ this
    have h1 := hle _ hl htl
    have h2 : ¬ q / 128 < p (q % 128) := fun hlt => by
      have := (h.lane _ hl).before _ hlt
      simp only [e] at this
      rw [htl, heq] at this
      exact lt_irrefl _ this
    omega

/-- The lanes' largest, the second in the lane of `t`, are together the largest away from `t`. -/
theorem Lanes.second (h : Lanes x J top sec p) {b : α} {t : ℕ} (ht : IsFirst x (128 * J) b t)
    (hb : IsSup (fun l => l < 128) top b) {s : α}
    (hs : IsSup (fun l => l < 128) (fun l => if 128 * p l + l = t then sec l else top l) s) :
    IsSup (fun q => q < 128 * J ∧ q ≠ t) x s := by
  have hp : p (t % 128) = t / 128 := by
    have hl : t % 128 < 128 := Nat.mod_lt _ (by omega)
    have e : 128 * (t / 128) + t % 128 = t := Nat.div_add_mod t 128
    have htt := ht.lt
    have htl : top (t % 128) = b := by
      refine le_antisymm (hb.le hl) ?_
      have := (h.lane _ hl).isTop.le (q := t / 128) (by omega)
      simp only [e] at this
      exact ht.eq ▸ this
    rcases Nat.lt_trichotomy (p (t % 128)) (t / 128) with c | c | c
    · have h1 := ((h.lane _ hl).pos h.pos).2
      have h2 := ht.before (128 * p (t % 128) + t % 128) (by omega)
      rw [show x (128 * p (t % 128) + t % 128) = b from h1.trans htl] at h2
      exact absurd h2 (lt_irrefl _)
    · exact c
    · have := (h.lane _ hl).before _ c
      simp only [e] at this
      rw [htl, ht.eq] at this
      exact absurd this (lt_irrefl _)
  intro c
  rw [hs c]
  constructor
  · intro g q hq
    have hl : q % 128 < 128 := Nat.mod_lt _ (by omega)
    have e : 128 * (q / 128) + q % 128 = q := Nat.div_add_mod q 128
    have gl : (if 128 * p (q % 128) + q % 128 = t then sec (q % 128) else top (q % 128)) ≤ c := g _ hl
    by_cases hc : 128 * p (q % 128) + q % 128 = t
    · rw [if_pos hc] at gl
      have := ((h.lane _ hl).isSec c).mp gl (q / 128) ⟨by omega, by omega⟩
      simpa only [e] using this
    · rw [if_neg hc] at gl
      have := ((h.lane _ hl).isTop c).mp gl (q / 128) (by omega)
      simpa only [e] using this
  · intro g l hl
    by_cases hc : 128 * p l + l = t
    · show (if 128 * p l + l = t then sec l else top l) ≤ c
      rw [if_pos hc]
      exact ((h.lane l hl).isSec c).mpr fun j hj => g (128 * j + l) ⟨by omega, by omega⟩
    · show (if 128 * p l + l = t then sec l else top l) ≤ c
      rw [if_neg hc]
      refine ((h.lane l hl).isTop c).mpr fun j hj => g (128 * j + l) ⟨by omega, fun hj2 => hc ?_⟩
      have h1 : t % 128 = l := by omega
      have h2 : t / 128 = j := by omega
      rw [h1, h2] at hp
      omega

end Cert.Hand
-- ==== Proof.State.lean ====
/- The running state over the exact numbers: after `J` groups of 128 tokens every lane holds the largest logit it has read,
   the first token that holds it, and the largest logit it has read elsewhere. -/
module

public import proofs.«01_k».proof.Proof.Pure
public import proofs.«01_k».proof.Proof.Loops
public import proofs.«01_k».proof.Proof.Body
public import Idealize.ShloMosaic.Lib.ValueLayout
public import Idealize.ShloMosaic.Lib.Pipeline.Value
public import Idealize.ShloMosaic.PureOps.Ideal.Laws

@[expose] public section

set_option maxRecDepth 16384

noncomputable section

namespace Cert.KernelIdeal.Hand

open Idealize.ShloMosaic Idealize.ShloMosaic.ValueIdx
open Cert.KernelIdeal Cert.KernelIdeal.Gen Cert.Hand

theorem rows8_apply {e : EltTy} (X : Vec Ideal S128x128 e) (k : Fin k0_t4_loop.trips) (i : Fin 8) (l n : Fin 128)
    (hn : n.val = 8 * k.val + i.val) : rows8 X k (ix2 i l) = X (ix2 n l) := by
  refine congrArg X (funext fun a => ?_)
  match a with
  | ⟨0, _⟩ => refine Fin.ext ?_; show k0_off7 k 0 + 1 * i.val = n.val; rw [k0_off7_eq]; show 8 * k.val + 1 * i.val = n.val; omega
  | ⟨1, _⟩ => refine Fin.ext ?_; show k0_off7 k 1 + 1 * l.val = l.val; rw [k0_off7_eq]; show 0 + 1 * l.val = l.val; omega

theorem lg0_apply (L : Vec Ideal S128x512 .f32) (k : Fin k0_t4_loop.trips) (i : Fin 8) (l n : Fin 128) (c : Fin 512)
    (hn : n.val = 8 * k.val + i.val) (hc : c.val = 0 + l.val) : lg0 L k (ix2 i l) = L (ix2 n c) := by
  refine congrArg L (funext fun a => ?_)
  match a with
  | ⟨0, _⟩ => refine Fin.ext ?_; show k0_off8 k 0 + 1 * i.val = n.val; rw [k0_off8_eq]; show 8 * k.val + 1 * i.val = n.val; omega
  | ⟨1, _⟩ => refine Fin.ext ?_; show k0_off8 k 1 + 1 * l.val = c.val; rw [k0_off8_eq]; show 0 + 1 * l.val = c.val; omega

theorem lg1_apply (L : Vec Ideal S128x512 .f32) (k : Fin k0_t4_loop.trips) (i : Fin 8) (l n : Fin 128) (c : Fin 512)
    (hn : n.val = 8 * k.val + i.val) (hc : c.val = 128 + l.val) : lg1 L k (ix2 i l) = L (ix2 n c) := by
  refine congrArg L (funext fun a => ?_)
  match a with
  | ⟨0, _⟩ => refine Fin.ext ?_; show k0_off9 k 0 + 1 * i.val = n.val; rw [k0_off9_eq]; show 8 * k.val + 1 * i.val = n.val; omega
  | ⟨1, _⟩ => refine Fin.ext ?_; show k0_off9 k 1 + 1 * l.val = c.val; rw [k0_off9_eq]; show 128 + 1 * l.val = c.val; omega

theorem lg2_apply (L : Vec Ideal S128x512 .f32) (k : Fin k0_t4_loop.trips) (i : Fin 8) (l n : Fin 128) (c : Fin 512)
    (hn : n.val = 8 * k.val + i.val) (hc : c.val = 256 + l.val) : lg2 L k (ix2 i l) = L (ix2 n c) := by
  refine congrArg L (funext fun a => ?_)
  match a with
  | ⟨0, _⟩ => refine Fin.ext ?_; show k0_off10 k 0 + 1 * i.val = n.val; rw [k0_off10_eq]; show 8 * k.val + 1 * i.val = n.val; omega
  | ⟨1, _⟩ => refine Fin.ext ?_; show k0_off10 k 1 + 1 * l.val = c.val; rw [k0_off10_eq]; show 256 + 1 * l.val = c.val; omega

theorem lg3_apply (L : Vec Ideal S128x512 .f32) (k : Fin k0_t4_loop.trips) (i : Fin 8) (l n : Fin 128) (c : Fin 512)
    (hn : n.val = 8 * k.val + i.val) (hc : c.val = 384 + l.val) : lg3 L k (ix2 i l) = L (ix2 n c) := by
  refine congrArg L (funext fun a => ?_)
  match a with
  | ⟨0, _⟩ => refine Fin.ext ?_; show k0_off11 k 0 + 1 * i.val = n.val; rw [k0_off11_eq]; show 8 * k.val + 1 * i.val = n.val; omega
  | ⟨1, _⟩ => refine Fin.ext ?_; show k0_off11 k 1 + 1 * l.val = c.val; rw [k0_off11_eq]; show 384 + 1 * l.val = c.val; omega

/-- The word of minus infinity is the least number. -/
theorem ninf_eq : (FloatOps.ofBits (F := Ideal) .f32 0xFF800000#32 : EReal) = ⊥ := by
  show Ideal.ofBits .f32 0xFF800000#32 = ⊥
  simp [Ideal.ofBits, Ideal.ieee]

theorem cmp_ogt_eq (a b : EReal) : Ideal.cmp .ogt a b = 1#1 ↔ b < a := by
  unfold Ideal.cmp
  by_cases h : b < a <;> simp [h]

theorem select_ogt {α : Type} (a b : EReal) (x y : α) : Scalar.select (Ideal.cmp .ogt a b) x y = if b < a then x else y := by
  unfold Scalar.select
  by_cases h : b < a
  · rw [if_pos h]; exact if_pos ((cmp_ogt_eq a b).mpr h)
  · rw [if_neg h]; exact if_neg fun g => h ((cmp_ogt_eq a b).mp g)

/-- The largest of a lane after four more of its tokens. -/
theorem topRows_apply (L : Vec Ideal S128x512 .f32) (s : St Ideal) (k : Fin k0_t4_loop.trips) (i : Fin 8) (l : Fin 128)
    {t a b c d : EReal} (ht : rows8 s.top k (ix2 i l) = t) (ha : lg0 L k (ix2 i l) = a) (hb : lg1 L k (ix2 i l) = b)
    (hc : lg2 L k (ix2 i l) = c) (hd : lg3 L k (ix2 i l) = d) :
    topRows L s k (ix2 i l) = max (max (max (max t a) b) c) d := by
  subst ht ha hb hc hd
  unfold topRows k0_pay9
  simp only [shapeCast_self]
  rfl

/-- The largest elsewhere. -/
theorem secRows_apply (L : Vec Ideal S128x512 .f32) (s : St Ideal) (k : Fin k0_t4_loop.trips) (i : Fin 8) (l : Fin 128)
    {t u a b c d : EReal} (ht : rows8 s.top k (ix2 i l) = t) (hu : rows8 s.sec k (ix2 i l) = u) (ha : lg0 L k (ix2 i l) = a)
    (hb : lg1 L k (ix2 i l) = b) (hc : lg2 L k (ix2 i l) = c) (hd : lg3 L k (ix2 i l) = d) :
    secRows L s k (ix2 i l)
      = max (max (max (max u (min a t)) (min b (max t a))) (min c (max (max t a) b))) (min d (max (max (max t a) b) c)) := by
  subst ht hu ha hb hc hd
  unfold secRows k0_pay10
  simp only [shapeCast_self]
  rfl

/-- The first token of the group that holds the largest. -/
theorem idxRows_apply (base : BitVec 32) (L : Vec Ideal S128x512 .f32) (s : St Ideal) (k : Fin k0_t4_loop.trips) (i : Fin 8) (l : Fin 128)
    {t a b c d : EReal} {v : BitVec 32} (ht : rows8 s.top k (ix2 i l) = t) (hv : rows8 s.idx k (ix2 i l) = v)
    (ha : lg0 L k (ix2 i l) = a) (hb : lg1 L k (ix2 i l) = b) (hc : lg2 L k (ix2 i l) = c) (hd : lg3 L k (ix2 i l) = d) :
    idxRows base L s k (ix2 i l)
      = if max (max (max t a) b) c < d then base + 384#32 else if max (max t a) b < c then base + 256#32
        else if max t a < b then base + 128#32 else if t < a then base + 0#32 else v := by
  subst ht hv ha hb hc hd
  unfold idxRows k0_pay11
  simp only [shapeCast_self]
  rw [← select_ogt, ← select_ogt, ← select_ogt, ← select_ogt]
  rfl

/-- After `J` groups: each lane of each row holds its top two and where the first is. -/
def Inv (x : Fin 128 → ℕ → EReal) (J : ℕ) (s : St Ideal) : Prop :=
  ∀ n l : Fin 128, ∃ p, Top2 (fun j => x n (128 * j + l.val)) J (s.top (ix2 n l) : EReal) (s.sec (ix2 n l) : EReal) p
    ∧ s.idx (ix2 n l) = BitVec.ofNat 32 (128 * p)

theorem pick_ofNat (P : Prop) [Decidable P] (J e p : ℕ) (base : BitVec 32) (hb : base = BitVec.ofNat 32 (128 * J)) :
    (if P then base + BitVec.ofNat 32 (128 * e) else BitVec.ofNat 32 (128 * p)) = BitVec.ofNat 32 (128 * (if P then J + e else p)) := by
  split
  · rw [hb, ← BitVec.ofNat_add]; congr 1; omega
  · rfl

theorem top2_of_eq {x : ℕ → EReal} {n p : ℕ} {t u t' u' : EReal} (h : Top2 x n t u p) (e1 : t' = t) (e2 : u' = u) : Top2 x n t' u' p := by
  subst e1 e2; exact h

/-- One block of 512 tokens: four groups. -/
theorem Inv.step {x : Fin 128 → ℕ → EReal} {J : ℕ} {s : St Ideal} (h : Inv x J s) {base : BitVec 32}
    (hb : base = BitVec.ofNat 32 (128 * J)) {L : Vec Ideal S128x512 .f32}
    (hL : ∀ (n : Fin 128) (c : Fin 512), L (ix2 n c) = x n (128 * J + c.val)) : Inv x (J + 4) (stepSt base L s) := by
  intro n l
  obtain ⟨p, hp, hidx⟩ := h n l
  have hn := n.isLt
  have hl := l.isLt
  obtain ⟨k, hk⟩ : ∃ k : Fin k0_t4_loop.trips, k.val = n.val / 8 := ⟨⟨n.val / 8, by rw [t4_trips]; omega⟩, rfl⟩
  obtain ⟨i, hi⟩ : ∃ i : Fin 8, i.val = n.val % 8 := ⟨⟨n.val % 8, by omega⟩, rfl⟩
  have hni : n.val = 8 * k.val + i.val := by omega
  have ea : lg0 L k (ix2 i l) = x n (128 * J + l.val) :=
    (lg0_apply L k i l n ⟨0 + l.val, by omega⟩ hni rfl).trans ((hL _ _).trans (by congr 1; show 128 * J + (0 + l.val) = _; omega))
  have eb : lg1 L k (ix2 i l) = x n (128 * (J + 1) + l.val) :=
    (lg1_apply L k i l n ⟨128 + l.val, by omega⟩ hni rfl).trans ((hL _ _).trans (by congr 1; show 128 * J + (128 + l.val) = _; omega))
  have ec : lg2 L k (ix2 i l) = x n (128 * (J + 1 + 1) + l.val) :=
    (lg2_apply L k i l n ⟨256 + l.val, by omega⟩ hni rfl).trans ((hL _ _).trans (by congr 1; show 128 * J + (256 + l.val) = _; omega))
  have ed : lg3 L k (ix2 i l) = x n (128 * (J + 1 + 1 + 1) + l.val) :=
    (lg3_apply L k i l n ⟨384 + l.val, by omega⟩ hni rfl).trans ((hL _ _).trans (by congr 1; show 128 * J + (384 + l.val) = _; omega))
  have et := rows8_apply s.top k i l n hni
  have eu := rows8_apply s.sec k i l n hni
  have ev := (rows8_apply s.idx k i l n hni).trans hidx
  have q0 : (ix2 n l 0).val = 8 * k.val + (ix2 i l 0).val := hni
  have q1 : (ix2 n l 1).val = (ix2 i l 1).val := rfl
  have e1 : (stepSt base L s).top (ix2 n l) = _ :=
    (rowsOf_apply (topRows L s) k (ix2 n l) (ix2 i l) q0 q1).trans (topRows_apply L s k i l et ea eb ec ed)
  have e2 : (stepSt base L s).sec (ix2 n l) = _ :=
    (rowsOf_apply (secRows L s) k (ix2 n l) (ix2 i l) q0 q1).trans (secRows_apply L s k i l et eu ea eb ec ed)
  refine ⟨_, top2_of_eq hp.step.step.step.step e1 e2, ?_⟩
  refine ((rowsOf_apply (idxRows base L s) k (ix2 n l) (ix2 i l) q0 q1).trans (idxRows_apply base L s k i l et ev ea eb ec ed)).trans ?_
  rw [show (0#32) = BitVec.ofNat 32 (128 * 0) from rfl, pick_ofNat _ J 0 p base hb,
    show (128#32) = BitVec.ofNat 32 (128 * 1) from rfl, pick_ofNat _ J 1 _ base hb,
    show (256#32) = BitVec.ofNat 32 (128 * 2) from rfl, pick_ofNat _ J 2 _ base hb,
    show (384#32) = BitVec.ofNat 32 (128 * 3) from rfl, pick_ofNat _ J 3 _ base hb]
  rfl

/-- All five blocks of a grid point: twenty groups. -/
theorem Inv.point {x : Fin 128 → ℕ → EReal} {J : ℕ} {s : St Ideal} (h : Inv x J s) {arg0 : BitVec 32} {tb : Vec Ideal S32x128 .i32}
    {xw : Vec Ideal S128x3584 .bf16} {W : Vec Ideal S2560x1792 .i8} {S : Vec Ideal S112x2560 .bf16}
    (hb : ∀ k1 : Fin k0_t1_loop.trips, baseOf arg0 k1 = BitVec.ofNat 32 (128 * (J + 4 * k1.val)))
    (hL : ∀ (k1 : Fin k0_t1_loop.trips) (n : Fin 128) (c : Fin 512),
      logitsOf tb xw W S k1 (ix2 n c) = x n (128 * (J + 4 * k1.val) + c.val)) (r : ℕ) (hr : r ≤ k0_t1_loop.trips) :
    Inv x (J + 4 * r) (blocks arg0 tb xw W S s r) := by
  induction r with
  | zero => rw [blocks_zero]; exact h
  | succ r ih =>
    rw [show r + 1 = (⟨r, hr⟩ : Fin k0_t1_loop.trips).val + 1 from rfl, blocks_succ]
    exact (ih (by omega)).step (hb ⟨r, hr⟩) (hL ⟨r, hr⟩)

/-- Before any token. -/
theorem Inv.init (x : Fin 128 → ℕ → EReal) : Inv x 0 (initSt (F := Ideal)) := by
  intro n l
  refine ⟨0, ?_, rfl⟩
  have e1 : (initSt (F := Ideal)).top (ix2 n l) = (⊥ : EReal) := by
    show k0_pay1 (F := Ideal) (ix2 n l) = _
    unfold k0_pay1
    simp only [shapeCast_self]
    exact ninf_eq
  have e2 : (initSt (F := Ideal)).sec (ix2 n l) = (⊥ : EReal) := by
    show k0_pay2 (F := Ideal) (ix2 n l) = _
    unfold k0_pay2
    simp only [shapeCast_self]
    exact ninf_eq
  rw [e1, e2]
  exact Top2.nil _

/-- The first token of a block, as a word. -/
theorem baseOf_eq (t : ℕ) (ht : t < 25) (k1 : Fin k0_t1_loop.trips) :
    baseOf (BitVec.ofNat 32 t) k1 = BitVec.ofNat 32 (128 * (20 * t + 4 * k1.val)) := by
  have h1 : k1.val < 5 := Nat.lt_of_lt_of_eq k1.isLt t1_trips
  apply BitVec.eq_of_toNat_eq
  unfold baseOf
  simp only [Scalar.muli, Scalar.addi, IntOp.muli, IntOp.addi, Scf.iv, BitVec.toNat_mul, BitVec.toNat_add, BitVec.toNat_ofNat]
  omega

end Cert.KernelIdeal.Hand
-- ==== Proof.Argmax.lean ====
/- The host's arg-max over the exact numbers as a fold: one of the pairs, of the largest value, of the least index among those. -/
module

public import proofs.«01_k».proof.Proof.Pure
public import Idealize.ShloMosaic.PureOps.Ideal.Laws

@[expose] public section

noncomputable section

namespace Cert.Hand

open Idealize.ShloMosaic

/-- A fold of `max` over a finite set is the supremum of a sequence, if the set's values are the sequence's, up to least elements. -/
theorem fold_max_isSup {ι : Type} (s : Finset ι) (f : ι → EReal) {b : EReal} (hb : b = ⊥) (P : ℕ → Prop) (x : ℕ → EReal)
    (h1 : ∀ i ∈ s, f i = ⊥ ∨ ∃ q, P q ∧ x q = f i) (h2 : ∀ q, P q → ∃ i ∈ s, f i = x q) : IsSup P x (s.fold max b f) :=
  fun c => by
    rw [Finset.fold_max_le]
    constructor
    · rintro ⟨_, g⟩ q hq
      obtain ⟨i, hi, e⟩ := h2 q hq
      rw [← e]
      exact g i hi
    · intro g
      refine ⟨hb ▸ bot_le, fun i hi => ?_⟩
      rcases h1 i hi with e | ⟨q, hq, e⟩
      · rw [e]; exact bot_le
      · rw [← e]; exact g q hq

theorem ofBool_beq {a b : BitVec 32} : BitVec.ofBool (a == b) = 1#1 ↔ a = b := by
  rw [show (a == b) = decide (a = b) from rfl]
  by_cases h : a = b <;> simp [h]

/-- The body of an arg-max: the larger value, the smaller index among equals. -/
def IsArgmax (f : EReal × BitVec 32 → EReal × BitVec 32 → EReal × BitVec 32) : Prop :=
  ∀ a b, f a b = if b.1 < a.1 then a else if a.1 = b.1 ∧ a.2.slt b.2 then a else b

theorem slt_iff {a b : BitVec 32} (ha : a.toNat < 2 ^ 31) (hb : b.toNat < 2 ^ 31) : a.slt b = true ↔ a.toNat < b.toNat := by
  rw [BitVec.slt_iff_toInt_lt, BitVec.toInt_eq_toNat_of_lt (by omega), BitVec.toInt_eq_toNat_of_lt (by omega)]
  omega

/-- The arg-max fold over any list: one of its pairs, of the largest value, of the least index among those. -/
theorem foldl_argmax {f : EReal × BitVec 32 → EReal × BitVec 32 → EReal × BitVec 32} (hf : IsArgmax f) (l : List (EReal × BitVec 32)) : ∀ a : EReal × BitVec 32, a.2.toNat < 2 ^ 31 → (∀ p ∈ l, p.2.toNat < 2 ^ 31) →
    (l.foldl f a = a ∨ l.foldl f a ∈ l)
      ∧ ∀ p, p = a ∨ p ∈ l → (p.1 : EReal) ≤ (l.foldl f a).1
        ∧ ((p.1 : EReal) = (l.foldl f a).1 → (l.foldl f a).2.toNat ≤ p.2.toNat) := by
  induction l with
  | nil =>
    intro a ha hl
    refine ⟨Or.inl rfl, fun p hp => ?_⟩
    rcases hp with rfl | hp
    · exact ⟨le_rfl, fun _ => le_rfl⟩
    · cases hp
  | cons b l ih =>
    intro a ha hl
    have hb := hl b (List.mem_cons_self ..)
    rw [List.foldl_cons]
    have key : (f a b = a ∨ f a b = b)
        ∧ ∀ p, p = a ∨ p = b → (p.1 : EReal) ≤ (f a b).1
          ∧ ((p.1 : EReal) = (f a b).1 → (f a b).2.toNat ≤ p.2.toNat) := by
      rw [hf]
      by_cases h1 : (b.1 : EReal) < a.1
      · rw [if_pos h1]
        refine ⟨Or.inl rfl, fun p hp => ?_⟩
        rcases hp with rfl | rfl
        · exact ⟨le_rfl, fun _ => le_rfl⟩
        · exact ⟨h1.le, fun h => absurd h h1.ne⟩
      · rw [if_neg h1]
        by_cases h2 : (a.1 : EReal) = b.1 ∧ a.2.slt b.2
        · rw [if_pos h2]
          refine ⟨Or.inl rfl, fun p hp => ?_⟩
          rcases hp with rfl | rfl
          · exact ⟨le_rfl, fun _ => le_rfl⟩
          · exact ⟨h2.1.ge, fun _ => ((slt_iff ha hb).mp h2.2).le⟩
        · rw [if_neg h2]
          refine ⟨Or.inr rfl, fun p hp => ?_⟩
          rcases hp with rfl | rfl
          · refine ⟨not_lt.mp h1, fun h => ?_⟩
            by_contra hc
            exact h2 ⟨h, (slt_iff ha hb).mpr (by omega)⟩
          · exact ⟨le_rfl, fun _ => le_rfl⟩
    generalize f a b = a' at key ⊢
    have ha' : a'.2.toNat < 2 ^ 31 := by rcases key.1 with h | h <;> rw [h] <;> assumption
    obtain ⟨g1, g2⟩ := ih a' ha' fun p hp => hl p (List.mem_cons_of_mem _ hp)
    generalize l.foldl f a' = r at g1 g2 ⊢
    refine ⟨?_, fun p hp => ?_⟩
    · rcases g1 with g1 | g1
      · rcases key.1 with h | h
        · exact Or.inl (g1.trans h)
        · exact Or.inr (by rw [g1, h]; exact List.mem_cons_self ..)
      · exact Or.inr (List.mem_cons_of_mem _ g1)
    · have hp' : (p = a ∨ p = b) ∨ p ∈ l := by
        rcases hp with h | h
        · exact Or.inl (Or.inl h)
        · rcases List.mem_cons.mp h with h | h
          · exact Or.inl (Or.inr h)
          · exact Or.inr h
      rcases hp' with hp' | hp'
      · obtain ⟨k1, k2⟩ := key.2 p hp'
        obtain ⟨m1, m2⟩ := g2 a' (Or.inl rfl)
        refine ⟨k1.trans m1, fun h => ?_⟩
        have e1 : (p.1 : EReal) = a'.1 := le_antisymm k1 (h ▸ m1)
        exact (m2 (e1.symm.trans h)).trans (k2 e1)
      · exact g2 p (Or.inr hp')

/-- The host's arg-max at an index. -/
theorem argReduce_spec {s t u : Shape} {axes : List (Fin s.rank)} (f : Ideal .f32 × BitVec 32 → Ideal .f32 × BitVec 32 → Ideal .f32 × BitVec 32)
    (hf : IsArgmax f) (x : FVec Ideal s .f32) (y : s.Idx → BitVec 32) (ix : u.Idx → Ideal .f32) (iy : u.Idx → BitVec 32)
    (h : s.ReducesTo axes t) (hu : 0 < u.numel) (j : t.Idx) (hix : (ix (Shape.Idx.first hu) : EReal) = ⊥) (hiy : iy (Shape.Idx.first hu) = 0#32)
    (hy : ∀ i, (y i).toNat < 2 ^ 31) :
    ∃ r : EReal × BitVec 32, (Host.argReduce f x y ix iy h hu j).2 = r.2 ∧ ((r.1 = ⊥ ∧ r.2 = 0#32) ∨ ∃ i, h.drop i = j ∧ r = (x i, y i))
      ∧ ∀ i, h.drop i = j → (x i : EReal) ≤ r.1 ∧ ((x i : EReal) = r.1 → r.2.toNat ≤ (y i).toNat) := by
  rw [Ideal.argReduce_eq_reduce2, Host.reduce2_eq_foldl_fiber]
  have hmem : ∀ p, p ∈ Host.argReduceFiber x y h j ↔ ∃ i, h.drop i = j ∧ p = (x i, y i) := by
    intro p
    unfold Host.argReduceFiber
    rw [List.mem_map]
    constructor
    · rintro ⟨k, hk, rfl⟩
      exact ⟨_, of_decide_eq_true (List.mem_filter.mp hk).2, rfl⟩
    · rintro ⟨i, hi, rfl⟩
      exact ⟨s.rowMajor i, List.mem_filter.mpr ⟨List.mem_finRange _, by rw [Equiv.symm_apply_apply]; exact decide_eq_true hi⟩,
        by rw [Equiv.symm_apply_apply]⟩
  have hlt : ∀ p ∈ Host.argReduceFiber x y h j, p.2.toNat < 2 ^ 31 := by
    intro p hp
    obtain ⟨i, _, rfl⟩ := (hmem p).mp hp
    exact hy i
  obtain ⟨g1, g2⟩ := foldl_argmax hf (Host.argReduceFiber x y h j) (ix (Shape.Idx.first hu), iy (Shape.Idx.first hu))
    (by show (iy (Shape.Idx.first hu)).toNat < _; rw [hiy]; decide) hlt
  refine ⟨_, rfl, ?_, fun i hi => g2 _ (Or.inr ((hmem _).mpr ⟨i, hi, rfl⟩))⟩
  rcases g1 with g1 | g1
  · left
    exact ⟨(congrArg Prod.fst g1).trans hix, (congrArg Prod.snd g1).trans hiy⟩
  · exact Or.inr ((hmem _).mp g1)

end Cert.Hand
-- ==== Proof.RefValue.lean ====
/- The reference's three results over the exact numbers, for any logits: the largest of each row, its first token, and the
   largest away from that token. -/
module

public import proofs.«01_k».proof.Proof.Argmax
public import proofs.«01_k».proof.Proof.RefEnd
public import Idealize.ShloMosaic.Lib.ValueLayout
public import Idealize.ShloMosaic.Lib.Pipeline.Value
public import Idealize.ShloMosaic.PureOps.Ideal.Laws

@[expose] public section

set_option maxRecDepth 16384

noncomputable section

namespace Cert.ReferenceIdeal.Hand

open Idealize.ShloMosaic Idealize.ShloMosaic.ValueIdx
open Cert.ReferenceIdeal Cert.ReferenceIdeal.Gen Cert.ReferenceIdeal.Value Cert.Hand

/-- The word of minus infinity is the least number. -/
theorem ninf_eq : (FloatOps.ofBits (F := Ideal) .f32 0xFF800000#32 : EReal) = ⊥ := by
  show Ideal.ofBits .f32 0xFF800000#32 = ⊥
  simp [Ideal.ofBits, Ideal.ieee]

/-- Row `n` of the logits as a sequence. -/
def row (L : Vec Ideal S128x64000 .f32) (n : Fin 128) (q : ℕ) : EReal := if h : q < 64000 then L (ix2 n ⟨q, h⟩) else ⊥

theorem row_eq (L : Vec Ideal S128x64000 .f32) (n : Fin 128) {q : ℕ} (h : q < 64000) : row L n q = L (ix2 n ⟨q, h⟩) := dif_pos h

theorem drop_iff (i : S128x64000.Idx) (n : Fin 128) : reducesTo_S128x64000_S128_d1.drop i = ix1 n ↔ i 0 = n := by
  constructor
  · intro h
    have := congrFun h 0
    refine Fin.ext ?_
    rw [← reducesTo_S128x64000_S128_d1.drop_apply_val_of_eq i 0 0, this]
  · intro h
    funext a
    match a with
    | ⟨0, _⟩ => exact Fin.ext ((reducesTo_S128x64000_S128_d1.drop_apply_val_of_eq i 0 0).trans (congrArg Fin.val h))

theorem topOf_isSup (L : Vec Ideal S128x64000 .f32) (n : Fin 128) : IsSup (fun q => q < 64000) (row L n) (topOf L (ix1 n)) := by
  unfold topOf
  rw [Host.reduce_eq_fold]
  refine fold_max_isSup _ _ ninf_eq _ _ (fun i hi => Or.inr ⟨(i 1).val, (i 1).isLt, ?_⟩) fun q hq => ⟨ix2 n ⟨q, hq⟩, ?_, (row_eq L n hq).symm⟩
  · have h0 := (drop_iff i n).mp (Finset.mem_filter.mp hi).2
    rw [row_eq L n (i 1).isLt]
    refine congrArg L ?_
    rw [← h0]
    exact (eq_ix2 i).symm
  · exact Finset.mem_filter.mpr ⟨Finset.mem_univ _, (drop_iff _ n).mpr rfl⟩

/-- The body of the reference's arg-max. -/
theorem reducer_isArgmax : IsArgmax (reducer_argmax_f32_i32 (F := Ideal)) := by
  rintro ⟨a1, a2⟩ ⟨b1, b2⟩
  show (Scalar.select (IntOp.ori (Ideal.cmp .ogt a1 b1) (Ideal.cmp .une a1 a1)) a1 b1,
    Scalar.select (IntOp.ori (IntOp.ori (Ideal.cmp .ogt a1 b1) (Ideal.cmp .une a1 a1)) (IntOp.andi (Ideal.cmp .oeq a1 b1) (BitVec.ofBool (a2.slt b2)))) a2 b2)
    = if b1 < a1 then (a1, a2) else if a1 = b1 ∧ a2.slt b2 then (a1, a2) else (b1, b2)
  unfold Ideal.cmp Scalar.select IntOp.ori IntOp.andi
  by_cases h1 : b1 < a1
  · simp [h1, h1.ne']
  · by_cases h2 : a1 = b1
    · subst h2
      cases h3 : a2.slt b2 <;> simp
    · simp [h1, h2]

theorem tokOf_eq (L : Vec Ideal S128x64000 .f32) : tokOf (F := Ideal) L = fun j => (Host.argReduce (F := Ideal) (φ := .f32) (β := BitVec 32)
    reducer_argmax_f32_i32 L (iotaInDim S128x64000 32 1) (constant (F := Ideal) S_ .f32 0xFF800000#32) (constantI S_ 32 0#32)
    reducesTo_S128x64000_S128_d1 h_S_ j).2 := by
  delta tokOf
  with_reducible rfl

theorem tokOf_first (L : Vec Ideal S128x64000 .f32) (n : Fin 128) :
    ∃ r t, tokOf L (ix1 n) = BitVec.ofNat 32 t ∧ IsFirst (row L n) 64000 r t := by
  have hy : ∀ i, (iotaInDim S128x64000 32 1 i).toNat = (i 1).val := fun i => by
    have h1 : (i 1).val < 64000 := (i 1).isLt
    show (BitVec.ofNat 32 (i 1).val).toNat = _
    rw [BitVec.toNat_ofNat, Nat.mod_eq_of_lt (by omega)]
  obtain ⟨r, hr, g1, g2⟩ := argReduce_spec reducer_argmax_f32_i32 reducer_isArgmax L (iotaInDim S128x64000 32 1)
    (constant (F := Ideal) S_ .f32 0xFF800000#32) (constantI S_ 32 0#32) reducesTo_S128x64000_S128_d1 h_S_ (ix1 n) ninf_eq rfl
    (fun i => by have h1 : (i 1).val < 64000 := (i 1).isLt; rw [hy]; omega)
  have g2' : ∀ q (hq : q < 64000), row L n q ≤ r.1 ∧ (row L n q = r.1 → r.2.toNat ≤ q) := fun q hq => by
    have := g2 (ix2 n ⟨q, hq⟩) ((drop_iff _ n).mpr rfl)
    rw [hy] at this
    rw [row_eq L n hq]
    exact this
  have g1' : (r.1 = ⊥ ∧ r.2.toNat = 0) ∨ ∃ q, q < 64000 ∧ r.2.toNat = q ∧ row L n q = r.1 := by
    rcases g1 with g1 | ⟨i, hi, e⟩
    · left; exact ⟨g1.1, by rw [g1.2]; rfl⟩
    · right
      have h0 := (drop_iff i n).mp hi
      refine ⟨(i 1).val, (i 1).isLt, by rw [e]; exact hy i, ?_⟩
      rw [row_eq L n (i 1).isLt, e, ← h0]
      exact congrArg L (eq_ix2 i).symm
  have hlt : r.2.toNat < 64000 := by
    rcases g1' with g | ⟨q, hq, e, _⟩
    · rw [g.2]; omega
    · rw [e]; exact hq
  have htok : tokOf L (ix1 n) = BitVec.ofNat 32 r.2.toNat := by
    rw [BitVec.ofNat_toNat, BitVec.setWidth_eq]
    exact (congrFun (tokOf_eq L) (ix1 n)).trans hr
  refine ⟨r.1, r.2.toNat, htok, fun c => ⟨fun h q hq => (g2' q hq).1.trans h, fun h => ?_⟩, hlt, ?_, fun q hq => ?_⟩
  · rcases g1' with g | ⟨q, hq, e, e2⟩
    · rw [g.1]; exact bot_le
    · rw [← e2]; exact h q hq
  · rcases g1' with g | ⟨q, hq, e, e2⟩
    · refine le_antisymm (g2' _ hlt).1 ?_
      rw [g.1]; exact bot_le
    · rw [e]; exact e2
  · have := g2' q (by omega)
    exact lt_of_le_of_ne this.1 fun h => by have := this.2 h; omega

theorem secOf_isSup (L : Vec Ideal S128x64000 .f32) (n : Fin 128) {t : ℕ} (ht : t < 64000) (htok : tokOf L (ix1 n) = BitVec.ofNat 32 t) :
    IsSup (fun q => q < 64000 ∧ q ≠ t) (row L n) (secOf L (ix1 n)) := by
  have hval : ∀ (q : ℕ) (hq : q < 64000), (select (cmpi .eq (iotaInDim S128x64000 32 1) (broadcastInDim S128x64000 ![0, 1] bcast_S128x1_S128x64000_0_1 (broadcastInDim S128x1 ![0] bcast_S128_S128x1_0 (tokOf L)))) (broadcastInDim S128x64000 ![] bcast_S_S128x64000 (id (constant (F := Ideal) S_ .f32 0xFF800000#32))) L) (ix2 n ⟨q, hq⟩)
      = if q = t then (⊥ : EReal) else row L n q := by
    intro q hq
    have hb : (broadcastInDim S128x64000 ![0, 1] bcast_S128x1_S128x64000_0_1 (broadcastInDim S128x1 ![0] bcast_S128_S128x1_0 (tokOf L))) (ix2 n ⟨q, hq⟩) = BitVec.ofNat 32 t := by
      rw [← htok]
      generalize tokOf L = T
      rw [broadcastInDim_apply _ bcast_S128x1_S128x64000_0_1 _ (ix2 n ⟨q, hq⟩) (ix2 n 0) (fun a => match a with
        | ⟨0, _⟩ => by show n.val = if (128 : Nat) = 1 then 0 else n.val; rw [if_neg (by decide)]
        | ⟨1, _⟩ => by show 0 = if (1 : Nat) = 1 then 0 else q; rw [if_pos rfl])]
      exact broadcastInDim_apply _ bcast_S128_S128x1_0 T (ix2 n 0) (ix1 n) (fun a => match a with
        | ⟨0, _⟩ => by show n.val = if (128 : Nat) = 1 then 0 else n.val; rw [if_neg (by decide)])
    show Scalar.select (IntOp.cmpi .eq (BitVec.ofNat 32 q) ((broadcastInDim S128x64000 ![0, 1] bcast_S128x1_S128x64000_0_1 (broadcastInDim S128x1 ![0] bcast_S128_S128x1_0 (tokOf L))) (ix2 n ⟨q, hq⟩))) (FloatOps.ofBits (F := Ideal) .f32 0xFF800000#32) (L (ix2 n ⟨q, hq⟩)) = _
    rw [hb, ninf_eq, row_eq L n hq]
    have hiff : BitVec.ofNat 32 q = BitVec.ofNat 32 t ↔ q = t := by
      constructor
      · intro h
        have := congrArg BitVec.toNat h
        rw [BitVec.toNat_ofNat, BitVec.toNat_ofNat] at this
        omega
      · intro h; rw [h]
    unfold Scalar.select IntOp.cmpi
    by_cases h : q = t
    · simp [h]
    · have h' : ¬ BitVec.ofNat 32 q = BitVec.ofNat 32 t := fun g => h (hiff.mp g)
      rw [if_neg h]
      exact if_neg fun g => h' (ofBool_beq.mp g)
  unfold secOf
  generalize (select (cmpi .eq (iotaInDim S128x64000 32 1) (broadcastInDim S128x64000 ![0, 1] bcast_S128x1_S128x64000_0_1 (broadcastInDim S128x1 ![0] bcast_S128_S128x1_0 (tokOf L)))) (broadcastInDim S128x64000 ![] bcast_S_S128x64000 (id (constant (F := Ideal) S_ .f32 0xFF800000#32))) L) = M at hval ⊢
  rw [Host.reduce_eq_fold]
  refine fold_max_isSup _ _ ninf_eq _ _ (fun i hi => ?_) fun q hq => ⟨ix2 n ⟨q, hq.1⟩, ?_, ?_⟩
  · have h0 := (drop_iff i n).mp (Finset.mem_filter.mp hi).2
    have hv := hval (i 1).val (i 1).isLt
    have hi2 : M i = M (ix2 n ⟨(i 1).val, (i 1).isLt⟩) := by rw [← h0]; exact congrArg M (eq_ix2 i)
    rw [← hi2] at hv
    by_cases h : (i 1).val = t
    · left; rw [if_pos h] at hv; exact hv
    · right; rw [if_neg h] at hv; exact ⟨(i 1).val, ⟨(i 1).isLt, h⟩, hv.symm⟩
  · exact Finset.mem_filter.mpr ⟨Finset.mem_univ _, (drop_iff _ n).mpr rfl⟩
  · exact (hval q hq.1).trans (if_neg hq.2)

end Cert.ReferenceIdeal.Hand
-- ==== Proof.Inputs.lean ====
/- What the kernel's pipeline reads: each window's block at a point, read at an index from the argument arrays. -/
module

public import proofs.«01_k».proof.Proof.Logits
public import proofs.«01_k».proof.Proof.Equation
public import proofs.«01_k».proof.Proof.State
public import proofs.«01_k».proof.Proof.Run
public import proofs.«01_k».proof.Proof.RefValue

@[expose] public section

set_option maxRecDepth 16384

noncomputable section

namespace Cert.KernelIdeal.Hand

open Idealize.ShloMosaic Idealize.ShloMosaic.ValueIdx Idealize.ShloMosaic.TcCoe
open Cert.KernelIdeal Cert.KernelIdeal.Gen

variable (m : (ℓ : Loc nD τ sig) → Buf (Elt Ideal) ℓ)

/-- The argument arrays as launched. -/
abbrev arg0At (c : Dev nD) : (⟨S128x1x3584, .bf16⟩ : BufTy).Contents (Elt Ideal) := m ((c : Thread nD τ).loc main_arg0)
abbrev arg1At (c : Dev nD) : (⟨S64000x1792, .i8⟩ : BufTy).Contents (Elt Ideal) := m ((c : Thread nD τ).loc main_arg1)
abbrev arg2At (c : Dev nD) : (⟨S64000x112, .bf16⟩ : BufTy).Contents (Elt Ideal) := m ((c : Thread nD τ).loc main_arg2)

theorem V_main_v1 (c : Dev nD) : V m c main_v1
    = (broadcastInDim S32x128 ![0, 1] bcast_S1x128_S32x128_0_1 (broadcastInDim S1x128 ![1] bcast_S128_S1x128_1 (fun i => lit0 (S128.rowMajor i)) : (⟨S1x128, .i32⟩ : BufTy).Contents (Elt Ideal)) : (⟨S32x128, .i32⟩ : BufTy).Contents (Elt Ideal)) := by
  unfold V hostOps0
  after_results_simp
  rfl

theorem V_main_v2 (c : Dev nD) : V m c main_v2 = (shapeCast S128x3584 (arg0At m c) shapeCasts_S128x1x3584_S128x3584 : (⟨S128x3584, .bf16⟩ : BufTy).Contents (Elt Ideal)) := by
  unfold V hostOps0
  after_results_simp
  rfl

theorem V_main_v3 (c : Dev nD) : V m c main_v3 = (transpose S112x64000 [1, 0] (arg2At m c) transposes_S64000x112_S112x64000_1_0 : (⟨S112x64000, .bf16⟩ : BufTy).Contents (Elt Ideal)) := by
  unfold V hostOps0
  after_results_simp

/-! ## The blocks of the four inputs -/

theorem index0 : ∀ t : Fin cfg0.N, win0_0.index t (0 : Fin 2) = 0 ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = 0 ∧ win0_3.index t (1 : Fin 2) = t.val := (by decide +kernel : ∀ t : Fin grid0.N, _)

/-- The table's block is the sixteen values, repeated. -/
theorem table_apply (c : Dev nD) (t : Fin cfg0.N) (p : Fin 32) (j : Fin 128) : iblk m c 0 t (ix2 p j) = lit0 j := by
  obtain ⟨e0, e1⟩ := index0 t
  have e : ((cfg0.win 0).blk t).view.emb (ix2 p j) = ix2 p j := by
    funext a; apply Fin.ext
    match a with
    | ⟨0, _⟩ => show win0_0.index t (0 : Fin 2) * 32 + 1 * p.val = p.val; omega
    | ⟨1, _⟩ => show win0_0.index t (1 : Fin 2) * 128 + 1 * j.val = j.val; omega
  show V m c main_v1 (((cfg0.win 0).blk t).view.emb (ix2 p j)) = _
  rw [e, V_main_v1]
  refine (broadcastInDim_apply _ bcast_S1x128_S32x128_0_1 _ (ix2 p j) (ix2 0 j) (fun a => ?_)).trans ?_
  · match a with
    | ⟨0, _⟩ => rfl
    | ⟨1, _⟩ => rfl
  refine (broadcastInDim_apply _ bcast_S128_S1x128_1 _ (ix2 0 j) (ix1 j) (fun a => ?_)).trans ?_
  · match a with
    | ⟨0, _⟩ => rfl
  exact congrArg lit0 (Fin.ext (Shape.rowMajor_val_one _))

theorem cell_eq (c : Dev nD) (t : Fin cfg0.N) (p : Fin 32) (q : BitVec 8) (hq : q.toNat < 16) :
    cell (iblk m c 0 t) p q = ((Cert.ReferenceIdeal.Hand.tableVal q.toNat : ℝ) : EReal) := by
  have h : ∀ v : Fin 16, (lit0 ⟨v.val % 128, Nat.mod_lt _ (by decide)⟩).toInt = Cert.ReferenceIdeal.Hand.tableVal v.val := by decide +kernel
  unfold cell
  rw [table_apply]
  exact congrArg (fun z : ℤ => ((z : ℝ) : EReal)) (h ⟨q.toNat, hq⟩)

/-- The activations. -/
theorem xwAt_apply (c : Dev nD) (n : Fin 128) (K : Fin 3584) : xwAt m c (ix2 n K) = arg0At m c (ix3 n 0 K) := by
  have hN : 0 < cfg0.N := by rw [show cfg0.N = 25 from N_0]; omega
  obtain ⟨e0, e1⟩ := index1 ⟨0, hN⟩
  have e : ((cfg0.win 1).blk ⟨0, hN⟩).view.emb (ix2 n K) = ix2 n K := by
    funext a; apply Fin.ext
    match a with
    | ⟨0, _⟩ => show win0_1.index ⟨0, hN⟩ (0 : Fin 2) * 128 + 1 * n.val = n.val; omega
    | ⟨1, _⟩ => show win0_1.index ⟨0, hN⟩ (1 : Fin 2) * 3584 + 1 * K.val = K.val; omega
  unfold xwAt k0_pay4
  simp only [shapeCast_self]
  show V m c main_v2 (((cfg0.win 1).blk ⟨0, hN⟩).view.emb (ix2 n K)) = _
  rw [e, V_main_v2]
  exact shapeCast_apply _ _ (ix2 n K) (ix3 n 0 K) (by
    rewrite [Shape.rowMajor_val_three, Shape.rowMajor_val_two]
    show (n.val * 1 + 0) * 3584 + K.val = n.val * 3584 + K.val
    omega)

/-- The packed nibbles of a point's tokens. -/
theorem packed_apply (c : Dev nD) (t : Fin cfg0.N) (a : Fin 2560) (b : Fin 1792) (v : Fin 64000) (hv : v.val = 2560 * t.val + a.val) :
    iblk m c 2 t (ix2 a b) = arg1At m c (ix2 v b) := by
  obtain ⟨e0, e1⟩ := index2 t
  have e : ((cfg0.win 2).blk t).view.emb (ix2 a b) = ix2 v b := by
    funext i; apply Fin.ext
    match i with
    | ⟨0, _⟩ => show win0_2.index t (0 : Fin 2) * 2560 + 1 * a.val = v.val; omega
    | ⟨1, _⟩ => show win0_2.index t (1 : Fin 2) * 1792 + 1 * b.val = b.val; omega
  show V m c main_arg1 (((cfg0.win 2).blk t).view.emb (ix2 a b)) = _
  rw [e, V_main_arg1]

/-- The scales of a point's tokens. -/
theorem scales_apply (c : Dev nD) (t : Fin cfg0.N) (g : Fin 112) (a : Fin 2560) (v : Fin 64000) (hv : v.val = 2560 * t.val + a.val) :
    iblk m c 3 t (ix2 g a) = arg2At m c (ix2 v g) := by
  obtain ⟨e0, e1⟩ := index3 t
  have e : ((cfg0.win 3).blk t).view.emb (ix2 g a) = ix2 g v := by
    funext i; apply Fin.ext
    match i with
    | ⟨0, _⟩ => show win0_3.index t (0 : Fin 2) * 112 + 1 * g.val = g.val; omega
    | ⟨1, _⟩ => show win0_3.index t (1 : Fin 2) * 2560 + 1 * a.val = v.val; omega
  show V m c main_v3 (((cfg0.win 3).blk t).view.emb (ix2 g a)) = _
  rw [e, V_main_v3]
  exact transpose_ix2_apply _ _ g v

/-! ## The running state after every point -/

/-- The reference's logits of the kernel's arguments. -/
abbrev logitsAt (c : Dev nD) : Vec Ideal Cert.ReferenceIdeal.S128x64000 .f32 :=
  Cert.ReferenceIdeal.Read.val_main_v96 (F := Ideal) (arg0At m c) (arg1At m c) (arg2At m c)

/-- A point's logits are the reference's. -/
theorem logits_eq (c : Dev nD) (t : Fin cfg0.N) (k1 : Fin k0_t1_loop.trips) (n : Fin 128) (j : Fin 512) :
    logitsOf (iblk m c 0 t) (xwAt m c) (iblk m c 2 t) (iblk m c 3 t) k1 (ix2 n j)
      = Cert.ReferenceIdeal.Hand.row (logitsAt m c) n (128 * (20 * t.val + 4 * k1.val) + j.val) := by
  have ht : t.val < 25 := Nat.lt_of_lt_of_eq t.isLt N_0
  have hk : k1.val < 5 := Nat.lt_of_lt_of_eq k1.isLt t1_trips
  have hj := j.isLt
  have hq : 128 * (20 * t.val + 4 * k1.val) + j.val < 64000 := by omega
  rw [Cert.ReferenceIdeal.Hand.row_eq _ n hq]
  refine (logitsOf_apply _ _ _ _ k1 n j ⟨512 * k1.val + j.val, by omega⟩ rfl).trans
    (Eq.trans ?_ (Cert.ReferenceIdeal.Hand.logit_eq (arg0At m c) (arg1At m c) (arg2At m c) n ⟨_, hq⟩).symm)
  refine Finset.sum_congr rfl fun K _ => ?_
  have hv : (⟨128 * (20 * t.val + 4 * k1.val) + j.val, hq⟩ : Fin 64000).val = 2560 * t.val + (⟨512 * k1.val + j.val, by omega⟩ : Fin 2560).val := by
    dsimp only; omega
  rw [xwAt_apply, packed_apply m c t _ _ ⟨128 * (20 * t.val + 4 * k1.val) + j.val, hq⟩ hv, scales_apply m c t _ _ ⟨128 * (20 * t.val + 4 * k1.val) + j.val, hq⟩ hv,
    cell_eq m c t _ _ (nib_lt _ _)]
  rfl

theorem coords_val (t : Fin cfg0.N) : (grid0.coords t 0).val = t.val := by
  have ht : t.val < 25 := Nat.lt_of_lt_of_eq t.isLt N_0
  have e0 : (grid0.coords t 0).val = t.val / 1 % 25 := Pipeline.Grid.coords_val t 0 (by decide) rfl
  omega

theorem point_inv (c : Dev nD) (t : Fin cfg0.N) (s : St Ideal) (h : Inv (Cert.ReferenceIdeal.Hand.row (logitsAt m c)) (20 * t.val) s) :
    Inv (Cert.ReferenceIdeal.Hand.row (logitsAt m c)) (20 * (t.val + 1)) (pointSt (grid0.coords t) (iblk m c 0 t) (xwAt m c) (iblk m c 2 t) (iblk m c 3 t) s) := by
  have ht : t.val < 25 := Nat.lt_of_lt_of_eq t.isLt N_0
  have h1 := h.point (arg0 := BitVec.ofNat 32 (grid0.coords t 0).val) (tb := iblk m c 0 t) (xw := xwAt m c) (W := iblk m c 2 t) (S := iblk m c 3 t)
    (fun k1 => by rw [coords_val]; exact baseOf_eq t.val ht k1) (fun k1 n j => logits_eq m c t k1 n j) k0_t1_loop.trips le_rfl
  have e : 20 * t.val + 4 * k0_t1_loop.trips = 20 * (t.val + 1) := by rw [t1_trips]; omega
  rw [e] at h1
  exact h1

theorem stAt_inv (c : Dev nD) : ∀ (n : ℕ) (hn : n < cfg0.N), Inv (Cert.ReferenceIdeal.Hand.row (logitsAt m c)) (20 * (n + 1)) (stAt m c n hn)
  | 0, hn => point_inv m c ⟨0, hn⟩ _ (Inv.init _)
  | n + 1, hn => point_inv m c ⟨n + 1, hn⟩ _ (stAt_inv c n (Nat.lt_of_succ_lt hn))

end Cert.KernelIdeal.Hand
-- ==== Proof.Finish.lean ====
/- The kernel's last step over the exact numbers: from the lanes' top two to the row's largest logit, its first token and the
   largest elsewhere. -/
module

public import proofs.«01_k».proof.Proof.Argmax
public import proofs.«01_k».proof.Proof.State

@[expose] public section

set_option maxRecDepth 16384

noncomputable section

namespace Cert.Hand

open Idealize.ShloMosaic

/-- A fold of the signed minimum over a finite set: below every value, and one of them or the start. -/
theorem fold_minsi {ι : Type} (s : Finset ι) (f : ι → BitVec 32) (b : BitVec 32) :
    (s.fold IntOp.minsi b f = b ∨ ∃ i ∈ s, s.fold IntOp.minsi b f = f i) ∧ (s.fold IntOp.minsi b f).toInt ≤ b.toInt
      ∧ ∀ i ∈ s, (s.fold IntOp.minsi b f).toInt ≤ (f i).toInt := by
  classical
  induction s using Finset.induction_on with
  | empty => exact ⟨Or.inl rfl, le_rfl, fun i hi => absurd hi (Finset.notMem_empty i)⟩
  | insert a s ha ih =>
    rw [Finset.fold_insert ha]
    obtain ⟨g1, g2, g3⟩ := ih
    generalize s.fold IntOp.minsi b f = r at g1 g2 g3 ⊢
    have hm : (IntOp.minsi (f a) r = f a ∧ (f a).toInt ≤ r.toInt) ∨ (IntOp.minsi (f a) r = r ∧ r.toInt ≤ (f a).toInt) := by
      unfold IntOp.minsi
      by_cases h : (f a).slt r = true
      · rw [if_pos h]; exact Or.inl ⟨rfl, (BitVec.slt_iff_toInt_lt.mp h).le⟩
      · rw [if_neg h]; exact Or.inr ⟨rfl, not_lt.mp fun g => h (BitVec.slt_iff_toInt_lt.mpr g)⟩
    rcases hm with ⟨e, hle⟩ | ⟨e, hle⟩
    · rw [e]
      refine ⟨Or.inr ⟨a, Finset.mem_insert_self .., rfl⟩, hle.trans g2, fun i hi => ?_⟩
      rcases Finset.mem_insert.mp hi with rfl | hi
      · exact le_rfl
      · exact hle.trans (g3 i hi)
    · rw [e]
      refine ⟨?_, g2, fun i hi => ?_⟩
      · rcases g1 with g1 | ⟨i, hi, g1⟩
        · exact Or.inl g1
        · exact Or.inr ⟨i, Finset.mem_insert_of_mem hi, g1⟩
      · rcases Finset.mem_insert.mp hi with rfl | hi
        · exact hle
        · exact g3 i hi

end Cert.Hand

namespace Cert.KernelIdeal.Hand

open Idealize.ShloMosaic Idealize.ShloMosaic.ValueIdx
open Cert.KernelIdeal Cert.KernelIdeal.Gen Cert.Hand

theorem drop_iff (i : S128x128.Idx) (n : Fin 128) : reduces_S128x128_S128.drop i = ix1 n ↔ i 1 = n := by
  constructor
  · intro h
    have := congrFun h 0
    refine Fin.ext ?_
    rw [← reduces_S128x128_S128.drop_apply_val_of_eq i 0 1, this]
  · intro h
    funext a
    match a with
    | ⟨0, _⟩ => exact Fin.ext ((reduces_S128x128_S128.drop_apply_val_of_eq i 0 1).trans (congrArg Fin.val h))

/-- Column `n` of a square array as a sequence. -/
def col (X : Vec Ideal S128x128 .f32) (n : Fin 128) (l : ℕ) : EReal := if h : l < 128 then X (ix2 ⟨l, h⟩ n) else ⊥

theorem col_eq (X : Vec Ideal S128x128 .f32) (n : Fin 128) {l : ℕ} (h : l < 128) : col X n l = X (ix2 ⟨l, h⟩ n) := dif_pos h

/-- The maximum down a column. -/
theorem colMax_isSup (X : FVec Ideal S128x128 .f32) (n : Fin 128) :
    IsSup (fun l => l < 128) (col X n)
      (multiReduction .maximumf [0] S128 X 0xFF800000#32 reduces_S128x128_S128 (.inl rfl) rfl (ix1 n)) := by
  refine Eq.mpr (congrArg (IsSup _ _) (multiReduction_maximumf_eq_fold X 0xFF800000#32 reduces_S128x128_S128 (.inl rfl) rfl (ix1 n))) ?_
  refine fold_max_isSup _ _ ninf_eq _ _ (fun i hi => Or.inr ⟨(i 0).val, (i 0).isLt, ?_⟩) fun l hl => ⟨ix2 ⟨l, hl⟩ n, ?_, (col_eq X n hl).symm⟩
  · have h0 := (drop_iff i n).mp (Finset.mem_filter.mp hi).2
    rw [col_eq X n (i 0).isLt]
    refine congrArg X ?_
    rw [← h0]
    exact (eq_ix2 i).symm
  · exact Finset.mem_filter.mpr ⟨Finset.mem_univ _, (drop_iff _ n).mpr rfl⟩

theorem pay12_apply (top : Vec Ideal S128x128 .f32) (l n : Fin 128) : k0_pay12 top (ix2 l n) = top (ix2 n l) :=
  transpose_ix2_apply top _ l n

theorem pay14_apply (top : Vec Ideal S128x128 .f32) (n : Fin 128) :
    k0_pay14 top (ix2 0 n) = multiReduction .maximumf [0] S128 (k0_pay12 top) 0xFF800000#32 reduces_S128x128_S128 (.inl rfl) rfl (ix1 n) := by
  unfold k0_pay14
  exact shapeCast_a_1a_apply _ _ _ _

/-- A lane's place read as a word. -/
theorem pay13_apply (idx : Vec Ideal S128x128 .i32) (l n : Fin 128) {p : ℕ} (h : idx (ix2 n l) = BitVec.ofNat 32 (128 * p)) :
    k0_pay13 idx (ix2 l n) = BitVec.ofNat 32 (128 * p + l.val) := by
  unfold k0_pay13
  show IntOp.addi (transpose S128x128 [1, 0] idx transposes_S128x128_p1_0_S128x128 (ix2 l n)) (iota .tc S128x128 32 [0] iota_S128x128_d0_w32 (ix2 l n)) = _
  rw [transpose_ix2_apply idx _ l n, h, BitVec.ofNat_add, iota_single_apply]
  rfl

theorem cmp_oeq_iff (a b : EReal) : Ideal.cmp .oeq a b = 1#1 ↔ a = b := by
  unfold Ideal.cmp
  by_cases h : a = b <;> simp [h]

section
variable {x : Fin 128 → ℕ → EReal} {s : St Ideal}

/-- The lanes of one row, with their places. -/
theorem Inv.lanes (h : Inv x 500 s) (n : Fin 128) : ∃ p : ℕ → ℕ,
    Lanes (x n) 500 (col (k0_pay12 s.top) n) (col (transpose S128x128 [1, 0] s.sec transposes_S128x128_p1_0_S128x128) n) p
      ∧ ∀ l : Fin 128, k0_pay13 s.idx (ix2 l n) = BitVec.ofNat 32 (128 * p l.val + l.val) ∧ p l.val < 500 := by
  choose p hp using fun l => h n l
  refine ⟨fun l => if hl : l < 128 then p ⟨l, hl⟩ else 0, ⟨fun l hl => ?_, by omega⟩, fun l => ?_⟩
  · have := (hp ⟨l, hl⟩).1
    rw [col_eq _ _ hl, col_eq _ _ hl, pay12_apply, transpose_ix2_apply s.sec _ ⟨l, hl⟩ n, dif_pos hl]
    exact this
  · have e : (if hl : l.val < 128 then p ⟨l.val, hl⟩ else 0) = p l := dif_pos l.isLt
    simp only [e]
    exact ⟨pay13_apply s.idx l n (hp l).2, ((hp l).1.pos (by omega)).1⟩

theorem ofNat_inj {a b : ℕ} (ha : a < 2 ^ 31) (hb : b < 2 ^ 31) : BitVec.ofNat 32 a = BitVec.ofNat 32 b ↔ a = b := by
  constructor
  · intro h
    have := congrArg BitVec.toNat h
    rw [BitVec.toNat_ofNat, BitVec.toNat_ofNat] at this
    omega
  · intro h; rw [h]

theorem toInt_ofNat {a : ℕ} (ha : a < 2 ^ 31) : (BitVec.ofNat 32 a).toInt = a := by
  rw [BitVec.toInt_eq_toNat_of_lt (by rw [BitVec.toNat_ofNat]; omega), BitVec.toNat_ofNat, Nat.mod_eq_of_lt (by omega)]

/-- The token: the first place of the row's largest. -/
theorem pay15_first (h : Inv x 500 s) (n : Fin 128) : ∃ t, k0_pay15 s.top s.idx (ix2 0 n) = BitVec.ofNat 32 t
    ∧ IsFirst (x n) 64000 (k0_pay14 s.top (ix2 0 n)) t
    ∧ IsSup (fun q => q < 64000 ∧ q ≠ t) (x n)
      (multiReduction .maximumf [0] S128 (select (cmpi .eq (k0_pay13 s.idx) (broadcastTo S128x128 (k0_pay15 s.top s.idx) broadcasts_S1x128_S128x128))
        (transpose S128x128 [1, 0] s.sec transposes_S128x128_p1_0_S128x128) (k0_pay12 s.top)) 0xFF800000#32 reduces_S128x128_S128 (.inl rfl) rfl (ix1 n)) := by
  obtain ⟨p, hL, hidx⟩ := h.lanes n
  have hb := colMax_isSup (k0_pay12 s.top) n
  rw [← pay14_apply] at hb
  generalize hB : (k0_pay14 s.top (ix2 0 n) : EReal) = b at hb ⊢
  -- the candidates
  have hcand : ∀ l : Fin 128, (select (cmpf .oeq (k0_pay12 s.top) (broadcastTo S128x128 (k0_pay14 s.top) broadcasts_S1x128_S128x128)) (k0_pay13 s.idx) (broadcast S128x128 2147483647#32)) (ix2 l n)
      = if col (k0_pay12 s.top) n l.val = b then BitVec.ofNat 32 (128 * p l.val + l.val) else 2147483647#32 := by
    intro l
    show Scalar.select (Ideal.cmp .oeq (k0_pay12 s.top (ix2 l n)) (broadcastTo S128x128 (k0_pay14 s.top) broadcasts_S1x128_S128x128 (ix2 l n))) (k0_pay13 s.idx (ix2 l n)) (2147483647#32) = _
    rw [broadcastTo_1b_ab_apply, hB, (hidx l).1, col_eq _ n l.isLt]
    by_cases hc : (k0_pay12 s.top (ix2 l n) : EReal) = b
    · rw [if_pos hc]; exact if_pos ((cmp_oeq_iff _ _).mpr hc)
    · rw [if_neg hc]; exact if_neg fun g => hc ((cmp_oeq_iff _ _).mp g)
  have hpay : k0_pay15 s.top s.idx (ix2 0 n) = (Finset.univ.filter fun i => reduces_S128x128_S128.drop i = ix1 n).fold IntOp.minsi 2147483647#32
      (select (cmpf .oeq (k0_pay12 s.top) (broadcastTo S128x128 (k0_pay14 s.top) broadcasts_S1x128_S128x128)) (k0_pay13 s.idx) (broadcast S128x128 2147483647#32)) := by
    unfold k0_pay15
    exact (shapeCast_a_1a_apply _ _ _ _).trans (multiReductionI_eq_fold .minsi _ 2147483647#32 reduces_S128x128_S128 rfl (ix1 n))
  generalize (select (cmpf .oeq (k0_pay12 s.top) (broadcastTo S128x128 (k0_pay14 s.top) broadcasts_S1x128_S128x128)) (k0_pay13 s.idx) (broadcast S128x128 2147483647#32)) = C at hcand hpay
  obtain ⟨g1, _, g3⟩ := fold_minsi (Finset.univ.filter fun i => reduces_S128x128_S128.drop i = ix1 n) C 2147483647#32
  rw [← hpay] at g1 g3
  have g3' : ∀ l : Fin 128, (k0_pay15 s.top s.idx (ix2 0 n)).toInt ≤ (C (ix2 l n)).toInt := fun l =>
    g3 (ix2 l n) (Finset.mem_filter.mpr ⟨Finset.mem_univ _, (drop_iff _ n).mpr rfl⟩)
  -- some lane holds the largest
  have hex : ∃ l, l < 128 ∧ col (k0_pay12 s.top) n l = b := by
    by_contra hno
    push Not at hno
    have hlt : ∀ l, l < 128 → col (k0_pay12 s.top) n l < b := fun l hl => lt_of_le_of_ne (hb.le hl) (hno l hl)
    have hall : ∀ m, m ≤ 128 → ∃ l, l < 128 ∧ ∀ q, q < m → col (k0_pay12 s.top) n q ≤ col (k0_pay12 s.top) n l := by
      intro m
      induction m with
      | zero => exact fun _ => ⟨0, by omega, fun q hq => absurd hq (Nat.not_lt_zero q)⟩
      | succ m ih =>
        intro hm
        obtain ⟨l, hl, g⟩ := ih (by omega)
        rcases le_total (col (k0_pay12 s.top) n m) (col (k0_pay12 s.top) n l) with c | c
        · exact ⟨l, hl, fun q hq => by
            rcases Nat.lt_succ_iff_lt_or_eq.mp hq with d | d
            · exact g q d
            · rw [d]; exact c⟩
        · exact ⟨m, by omega, fun q hq => by
            rcases Nat.lt_succ_iff_lt_or_eq.mp hq with d | d
            · exact (g q d).trans c
            · rw [d]⟩
    obtain ⟨l, hl, g⟩ := hall 128 le_rfl
    exact absurd ((hb _).mpr g) (not_le.mpr (hlt l hl))
  obtain ⟨l₁, hl₁, hlb₁⟩ := hex
  have hpl : ∀ l, l < 128 → p l < 500 := fun l hl => (hidx ⟨l, hl⟩).2
  have hval : ∀ l (hl : l < 128), col (k0_pay12 s.top) n l = b → C (ix2 ⟨l, hl⟩ n) = BitVec.ofNat 32 (128 * p l + l) := fun l hl e =>
    (hcand ⟨l, hl⟩).trans (if_pos e)
  -- the least is one of the candidates
  have hone : ∃ l₀, l₀ < 128 ∧ col (k0_pay12 s.top) n l₀ = b ∧ k0_pay15 s.top s.idx (ix2 0 n) = BitVec.ofNat 32 (128 * p l₀ + l₀) := by
    have hle := g3' ⟨l₁, hl₁⟩
    rw [hval l₁ hl₁ hlb₁, toInt_ofNat (by have := hpl l₁ hl₁; omega)] at hle
    have hbig : (2147483647#32).toInt = 2147483647 := by decide
    have := hpl l₁ hl₁
    rcases g1 with g1 | ⟨i, hi, g1⟩
    · rw [g1, hbig] at hle
      omega
    · have h0 := (drop_iff i n).mp (Finset.mem_filter.mp hi).2
      have hi0 : (i 0).val < 128 := (i 0).isLt
      have e : C i = C (ix2 ⟨(i 0).val, hi0⟩ n) := by rw [← h0]; exact congrArg C (eq_ix2 i)
      by_cases hc : col (k0_pay12 s.top) n (i 0).val = b
      · exact ⟨(i 0).val, hi0, hc, g1.trans (e.trans (hval _ hi0 hc))⟩
      · rw [g1, e, (hcand ⟨(i 0).val, hi0⟩).trans (if_neg hc), hbig] at hle
        omega
  obtain ⟨l₀, hl₀, hlb, ht⟩ := hone
  have hp0 := hpl l₀ hl₀
  have hfirst : IsFirst (x n) 64000 b (128 * p l₀ + l₀) := by
    refine hL.first hb (fun l hl e => ?_) hl₀ hlb rfl
    have hle := g3' ⟨l, hl⟩
    have := hpl l hl
    rw [hval l hl e, ht, toInt_ofNat (by omega), toInt_ofNat (by omega)] at hle
    omega
  refine ⟨_, ht, hfirst, ?_⟩
  refine hL.second hfirst hb ?_
  refine fun c => (colMax_isSup _ n c).trans (forall_congr' fun l => forall_congr' fun hl => ?_)
  have hpl' := hpl l hl
  have : col (select (cmpi .eq (k0_pay13 s.idx) (broadcastTo S128x128 (k0_pay15 s.top s.idx) broadcasts_S1x128_S128x128))
        (transpose S128x128 [1, 0] s.sec transposes_S128x128_p1_0_S128x128) (k0_pay12 s.top)) n l
      = if 128 * p l + l = 128 * p l₀ + l₀ then col (transpose S128x128 [1, 0] s.sec transposes_S128x128_p1_0_S128x128) n l else col (k0_pay12 s.top) n l := by
    rw [col_eq _ n hl, col_eq _ n hl, col_eq _ n hl]
    show Scalar.select (IntOp.cmpi .eq (k0_pay13 s.idx (ix2 ⟨l, hl⟩ n)) (broadcastTo S128x128 (k0_pay15 s.top s.idx) broadcasts_S1x128_S128x128 (ix2 ⟨l, hl⟩ n))) _ _ = _
    rw [broadcastTo_1b_ab_apply, ht, (hidx ⟨l, hl⟩).1]
    have hiff := ofNat_inj (a := 128 * p l + l) (b := 128 * p l₀ + l₀) (by omega) (by omega)
    unfold Scalar.select IntOp.cmpi
    by_cases hc : 128 * p l + l = 128 * p l₀ + l₀
    · rw [if_pos hc]
      exact if_pos (ofBool_beq.mpr (by rw [hc]))
    · rw [if_neg hc]
      exact if_neg fun g => hc (hiff.mp (ofBool_beq.mp g))
  rw [this]

theorem pay16_apply (top sec : Vec Ideal S128x128 .f32) (idx : Vec Ideal S128x128 .i32) (n : Fin 128) :
    k0_pay16 top sec idx (ix2 0 n) = (k0_pay14 top (ix2 0 n) : EReal)
      - (multiReduction .maximumf [0] S128 (select (cmpi .eq (k0_pay13 idx) (broadcastTo S128x128 (k0_pay15 top idx) broadcasts_S1x128_S128x128))
        (transpose S128x128 [1, 0] sec transposes_S128x128_p1_0_S128x128) (k0_pay12 top)) 0xFF800000#32 reduces_S128x128_S128 (.inl rfl) rfl (ix1 n) : EReal) := by
  unfold k0_pay16
  show (k0_pay14 top (ix2 0 n) : EReal) - _ = _
  exact congrArg (fun z : EReal => (k0_pay14 top (ix2 0 n) : EReal) - z) (shapeCast_a_1a_apply _ _ _ _)

end

end Cert.KernelIdeal.Hand
-- ==== Proof.Value.lean ====
/- The kernel's three results over the exact numbers, and that they are the reference's. -/
module

public import proofs.«01_k».proof.Defs
public import proofs.«01_k».proof.Proof.Inputs
public import proofs.«01_k».proof.Proof.Finish
public import proofs.«01_k».proof.Proof.RefValue
public import proofs.«01_k».proof.Proof.RefEnd
public import proofs.«01_k».proof.Proof.Gen.KernelIdeal
public import proofs.«01_k».proof.Proof.Gen.ReferenceIdeal

@[expose] public section

set_option maxRecDepth 16384

noncomputable section

namespace Cert.KernelIdeal.Hand

open Idealize.ShloMosaic Idealize.ShloMosaic.ValueIdx Idealize.ShloMosaic.TcCoe
open Cert.KernelIdeal Cert.KernelIdeal.Gen
open Cert.ReferenceIdeal.Hand (row tokOf_first topOf_isSup secOf_isSup)
open Cert.ReferenceIdeal.Value (topOf tokOf secOf)

variable (m : (ℓ : Loc nD τ sig) → Buf (Elt Ideal) ℓ)

/-- The last point. -/
abbrev tLast : Fin cfg0.N := ⟨24, by rw [show cfg0.N = 25 from N_0]; omega⟩

/-- The running state at the end. -/
abbrev endSt (c : Dev nD) : St Ideal := stAt m c tLast.val tLast.isLt

theorem endSt_inv (c : Dev nD) : Inv (row (logitsAt m c)) 500 (endSt m c) := stAt_inv m c 24 _

theorem eq_last (t : Fin cfg0.N) (h : t.val % 25 = 24) : t = tLast := by
  have ht : t.val < 25 := Nat.lt_of_lt_of_eq t.isLt N_0
  exact Fin.ext (by show t.val = 24; omega)

/-! ## The result arrays hold what the last point stores -/

theorem index4 : ∀ t : Fin cfg0.N, win0_4.index t (0 : Fin 2) = 0 ∧ win0_4.index t (1 : Fin 2) = 0 := (by decide +kernel : ∀ t : Fin grid0.N, _)

theorem emb4 (t : Fin cfg0.N) (j : S1x128.Idx) : ((cfg0.win 4).blk t).view.emb j = j := by
  obtain ⟨e0, e1⟩ := index4 t
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- The result array `main_v4_0` at the end. -/
def res4 (c : Dev nD) : Buf (Elt Ideal) ((c : Thread nD τ).loc main_v4_0) := k0_pay15 (endSt m c).top (endSt m c).idx

theorem cut4_eq (t : Fin cfg0.N) (X : Vec Ideal S1x128 .i32) :
    (cfg0.win 4).cut (grid0.coords t) X = ((cfg0.win 4).blk t).view.read (Elt Ideal) X := by
  funext j
  show X j = X (((cfg0.win 4).blk t).view.emb j)
  rw [emb4]

theorem after4_last (c : Dev nD) : (dats m 0 c).after 4 tLast = res4 m c := after0_4 m c tLast

theorem flushed4_eq (c : Dev nD) (t : Fin cfg0.N) (hf : (cfg0.win 4).flush t = true) :
    (dats m 0 c).flushed 4 t = ((cfg0.win 4).blk t).view.read (Elt Ideal) (res4 m c) := by
  obtain rfl := eq_last t ((flush0_4 t).mp hf)
  exact (congrArg ((cfg0.win 4).cut (grid0.coords tLast)) (after4_last m c)).trans (cut4_eq tLast (res4 m c))

theorem final4 (c : Dev nD) : (dats m 0 c).arrAt 4 cfg0.N = res4 m c :=
  (dats m 0 c).arrAt_eq_of_cover 4 (res4 m c) (flushed4_eq m c) fun i =>
    ⟨tLast, (flush0_4 tLast).mpr rfl, by have h := ((cfg0.win 4).blk tLast).view.emb_mem_set i; rwa [emb4] at h⟩

theorem index5 : ∀ t : Fin cfg0.N, win0_5.index t (0 : Fin 2) = 0 ∧ win0_5.index t (1 : Fin 2) = 0 := (by decide +kernel : ∀ t : Fin grid0.N, _)

theorem emb5 (t : Fin cfg0.N) (j : S1x128.Idx) : ((cfg0.win 5).blk t).view.emb j = j := by
  obtain ⟨e0, e1⟩ := index5 t
  funext a; apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

/-- The result array `main_v4_1` at the end. -/
def res5 (c : Dev nD) : Buf (Elt Ideal) ((c : Thread nD τ).loc main_v4_1) := k0_pay16 (endSt m c).top (endSt m c).sec (endSt m c).idx

theorem cut5_eq (t : Fin cfg0.N) (X : Vec Ideal S1x128 .f32) :
    (cfg0.win 5).cut (grid0.coords t) X = ((cfg0.win 5).blk t).view.read (Elt Ideal) X := by
  funext j
  show X j = X (((cfg0.win 5).blk t).view.emb j)
  rw [emb5]

theorem after5_last (c : Dev nD) : (dats m 0 c).after 5 tLast = res5 m c := after0_5 m c tLast

theorem flushed5_eq (c : Dev nD) (t : Fin cfg0.N) (hf : (cfg0.win 5).flush t = true) :
    (dats m 0 c).flushed 5 t = ((cfg0.win 5).blk t).view.read (Elt Ideal) (res5 m c) := by
  obtain rfl := eq_last t ((flush0_5 t).mp hf)
  exact (congrArg ((cfg0.win 5).cut (grid0.coords tLast)) (after5_last m c)).trans (cut5_eq tLast (res5 m c))

theorem final5 (c : Dev nD) : (dats m 0 c).arrAt 5 cfg0.N = res5 m c :=
  (dats m 0 c).arrAt_eq_of_cover 5 (res5 m c) (flushed5_eq m c) fun i =>
    ⟨tLast, (flush0_5 tLast).mpr rfl, by have h := ((cfg0.win 5).blk tLast).view.emb_mem_set i; rwa [emb5] at h⟩

theorem index6 : ∀ t : Fin cfg0.N, win0_6.index t (0 : Fin 2) = 0 ∧ win0_6.index t (1 : Fin 2) = 0 := (by decide +kernel : ∀ t : Fin grid0.N, _)

theorem emb6 (t : Fin cfg0.N) (j : S1x128.Idx) : ((cfg0.win 6).blk t).view.emb j = j := by
  obtain ⟨e0, e1⟩ := index6 t
  funext a; apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- The result array `main_v4_2` at the end. -/
def res6 (c : Dev nD) : Buf (Elt Ideal) ((c : Thread nD τ).loc main_v4_2) := k0_pay14 (endSt m c).top

theorem cut6_eq (t : Fin cfg0.N) (X : Vec Ideal S1x128 .f32) :
    (cfg0.win 6).cut (grid0.coords t) X = ((cfg0.win 6).blk t).view.read (Elt Ideal) X := by
  funext j
  show X j = X (((cfg0.win 6).blk t).view.emb j)
  rw [emb6]

theorem after6_last (c : Dev nD) : (dats m 0 c).after 6 tLast = res6 m c := after0_6 m c tLast

theorem flushed6_eq (c : Dev nD) (t : Fin cfg0.N) (hf : (cfg0.win 6).flush t = true) :
    (dats m 0 c).flushed 6 t = ((cfg0.win 6).blk t).view.read (Elt Ideal) (res6 m c) := by
  obtain rfl := eq_last t ((flush0_6 t).mp hf)
  exact (congrArg ((cfg0.win 6).cut (grid0.coords tLast)) (after6_last m c)).trans (cut6_eq tLast (res6 m c))

theorem final6 (c : Dev nD) : (dats m 0 c).arrAt 6 cfg0.N = res6 m c :=
  (dats m 0 c).arrAt_eq_of_cover 6 (res6 m c) (flushed6_eq m c) fun i =>
    ⟨tLast, (flush0_6 tLast).mpr rfl, by have h := ((cfg0.win 6).blk tLast).view.emb_mem_set i; rwa [emb6] at h⟩

/-! ## They are the reference's -/

theorem top_eq (c : Dev nD) (n : Fin 128) : (k0_pay14 (endSt m c).top (ix2 0 n) : EReal) = topOf (logitsAt m c) (ix1 n) := by
  obtain ⟨t, h1, h2, h3⟩ := pay15_first (endSt_inv m c) n
  exact h2.sup.unique (topOf_isSup (logitsAt m c) n)

theorem tok_eq (c : Dev nD) (n : Fin 128) : k0_pay15 (endSt m c).top (endSt m c).idx (ix2 0 n) = tokOf (logitsAt m c) (ix1 n) := by
  obtain ⟨t, h1, h2, h3⟩ := pay15_first (endSt_inv m c) n
  obtain ⟨r, t', h1', h2'⟩ := tokOf_first (logitsAt m c) n
  rw [h1, h1', h2.unique h2']

theorem gap_eq (c : Dev nD) (n : Fin 128) : (k0_pay16 (endSt m c).top (endSt m c).sec (endSt m c).idx (ix2 0 n) : EReal)
    = (topOf (logitsAt m c) (ix1 n) : EReal) - secOf (logitsAt m c) (ix1 n) := by
  obtain ⟨t, h1, h2, h3⟩ := pay15_first (endSt_inv m c) n
  have htok : tokOf (logitsAt m c) (ix1 n) = BitVec.ofNat 32 t := (tok_eq m c n).symm.trans h1
  refine (pay16_apply _ _ _ n).trans ?_
  rw [top_eq]
  exact congrArg (fun z : EReal => (topOf (logitsAt m c) (ix1 n) : EReal) - z) (h3.unique (secOf_isSup (logitsAt m c) n h2.lt htok))

theorem cast_row {α : Type} (T : (⟨1, ![128]⟩ : Shape).Idx → α) (h : (⟨1, ![128]⟩ : Shape).ShapeCasts ⟨2, ![1, 128]⟩) (R : (⟨2, ![1, 128]⟩ : Shape).Idx → α)
    (e : ∀ n : Fin 128, R (ix2 0 n) = T (ix1 n)) : shapeCast ⟨2, ![1, 128]⟩ T h = R := by
  funext i
  have h0 : i 0 = (0 : Fin 1) := Subsingleton.elim (α := Fin 1) _ _
  have hi : i = ix2 0 (i 1) := (eq_ix2 i).trans (congrArg (fun z : Fin 1 => ix2 z (i 1)) h0)
  rw [hi]
  exact (shapeCast_a_1a_apply T h 0 (i 1)).trans (e (i 1)).symm

theorem res4_apply (c : Dev nD) (n : Fin 128) : res4 m c (ix2 0 n) = tokOf (logitsAt m c) (ix1 n) := by
  unfold res4; exact tok_eq m c n

theorem sub_at (a b : Vec Ideal Cert.ReferenceIdeal.S128 .f32) (i : Cert.ReferenceIdeal.S128.Idx) :
    subf (F := Ideal) (φ := .f32) a b i = (a i : EReal) - (b i : EReal) := rfl

theorem res5_apply (c : Dev nD) (n : Fin 128) : res5 m c (ix2 0 n) = subf (F := Ideal) (φ := .f32) (topOf (logitsAt m c)) (secOf (logitsAt m c)) (ix1 n) := by
  unfold res5; rw [sub_at]; exact gap_eq m c n

theorem res6_apply (c : Dev nD) (n : Fin 128) : res6 m c (ix2 0 n) = topOf (logitsAt m c) (ix1 n) := by
  unfold res6; exact top_eq m c n

/-- What the reference computes of the kernel's arguments is what the kernel computes. -/
theorem res4_eq (c : Dev nD) : shapeCast (α := Elt Ideal .i32) Cert.ReferenceIdeal.S1x128 (tokOf (logitsAt m c)) Cert.ReferenceIdeal.Gen.shapeCasts_S128_S1x128 = res4 m c :=
  cast_row (tokOf (logitsAt m c)) Cert.ReferenceIdeal.Gen.shapeCasts_S128_S1x128 (res4 m c) (res4_apply m c)

theorem res5_eq (c : Dev nD) : shapeCast (α := Elt Ideal .f32) Cert.ReferenceIdeal.S1x128 (subf (F := Ideal) (φ := .f32) (topOf (logitsAt m c)) (secOf (logitsAt m c))) Cert.ReferenceIdeal.Gen.shapeCasts_S128_S1x128 = res5 m c :=
  cast_row (subf (F := Ideal) (φ := .f32) (topOf (logitsAt m c)) (secOf (logitsAt m c))) Cert.ReferenceIdeal.Gen.shapeCasts_S128_S1x128 (res5 m c) (res5_apply m c)

theorem res6_eq (c : Dev nD) : shapeCast (α := Elt Ideal .f32) Cert.ReferenceIdeal.S1x128 (topOf (logitsAt m c)) Cert.ReferenceIdeal.Gen.shapeCasts_S128_S1x128 = res6 m c :=
  cast_row (topOf (logitsAt m c)) Cert.ReferenceIdeal.Gen.shapeCasts_S128_S1x128 (res6 m c) (res6_apply m c)

/-- The kernel's run with its results. -/
theorem run_results (ρ : Dev nD → PrngReg) : θ_run defs (onTc (τ := τ) (main (F := Ideal))) ⟨m, fun _ => 0, ρ⟩ (fun r => ∀ c : Dev nD,
      r.2.mem ((c.tc : Thread nD τ).loc main_v4_0) = res4 m c
      ∧ r.2.mem ((c.tc : Thread nD τ).loc main_v4_1) = res5 m c
      ∧ r.2.mem ((c.tc : Thread nD τ).loc main_v4_2) = res6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final4 m c), ((h c).1 5).trans (final5 m c), ((h c).1 6).trans (final6 m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c)⟩) (run_main m ρ)

end Cert.KernelIdeal.Hand

namespace Cert.Proof

open Idealize.ShloMosaic Idealize.ShloMosaic.TcCoe

/-- The kernel and the reference end with equal results over the exact numbers. -/
theorem algebraic : Cert.algebraic_KernelIdeal_ReferenceIdeal := by
  intro m g m' g' _ hargs
  refine ⟨Cert.KernelIdeal.Hand.res4 m, Cert.KernelIdeal.Hand.res5 m, Cert.KernelIdeal.Hand.res6 m, Cert.KernelIdeal.Hand.run_results m g, ?_⟩
  have hX : ∀ c, Cert.ReferenceIdeal.Value.res_main_v96 (F := Ideal) (StableHlo.launchContents m' c) = Cert.KernelIdeal.Hand.logitsAt m c := by
    intro c
    obtain ⟨h0, h1, h2⟩ := hargs c
    refine (Cert.ReferenceIdeal.Read.res_main_v96_eq (F := Ideal) (StableHlo.launchContents m' c)).trans ?_
    have e0 : StableHlo.launchContents m' c (Proc.devRef .tc Cert.ReferenceIdeal.main_arg0) = Cert.KernelIdeal.Hand.arg0At m c := h0
    have e1 : StableHlo.launchContents m' c (Proc.devRef .tc Cert.ReferenceIdeal.main_arg1) = Cert.KernelIdeal.Hand.arg1At m c := h1
    have e2 : StableHlo.launchContents m' c (Proc.devRef .tc Cert.ReferenceIdeal.main_arg2) = Cert.KernelIdeal.Hand.arg2At m c := h2
    rw [e0, e1, e2]
  refine (θ_run Cert.ReferenceIdeal.defs _ _).mono (fun _ h c => ?_) (Cert.ReferenceIdeal.Value.run (F := Ideal) m' g')
  obtain ⟨r0, r1, r2, ra⟩ := h c
  rw [hX c] at r0 r1 r2
  exact ⟨r0.trans (Cert.KernelIdeal.Hand.res4_eq m c), r1.trans (Cert.KernelIdeal.Hand.res5_eq m c), r2.trans (Cert.KernelIdeal.Hand.res6_eq m c), ra⟩

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.RunBits
public import proofs.«01_k».proof.Proof.RefEnd
public import proofs.«01_k».proof.Proof.Value
public import Idealize.ShloMosaic.Adequacy
public import Idealize.ShloMosaic.Init

@[expose] public section

noncomputable section

open Idealize.ShloMosaic

namespace Cert.Proof

/-- The reference runs, leaves its arguments alone, and declares no semaphore. -/
theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The whole claim. -/
theorem claim : Cert.Claim :=
  ⟨Cert.Kernel.Gen.facts, Cert.KernelIdeal.Gen.facts, Cert.ReferenceIdeal.Gen.facts, fun m ρ _ => Cert.Kernel.Hand.frame m ρ,
    fun m ρ _ => Cert.KernelIdeal.Hand.frame m ρ, frame_reference, trivial, algebraic⟩

end Cert.Proof

end
